-- ==== Defs.lean ====
def Pre_FfnX (m : (ℓ : Loc Cert.FfnX.nD Cert.FfnX.τ Cert.FfnX.sig) → Buf (Elt Bits) ℓ) : Prop :=
  True

def Pre_FfnXIdeal (m : (ℓ : Loc Cert.FfnXIdeal.nD Cert.FfnXIdeal.τ Cert.FfnXIdeal.sig) → Buf (Elt Ideal) ℓ) : Prop :=
  True

def Pre_FfnXRefIdeal (m : (ℓ : Loc Cert.FfnXRefIdeal.nD Cert.FfnXRefIdeal.τ Cert.FfnXRefIdeal.sig) → Buf (Elt Ideal) ℓ) : Prop :=
  True

def Pre_MixX (m : (ℓ : Loc Cert.MixX.nD Cert.MixX.τ Cert.MixX.sig) → Buf (Elt Bits) ℓ) : Prop :=
  True

def Pre_MixXIdeal (m : (ℓ : Loc Cert.MixXIdeal.nD Cert.MixXIdeal.τ Cert.MixXIdeal.sig) → Buf (Elt Ideal) ℓ) : Prop :=
  True

def Pre_MixXRefIdeal (m : (ℓ : Loc Cert.MixXRefIdeal.nD Cert.MixXRefIdeal.τ Cert.MixXRefIdeal.sig) → Buf (Elt Ideal) ℓ) : Prop :=
  True

def Pre_MixY (m : (ℓ : Loc Cert.MixY.nD Cert.MixY.τ Cert.MixY.sig) → Buf (Elt Bits) ℓ) : Prop :=
  True

def Pre_MixYIdeal (m : (ℓ : Loc Cert.MixYIdeal.nD Cert.MixYIdeal.τ Cert.MixYIdeal.sig) → Buf (Elt Ideal) ℓ) : Prop :=
  True

def Pre_MixYRefIdeal (m : (ℓ : Loc Cert.MixYRefIdeal.nD Cert.MixYRefIdeal.τ Cert.MixYRefIdeal.sig) → Buf (Elt Ideal) ℓ) : Prop :=
  True

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnAIdeal_ffn_a_finite [hPre_ffn_a_finite : Cert.Pre_ffn_a_finite.Facts] (m : (ℓ : Loc Cert.FfnAIdeal.nD Cert.FfnAIdeal.τ Cert.FfnAIdeal.sig) → Buf (Elt Ideal) ℓ) : Prop :=
  ∀ c : Dev Cert.FfnAIdeal.nD,
    (Cert.Pre_ffn_a_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4)) (m ((c.tc : Thread Cert.FfnAIdeal.nD Cert.FfnAIdeal.τ).loc Cert.FfnAIdeal.main_arg5))) = (fun _ => 1#1)

def Pre_FfnARefIdeal (m : (ℓ : Loc Cert.FfnARefIdeal.nD Cert.FfnARefIdeal.τ Cert.FfnARefIdeal.sig) → Buf (Elt Ideal) ℓ) : Prop :=
  True

def Pre_FfnARefIdeal_ffn_a_finite [hPre_ffn_a_finite : Cert.Pre_ffn_a_finite.Facts] (m : (ℓ : Loc Cert.FfnARefIdeal.nD Cert.FfnARefIdeal.τ Cert.FfnARefIdeal.sig) → Buf (Elt Ideal) ℓ) : Prop :=
  ∀ c : Dev Cert.FfnARefIdeal.nD,
    (Cert.Pre_ffn_a_finite.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4)) (m ((c.tc : Thread Cert.FfnARefIdeal.nD Cert.FfnARefIdeal.τ).loc Cert.FfnARefIdeal.main_arg5))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_finite [hPre_sgu_finite : Cert.Pre_sgu_finite.Facts] (m : (ℓ : Loc Cert.SguIdeal.nD Cert.SguIdeal.τ Cert.SguIdeal.sig) → Buf (Elt Ideal) ℓ) : Prop :=
  ∀ c : Dev Cert.SguIdeal.nD,
    (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_SguF (m : (ℓ : Loc Cert.SguF.nD Cert.SguF.τ Cert.SguF.sig) → Buf (Elt Bits) ℓ) : Prop :=
  True

def Pre_SguFIdeal (m : (ℓ : Loc Cert.SguFIdeal.nD Cert.SguFIdeal.τ Cert.SguFIdeal.sig) → Buf (Elt Ideal) ℓ) : Prop :=
  True

def Pre_SguFRefIdeal (m : (ℓ : Loc Cert.SguFRefIdeal.nD Cert.SguFRefIdeal.τ Cert.SguFRefIdeal.sig) → Buf (Elt Ideal) ℓ) : Prop :=
  True

def Pre_FfnGu (m : (ℓ : Loc Cert.FfnGu.nD Cert.FfnGu.τ Cert.FfnGu.sig) → Buf (Elt Bits) ℓ) : Prop :=
  True

def Pre_FfnGuIdeal (m : (ℓ : Loc Cert.FfnGuIdeal.nD Cert.FfnGuIdeal.τ Cert.FfnGuIdeal.sig) → Buf (Elt Ideal) ℓ) : Prop :=
  True

def Pre_FfnGuRefIdeal (m : (ℓ : Loc Cert.FfnGuRefIdeal.nD Cert.FfnGuRefIdeal.τ Cert.FfnGuRefIdeal.sig) → Buf (Elt Ideal) ℓ) : Prop :=
  True

def Pre_FfnN (m : (ℓ : Loc Cert.FfnN.nD Cert.FfnN.τ Cert.FfnN.sig) → Buf (Elt Bits) ℓ) : Prop :=
  True

def Pre_FfnNIdeal (m : (ℓ : Loc Cert.FfnNIdeal.nD Cert.FfnNIdeal.τ Cert.FfnNIdeal.sig) → Buf (Elt Ideal) ℓ) : Prop :=
  True

def Pre_FfnNRefIdeal (m : (ℓ : Loc Cert.FfnNRefIdeal.nD Cert.FfnNRefIdeal.τ Cert.FfnNRefIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRefIdeal (m : (ℓ : Loc Cert.MixFRefIdeal.nD Cert.MixFRefIdeal.τ Cert.MixFRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFIdeal_pool_f_finite [hPre_pool_f_finite : Cert.Pre_pool_f_finite.Facts] (m : (ℓ : Loc Cert.PoolFIdeal.nD Cert.PoolFIdeal.τ Cert.PoolFIdeal.sig) → Buf (Elt Ideal) ℓ) : Prop :=
  ∀ c : Dev Cert.PoolFIdeal.nD,
    (Cert.Pre_pool_f_finite.fn (F := Ideal) (m ((c.tc : Thread Cert.PoolFIdeal.nD Cert.PoolFIdeal.τ).loc Cert.PoolFIdeal.main_arg0)) (m ((c.tc : Thread Cert.PoolFIdeal.nD Cert.PoolFIdeal.τ).loc Cert.PoolFIdeal.main_arg1)) (m ((c.tc : Thread Cert.PoolFIdeal.nD Cert.PoolFIdeal.τ).loc Cert.PoolFIdeal.main_arg2))) = (fun _ => 1#1)

def Pre_PoolFRefIdeal (m : (ℓ : Loc Cert.PoolFRefIdeal.nD Cert.PoolFRefIdeal.τ Cert.PoolFRefIdeal.sig) → Buf (Elt Ideal) ℓ) : Prop :=
  True

def Pre_PoolFRefIdeal_pool_f_finite [hPre_pool_f_finite : Cert.Pre_pool_f_finite.Facts] (m : (ℓ : Loc Cert.PoolFRefIdeal.nD Cert.PoolFRefIdeal.τ Cert.PoolFRefIdeal.sig) → Buf (Elt Ideal) ℓ) : Prop :=
  ∀ c : Dev Cert.PoolFRefIdeal.nD,
    (Cert.Pre_pool_f_finite.fn (F := Ideal) (m ((c.tc : Thread Cert.PoolFRefIdeal.nD Cert.PoolFRefIdeal.τ).loc Cert.PoolFRefIdeal.main_arg0)) (m ((c.tc : Thread Cert.PoolFRefIdeal.nD Cert.PoolFRefIdeal.τ).loc Cert.PoolFRefIdeal.main_arg1)) (m ((c.tc : Thread Cert.PoolFRefIdeal.nD Cert.PoolFRefIdeal.τ).loc Cert.PoolFRefIdeal.main_arg2))) = (fun _ => 1#1)

def quiescent_FfnX [hFfnX : Cert.FfnX.Facts] : Prop :=
  ∀ (m : (ℓ : Loc Cert.FfnX.nD Cert.FfnX.τ Cert.FfnX.sig) → Buf (Elt Bits) ℓ) (g : Dev Cert.FfnX.nD → PrngReg), Pre_FfnX m →
    θ_run (Cert.FfnX.defs (F := Bits)) (onTc (τ := Cert.FfnX.τ) (Cert.FfnX.main (F := Bits))) ⟨m, fun _ => 0, g⟩ (fun r => (∀ c : Dev Cert.FfnX.nD,
      r.2.mem ((c.tc : Thread Cert.FfnX.nD Cert.FfnX.τ).loc Cert.FfnX.main_arg0) = m ((c.tc : Thread Cert.FfnX.nD Cert.FfnX.τ).loc Cert.FfnX.main_arg0)
      ∧ r.2.mem ((c.tc : Thread Cert.FfnX.nD Cert.FfnX.τ).loc Cert.FfnX.main_arg1) = m ((c.tc : Thread Cert.FfnX.nD Cert.FfnX.τ).loc Cert.FfnX.main_arg1)
      ∧ r.2.mem ((c.tc : Thread Cert.FfnX.nD Cert.FfnX.τ).loc Cert.FfnX.main_arg2) = m ((c.tc : Thread Cert.FfnX.nD Cert.FfnX.τ).loc Cert.FfnX.main_arg2)
      ∧ r.2.mem ((c.tc : Thread Cert.FfnX.nD Cert.FfnX.τ).loc Cert.FfnX.main_arg3) = m ((c.tc : Thread Cert.FfnX.nD Cert.FfnX.τ).loc Cert.FfnX.main_arg3)
      ∧ r.2.mem ((c.tc : Thread Cert.FfnX.nD Cert.FfnX.τ).loc Cert.FfnX.main_arg4) = m ((c.tc : Thread Cert.FfnX.nD Cert.FfnX.τ).loc Cert.FfnX.main_arg4)
      ∧ r.2.mem ((c.tc : Thread Cert.FfnX.nD Cert.FfnX.τ).loc Cert.FfnX.main_arg5) = m ((c.tc : Thread Cert.FfnX.nD Cert.FfnX.τ).loc Cert.FfnX.main_arg5)
      ∧ r.2.mem ((c.tc : Thread Cert.FfnX.nD Cert.FfnX.τ).loc Cert.FfnX.main_arg6) = m ((c.tc : Thread Cert.FfnX.nD Cert.FfnX.τ).loc Cert.FfnX.main_arg6))
      ∧ r.2.sem = fun _ => 0)

def quiescent_FfnXIdeal [hFfnXIdeal : Cert.FfnXIdeal.Facts] : Prop :=
  ∀ (m : (ℓ : Loc Cert.FfnXIdeal.nD Cert.FfnXIdeal.τ Cert.FfnXIdeal.sig) → Buf (Elt Ideal) ℓ) (g : Dev Cert.FfnXIdeal.nD → PrngReg), Pre_FfnXIdeal m →
    θ_run (Cert.FfnXIdeal.defs (F := Ideal)) (onTc (τ := Cert.FfnXIdeal.τ) (Cert.FfnXIdeal.main (F := Ideal))) ⟨m, fun _ => 0, g⟩ (fun r => (∀ c : Dev Cert.FfnXIdeal.nD,
      r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
      ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
      ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
      ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
      ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4)
      ∧ r.2.mem ((c.tc : Thread Cert.FfnXIdeal.nD Cert.FfnXIdeal.τ).loc Cert.FfnXIdeal.main_arg5) = m ((c.tc : Thread Cert.FfnXIdeal.nD Cert.FfnXIdeal.τ).loc Cert.FfnXIdeal.main_arg5)
      ∧ r.2.mem ((c.tc : Thread Cert.FfnXIdeal.nD Cert.FfnXIdeal.τ).loc Cert.FfnXIdeal.main_arg6) = m ((c.tc : Thread Cert.FfnXIdeal.nD Cert.FfnXIdeal.τ).loc Cert.FfnXIdeal.main_arg6))
      ∧ r.2.sem = fun _ => 0)

def quiescent_FfnXRefIdeal [hFfnXRefIdeal : Cert.FfnXRefIdeal.Facts] : Prop :=
  ∀ (m : (ℓ : Loc Cert.FfnXRefIdeal.nD Cert.FfnXRefIdeal.τ Cert.FfnXRefIdeal.sig) → Buf (Elt Ideal) ℓ) (g : Dev Cert.FfnXRefIdeal.nD → PrngReg), Pre_FfnXRefIdeal m →
    θ_run (Cert.FfnXRefIdeal.defs (F := Ideal)) (onTc (τ := Cert.FfnXRefIdeal.τ) (Cert.FfnXRefIdeal.main (F := Ideal))) ⟨m, fun _ => 0, g⟩ (fun r => (∀ c : Dev Cert.FfnXRefIdeal.nD,
      r.2.mem ((c.tc : Thread Cert.FfnXRefIdeal.nD Cert.FfnXRefIdeal.τ).loc Cert.FfnXRefIdeal.main_arg0) = m ((c.tc : Thread Cert.FfnXRefIdeal.nD Cert.FfnXRefIdeal.τ).loc Cert.FfnXRefIdeal.main_arg0)
      ∧ r.2.mem ((c.tc : Thread Cert.FfnXRefIdeal.nD Cert.FfnXRefIdeal.τ).loc Cert.FfnXRefIdeal.main_arg1) = m ((c.tc : Thread Cert.FfnXRefIdeal.nD Cert.FfnXRefIdeal.τ).loc Cert.FfnXRefIdeal.main_arg1)
      ∧ r.2.mem ((c.tc : Thread Cert.FfnXRefIdeal.nD Cert.FfnXRefIdeal.τ).loc Cert.FfnXRefIdeal.main_arg2) = m ((c.tc : Thread Cert.FfnXRefIdeal.nD Cert.FfnXRefIdeal.τ).loc Cert.FfnXRefIdeal.main_arg2)
      ∧ r.2.mem ((c.tc : Thread Cert.FfnXRefIdeal.nD Cert.FfnXRefIdeal.τ).loc Cert.FfnXRefIdeal.main_arg3) = m ((c.tc : Thread Cert.FfnXRefIdeal.nD Cert.FfnXRefIdeal.τ).loc Cert.FfnXRefIdeal.main_arg3)
      ∧ r.2.mem ((c.tc : Thread Cert.FfnXRefIdeal.nD Cert.FfnXRefIdeal.τ).loc Cert.FfnXRefIdeal.main_arg4) = m ((c.tc : Thread Cert.FfnXRefIdeal.nD Cert.FfnXRefIdeal.τ).loc Cert.FfnXRefIdeal.main_arg4)
      ∧ r.2.mem ((c.tc : Thread Cert.FfnXRefIdeal.nD Cert.FfnXRefIdeal.τ).loc Cert.FfnXRefIdeal.main_arg5) = m ((c.tc : Thread Cert.FfnXRefIdeal.nD Cert.FfnXRefIdeal.τ).loc Cert.FfnXRefIdeal.main_arg5)
      ∧ r.2.mem ((c.tc : Thread Cert.FfnXRefIdeal.nD Cert.FfnXRefIdeal.τ).loc Cert.FfnXRefIdeal.main_arg6) = m ((c.tc : Thread Cert.FfnXRefIdeal.nD Cert.FfnXRefIdeal.τ).loc Cert.FfnXRefIdeal.main_arg6))
      ∧ r.2.sem = fun _ => 0)

def quiescent_MixX [hMixX : Cert.MixX.Facts] : Prop :=
  ∀ (m : (ℓ : Loc Cert.MixX.nD Cert.MixX.τ Cert.MixX.sig) → Buf (Elt Bits) ℓ) (g : Dev Cert.MixX.nD → PrngReg), Pre_MixX m →
    θ_run (Cert.MixX.defs (F := Bits)) (onTc (τ := Cert.MixX.τ) (Cert.MixX.main (F := Bits))) ⟨m, fun _ => 0, g⟩ (fun r => (∀ c : Dev Cert.MixX.nD,
      r.2.mem ((c.tc : Thread Cert.MixX.nD Cert.MixX.τ).loc Cert.MixX.main_arg0) = m ((c.tc : Thread Cert.MixX.nD Cert.MixX.τ).loc Cert.MixX.main_arg0)
      ∧ r.2.mem ((c.tc : Thread Cert.MixX.nD Cert.MixX.τ).loc Cert.MixX.main_arg1) = m ((c.tc : Thread Cert.MixX.nD Cert.MixX.τ).loc Cert.MixX.main_arg1)
      ∧ r.2.mem ((c.tc : Thread Cert.MixX.nD Cert.MixX.τ).loc Cert.MixX.main_arg2) = m ((c.tc : Thread Cert.MixX.nD Cert.MixX.τ).loc Cert.MixX.main_arg2)
      ∧ r.2.mem ((c.tc : Thread Cert.MixX.nD Cert.MixX.τ).loc Cert.MixX.main_arg3) = m ((c.tc : Thread Cert.MixX.nD Cert.MixX.τ).loc Cert.MixX.main_arg3)
      ∧ r.2.mem ((c.tc : Thread Cert.MixX.nD Cert.MixX.τ).loc Cert.MixX.main_arg4) = m ((c.tc : Thread Cert.MixX.nD Cert.MixX.τ).loc Cert.MixX.main_arg4))
      ∧ r.2.sem = fun _ => 0)

def quiescent_MixXIdeal [hMixXIdeal : Cert.MixXIdeal.Facts] : Prop :=
  ∀ (m : (ℓ : Loc Cert.MixXIdeal.nD Cert.MixXIdeal.τ Cert.MixXIdeal.sig) → Buf (Elt Ideal) ℓ) (g : Dev Cert.MixXIdeal.nD → PrngReg), Pre_MixXIdeal m →
    θ_run (Cert.MixXIdeal.defs (F := Ideal)) (onTc (τ := Cert.MixXIdeal.τ) (Cert.MixXIdeal.main (F := Ideal))) ⟨m, fun _ => 0, g⟩ (fun r => (∀ c : Dev Cert.MixXIdeal.nD,
      r.2.mem ((c.tc : Thread Cert.MixXIdeal.nD Cert.MixXIdeal.τ).loc Cert.MixXIdeal.main_arg0) = m ((c.tc : Thread Cert.MixXIdeal.nD Cert.MixXIdeal.τ).loc Cert.MixXIdeal.main_arg0)
      ∧ r.2.mem ((c.tc : Thread Cert.MixXIdeal.nD Cert.MixXIdeal.τ).loc Cert.MixXIdeal.main_arg1) = m ((c.tc : Thread Cert.MixXIdeal.nD Cert.MixXIdeal.τ).loc Cert.MixXIdeal.main_arg1)
      ∧ r.2.mem ((c.tc : Thread Cert.MixXIdeal.nD Cert.MixXIdeal.τ).loc Cert.MixXIdeal.main_arg2) = m ((c.tc : Thread Cert.MixXIdeal.nD Cert.MixXIdeal.τ).loc Cert.MixXIdeal.main_arg2)
      ∧ r.2.mem ((c.tc : Thread Cert.MixXIdeal.nD Cert.MixXIdeal.τ).loc Cert.MixXIdeal.main_arg3) = m ((c.tc : Thread Cert.MixXIdeal.nD Cert.MixXIdeal.τ).loc Cert.MixXIdeal.main_arg3)
      ∧ r.2.mem ((c.tc : Thread Cert.MixXIdeal.nD Cert.MixXIdeal.τ).loc Cert.MixXIdeal.main_arg4) = m ((c.tc : Thread Cert.MixXIdeal.nD Cert.MixXIdeal.τ).loc Cert.MixXIdeal.main_arg4))
      ∧ r.2.sem = fun _ => 0)

def quiescent_MixXRefIdeal [hMixXRefIdeal : Cert.MixXRefIdeal.Facts] : Prop :=
  ∀ (m : (ℓ : Loc Cert.MixXRefIdeal.nD Cert.MixXRefIdeal.τ Cert.MixXRefIdeal.sig) → Buf (Elt Ideal) ℓ) (g : Dev Cert.MixXRefIdeal.nD → PrngReg), Pre_MixXRefIdeal m →
    θ_run (Cert.MixXRefIdeal.defs (F := Ideal)) (onTc (τ := Cert.MixXRefIdeal.τ) (Cert.MixXRefIdeal.main (F := Ideal))) ⟨m, fun _ => 0, g⟩ (fun r => (∀ c : Dev Cert.MixXRefIdeal.nD,
      r.2.mem ((c.tc : Thread Cert.MixXRefIdeal.nD Cert.MixXRefIdeal.τ).loc Cert.MixXRefIdeal.main_arg0) = m ((c.tc : Thread Cert.MixXRefIdeal.nD Cert.MixXRefIdeal.τ).loc Cert.MixXRefIdeal.main_arg0)
      ∧ r.2.mem ((c.tc : Thread Cert.MixXRefIdeal.nD Cert.MixXRefIdeal.τ).loc Cert.MixXRefIdeal.main_arg1) = m ((c.tc : Thread Cert.MixXRefIdeal.nD Cert.MixXRefIdeal.τ).loc Cert.MixXRefIdeal.main_arg1)
      ∧ r.2.mem ((c.tc : Thread Cert.MixXRefIdeal.nD Cert.MixXRefIdeal.τ).loc Cert.MixXRefIdeal.main_arg2) = m ((c.tc : Thread Cert.MixXRefIdeal.nD Cert.MixXRefIdeal.τ).loc Cert.MixXRefIdeal.main_arg2)
      ∧ r.2.mem ((c.tc : Thread Cert.MixXRefIdeal.nD Cert.MixXRefIdeal.τ).loc Cert.MixXRefIdeal.main_arg3) = m ((c.tc : Thread Cert.MixXRefIdeal.nD Cert.MixXRefIdeal.τ).loc Cert.MixXRefIdeal.main_arg3)
      ∧ r.2.mem ((c.tc : Thread Cert.MixXRefIdeal.nD Cert.MixXRefIdeal.τ).loc Cert.MixXRefIdeal.main_arg4) = m ((c.tc : Thread Cert.MixXRefIdeal.nD Cert.MixXRefIdeal.τ).loc Cert.MixXRefIdeal.main_arg4))
      ∧ r.2.sem = fun _ => 0)

def quiescent_MixY [hMixY : Cert.MixY.Facts] : Prop :=
  ∀ (m : (ℓ : Loc Cert.MixY.nD Cert.MixY.τ Cert.MixY.sig) → Buf (Elt Bits) ℓ) (g : Dev Cert.MixY.nD → PrngReg), Pre_MixY m →
    θ_run (Cert.MixY.defs (F := Bits)) (onTc (τ := Cert.MixY.τ) (Cert.MixY.main (F := Bits))) ⟨m, fun _ => 0, g⟩ (fun r => (∀ c : Dev Cert.MixY.nD,
      r.2.mem ((c.tc : Thread Cert.MixY.nD Cert.MixY.τ).loc Cert.MixY.main_arg0) = m ((c.tc : Thread Cert.MixY.nD Cert.MixY.τ).loc Cert.MixY.main_arg0)
      ∧ r.2.mem ((c.tc : Thread Cert.MixY.nD Cert.MixY.τ).loc Cert.MixY.main_arg1) = m ((c.tc : Thread Cert.MixY.nD Cert.MixY.τ).loc Cert.MixY.main_arg1)
      ∧ r.2.mem ((c.tc : Thread Cert.MixY.nD Cert.MixY.τ).loc Cert.MixY.main_arg2) = m ((c.tc : Thread Cert.MixY.nD Cert.MixY.τ).loc Cert.MixY.main_arg2)
      ∧ r.2.mem ((c.tc : Thread Cert.MixY.nD Cert.MixY.τ).loc Cert.MixY.main_arg3) = m ((c.tc : Thread Cert.MixY.nD Cert.MixY.τ).loc Cert.MixY.main_arg3)
      ∧ r.2.mem ((c.tc : Thread Cert.MixY.nD Cert.MixY.τ).loc Cert.MixY.main_arg4) = m ((c.tc : Thread Cert.MixY.nD Cert.MixY.τ).loc Cert.MixY.main_arg4)
      ∧ r.2.mem ((c.tc : Thread Cert.MixY.nD Cert.MixY.τ).loc Cert.MixY.main_arg5) = m ((c.tc : Thread Cert.MixY.nD Cert.MixY.τ).loc Cert.MixY.main_arg5)
      ∧ r.2.mem ((c.tc : Thread Cert.MixY.nD Cert.MixY.τ).loc Cert.MixY.main_arg6) = m ((c.tc : Thread Cert.MixY.nD Cert.MixY.τ).loc Cert.MixY.main_arg6)
      ∧ r.2.mem ((c.tc : Thread Cert.MixY.nD Cert.MixY.τ).loc Cert.MixY.main_arg7) = m ((c.tc : Thread Cert.MixY.nD Cert.MixY.τ).loc Cert.MixY.main_arg7))
      ∧ r.2.sem = fun _ => 0)

def quiescent_MixYIdeal [hMixYIdeal : Cert.MixYIdeal.Facts] : Prop :=
  ∀ (m : (ℓ : Loc Cert.MixYIdeal.nD Cert.MixYIdeal.τ Cert.MixYIdeal.sig) → Buf (Elt Ideal) ℓ) (g : Dev Cert.MixYIdeal.nD → PrngReg), Pre_MixYIdeal m →
    θ_run (Cert.MixYIdeal.defs (F := Ideal)) (onTc (τ := Cert.MixYIdeal.τ) (Cert.MixYIdeal.main (F := Ideal))) ⟨m, fun _ => 0, g⟩ (fun r => (∀ c : Dev Cert.MixYIdeal.nD,
      r.2.mem ((c.tc : Thread Cert.MixYIdeal.nD Cert.MixYIdeal.τ).loc Cert.MixYIdeal.main_arg0) = m ((c.tc : Thread Cert.MixYIdeal.nD Cert.MixYIdeal.τ).loc Cert.MixYIdeal.main_arg0)
      ∧ r.2.mem ((c.tc : Thread Cert.MixYIdeal.nD Cert.MixYIdeal.τ).loc Cert.MixYIdeal.main_arg1) = m ((c.tc : Thread Cert.MixYIdeal.nD Cert.MixYIdeal.τ).loc Cert.MixYIdeal.main_arg1)
      ∧ r.2.mem ((c.tc : Thread Cert.MixYIdeal.nD Cert.MixYIdeal.τ).loc Cert.MixYIdeal.main_arg2) = m ((c.tc : Thread Cert.MixYIdeal.nD Cert.MixYIdeal.τ).loc Cert.MixYIdeal.main_arg2)
      ∧ r.2.mem ((c.tc : Thread Cert.MixYIdeal.nD Cert.MixYIdeal.τ).loc Cert.MixYIdeal.main_arg3) = m ((c.tc : Thread Cert.MixYIdeal.nD Cert.MixYIdeal.τ).loc Cert.MixYIdeal.main_arg3)
      ∧ r.2.mem ((c.tc : Thread Cert.MixYIdeal.nD Cert.MixYIdeal.τ).loc Cert.MixYIdeal.main_arg4) = m ((c.tc : Thread Cert.MixYIdeal.nD Cert.MixYIdeal.τ).loc Cert.MixYIdeal.main_arg4)
      ∧ r.2.mem ((c.tc : Thread Cert.MixYIdeal.nD Cert.MixYIdeal.τ).loc Cert.MixYIdeal.main_arg5) = m ((c.tc : Thread Cert.MixYIdeal.nD Cert.MixYIdeal.τ).loc Cert.MixYIdeal.main_arg5)
      ∧ r.2.mem ((c.tc : Thread Cert.MixYIdeal.nD Cert.MixYIdeal.τ).loc Cert.MixYIdeal.main_arg6) = m ((c.tc : Thread Cert.MixYIdeal.nD Cert.MixYIdeal.τ).loc Cert.MixYIdeal.main_arg6)
      ∧ r.2.mem ((c.tc : Thread Cert.MixYIdeal.nD Cert.MixYIdeal.τ).loc Cert.MixYIdeal.main_arg7) = m ((c.tc : Thread Cert.MixYIdeal.nD Cert.MixYIdeal.τ).loc Cert.MixYIdeal.main_arg7))
      ∧ r.2.sem = fun _ => 0)

def quiescent_MixYRefIdeal [hMixYRefIdeal : Cert.MixYRefIdeal.Facts] : Prop :=
  ∀ (m : (ℓ : Loc Cert.MixYRefIdeal.nD Cert.MixYRefIdeal.τ Cert.MixYRefIdeal.sig) → Buf (Elt Ideal) ℓ) (g : Dev Cert.MixYRefIdeal.nD → PrngReg), Pre_MixYRefIdeal m →
    θ_run (Cert.MixYRefIdeal.defs (F := Ideal)) (onTc (τ := Cert.MixYRefIdeal.τ) (Cert.MixYRefIdeal.main (F := Ideal))) ⟨m, fun _ => 0, g⟩ (fun r => (∀ c : Dev Cert.MixYRefIdeal.nD,
      r.2.mem ((c.tc : Thread Cert.MixYRefIdeal.nD Cert.MixYRefIdeal.τ).loc Cert.MixYRefIdeal.main_arg0) = m ((c.tc : Thread Cert.MixYRefIdeal.nD Cert.MixYRefIdeal.τ).loc Cert.MixYRefIdeal.main_arg0)
      ∧ r.2.mem ((c.tc : Thread Cert.MixYRefIdeal.nD Cert.MixYRefIdeal.τ).loc Cert.MixYRefIdeal.main_arg1) = m ((c.tc : Thread Cert.MixYRefIdeal.nD Cert.MixYRefIdeal.τ).loc Cert.MixYRefIdeal.main_arg1)
      ∧ r.2.mem ((c.tc : Thread Cert.MixYRefIdeal.nD Cert.MixYRefIdeal.τ).loc Cert.MixYRefIdeal.main_arg2) = m ((c.tc : Thread Cert.MixYRefIdeal.nD Cert.MixYRefIdeal.τ).loc Cert.MixYRefIdeal.main_arg2)
      ∧ r.2.mem ((c.tc : Thread Cert.MixYRefIdeal.nD Cert.MixYRefIdeal.τ).loc Cert.MixYRefIdeal.main_arg3) = m ((c.tc : Thread Cert.MixYRefIdeal.nD Cert.MixYRefIdeal.τ).loc Cert.MixYRefIdeal.main_arg3)
      ∧ r.2.mem ((c.tc : Thread Cert.MixYRefIdeal.nD Cert.MixYRefIdeal.τ).loc Cert.MixYRefIdeal.main_arg4) = m ((c.tc : Thread Cert.MixYRefIdeal.nD Cert.MixYRefIdeal.τ).loc Cert.MixYRefIdeal.main_arg4)
      ∧ r.2.mem ((c.tc : Thread Cert.MixYRefIdeal.nD Cert.MixYRefIdeal.τ).loc Cert.MixYRefIdeal.main_arg5) = m ((c.tc : Thread Cert.MixYRefIdeal.nD Cert.MixYRefIdeal.τ).loc Cert.MixYRefIdeal.main_arg5)
      ∧ r.2.mem ((c.tc : Thread Cert.MixYRefIdeal.nD Cert.MixYRefIdeal.τ).loc Cert.MixYRefIdeal.main_arg6) = m ((c.tc : Thread Cert.MixYRefIdeal.nD Cert.MixYRefIdeal.τ).loc Cert.MixYRefIdeal.main_arg6)
      ∧ r.2.mem ((c.tc : Thread Cert.MixYRefIdeal.nD Cert.MixYRefIdeal.τ).loc Cert.MixYRefIdeal.main_arg7) = m ((c.tc : Thread Cert.MixYRefIdeal.nD Cert.MixYRefIdeal.τ).loc Cert.MixYRefIdeal.main_arg7))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5))
      ∧ r.2.sem = fun _ => 0)

def quiescent_FfnAIdeal_pre_ffn_a_finite [hFfnAIdeal : Cert.FfnAIdeal.Facts] [hPre_ffn_a_finite : Cert.Pre_ffn_a_finite.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal_ffn_a_finite m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5))
      ∧ r.2.sem = fun _ => 0)

def quiescent_FfnARefIdeal_pre_ffn_a_finite [hFfnARefIdeal : Cert.FfnARefIdeal.Facts] [hPre_ffn_a_finite : Cert.Pre_ffn_a_finite.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal_ffn_a_finite m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_sgu_finite [hSguIdeal : Cert.SguIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_finite m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_SguF [hSguF : Cert.SguF.Facts] : Prop :=
  ∀ (m : (ℓ : Loc Cert.SguF.nD Cert.SguF.τ Cert.SguF.sig) → Buf (Elt Bits) ℓ) (g : Dev Cert.SguF.nD → PrngReg), Pre_SguF m →
    θ_run (Cert.SguF.defs (F := Bits)) (onTc (τ := Cert.SguF.τ) (Cert.SguF.main (F := Bits))) ⟨m, fun _ => 0, g⟩ (fun r => (∀ c : Dev Cert.SguF.nD,
      r.2.mem ((c.tc : Thread Cert.SguF.nD Cert.SguF.τ).loc Cert.SguF.main_arg0) = m ((c.tc : Thread Cert.SguF.nD Cert.SguF.τ).loc Cert.SguF.main_arg0)
      ∧ r.2.mem ((c.tc : Thread Cert.SguF.nD Cert.SguF.τ).loc Cert.SguF.main_arg1) = m ((c.tc : Thread Cert.SguF.nD Cert.SguF.τ).loc Cert.SguF.main_arg1)
      ∧ r.2.mem ((c.tc : Thread Cert.SguF.nD Cert.SguF.τ).loc Cert.SguF.main_arg2) = m ((c.tc : Thread Cert.SguF.nD Cert.SguF.τ).loc Cert.SguF.main_arg2)
      ∧ r.2.mem ((c.tc : Thread Cert.SguF.nD Cert.SguF.τ).loc Cert.SguF.main_arg3) = m ((c.tc : Thread Cert.SguF.nD Cert.SguF.τ).loc Cert.SguF.main_arg3))
      ∧ r.2.sem = fun _ => 0)

def quiescent_SguFIdeal [hSguFIdeal : Cert.SguFIdeal.Facts] : Prop :=
  ∀ (m : (ℓ : Loc Cert.SguFIdeal.nD Cert.SguFIdeal.τ Cert.SguFIdeal.sig) → Buf (Elt Ideal) ℓ) (g : Dev Cert.SguFIdeal.nD → PrngReg), Pre_SguFIdeal m →
    θ_run (Cert.SguFIdeal.defs (F := Ideal)) (onTc (τ := Cert.SguFIdeal.τ) (Cert.SguFIdeal.main (F := Ideal))) ⟨m, fun _ => 0, g⟩ (fun r => (∀ c : Dev Cert.SguFIdeal.nD,
      r.2.mem ((c.tc : Thread Cert.SguFIdeal.nD Cert.SguFIdeal.τ).loc Cert.SguFIdeal.main_arg0) = m ((c.tc : Thread Cert.SguFIdeal.nD Cert.SguFIdeal.τ).loc Cert.SguFIdeal.main_arg0)
      ∧ r.2.mem ((c.tc : Thread Cert.SguFIdeal.nD Cert.SguFIdeal.τ).loc Cert.SguFIdeal.main_arg1) = m ((c.tc : Thread Cert.SguFIdeal.nD Cert.SguFIdeal.τ).loc Cert.SguFIdeal.main_arg1)
      ∧ r.2.mem ((c.tc : Thread Cert.SguFIdeal.nD Cert.SguFIdeal.τ).loc Cert.SguFIdeal.main_arg2) = m ((c.tc : Thread Cert.SguFIdeal.nD Cert.SguFIdeal.τ).loc Cert.SguFIdeal.main_arg2)
      ∧ r.2.mem ((c.tc : Thread Cert.SguFIdeal.nD Cert.SguFIdeal.τ).loc Cert.SguFIdeal.main_arg3) = m ((c.tc : Thread Cert.SguFIdeal.nD Cert.SguFIdeal.τ).loc Cert.SguFIdeal.main_arg3))
      ∧ r.2.sem = fun _ => 0)

def quiescent_SguFRefIdeal [hSguFRefIdeal : Cert.SguFRefIdeal.Facts] : Prop :=
  ∀ (m : (ℓ : Loc Cert.SguFRefIdeal.nD Cert.SguFRefIdeal.τ Cert.SguFRefIdeal.sig) → Buf (Elt Ideal) ℓ) (g : Dev Cert.SguFRefIdeal.nD → PrngReg), Pre_SguFRefIdeal m →
    θ_run (Cert.SguFRefIdeal.defs (F := Ideal)) (onTc (τ := Cert.SguFRefIdeal.τ) (Cert.SguFRefIdeal.main (F := Ideal))) ⟨m, fun _ => 0, g⟩ (fun r => (∀ c : Dev Cert.SguFRefIdeal.nD,
      r.2.mem ((c.tc : Thread Cert.SguFRefIdeal.nD Cert.SguFRefIdeal.τ).loc Cert.SguFRefIdeal.main_arg0) = m ((c.tc : Thread Cert.SguFRefIdeal.nD Cert.SguFRefIdeal.τ).loc Cert.SguFRefIdeal.main_arg0)
      ∧ r.2.mem ((c.tc : Thread Cert.SguFRefIdeal.nD Cert.SguFRefIdeal.τ).loc Cert.SguFRefIdeal.main_arg1) = m ((c.tc : Thread Cert.SguFRefIdeal.nD Cert.SguFRefIdeal.τ).loc Cert.SguFRefIdeal.main_arg1)
      ∧ r.2.mem ((c.tc : Thread Cert.SguFRefIdeal.nD Cert.SguFRefIdeal.τ).loc Cert.SguFRefIdeal.main_arg2) = m ((c.tc : Thread Cert.SguFRefIdeal.nD Cert.SguFRefIdeal.τ).loc Cert.SguFRefIdeal.main_arg2)
      ∧ r.2.mem ((c.tc : Thread Cert.SguFRefIdeal.nD Cert.SguFRefIdeal.τ).loc Cert.SguFRefIdeal.main_arg3) = m ((c.tc : Thread Cert.SguFRefIdeal.nD Cert.SguFRefIdeal.τ).loc Cert.SguFRefIdeal.main_arg3))
      ∧ r.2.sem = fun _ => 0)

def quiescent_FfnGu [hFfnGu : Cert.FfnGu.Facts] : Prop :=
  ∀ (m : (ℓ : Loc Cert.FfnGu.nD Cert.FfnGu.τ Cert.FfnGu.sig) → Buf (Elt Bits) ℓ) (g : Dev Cert.FfnGu.nD → PrngReg), Pre_FfnGu m →
    θ_run (Cert.FfnGu.defs (F := Bits)) (onTc (τ := Cert.FfnGu.τ) (Cert.FfnGu.main (F := Bits))) ⟨m, fun _ => 0, g⟩ (fun r => (∀ c : Dev Cert.FfnGu.nD,
      r.2.mem ((c.tc : Thread Cert.FfnGu.nD Cert.FfnGu.τ).loc Cert.FfnGu.main_arg0) = m ((c.tc : Thread Cert.FfnGu.nD Cert.FfnGu.τ).loc Cert.FfnGu.main_arg0)
      ∧ r.2.mem ((c.tc : Thread Cert.FfnGu.nD Cert.FfnGu.τ).loc Cert.FfnGu.main_arg1) = m ((c.tc : Thread Cert.FfnGu.nD Cert.FfnGu.τ).loc Cert.FfnGu.main_arg1)
      ∧ r.2.mem ((c.tc : Thread Cert.FfnGu.nD Cert.FfnGu.τ).loc Cert.FfnGu.main_arg2) = m ((c.tc : Thread Cert.FfnGu.nD Cert.FfnGu.τ).loc Cert.FfnGu.main_arg2))
      ∧ r.2.sem = fun _ => 0)

def quiescent_FfnGuIdeal [hFfnGuIdeal : Cert.FfnGuIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg), Pre_FfnGuIdeal m →
    θ_run (Cert.FfnGuIdeal.defs (F := Ideal)) (onTc (τ := Cert.FfnGuIdeal.τ) (Cert.FfnGuIdeal.main (F := Ideal))) ⟨m, fun _ => 0, g⟩ (fun r => (∀ c : Dev Cert.FfnGuIdeal.nD,
      r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
      ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1)
      ∧ r.2.mem ((c.tc : Thread Cert.FfnGuIdeal.nD Cert.FfnGuIdeal.τ).loc Cert.FfnGuIdeal.main_arg2) = m ((c.tc : Thread Cert.FfnGuIdeal.nD Cert.FfnGuIdeal.τ).loc Cert.FfnGuIdeal.main_arg2))
      ∧ r.2.sem = fun _ => 0)

def quiescent_FfnGuRefIdeal [hFfnGuRefIdeal : Cert.FfnGuRefIdeal.Facts] : Prop :=
  ∀ (m : (ℓ : Loc Cert.FfnGuRefIdeal.nD Cert.FfnGuRefIdeal.τ Cert.FfnGuRefIdeal.sig) → Buf (Elt Ideal) ℓ) (g : Dev Cert.FfnGuRefIdeal.nD → PrngReg), Pre_FfnGuRefIdeal m →
    θ_run (Cert.FfnGuRefIdeal.defs (F := Ideal)) (onTc (τ := Cert.FfnGuRefIdeal.τ) (Cert.FfnGuRefIdeal.main (F := Ideal))) ⟨m, fun _ => 0, g⟩ (fun r => (∀ c : Dev Cert.FfnGuRefIdeal.nD,
      r.2.mem ((c.tc : Thread Cert.FfnGuRefIdeal.nD Cert.FfnGuRefIdeal.τ).loc Cert.FfnGuRefIdeal.main_arg0) = m ((c.tc : Thread Cert.FfnGuRefIdeal.nD Cert.FfnGuRefIdeal.τ).loc Cert.FfnGuRefIdeal.main_arg0)
      ∧ r.2.mem ((c.tc : Thread Cert.FfnGuRefIdeal.nD Cert.FfnGuRefIdeal.τ).loc Cert.FfnGuRefIdeal.main_arg1) = m ((c.tc : Thread Cert.FfnGuRefIdeal.nD Cert.FfnGuRefIdeal.τ).loc Cert.FfnGuRefIdeal.main_arg1)
      ∧ r.2.mem ((c.tc : Thread Cert.FfnGuRefIdeal.nD Cert.FfnGuRefIdeal.τ).loc Cert.FfnGuRefIdeal.main_arg2) = m ((c.tc : Thread Cert.FfnGuRefIdeal.nD Cert.FfnGuRefIdeal.τ).loc Cert.FfnGuRefIdeal.main_arg2))
      ∧ r.2.sem = fun _ => 0)

def quiescent_FfnN [hFfnN : Cert.FfnN.Facts] : Prop :=
  ∀ (m : (ℓ : Loc Cert.FfnN.nD Cert.FfnN.τ Cert.FfnN.sig) → Buf (Elt Bits) ℓ) (g : Dev Cert.FfnN.nD → PrngReg), Pre_FfnN m →
    θ_run (Cert.FfnN.defs (F := Bits)) (onTc (τ := Cert.FfnN.τ) (Cert.FfnN.main (F := Bits))) ⟨m, fun _ => 0, g⟩ (fun r => (∀ c : Dev Cert.FfnN.nD,
      r.2.mem ((c.tc : Thread Cert.FfnN.nD Cert.FfnN.τ).loc Cert.FfnN.main_arg0) = m ((c.tc : Thread Cert.FfnN.nD Cert.FfnN.τ).loc Cert.FfnN.main_arg0)
      ∧ r.2.mem ((c.tc : Thread Cert.FfnN.nD Cert.FfnN.τ).loc Cert.FfnN.main_arg1) = m ((c.tc : Thread Cert.FfnN.nD Cert.FfnN.τ).loc Cert.FfnN.main_arg1)
      ∧ r.2.mem ((c.tc : Thread Cert.FfnN.nD Cert.FfnN.τ).loc Cert.FfnN.main_arg2) = m ((c.tc : Thread Cert.FfnN.nD Cert.FfnN.τ).loc Cert.FfnN.main_arg2)
      ∧ r.2.mem ((c.tc : Thread Cert.FfnN.nD Cert.FfnN.τ).loc Cert.FfnN.main_arg3) = m ((c.tc : Thread Cert.FfnN.nD Cert.FfnN.τ).loc Cert.FfnN.main_arg3)
      ∧ r.2.mem ((c.tc : Thread Cert.FfnN.nD Cert.FfnN.τ).loc Cert.FfnN.main_arg4) = m ((c.tc : Thread Cert.FfnN.nD Cert.FfnN.τ).loc Cert.FfnN.main_arg4))
      ∧ r.2.sem = fun _ => 0)

def quiescent_FfnNIdeal [hFfnNIdeal : Cert.FfnNIdeal.Facts] : Prop :=
  ∀ (m : (ℓ : Loc Cert.FfnNIdeal.nD Cert.FfnNIdeal.τ Cert.FfnNIdeal.sig) → Buf (Elt Ideal) ℓ) (g : Dev Cert.FfnNIdeal.nD → PrngReg), Pre_FfnNIdeal m →
    θ_run (Cert.FfnNIdeal.defs (F := Ideal)) (onTc (τ := Cert.FfnNIdeal.τ) (Cert.FfnNIdeal.main (F := Ideal))) ⟨m, fun _ => 0, g⟩ (fun r => (∀ c : Dev Cert.FfnNIdeal.nD,
      r.2.mem ((c.tc : Thread Cert.FfnNIdeal.nD Cert.FfnNIdeal.τ).loc Cert.FfnNIdeal.main_arg0) = m ((c.tc : Thread Cert.FfnNIdeal.nD Cert.FfnNIdeal.τ).loc Cert.FfnNIdeal.main_arg0)
      ∧ r.2.mem ((c.tc : Thread Cert.FfnNIdeal.nD Cert.FfnNIdeal.τ).loc Cert.FfnNIdeal.main_arg1) = m ((c.tc : Thread Cert.FfnNIdeal.nD Cert.FfnNIdeal.τ).loc Cert.FfnNIdeal.main_arg1)
      ∧ r.2.mem ((c.tc : Thread Cert.FfnNIdeal.nD Cert.FfnNIdeal.τ).loc Cert.FfnNIdeal.main_arg2) = m ((c.tc : Thread Cert.FfnNIdeal.nD Cert.FfnNIdeal.τ).loc Cert.FfnNIdeal.main_arg2)
      ∧ r.2.mem ((c.tc : Thread Cert.FfnNIdeal.nD Cert.FfnNIdeal.τ).loc Cert.FfnNIdeal.main_arg3) = m ((c.tc : Thread Cert.FfnNIdeal.nD Cert.FfnNIdeal.τ).loc Cert.FfnNIdeal.main_arg3)
      ∧ r.2.mem ((c.tc : Thread Cert.FfnNIdeal.nD Cert.FfnNIdeal.τ).loc Cert.FfnNIdeal.main_arg4) = m ((c.tc : Thread Cert.FfnNIdeal.nD Cert.FfnNIdeal.τ).loc Cert.FfnNIdeal.main_arg4))
      ∧ r.2.sem = fun _ => 0)

def quiescent_FfnNRefIdeal [hFfnNRefIdeal : Cert.FfnNRefIdeal.Facts] : Prop :=
  ∀ (m : (ℓ : Loc Cert.FfnNRefIdeal.nD Cert.FfnNRefIdeal.τ Cert.FfnNRefIdeal.sig) → Buf (Elt Ideal) ℓ) (g : Dev Cert.FfnNRefIdeal.nD → PrngReg), Pre_FfnNRefIdeal m →
    θ_run (Cert.FfnNRefIdeal.defs (F := Ideal)) (onTc (τ := Cert.FfnNRefIdeal.τ) (Cert.FfnNRefIdeal.main (F := Ideal))) ⟨m, fun _ => 0, g⟩ (fun r => (∀ c : Dev Cert.FfnNRefIdeal.nD,
      r.2.mem ((c.tc : Thread Cert.FfnNRefIdeal.nD Cert.FfnNRefIdeal.τ).loc Cert.FfnNRefIdeal.main_arg0) = m ((c.tc : Thread Cert.FfnNRefIdeal.nD Cert.FfnNRefIdeal.τ).loc Cert.FfnNRefIdeal.main_arg0)
      ∧ r.2.mem ((c.tc : Thread Cert.FfnNRefIdeal.nD Cert.FfnNRefIdeal.τ).loc Cert.FfnNRefIdeal.main_arg1) = m ((c.tc : Thread Cert.FfnNRefIdeal.nD Cert.FfnNRefIdeal.τ).loc Cert.FfnNRefIdeal.main_arg1)
      ∧ r.2.mem ((c.tc : Thread Cert.FfnNRefIdeal.nD Cert.FfnNRefIdeal.τ).loc Cert.FfnNRefIdeal.main_arg2) = m ((c.tc : Thread Cert.FfnNRefIdeal.nD Cert.FfnNRefIdeal.τ).loc Cert.FfnNRefIdeal.main_arg2)
      ∧ r.2.mem ((c.tc : Thread Cert.FfnNRefIdeal.nD Cert.FfnNRefIdeal.τ).loc Cert.FfnNRefIdeal.main_arg3) = m ((c.tc : Thread Cert.FfnNRefIdeal.nD Cert.FfnNRefIdeal.τ).loc Cert.FfnNRefIdeal.main_arg3)
      ∧ r.2.mem ((c.tc : Thread Cert.FfnNRefIdeal.nD Cert.FfnNRefIdeal.τ).loc Cert.FfnNRefIdeal.main_arg4) = m ((c.tc : Thread Cert.FfnNRefIdeal.nD Cert.FfnNRefIdeal.τ).loc Cert.FfnNRefIdeal.main_arg4))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFIdeal_pre_pool_f_finite [hPoolFIdeal : Cert.PoolFIdeal.Facts] [hPre_pool_f_finite : Cert.Pre_pool_f_finite.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal_pool_f_finite m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_PoolFRefIdeal_pre_pool_f_finite [hPoolFRefIdeal : Cert.PoolFRefIdeal.Facts] [hPre_pool_f_finite : Cert.Pre_pool_f_finite.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal_pool_f_finite m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def preserves_FfnX_FfnXIdeal : Prop :=
  True

def algebraic_FfnXIdeal_FfnXRefIdeal [hFfnXIdeal : Cert.FfnXIdeal.Facts] [hFfnXRefIdeal : Cert.FfnXRefIdeal.Facts] : Prop :=
  ∀ (m : (ℓ : Loc Cert.FfnXIdeal.nD Cert.FfnXIdeal.τ Cert.FfnXIdeal.sig) → Buf (Elt Ideal) ℓ) (g : Dev Cert.FfnXIdeal.nD → PrngReg)
    (m' : (ℓ : Loc Cert.FfnXRefIdeal.nD Cert.FfnXRefIdeal.τ Cert.FfnXRefIdeal.sig) → Buf (Elt Ideal) ℓ) (g' : Dev Cert.FfnXRefIdeal.nD → PrngReg), Pre_FfnXIdeal m →
    (∀ c : Dev Cert.FfnXIdeal.nD,
      m' ((c.tc : Thread Cert.FfnXRefIdeal.nD Cert.FfnXRefIdeal.τ).loc Cert.FfnXRefIdeal.main_arg0) = m ((c.tc : Thread Cert.FfnXIdeal.nD Cert.FfnXIdeal.τ).loc Cert.FfnXIdeal.main_arg0)
      ∧ m' ((c.tc : Thread Cert.FfnXRefIdeal.nD Cert.FfnXRefIdeal.τ).loc Cert.FfnXRefIdeal.main_arg1) = m ((c.tc : Thread Cert.FfnXIdeal.nD Cert.FfnXIdeal.τ).loc Cert.FfnXIdeal.main_arg1)
      ∧ m' ((c.tc : Thread Cert.FfnXRefIdeal.nD Cert.FfnXRefIdeal.τ).loc Cert.FfnXRefIdeal.main_arg2) = m ((c.tc : Thread Cert.FfnXIdeal.nD Cert.FfnXIdeal.τ).loc Cert.FfnXIdeal.main_arg2)
      ∧ m' ((c.tc : Thread Cert.FfnXRefIdeal.nD Cert.FfnXRefIdeal.τ).loc Cert.FfnXRefIdeal.main_arg3) = m ((c.tc : Thread Cert.FfnXIdeal.nD Cert.FfnXIdeal.τ).loc Cert.FfnXIdeal.main_arg3)
      ∧ m' ((c.tc : Thread Cert.FfnXRefIdeal.nD Cert.FfnXRefIdeal.τ).loc Cert.FfnXRefIdeal.main_arg4) = m ((c.tc : Thread Cert.FfnXIdeal.nD Cert.FfnXIdeal.τ).loc Cert.FfnXIdeal.main_arg4)
      ∧ m' ((c.tc : Thread Cert.FfnXRefIdeal.nD Cert.FfnXRefIdeal.τ).loc Cert.FfnXRefIdeal.main_arg5) = m ((c.tc : Thread Cert.FfnXIdeal.nD Cert.FfnXIdeal.τ).loc Cert.FfnXIdeal.main_arg5)
      ∧ m' ((c.tc : Thread Cert.FfnXRefIdeal.nD Cert.FfnXRefIdeal.τ).loc Cert.FfnXRefIdeal.main_arg6) = m ((c.tc : Thread Cert.FfnXIdeal.nD Cert.FfnXIdeal.τ).loc Cert.FfnXIdeal.main_arg6)) →
    ∃ (v0 : (c : Dev Cert.FfnXIdeal.nD) → Buf (Elt Ideal) ((c.tc : Thread Cert.FfnXIdeal.nD Cert.FfnXIdeal.τ).loc Cert.FfnXIdeal.main_v12_0)) (v1 : (c : Dev Cert.FfnXIdeal.nD) → Buf (Elt Ideal) ((c.tc : Thread Cert.FfnXIdeal.nD Cert.FfnXIdeal.τ).loc Cert.FfnXIdeal.main_v12_1)),
      θ_run (Cert.FfnXIdeal.defs (F := Ideal)) (onTc (τ := Cert.FfnXIdeal.τ) (Cert.FfnXIdeal.main (F := Ideal))) ⟨m, fun _ => 0, g⟩ (fun r => ∀ c : Dev Cert.FfnXIdeal.nD,
          r.2.mem ((c.tc : Thread Cert.FfnXIdeal.nD Cert.FfnXIdeal.τ).loc Cert.FfnXIdeal.main_v12_0) = v0 c
          ∧ r.2.mem ((c.tc : Thread Cert.FfnXIdeal.nD Cert.FfnXIdeal.τ).loc Cert.FfnXIdeal.main_v12_1) = v1 c
          ∧ r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
          ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
          ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
          ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
          ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4)
          ∧ r.2.mem ((c.tc : Thread Cert.FfnXIdeal.nD Cert.FfnXIdeal.τ).loc Cert.FfnXIdeal.main_arg5) = m ((c.tc : Thread Cert.FfnXIdeal.nD Cert.FfnXIdeal.τ).loc Cert.FfnXIdeal.main_arg5)
          ∧ r.2.mem ((c.tc : Thread Cert.FfnXIdeal.nD Cert.FfnXIdeal.τ).loc Cert.FfnXIdeal.main_arg6) = m ((c.tc : Thread Cert.FfnXIdeal.nD Cert.FfnXIdeal.τ).loc Cert.FfnXIdeal.main_arg6))
      ∧ θ_run (Cert.FfnXRefIdeal.defs (F := Ideal)) (onTc (τ := Cert.FfnXRefIdeal.τ) (Cert.FfnXRefIdeal.main (F := Ideal))) ⟨m', fun _ => 0, g'⟩ (fun r => ∀ c : Dev Cert.FfnXRefIdeal.nD,
          r.2.mem ((c.tc : Thread Cert.FfnXRefIdeal.nD Cert.FfnXRefIdeal.τ).loc Cert.FfnXRefIdeal.main_v42) = v0 c
          ∧ r.2.mem ((c.tc : Thread Cert.FfnXRefIdeal.nD Cert.FfnXRefIdeal.τ).loc Cert.FfnXRefIdeal.main_v43) = v1 c
          ∧ r.2.mem ((c.tc : Thread Cert.FfnXRefIdeal.nD Cert.FfnXRefIdeal.τ).loc Cert.FfnXRefIdeal.main_arg0) = m' ((c.tc : Thread Cert.FfnXRefIdeal.nD Cert.FfnXRefIdeal.τ).loc Cert.FfnXRefIdeal.main_arg0)
          ∧ r.2.mem ((c.tc : Thread Cert.FfnXRefIdeal.nD Cert.FfnXRefIdeal.τ).loc Cert.FfnXRefIdeal.main_arg1) = m' ((c.tc : Thread Cert.FfnXRefIdeal.nD Cert.FfnXRefIdeal.τ).loc Cert.FfnXRefIdeal.main_arg1)
          ∧ r.2.mem ((c.tc : Thread Cert.FfnXRefIdeal.nD Cert.FfnXRefIdeal.τ).loc Cert.FfnXRefIdeal.main_arg2) = m' ((c.tc : Thread Cert.FfnXRefIdeal.nD Cert.FfnXRefIdeal.τ).loc Cert.FfnXRefIdeal.main_arg2)
          ∧ r.2.mem ((c.tc : Thread Cert.FfnXRefIdeal.nD Cert.FfnXRefIdeal.τ).loc Cert.FfnXRefIdeal.main_arg3) = m' ((c.tc : Thread Cert.FfnXRefIdeal.nD Cert.FfnXRefIdeal.τ).loc Cert.FfnXRefIdeal.main_arg3)
          ∧ r.2.mem ((c.tc : Thread Cert.FfnXRefIdeal.nD Cert.FfnXRefIdeal.τ).loc Cert.FfnXRefIdeal.main_arg4) = m' ((c.tc : Thread Cert.FfnXRefIdeal.nD Cert.FfnXRefIdeal.τ).loc Cert.FfnXRefIdeal.main_arg4)
          ∧ r.2.mem ((c.tc : Thread Cert.FfnXRefIdeal.nD Cert.FfnXRefIdeal.τ).loc Cert.FfnXRefIdeal.main_arg5) = m' ((c.tc : Thread Cert.FfnXRefIdeal.nD Cert.FfnXRefIdeal.τ).loc Cert.FfnXRefIdeal.main_arg5)
          ∧ r.2.mem ((c.tc : Thread Cert.FfnXRefIdeal.nD Cert.FfnXRefIdeal.τ).loc Cert.FfnXRefIdeal.main_arg6) = m' ((c.tc : Thread Cert.FfnXRefIdeal.nD Cert.FfnXRefIdeal.τ).loc Cert.FfnXRefIdeal.main_arg6))

def preserves_MixX_MixXIdeal : Prop :=
  True

def algebraic_MixXIdeal_MixXRefIdeal [hMixXIdeal : Cert.MixXIdeal.Facts] [hMixXRefIdeal : Cert.MixXRefIdeal.Facts] : Prop :=
  ∀ (m : (ℓ : Loc Cert.MixXIdeal.nD Cert.MixXIdeal.τ Cert.MixXIdeal.sig) → Buf (Elt Ideal) ℓ) (g : Dev Cert.MixXIdeal.nD → PrngReg)
    (m' : (ℓ : Loc Cert.MixXRefIdeal.nD Cert.MixXRefIdeal.τ Cert.MixXRefIdeal.sig) → Buf (Elt Ideal) ℓ) (g' : Dev Cert.MixXRefIdeal.nD → PrngReg), Pre_MixXIdeal m →
    (∀ c : Dev Cert.MixXIdeal.nD,
      m' ((c.tc : Thread Cert.MixXRefIdeal.nD Cert.MixXRefIdeal.τ).loc Cert.MixXRefIdeal.main_arg0) = m ((c.tc : Thread Cert.MixXIdeal.nD Cert.MixXIdeal.τ).loc Cert.MixXIdeal.main_arg0)
      ∧ m' ((c.tc : Thread Cert.MixXRefIdeal.nD Cert.MixXRefIdeal.τ).loc Cert.MixXRefIdeal.main_arg1) = m ((c.tc : Thread Cert.MixXIdeal.nD Cert.MixXIdeal.τ).loc Cert.MixXIdeal.main_arg1)
      ∧ m' ((c.tc : Thread Cert.MixXRefIdeal.nD Cert.MixXRefIdeal.τ).loc Cert.MixXRefIdeal.main_arg2) = m ((c.tc : Thread Cert.MixXIdeal.nD Cert.MixXIdeal.τ).loc Cert.MixXIdeal.main_arg2)
      ∧ m' ((c.tc : Thread Cert.MixXRefIdeal.nD Cert.MixXRefIdeal.τ).loc Cert.MixXRefIdeal.main_arg3) = m ((c.tc : Thread Cert.MixXIdeal.nD Cert.MixXIdeal.τ).loc Cert.MixXIdeal.main_arg3)
      ∧ m' ((c.tc : Thread Cert.MixXRefIdeal.nD Cert.MixXRefIdeal.τ).loc Cert.MixXRefIdeal.main_arg4) = m ((c.tc : Thread Cert.MixXIdeal.nD Cert.MixXIdeal.τ).loc Cert.MixXIdeal.main_arg4)) →
    ∃ (v0 : (c : Dev Cert.MixXIdeal.nD) → Buf (Elt Ideal) ((c.tc : Thread Cert.MixXIdeal.nD Cert.MixXIdeal.τ).loc Cert.MixXIdeal.main_v15_0)) (v1 : (c : Dev Cert.MixXIdeal.nD) → Buf (Elt Ideal) ((c.tc : Thread Cert.MixXIdeal.nD Cert.MixXIdeal.τ).loc Cert.MixXIdeal.main_v15_1)),
      θ_run (Cert.MixXIdeal.defs (F := Ideal)) (onTc (τ := Cert.MixXIdeal.τ) (Cert.MixXIdeal.main (F := Ideal))) ⟨m, fun _ => 0, g⟩ (fun r => ∀ c : Dev Cert.MixXIdeal.nD,
          r.2.mem ((c.tc : Thread Cert.MixXIdeal.nD Cert.MixXIdeal.τ).loc Cert.MixXIdeal.main_v15_0) = v0 c
          ∧ r.2.mem ((c.tc : Thread Cert.MixXIdeal.nD Cert.MixXIdeal.τ).loc Cert.MixXIdeal.main_v15_1) = v1 c
          ∧ r.2.mem ((c.tc : Thread Cert.MixXIdeal.nD Cert.MixXIdeal.τ).loc Cert.MixXIdeal.main_arg0) = m ((c.tc : Thread Cert.MixXIdeal.nD Cert.MixXIdeal.τ).loc Cert.MixXIdeal.main_arg0)
          ∧ r.2.mem ((c.tc : Thread Cert.MixXIdeal.nD Cert.MixXIdeal.τ).loc Cert.MixXIdeal.main_arg1) = m ((c.tc : Thread Cert.MixXIdeal.nD Cert.MixXIdeal.τ).loc Cert.MixXIdeal.main_arg1)
          ∧ r.2.mem ((c.tc : Thread Cert.MixXIdeal.nD Cert.MixXIdeal.τ).loc Cert.MixXIdeal.main_arg2) = m ((c.tc : Thread Cert.MixXIdeal.nD Cert.MixXIdeal.τ).loc Cert.MixXIdeal.main_arg2)
          ∧ r.2.mem ((c.tc : Thread Cert.MixXIdeal.nD Cert.MixXIdeal.τ).loc Cert.MixXIdeal.main_arg3) = m ((c.tc : Thread Cert.MixXIdeal.nD Cert.MixXIdeal.τ).loc Cert.MixXIdeal.main_arg3)
          ∧ r.2.mem ((c.tc : Thread Cert.MixXIdeal.nD Cert.MixXIdeal.τ).loc Cert.MixXIdeal.main_arg4) = m ((c.tc : Thread Cert.MixXIdeal.nD Cert.MixXIdeal.τ).loc Cert.MixXIdeal.main_arg4))
      ∧ θ_run (Cert.MixXRefIdeal.defs (F := Ideal)) (onTc (τ := Cert.MixXRefIdeal.τ) (Cert.MixXRefIdeal.main (F := Ideal))) ⟨m', fun _ => 0, g'⟩ (fun r => ∀ c : Dev Cert.MixXRefIdeal.nD,
          r.2.mem ((c.tc : Thread Cert.MixXRefIdeal.nD Cert.MixXRefIdeal.τ).loc Cert.MixXRefIdeal.main_v39) = v0 c
          ∧ r.2.mem ((c.tc : Thread Cert.MixXRefIdeal.nD Cert.MixXRefIdeal.τ).loc Cert.MixXRefIdeal.main_v40) = v1 c
          ∧ r.2.mem ((c.tc : Thread Cert.MixXRefIdeal.nD Cert.MixXRefIdeal.τ).loc Cert.MixXRefIdeal.main_arg0) = m' ((c.tc : Thread Cert.MixXRefIdeal.nD Cert.MixXRefIdeal.τ).loc Cert.MixXRefIdeal.main_arg0)
          ∧ r.2.mem ((c.tc : Thread Cert.MixXRefIdeal.nD Cert.MixXRefIdeal.τ).loc Cert.MixXRefIdeal.main_arg1) = m' ((c.tc : Thread Cert.MixXRefIdeal.nD Cert.MixXRefIdeal.τ).loc Cert.MixXRefIdeal.main_arg1)
          ∧ r.2.mem ((c.tc : Thread Cert.MixXRefIdeal.nD Cert.MixXRefIdeal.τ).loc Cert.MixXRefIdeal.main_arg2) = m' ((c.tc : Thread Cert.MixXRefIdeal.nD Cert.MixXRefIdeal.τ).loc Cert.MixXRefIdeal.main_arg2)
          ∧ r.2.mem ((c.tc : Thread Cert.MixXRefIdeal.nD Cert.MixXRefIdeal.τ).loc Cert.MixXRefIdeal.main_arg3) = m' ((c.tc : Thread Cert.MixXRefIdeal.nD Cert.MixXRefIdeal.τ).loc Cert.MixXRefIdeal.main_arg3)
          ∧ r.2.mem ((c.tc : Thread Cert.MixXRefIdeal.nD Cert.MixXRefIdeal.τ).loc Cert.MixXRefIdeal.main_arg4) = m' ((c.tc : Thread Cert.MixXRefIdeal.nD Cert.MixXRefIdeal.τ).loc Cert.MixXRefIdeal.main_arg4))

def preserves_MixY_MixYIdeal : Prop :=
  True

def algebraic_MixYIdeal_MixYRefIdeal_on_gates_written [hMixYIdeal : Cert.MixYIdeal.Facts] [hMixYRefIdeal : Cert.MixYRefIdeal.Facts] [hOn_gates_written : Cert.On_gates_written.Facts] : Prop :=
  ∀ (m : (ℓ : Loc Cert.MixYIdeal.nD Cert.MixYIdeal.τ Cert.MixYIdeal.sig) → Buf (Elt Ideal) ℓ) (g : Dev Cert.MixYIdeal.nD → PrngReg)
    (m' : (ℓ : Loc Cert.MixYRefIdeal.nD Cert.MixYRefIdeal.τ Cert.MixYRefIdeal.sig) → Buf (Elt Ideal) ℓ) (g' : Dev Cert.MixYRefIdeal.nD → PrngReg), Pre_MixYIdeal m →
    (∀ c : Dev Cert.MixYIdeal.nD,
      m' ((c.tc : Thread Cert.MixYRefIdeal.nD Cert.MixYRefIdeal.τ).loc Cert.MixYRefIdeal.main_arg0) = m ((c.tc : Thread Cert.MixYIdeal.nD Cert.MixYIdeal.τ).loc Cert.MixYIdeal.main_arg0)
      ∧ m' ((c.tc : Thread Cert.MixYRefIdeal.nD Cert.MixYRefIdeal.τ).loc Cert.MixYRefIdeal.main_arg1) = m ((c.tc : Thread Cert.MixYIdeal.nD Cert.MixYIdeal.τ).loc Cert.MixYIdeal.main_arg1)
      ∧ m' ((c.tc : Thread Cert.MixYRefIdeal.nD Cert.MixYRefIdeal.τ).loc Cert.MixYRefIdeal.main_arg2) = m ((c.tc : Thread Cert.MixYIdeal.nD Cert.MixYIdeal.τ).loc Cert.MixYIdeal.main_arg2)
      ∧ m' ((c.tc : Thread Cert.MixYRefIdeal.nD Cert.MixYRefIdeal.τ).loc Cert.MixYRefIdeal.main_arg3) = m ((c.tc : Thread Cert.MixYIdeal.nD Cert.MixYIdeal.τ).loc Cert.MixYIdeal.main_arg3)
      ∧ m' ((c.tc : Thread Cert.MixYRefIdeal.nD Cert.MixYRefIdeal.τ).loc Cert.MixYRefIdeal.main_arg4) = m ((c.tc : Thread Cert.MixYIdeal.nD Cert.MixYIdeal.τ).loc Cert.MixYIdeal.main_arg4)
      ∧ m' ((c.tc : Thread Cert.MixYRefIdeal.nD Cert.MixYRefIdeal.τ).loc Cert.MixYRefIdeal.main_arg5) = m ((c.tc : Thread Cert.MixYIdeal.nD Cert.MixYIdeal.τ).loc Cert.MixYIdeal.main_arg5)
      ∧ m' ((c.tc : Thread Cert.MixYRefIdeal.nD Cert.MixYRefIdeal.τ).loc Cert.MixYRefIdeal.main_arg6) = m ((c.tc : Thread Cert.MixYIdeal.nD Cert.MixYIdeal.τ).loc Cert.MixYIdeal.main_arg6)
      ∧ m' ((c.tc : Thread Cert.MixYRefIdeal.nD Cert.MixYRefIdeal.τ).loc Cert.MixYRefIdeal.main_arg7) = m ((c.tc : Thread Cert.MixYIdeal.nD Cert.MixYIdeal.τ).loc Cert.MixYIdeal.main_arg7)) →
    ∃ (v0 : (c : Dev Cert.MixYIdeal.nD) → Buf (Elt Ideal) ((c.tc : Thread Cert.MixYIdeal.nD Cert.MixYIdeal.τ).loc Cert.MixYIdeal.main_v27_0)) (v1 : (c : Dev Cert.MixYIdeal.nD) → Buf (Elt Ideal) ((c.tc : Thread Cert.MixYIdeal.nD Cert.MixYIdeal.τ).loc Cert.MixYIdeal.main_v27_1)) (v2 : (c : Dev Cert.MixYIdeal.nD) → Buf (Elt Ideal) ((c.tc : Thread Cert.MixYIdeal.nD Cert.MixYIdeal.τ).loc Cert.MixYIdeal.main_v27_2)) (v3 : (c : Dev Cert.MixYIdeal.nD) → Buf (Elt Ideal) ((c.tc : Thread Cert.MixYIdeal.nD Cert.MixYIdeal.τ).loc Cert.MixYIdeal.main_v27_3)) (v4 : (c : Dev Cert.MixYIdeal.nD) → Buf (Elt Ideal) ((c.tc : Thread Cert.MixYIdeal.nD Cert.MixYIdeal.τ).loc Cert.MixYIdeal.main_v27_4)) (v5 : (c : Dev Cert.MixYIdeal.nD) → Buf (Elt Ideal) ((c.tc : Thread Cert.MixYIdeal.nD Cert.MixYIdeal.τ).loc Cert.MixYIdeal.main_v27_5)) (v6 : (c : Dev Cert.MixYIdeal.nD) → Buf (Elt Ideal) ((c.tc : Thread Cert.MixYIdeal.nD Cert.MixYIdeal.τ).loc Cert.MixYIdeal.main_v27_6)),
      θ_run (Cert.MixYIdeal.defs (F := Ideal)) (onTc (τ := Cert.MixYIdeal.τ) (Cert.MixYIdeal.main (F := Ideal))) ⟨m, fun _ => 0, g⟩ (fun r => ∀ c : Dev Cert.MixYIdeal.nD,
          (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).1 i = 1#1 → r.2.mem ((c.tc : Thread Cert.MixYIdeal.nD Cert.MixYIdeal.τ).loc Cert.MixYIdeal.main_v27_0) i = v0 c i)
          ∧ (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.1 i = 1#1 → r.2.mem ((c.tc : Thread Cert.MixYIdeal.nD Cert.MixYIdeal.τ).loc Cert.MixYIdeal.main_v27_1) i = v1 c i)
          ∧ (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.1 i = 1#1 → r.2.mem ((c.tc : Thread Cert.MixYIdeal.nD Cert.MixYIdeal.τ).loc Cert.MixYIdeal.main_v27_2) i = v2 c i)
          ∧ (∀ i : (⟨3, ![5, 4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.2.1 i = 1#1 → r.2.mem ((c.tc : Thread Cert.MixYIdeal.nD Cert.MixYIdeal.τ).loc Cert.MixYIdeal.main_v27_3) i = v3 c i)
          ∧ (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.2.2.1 i = 1#1 → r.2.mem ((c.tc : Thread Cert.MixYIdeal.nD Cert.MixYIdeal.τ).loc Cert.MixYIdeal.main_v27_4) i = v4 c i)
          ∧ (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.2.2.2.1 i = 1#1 → r.2.mem ((c.tc : Thread Cert.MixYIdeal.nD Cert.MixYIdeal.τ).loc Cert.MixYIdeal.main_v27_5) i = v5 c i)
          ∧ (∀ i : (⟨2, ![1, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.2.2.2.2 i = 1#1 → r.2.mem ((c.tc : Thread Cert.MixYIdeal.nD Cert.MixYIdeal.τ).loc Cert.MixYIdeal.main_v27_6) i = v6 c i)
          ∧ r.2.mem ((c.tc : Thread Cert.MixYIdeal.nD Cert.MixYIdeal.τ).loc Cert.MixYIdeal.main_arg0) = m ((c.tc : Thread Cert.MixYIdeal.nD Cert.MixYIdeal.τ).loc Cert.MixYIdeal.main_arg0)
          ∧ r.2.mem ((c.tc : Thread Cert.MixYIdeal.nD Cert.MixYIdeal.τ).loc Cert.MixYIdeal.main_arg1) = m ((c.tc : Thread Cert.MixYIdeal.nD Cert.MixYIdeal.τ).loc Cert.MixYIdeal.main_arg1)
          ∧ r.2.mem ((c.tc : Thread Cert.MixYIdeal.nD Cert.MixYIdeal.τ).loc Cert.MixYIdeal.main_arg2) = m ((c.tc : Thread Cert.MixYIdeal.nD Cert.MixYIdeal.τ).loc Cert.MixYIdeal.main_arg2)
          ∧ r.2.mem ((c.tc : Thread Cert.MixYIdeal.nD Cert.MixYIdeal.τ).loc Cert.MixYIdeal.main_arg3) = m ((c.tc : Thread Cert.MixYIdeal.nD Cert.MixYIdeal.τ).loc Cert.MixYIdeal.main_arg3)
          ∧ r.2.mem ((c.tc : Thread Cert.MixYIdeal.nD Cert.MixYIdeal.τ).loc Cert.MixYIdeal.main_arg4) = m ((c.tc : Thread Cert.MixYIdeal.nD Cert.MixYIdeal.τ).loc Cert.MixYIdeal.main_arg4)
          ∧ r.2.mem ((c.tc : Thread Cert.MixYIdeal.nD Cert.MixYIdeal.τ).loc Cert.MixYIdeal.main_arg5) = m ((c.tc : Thread Cert.MixYIdeal.nD Cert.MixYIdeal.τ).loc Cert.MixYIdeal.main_arg5)
          ∧ r.2.mem ((c.tc : Thread Cert.MixYIdeal.nD Cert.MixYIdeal.τ).loc Cert.MixYIdeal.main_arg6) = m ((c.tc : Thread Cert.MixYIdeal.nD Cert.MixYIdeal.τ).loc Cert.MixYIdeal.main_arg6)
          ∧ r.2.mem ((c.tc : Thread Cert.MixYIdeal.nD Cert.MixYIdeal.τ).loc Cert.MixYIdeal.main_arg7) = m ((c.tc : Thread Cert.MixYIdeal.nD Cert.MixYIdeal.τ).loc Cert.MixYIdeal.main_arg7))
      ∧ θ_run (Cert.MixYRefIdeal.defs (F := Ideal)) (onTc (τ := Cert.MixYRefIdeal.τ) (Cert.MixYRefIdeal.main (F := Ideal))) ⟨m', fun _ => 0, g'⟩ (fun r => ∀ c : Dev Cert.MixYRefIdeal.nD,
          (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).1 i = 1#1 → r.2.mem ((c.tc : Thread Cert.MixYRefIdeal.nD Cert.MixYRefIdeal.τ).loc Cert.MixYRefIdeal.main_v78) i = v0 c i)
          ∧ (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.1 i = 1#1 → r.2.mem ((c.tc : Thread Cert.MixYRefIdeal.nD Cert.MixYRefIdeal.τ).loc Cert.MixYRefIdeal.main_v79) i = v1 c i)
          ∧ (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.1 i = 1#1 → r.2.mem ((c.tc : Thread Cert.MixYRefIdeal.nD Cert.MixYRefIdeal.τ).loc Cert.MixYRefIdeal.main_v80) i = v2 c i)
          ∧ (∀ i : (⟨3, ![5, 4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.2.1 i = 1#1 → r.2.mem ((c.tc : Thread Cert.MixYRefIdeal.nD Cert.MixYRefIdeal.τ).loc Cert.MixYRefIdeal.main_v81) i = v3 c i)
          ∧ (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.2.2.1 i = 1#1 → r.2.mem ((c.tc : Thread Cert.MixYRefIdeal.nD Cert.MixYRefIdeal.τ).loc Cert.MixYRefIdeal.main_v82) i = v4 c i)
          ∧ (∀ i : (⟨2, ![4096, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.2.2.2.1 i = 1#1 → r.2.mem ((c.tc : Thread Cert.MixYRefIdeal.nD Cert.MixYRefIdeal.τ).loc Cert.MixYRefIdeal.main_v83) i = v5 c i)
          ∧ (∀ i : (⟨2, ![1, 1024]⟩ : Shape).Idx, (Cert.On_gates_written.fn (F := Ideal) (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7))).2.2.2.2.2.2 i = 1#1 → r.2.mem ((c.tc : Thread Cert.MixYRefIdeal.nD Cert.MixYRefIdeal.τ).loc Cert.MixYRefIdeal.main_v63) i = v6 c i)
          ∧ r.2.mem ((c.tc : Thread Cert.MixYRefIdeal.nD Cert.MixYRefIdeal.τ).loc Cert.MixYRefIdeal.main_arg0) = m' ((c.tc : Thread Cert.MixYRefIdeal.nD Cert.MixYRefIdeal.τ).loc Cert.MixYRefIdeal.main_arg0)
          ∧ r.2.mem ((c.tc : Thread Cert.MixYRefIdeal.nD Cert.MixYRefIdeal.τ).loc Cert.MixYRefIdeal.main_arg1) = m' ((c.tc : Thread Cert.MixYRefIdeal.nD Cert.MixYRefIdeal.τ).loc Cert.MixYRefIdeal.main_arg1)
          ∧ r.2.mem ((c.tc : Thread Cert.MixYRefIdeal.nD Cert.MixYRefIdeal.τ).loc Cert.MixYRefIdeal.main_arg2) = m' ((c.tc : Thread Cert.MixYRefIdeal.nD Cert.MixYRefIdeal.τ).loc Cert.MixYRefIdeal.main_arg2)
          ∧ r.2.mem ((c.tc : Thread Cert.MixYRefIdeal.nD Cert.MixYRefIdeal.τ).loc Cert.MixYRefIdeal.main_arg3) = m' ((c.tc : Thread Cert.MixYRefIdeal.nD Cert.MixYRefIdeal.τ).loc Cert.MixYRefIdeal.main_arg3)
          ∧ r.2.mem ((c.tc : Thread Cert.MixYRefIdeal.nD Cert.MixYRefIdeal.τ).loc Cert.MixYRefIdeal.main_arg4) = m' ((c.tc : Thread Cert.MixYRefIdeal.nD Cert.MixYRefIdeal.τ).loc Cert.MixYRefIdeal.main_arg4)
          ∧ r.2.mem ((c.tc : Thread Cert.MixYRefIdeal.nD Cert.MixYRefIdeal.τ).loc Cert.MixYRefIdeal.main_arg5) = m' ((c.tc : Thread Cert.MixYRefIdeal.nD Cert.MixYRefIdeal.τ).loc Cert.MixYRefIdeal.main_arg5)
          ∧ r.2.mem ((c.tc : Thread Cert.MixYRefIdeal.nD Cert.MixYRefIdeal.τ).loc Cert.MixYRefIdeal.main_arg6) = m' ((c.tc : Thread Cert.MixYRefIdeal.nD Cert.MixYRefIdeal.τ).loc Cert.MixYRefIdeal.main_arg6)
          ∧ r.2.mem ((c.tc : Thread Cert.MixYRefIdeal.nD Cert.MixYRefIdeal.τ).loc Cert.MixYRefIdeal.main_arg7) = m' ((c.tc : Thread Cert.MixYRefIdeal.nD Cert.MixYRefIdeal.τ).loc Cert.MixYRefIdeal.main_arg7))

def preserves_FfnA_FfnAIdeal : Prop :=
  True

def algebraic_FfnAIdeal_FfnARefIdeal_pre_ffn_a_finite [hFfnAIdeal : Cert.FfnAIdeal.Facts] [hFfnARefIdeal : Cert.FfnARefIdeal.Facts] [hPre_ffn_a_finite : Cert.Pre_ffn_a_finite.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal_ffn_a_finite m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)
      ∧ m' ((c.tc : Thread Cert.FfnARefIdeal.nD Cert.FfnARefIdeal.τ).loc Cert.FfnARefIdeal.main_arg5) = m ((c.tc : Thread Cert.FfnAIdeal.nD Cert.FfnAIdeal.τ).loc Cert.FfnAIdeal.main_arg5)) →
    ∃ (v0 : (c : Dev Cert.FfnAIdeal.nD) → Buf (Elt Ideal) ((c.tc : Thread Cert.FfnAIdeal.nD Cert.FfnAIdeal.τ).loc Cert.FfnAIdeal.main_v27_0)) (v1 : (c : Dev Cert.FfnAIdeal.nD) → Buf (Elt Ideal) ((c.tc : Thread Cert.FfnAIdeal.nD Cert.FfnAIdeal.τ).loc Cert.FfnAIdeal.main_v27_1)) (v2 : (c : Dev Cert.FfnAIdeal.nD) → Buf (Elt Ideal) ((c.tc : Thread Cert.FfnAIdeal.nD Cert.FfnAIdeal.τ).loc Cert.FfnAIdeal.main_v27_2)) (v3 : (c : Dev Cert.FfnAIdeal.nD) → Buf (Elt Ideal) ((c.tc : Thread Cert.FfnAIdeal.nD Cert.FfnAIdeal.τ).loc Cert.FfnAIdeal.main_v27_3)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v27_0) = v0 c
          ∧ r.2.mem ((c.tc : Thread Cert.FfnAIdeal.nD Cert.FfnAIdeal.τ).loc Cert.FfnAIdeal.main_v27_1) = v1 c
          ∧ r.2.mem ((c.tc : Thread Cert.FfnAIdeal.nD Cert.FfnAIdeal.τ).loc Cert.FfnAIdeal.main_v27_2) = v2 c
          ∧ r.2.mem ((c.tc : Thread Cert.FfnAIdeal.nD Cert.FfnAIdeal.τ).loc Cert.FfnAIdeal.main_v27_3) = v3 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v51) = v0 c
          ∧ r.2.mem ((c.tc : Thread Cert.FfnARefIdeal.nD Cert.FfnARefIdeal.τ).loc Cert.FfnARefIdeal.main_v54) = v1 c
          ∧ r.2.mem ((c.tc : Thread Cert.FfnARefIdeal.nD Cert.FfnARefIdeal.τ).loc Cert.FfnARefIdeal.main_v57) = v2 c
          ∧ r.2.mem ((c.tc : Thread Cert.FfnARefIdeal.nD Cert.FfnARefIdeal.τ).loc Cert.FfnARefIdeal.main_v46) = v3 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4)
          ∧ r.2.mem ((c.tc : Thread Cert.FfnARefIdeal.nD Cert.FfnARefIdeal.τ).loc Cert.FfnARefIdeal.main_arg5) = m' ((c.tc : Thread Cert.FfnARefIdeal.nD Cert.FfnARefIdeal.τ).loc Cert.FfnARefIdeal.main_arg5))

def preserves_Sgu_SguIdeal : Prop :=
  IdealRules.named_const.Statement Cert.SguIdeal.κ "kc" .f32 0x3D122279#32 ((80338380498831 / 2251799813685248 : ℝ) : EReal)
  ∧ IdealRules.named_const.Statement Cert.SguIdeal.κ "kc3" .f32 0x3DDB33B6#32 ((241015141496493 / 2251799813685248 : ℝ) : EReal)

def algebraic_SguIdeal_SguRefIdeal_pre_sgu_finite [hSguIdeal : Cert.SguIdeal.Facts] [hSguRefIdeal : Cert.SguRefIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_finite m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v4_0)) (v1 : (c : Dev Cert.SguIdeal.nD) → Buf (Elt Ideal) ((c.tc : Thread Cert.SguIdeal.nD Cert.SguIdeal.τ).loc Cert.SguIdeal.main_v4_1)) (v2 : (c : Dev Cert.SguIdeal.nD) → Buf (Elt Ideal) ((c.tc : Thread Cert.SguIdeal.nD Cert.SguIdeal.τ).loc Cert.SguIdeal.main_v4_2)) (v3 : (c : Dev Cert.SguIdeal.nD) → Buf (Elt Ideal) ((c.tc : Thread Cert.SguIdeal.nD Cert.SguIdeal.τ).loc Cert.SguIdeal.main_v4_3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v4_0) = v0 c
          ∧ r.2.mem ((c.tc : Thread Cert.SguIdeal.nD Cert.SguIdeal.τ).loc Cert.SguIdeal.main_v4_1) = v1 c
          ∧ r.2.mem ((c.tc : Thread Cert.SguIdeal.nD Cert.SguIdeal.τ).loc Cert.SguIdeal.main_v4_2) = v2 c
          ∧ r.2.mem ((c.tc : Thread Cert.SguIdeal.nD Cert.SguIdeal.τ).loc Cert.SguIdeal.main_v4_3) = v3 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v162) = v0 c
          ∧ r.2.mem ((c.tc : Thread Cert.SguRefIdeal.nD Cert.SguRefIdeal.τ).loc Cert.SguRefIdeal.main_v98) = v1 c
          ∧ r.2.mem ((c.tc : Thread Cert.SguRefIdeal.nD Cert.SguRefIdeal.τ).loc Cert.SguRefIdeal.main_v164) = v2 c
          ∧ r.2.mem ((c.tc : Thread Cert.SguRefIdeal.nD Cert.SguRefIdeal.τ).loc Cert.SguRefIdeal.main_v130) = v3 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Pool_PoolIdeal : Prop :=
  True

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v16_0)) (v1 : (c : Dev Cert.PleIdeal.nD) → Buf (Elt Ideal) ((c.tc : Thread Cert.PleIdeal.nD Cert.PleIdeal.τ).loc Cert.PleIdeal.main_v16_1)) (v2 : (c : Dev Cert.PleIdeal.nD) → Buf (Elt Ideal) ((c.tc : Thread Cert.PleIdeal.nD Cert.PleIdeal.τ).loc Cert.PleIdeal.main_v16_2)) (v3 : (c : Dev Cert.PleIdeal.nD) → Buf (Elt Ideal) ((c.tc : Thread Cert.PleIdeal.nD Cert.PleIdeal.τ).loc Cert.PleIdeal.main_v16_3)) (v4 : (c : Dev Cert.PleIdeal.nD) → Buf (Elt Ideal) ((c.tc : Thread Cert.PleIdeal.nD Cert.PleIdeal.τ).loc Cert.PleIdeal.main_v16_4)) (v5 : (c : Dev Cert.PleIdeal.nD) → Buf (Elt Ideal) ((c.tc : Thread Cert.PleIdeal.nD Cert.PleIdeal.τ).loc Cert.PleIdeal.main_v16_5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v16_0) = v0 c
          ∧ r.2.mem ((c.tc : Thread Cert.PleIdeal.nD Cert.PleIdeal.τ).loc Cert.PleIdeal.main_v16_1) = v1 c
          ∧ r.2.mem ((c.tc : Thread Cert.PleIdeal.nD Cert.PleIdeal.τ).loc Cert.PleIdeal.main_v16_2) = v2 c
          ∧ r.2.mem ((c.tc : Thread Cert.PleIdeal.nD Cert.PleIdeal.τ).loc Cert.PleIdeal.main_v16_3) = v3 c
          ∧ r.2.mem ((c.tc : Thread Cert.PleIdeal.nD Cert.PleIdeal.τ).loc Cert.PleIdeal.main_v16_4) = v4 c
          ∧ r.2.mem ((c.tc : Thread Cert.PleIdeal.nD Cert.PleIdeal.τ).loc Cert.PleIdeal.main_v16_5) = v5 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v108) = v0 c
          ∧ r.2.mem ((c.tc : Thread Cert.PleRefIdeal.nD Cert.PleRefIdeal.τ).loc Cert.PleRefIdeal.main_v109) = v1 c
          ∧ r.2.mem ((c.tc : Thread Cert.PleRefIdeal.nD Cert.PleRefIdeal.τ).loc Cert.PleRefIdeal.main_v110) = v2 c
          ∧ r.2.mem ((c.tc : Thread Cert.PleRefIdeal.nD Cert.PleRefIdeal.τ).loc Cert.PleRefIdeal.main_v82) = v3 c
          ∧ r.2.mem ((c.tc : Thread Cert.PleRefIdeal.nD Cert.PleRefIdeal.τ).loc Cert.PleRefIdeal.main_v107) = v4 c
          ∧ r.2.mem ((c.tc : Thread Cert.PleRefIdeal.nD Cert.PleRefIdeal.τ).loc Cert.PleRefIdeal.main_v111) = v5 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_SguF_SguFIdeal : Prop :=
  True

def algebraic_SguFIdeal_SguFRefIdeal [hSguFIdeal : Cert.SguFIdeal.Facts] [hSguFRefIdeal : Cert.SguFRefIdeal.Facts] : Prop :=
  ∀ (m : (ℓ : Loc Cert.SguFIdeal.nD Cert.SguFIdeal.τ Cert.SguFIdeal.sig) → Buf (Elt Ideal) ℓ) (g : Dev Cert.SguFIdeal.nD → PrngReg)
    (m' : (ℓ : Loc Cert.SguFRefIdeal.nD Cert.SguFRefIdeal.τ Cert.SguFRefIdeal.sig) → Buf (Elt Ideal) ℓ) (g' : Dev Cert.SguFRefIdeal.nD → PrngReg), Pre_SguFIdeal m →
    (∀ c : Dev Cert.SguFIdeal.nD,
      m' ((c.tc : Thread Cert.SguFRefIdeal.nD Cert.SguFRefIdeal.τ).loc Cert.SguFRefIdeal.main_arg0) = m ((c.tc : Thread Cert.SguFIdeal.nD Cert.SguFIdeal.τ).loc Cert.SguFIdeal.main_arg0)
      ∧ m' ((c.tc : Thread Cert.SguFRefIdeal.nD Cert.SguFRefIdeal.τ).loc Cert.SguFRefIdeal.main_arg1) = m ((c.tc : Thread Cert.SguFIdeal.nD Cert.SguFIdeal.τ).loc Cert.SguFIdeal.main_arg1)
      ∧ m' ((c.tc : Thread Cert.SguFRefIdeal.nD Cert.SguFRefIdeal.τ).loc Cert.SguFRefIdeal.main_arg2) = m ((c.tc : Thread Cert.SguFIdeal.nD Cert.SguFIdeal.τ).loc Cert.SguFIdeal.main_arg2)
      ∧ m' ((c.tc : Thread Cert.SguFRefIdeal.nD Cert.SguFRefIdeal.τ).loc Cert.SguFRefIdeal.main_arg3) = m ((c.tc : Thread Cert.SguFIdeal.nD Cert.SguFIdeal.τ).loc Cert.SguFIdeal.main_arg3)) →
    ∃ (v0 : (c : Dev Cert.SguFIdeal.nD) → Buf (Elt Ideal) ((c.tc : Thread Cert.SguFIdeal.nD Cert.SguFIdeal.τ).loc Cert.SguFIdeal.main_v2)),
      θ_run (Cert.SguFIdeal.defs (F := Ideal)) (onTc (τ := Cert.SguFIdeal.τ) (Cert.SguFIdeal.main (F := Ideal))) ⟨m, fun _ => 0, g⟩ (fun r => ∀ c : Dev Cert.SguFIdeal.nD,
          r.2.mem ((c.tc : Thread Cert.SguFIdeal.nD Cert.SguFIdeal.τ).loc Cert.SguFIdeal.main_v2) = v0 c
          ∧ r.2.mem ((c.tc : Thread Cert.SguFIdeal.nD Cert.SguFIdeal.τ).loc Cert.SguFIdeal.main_arg0) = m ((c.tc : Thread Cert.SguFIdeal.nD Cert.SguFIdeal.τ).loc Cert.SguFIdeal.main_arg0)
          ∧ r.2.mem ((c.tc : Thread Cert.SguFIdeal.nD Cert.SguFIdeal.τ).loc Cert.SguFIdeal.main_arg1) = m ((c.tc : Thread Cert.SguFIdeal.nD Cert.SguFIdeal.τ).loc Cert.SguFIdeal.main_arg1)
          ∧ r.2.mem ((c.tc : Thread Cert.SguFIdeal.nD Cert.SguFIdeal.τ).loc Cert.SguFIdeal.main_arg2) = m ((c.tc : Thread Cert.SguFIdeal.nD Cert.SguFIdeal.τ).loc Cert.SguFIdeal.main_arg2)
          ∧ r.2.mem ((c.tc : Thread Cert.SguFIdeal.nD Cert.SguFIdeal.τ).loc Cert.SguFIdeal.main_arg3) = m ((c.tc : Thread Cert.SguFIdeal.nD Cert.SguFIdeal.τ).loc Cert.SguFIdeal.main_arg3))
      ∧ θ_run (Cert.SguFRefIdeal.defs (F := Ideal)) (onTc (τ := Cert.SguFRefIdeal.τ) (Cert.SguFRefIdeal.main (F := Ideal))) ⟨m', fun _ => 0, g'⟩ (fun r => ∀ c : Dev Cert.SguFRefIdeal.nD,
          r.2.mem ((c.tc : Thread Cert.SguFRefIdeal.nD Cert.SguFRefIdeal.τ).loc Cert.SguFRefIdeal.main_v65) = v0 c
          ∧ r.2.mem ((c.tc : Thread Cert.SguFRefIdeal.nD Cert.SguFRefIdeal.τ).loc Cert.SguFRefIdeal.main_arg0) = m' ((c.tc : Thread Cert.SguFRefIdeal.nD Cert.SguFRefIdeal.τ).loc Cert.SguFRefIdeal.main_arg0)
          ∧ r.2.mem ((c.tc : Thread Cert.SguFRefIdeal.nD Cert.SguFRefIdeal.τ).loc Cert.SguFRefIdeal.main_arg1) = m' ((c.tc : Thread Cert.SguFRefIdeal.nD Cert.SguFRefIdeal.τ).loc Cert.SguFRefIdeal.main_arg1)
          ∧ r.2.mem ((c.tc : Thread Cert.SguFRefIdeal.nD Cert.SguFRefIdeal.τ).loc Cert.SguFRefIdeal.main_arg2) = m' ((c.tc : Thread Cert.SguFRefIdeal.nD Cert.SguFRefIdeal.τ).loc Cert.SguFRefIdeal.main_arg2)
          ∧ r.2.mem ((c.tc : Thread Cert.SguFRefIdeal.nD Cert.SguFRefIdeal.τ).loc Cert.SguFRefIdeal.main_arg3) = m' ((c.tc : Thread Cert.SguFRefIdeal.nD Cert.SguFRefIdeal.τ).loc Cert.SguFRefIdeal.main_arg3))

def preserves_FfnGu_FfnGuIdeal : Prop :=
  True

def algebraic_FfnGuIdeal_FfnGuRefIdeal [hFfnGuIdeal : Cert.FfnGuIdeal.Facts] [hFfnGuRefIdeal : Cert.FfnGuRefIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg)
    (m' : (ℓ : Loc Cert.FfnGuRefIdeal.nD Cert.FfnGuRefIdeal.τ Cert.FfnGuRefIdeal.sig) → Buf (Elt Ideal) ℓ) (g' : Dev Cert.FfnGuRefIdeal.nD → PrngReg), Pre_FfnGuIdeal m →
    (∀ c : Dev Cert.FfnGuIdeal.nD,
      m' ((c.tc : Thread Cert.FfnGuRefIdeal.nD Cert.FfnGuRefIdeal.τ).loc Cert.FfnGuRefIdeal.main_arg0) = m ((c.tc : Thread Cert.FfnGuIdeal.nD Cert.FfnGuIdeal.τ).loc Cert.FfnGuIdeal.main_arg0)
      ∧ m' ((c.tc : Thread Cert.FfnGuRefIdeal.nD Cert.FfnGuRefIdeal.τ).loc Cert.FfnGuRefIdeal.main_arg1) = m ((c.tc : Thread Cert.FfnGuIdeal.nD Cert.FfnGuIdeal.τ).loc Cert.FfnGuIdeal.main_arg1)
      ∧ m' ((c.tc : Thread Cert.FfnGuRefIdeal.nD Cert.FfnGuRefIdeal.τ).loc Cert.FfnGuRefIdeal.main_arg2) = m ((c.tc : Thread Cert.FfnGuIdeal.nD Cert.FfnGuIdeal.τ).loc Cert.FfnGuIdeal.main_arg2)) →
    ∃ (v0 : (c : Dev Cert.FfnGuIdeal.nD) → Buf (Elt Ideal) ((c.tc : Thread Cert.FfnGuIdeal.nD Cert.FfnGuIdeal.τ).loc Cert.FfnGuIdeal.main_v7_0)) (v1 : (c : Dev Cert.FfnGuIdeal.nD) → Buf (Elt Ideal) ((c.tc : Thread Cert.FfnGuIdeal.nD Cert.FfnGuIdeal.τ).loc Cert.FfnGuIdeal.main_v7_1)) (v2 : (c : Dev Cert.FfnGuIdeal.nD) → Buf (Elt Ideal) ((c.tc : Thread Cert.FfnGuIdeal.nD Cert.FfnGuIdeal.τ).loc Cert.FfnGuIdeal.main_v7_2)),
      θ_run (Cert.FfnGuIdeal.defs (F := Ideal)) (onTc (τ := Cert.FfnGuIdeal.τ) (Cert.FfnGuIdeal.main (F := Ideal))) ⟨m, fun _ => 0, g⟩ (fun r => ∀ c : Dev Cert.FfnGuIdeal.nD,
          r.2.mem ((c.tc : Thread Cert.FfnGuIdeal.nD Cert.FfnGuIdeal.τ).loc Cert.FfnGuIdeal.main_v7_0) = v0 c
          ∧ r.2.mem ((c.tc : Thread Cert.FfnGuIdeal.nD Cert.FfnGuIdeal.τ).loc Cert.FfnGuIdeal.main_v7_1) = v1 c
          ∧ r.2.mem ((c.tc : Thread Cert.FfnGuIdeal.nD Cert.FfnGuIdeal.τ).loc Cert.FfnGuIdeal.main_v7_2) = v2 c
          ∧ r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
          ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1)
          ∧ r.2.mem ((c.tc : Thread Cert.FfnGuIdeal.nD Cert.FfnGuIdeal.τ).loc Cert.FfnGuIdeal.main_arg2) = m ((c.tc : Thread Cert.FfnGuIdeal.nD Cert.FfnGuIdeal.τ).loc Cert.FfnGuIdeal.main_arg2))
      ∧ θ_run (Cert.FfnGuRefIdeal.defs (F := Ideal)) (onTc (τ := Cert.FfnGuRefIdeal.τ) (Cert.FfnGuRefIdeal.main (F := Ideal))) ⟨m', fun _ => 0, g'⟩ (fun r => ∀ c : Dev Cert.FfnGuRefIdeal.nD,
          r.2.mem ((c.tc : Thread Cert.FfnGuRefIdeal.nD Cert.FfnGuRefIdeal.τ).loc Cert.FfnGuRefIdeal.main_v8) = v0 c
          ∧ r.2.mem ((c.tc : Thread Cert.FfnGuRefIdeal.nD Cert.FfnGuRefIdeal.τ).loc Cert.FfnGuRefIdeal.main_v11) = v1 c
          ∧ r.2.mem ((c.tc : Thread Cert.FfnGuRefIdeal.nD Cert.FfnGuRefIdeal.τ).loc Cert.FfnGuRefIdeal.main_v15) = v2 c
          ∧ r.2.mem ((c.tc : Thread Cert.FfnGuRefIdeal.nD Cert.FfnGuRefIdeal.τ).loc Cert.FfnGuRefIdeal.main_arg0) = m' ((c.tc : Thread Cert.FfnGuRefIdeal.nD Cert.FfnGuRefIdeal.τ).loc Cert.FfnGuRefIdeal.main_arg0)
          ∧ r.2.mem ((c.tc : Thread Cert.FfnGuRefIdeal.nD Cert.FfnGuRefIdeal.τ).loc Cert.FfnGuRefIdeal.main_arg1) = m' ((c.tc : Thread Cert.FfnGuRefIdeal.nD Cert.FfnGuRefIdeal.τ).loc Cert.FfnGuRefIdeal.main_arg1)
          ∧ r.2.mem ((c.tc : Thread Cert.FfnGuRefIdeal.nD Cert.FfnGuRefIdeal.τ).loc Cert.FfnGuRefIdeal.main_arg2) = m' ((c.tc : Thread Cert.FfnGuRefIdeal.nD Cert.FfnGuRefIdeal.τ).loc Cert.FfnGuRefIdeal.main_arg2))

def preserves_FfnN_FfnNIdeal : Prop :=
  True

def algebraic_FfnNIdeal_FfnNRefIdeal [hFfnNIdeal : Cert.FfnNIdeal.Facts] [hFfnNRefIdeal : Cert.FfnNRefIdeal.Facts] : Prop :=
  ∀ (m : (ℓ : Loc Cert.FfnNIdeal.nD Cert.FfnNIdeal.τ Cert.FfnNIdeal.sig) → Buf (Elt Ideal) ℓ) (g : Dev Cert.FfnNIdeal.nD → PrngReg)
    (m' : (ℓ : Loc Cert.FfnNRefIdeal.nD Cert.FfnNRefIdeal.τ Cert.FfnNRefIdeal.sig) → Buf (Elt Ideal) ℓ) (g' : Dev Cert.FfnNRefIdeal.nD → PrngReg), Pre_FfnNIdeal m →
    (∀ c : Dev Cert.FfnNIdeal.nD,
      m' ((c.tc : Thread Cert.FfnNRefIdeal.nD Cert.FfnNRefIdeal.τ).loc Cert.FfnNRefIdeal.main_arg0) = m ((c.tc : Thread Cert.FfnNIdeal.nD Cert.FfnNIdeal.τ).loc Cert.FfnNIdeal.main_arg0)
      ∧ m' ((c.tc : Thread Cert.FfnNRefIdeal.nD Cert.FfnNRefIdeal.τ).loc Cert.FfnNRefIdeal.main_arg1) = m ((c.tc : Thread Cert.FfnNIdeal.nD Cert.FfnNIdeal.τ).loc Cert.FfnNIdeal.main_arg1)
      ∧ m' ((c.tc : Thread Cert.FfnNRefIdeal.nD Cert.FfnNRefIdeal.τ).loc Cert.FfnNRefIdeal.main_arg2) = m ((c.tc : Thread Cert.FfnNIdeal.nD Cert.FfnNIdeal.τ).loc Cert.FfnNIdeal.main_arg2)
      ∧ m' ((c.tc : Thread Cert.FfnNRefIdeal.nD Cert.FfnNRefIdeal.τ).loc Cert.FfnNRefIdeal.main_arg3) = m ((c.tc : Thread Cert.FfnNIdeal.nD Cert.FfnNIdeal.τ).loc Cert.FfnNIdeal.main_arg3)
      ∧ m' ((c.tc : Thread Cert.FfnNRefIdeal.nD Cert.FfnNRefIdeal.τ).loc Cert.FfnNRefIdeal.main_arg4) = m ((c.tc : Thread Cert.FfnNIdeal.nD Cert.FfnNIdeal.τ).loc Cert.FfnNIdeal.main_arg4)) →
    ∃ (v0 : (c : Dev Cert.FfnNIdeal.nD) → Buf (Elt Ideal) ((c.tc : Thread Cert.FfnNIdeal.nD Cert.FfnNIdeal.τ).loc Cert.FfnNIdeal.main_v5_0)) (v1 : (c : Dev Cert.FfnNIdeal.nD) → Buf (Elt Ideal) ((c.tc : Thread Cert.FfnNIdeal.nD Cert.FfnNIdeal.τ).loc Cert.FfnNIdeal.main_v5_1)) (v2 : (c : Dev Cert.FfnNIdeal.nD) → Buf (Elt Ideal) ((c.tc : Thread Cert.FfnNIdeal.nD Cert.FfnNIdeal.τ).loc Cert.FfnNIdeal.main_v5_2)),
      θ_run (Cert.FfnNIdeal.defs (F := Ideal)) (onTc (τ := Cert.FfnNIdeal.τ) (Cert.FfnNIdeal.main (F := Ideal))) ⟨m, fun _ => 0, g⟩ (fun r => ∀ c : Dev Cert.FfnNIdeal.nD,
          r.2.mem ((c.tc : Thread Cert.FfnNIdeal.nD Cert.FfnNIdeal.τ).loc Cert.FfnNIdeal.main_v5_0) = v0 c
          ∧ r.2.mem ((c.tc : Thread Cert.FfnNIdeal.nD Cert.FfnNIdeal.τ).loc Cert.FfnNIdeal.main_v5_1) = v1 c
          ∧ r.2.mem ((c.tc : Thread Cert.FfnNIdeal.nD Cert.FfnNIdeal.τ).loc Cert.FfnNIdeal.main_v5_2) = v2 c
          ∧ r.2.mem ((c.tc : Thread Cert.FfnNIdeal.nD Cert.FfnNIdeal.τ).loc Cert.FfnNIdeal.main_arg0) = m ((c.tc : Thread Cert.FfnNIdeal.nD Cert.FfnNIdeal.τ).loc Cert.FfnNIdeal.main_arg0)
          ∧ r.2.mem ((c.tc : Thread Cert.FfnNIdeal.nD Cert.FfnNIdeal.τ).loc Cert.FfnNIdeal.main_arg1) = m ((c.tc : Thread Cert.FfnNIdeal.nD Cert.FfnNIdeal.τ).loc Cert.FfnNIdeal.main_arg1)
          ∧ r.2.mem ((c.tc : Thread Cert.FfnNIdeal.nD Cert.FfnNIdeal.τ).loc Cert.FfnNIdeal.main_arg2) = m ((c.tc : Thread Cert.FfnNIdeal.nD Cert.FfnNIdeal.τ).loc Cert.FfnNIdeal.main_arg2)
          ∧ r.2.mem ((c.tc : Thread Cert.FfnNIdeal.nD Cert.FfnNIdeal.τ).loc Cert.FfnNIdeal.main_arg3) = m ((c.tc : Thread Cert.FfnNIdeal.nD Cert.FfnNIdeal.τ).loc Cert.FfnNIdeal.main_arg3)
          ∧ r.2.mem ((c.tc : Thread Cert.FfnNIdeal.nD Cert.FfnNIdeal.τ).loc Cert.FfnNIdeal.main_arg4) = m ((c.tc : Thread Cert.FfnNIdeal.nD Cert.FfnNIdeal.τ).loc Cert.FfnNIdeal.main_arg4))
      ∧ θ_run (Cert.FfnNRefIdeal.defs (F := Ideal)) (onTc (τ := Cert.FfnNRefIdeal.τ) (Cert.FfnNRefIdeal.main (F := Ideal))) ⟨m', fun _ => 0, g'⟩ (fun r => ∀ c : Dev Cert.FfnNRefIdeal.nD,
          r.2.mem ((c.tc : Thread Cert.FfnNRefIdeal.nD Cert.FfnNRefIdeal.τ).loc Cert.FfnNRefIdeal.main_v18) = v0 c
          ∧ r.2.mem ((c.tc : Thread Cert.FfnNRefIdeal.nD Cert.FfnNRefIdeal.τ).loc Cert.FfnNRefIdeal.main_v17) = v1 c
          ∧ r.2.mem ((c.tc : Thread Cert.FfnNRefIdeal.nD Cert.FfnNRefIdeal.τ).loc Cert.FfnNRefIdeal.main_v33) = v2 c
          ∧ r.2.mem ((c.tc : Thread Cert.FfnNRefIdeal.nD Cert.FfnNRefIdeal.τ).loc Cert.FfnNRefIdeal.main_arg0) = m' ((c.tc : Thread Cert.FfnNRefIdeal.nD Cert.FfnNRefIdeal.τ).loc Cert.FfnNRefIdeal.main_arg0)
          ∧ r.2.mem ((c.tc : Thread Cert.FfnNRefIdeal.nD Cert.FfnNRefIdeal.τ).loc Cert.FfnNRefIdeal.main_arg1) = m' ((c.tc : Thread Cert.FfnNRefIdeal.nD Cert.FfnNRefIdeal.τ).loc Cert.FfnNRefIdeal.main_arg1)
          ∧ r.2.mem ((c.tc : Thread Cert.FfnNRefIdeal.nD Cert.FfnNRefIdeal.τ).loc Cert.FfnNRefIdeal.main_arg2) = m' ((c.tc : Thread Cert.FfnNRefIdeal.nD Cert.FfnNRefIdeal.τ).loc Cert.FfnNRefIdeal.main_arg2)
          ∧ r.2.mem ((c.tc : Thread Cert.FfnNRefIdeal.nD Cert.FfnNRefIdeal.τ).loc Cert.FfnNRefIdeal.main_arg3) = m' ((c.tc : Thread Cert.FfnNRefIdeal.nD Cert.FfnNRefIdeal.τ).loc Cert.FfnNRefIdeal.main_arg3)
          ∧ r.2.mem ((c.tc : Thread Cert.FfnNRefIdeal.nD Cert.FfnNRefIdeal.τ).loc Cert.FfnNRefIdeal.main_arg4) = m' ((c.tc : Thread Cert.FfnNRefIdeal.nD Cert.FfnNRefIdeal.τ).loc Cert.FfnNRefIdeal.main_arg4))

def preserves_MixF_MixFIdeal : Prop :=
  True

def algebraic_MixFIdeal_MixFRefIdeal [hMixFIdeal : Cert.MixFIdeal.Facts] [hMixFRefIdeal : Cert.MixFRefIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)) →
    ∃ (v0 : (c : Dev Cert.MixFIdeal.nD) → Buf (Elt Ideal) ((c.tc : Thread Cert.MixFIdeal.nD Cert.MixFIdeal.τ).loc Cert.MixFIdeal.main_v5_0)) (v1 : (c : Dev Cert.MixFIdeal.nD) → Buf (Elt Ideal) ((c.tc : Thread Cert.MixFIdeal.nD Cert.MixFIdeal.τ).loc Cert.MixFIdeal.main_v5_1)) (v2 : (c : Dev Cert.MixFIdeal.nD) → Buf (Elt Ideal) ((c.tc : Thread Cert.MixFIdeal.nD Cert.MixFIdeal.τ).loc Cert.MixFIdeal.main_v5_2)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v5_0) = v0 c
          ∧ r.2.mem ((c.tc : Thread Cert.MixFIdeal.nD Cert.MixFIdeal.τ).loc Cert.MixFIdeal.main_v5_1) = v1 c
          ∧ r.2.mem ((c.tc : Thread Cert.MixFIdeal.nD Cert.MixFIdeal.τ).loc Cert.MixFIdeal.main_v5_2) = v2 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v19) = v0 c
          ∧ r.2.mem ((c.tc : Thread Cert.MixFRefIdeal.nD Cert.MixFRefIdeal.τ).loc Cert.MixFRefIdeal.main_v20) = v1 c
          ∧ r.2.mem ((c.tc : Thread Cert.MixFRefIdeal.nD Cert.MixFRefIdeal.τ).loc Cert.MixFRefIdeal.main_v21) = v2 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v14) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_PoolF_PoolFIdeal : Prop :=
  True

def algebraic_PoolFIdeal_PoolFRefIdeal_pre_pool_f_finite [hPoolFIdeal : Cert.PoolFIdeal.Facts] [hPoolFRefIdeal : Cert.PoolFRefIdeal.Facts] [hPre_pool_f_finite : Cert.Pre_pool_f_finite.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal_pool_f_finite m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)) →
    ∃ (v0 : (c : Dev Cert.PoolFIdeal.nD) → Buf (Elt Ideal) ((c.tc : Thread Cert.PoolFIdeal.nD Cert.PoolFIdeal.τ).loc Cert.PoolFIdeal.main_v2_0)) (v1 : (c : Dev Cert.PoolFIdeal.nD) → Buf (Elt Ideal) ((c.tc : Thread Cert.PoolFIdeal.nD Cert.PoolFIdeal.τ).loc Cert.PoolFIdeal.main_v2_1)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v2_0) = v0 c
          ∧ r.2.mem ((c.tc : Thread Cert.PoolFIdeal.nD Cert.PoolFIdeal.τ).loc Cert.PoolFIdeal.main_v2_1) = v1 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v120) = v0 c
          ∧ r.2.mem ((c.tc : Thread Cert.PoolFRefIdeal.nD Cert.PoolFRefIdeal.τ).loc Cert.PoolFRefIdeal.main_v127) = v1 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def Claim : Prop :=
  ∃ (hFfnX : Cert.FfnX.Facts) (hFfnXIdeal : Cert.FfnXIdeal.Facts) (hFfnXRefIdeal : Cert.FfnXRefIdeal.Facts) (hMixX : Cert.MixX.Facts) (hMixXIdeal : Cert.MixXIdeal.Facts) (hMixXRefIdeal : Cert.MixXRefIdeal.Facts) (hMixY : Cert.MixY.Facts) (hMixYIdeal : Cert.MixYIdeal.Facts) (hMixYRefIdeal : Cert.MixYRefIdeal.Facts) (hFfnA : Cert.FfnA.Facts) (hFfnAIdeal : Cert.FfnAIdeal.Facts) (hFfnARefIdeal : Cert.FfnARefIdeal.Facts) (hSgu : Cert.Sgu.Facts) (hSguIdeal : Cert.SguIdeal.Facts) (hSguRefIdeal : Cert.SguRefIdeal.Facts) (hPool : Cert.Pool.Facts) (hPoolIdeal : Cert.PoolIdeal.Facts) (hPoolRefIdeal : Cert.PoolRefIdeal.Facts) (hPle : Cert.Ple.Facts) (hPleIdeal : Cert.PleIdeal.Facts) (hPleRefIdeal : Cert.PleRefIdeal.Facts) (hSguF : Cert.SguF.Facts) (hSguFIdeal : Cert.SguFIdeal.Facts) (hSguFRefIdeal : Cert.SguFRefIdeal.Facts) (hFfnGu : Cert.FfnGu.Facts) (hFfnGuIdeal : Cert.FfnGuIdeal.Facts) (hFfnGuRefIdeal : Cert.FfnGuRefIdeal.Facts) (hFfnN : Cert.FfnN.Facts) (hFfnNIdeal : Cert.FfnNIdeal.Facts) (hFfnNRefIdeal : Cert.FfnNRefIdeal.Facts) (hMixF : Cert.MixF.Facts) (hMixFIdeal : Cert.MixFIdeal.Facts) (hMixFRefIdeal : Cert.MixFRefIdeal.Facts) (hRms : Cert.Rms.Facts) (hRmsIdeal : Cert.RmsIdeal.Facts) (hRmsRefIdeal : Cert.RmsRefIdeal.Facts) (hPoolF : Cert.PoolF.Facts) (hPoolFIdeal : Cert.PoolFIdeal.Facts) (hPoolFRefIdeal : Cert.PoolFRefIdeal.Facts) (hPre_ffn_a_finite : Cert.Pre_ffn_a_finite.Facts) (hPre_sgu_finite : Cert.Pre_sgu_finite.Facts) (hPre_pool_f_finite : Cert.Pre_pool_f_finite.Facts) (hOn_gates_written : Cert.On_gates_written.Facts),
    quiescent_FfnX (hFfnX := hFfnX)
    ∧ quiescent_FfnXIdeal (hFfnXIdeal := hFfnXIdeal)
    ∧ quiescent_FfnXRefIdeal (hFfnXRefIdeal := hFfnXRefIdeal)
    ∧ quiescent_MixX (hMixX := hMixX)
    ∧ quiescent_MixXIdeal (hMixXIdeal := hMixXIdeal)
    ∧ quiescent_MixXRefIdeal (hMixXRefIdeal := hMixXRefIdeal)
    ∧ quiescent_MixY (hMixY := hMixY)
    ∧ quiescent_MixYIdeal (hMixYIdeal := hMixYIdeal)
    ∧ quiescent_MixYRefIdeal (hMixYRefIdeal := hMixYRefIdeal)
    ∧ quiescent_FfnA (hFfnA := hFfnA)
    ∧ quiescent_FfnAIdeal (hFfnAIdeal := hFfnAIdeal)
    ∧ quiescent_FfnAIdeal_pre_ffn_a_finite (hFfnAIdeal := hFfnAIdeal) (hPre_ffn_a_finite := hPre_ffn_a_finite)
    ∧ quiescent_FfnARefIdeal (hFfnARefIdeal := hFfnARefIdeal)
    ∧ quiescent_FfnARefIdeal_pre_ffn_a_finite (hFfnARefIdeal := hFfnARefIdeal) (hPre_ffn_a_finite := hPre_ffn_a_finite)
    ∧ quiescent_Sgu (hSgu := hSgu)
    ∧ quiescent_SguIdeal (hSguIdeal := hSguIdeal)
    ∧ quiescent_SguIdeal_pre_sgu_finite (hSguIdeal := hSguIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_Pool (hPool := hPool)
    ∧ quiescent_PoolIdeal (hPoolIdeal := hPoolIdeal)
    ∧ quiescent_PoolRefIdeal (hPoolRefIdeal := hPoolRefIdeal)
    ∧ quiescent_Ple (hPle := hPle)
    ∧ quiescent_PleIdeal (hPleIdeal := hPleIdeal)
    ∧ quiescent_PleRefIdeal (hPleRefIdeal := hPleRefIdeal)
    ∧ quiescent_SguF (hSguF := hSguF)
    ∧ quiescent_SguFIdeal (hSguFIdeal := hSguFIdeal)
    ∧ quiescent_SguFRefIdeal (hSguFRefIdeal := hSguFRefIdeal)
    ∧ quiescent_FfnGu (hFfnGu := hFfnGu)
    ∧ quiescent_FfnGuIdeal (hFfnGuIdeal := hFfnGuIdeal)
    ∧ quiescent_FfnGuRefIdeal (hFfnGuRefIdeal := hFfnGuRefIdeal)
    ∧ quiescent_FfnN (hFfnN := hFfnN)
    ∧ quiescent_FfnNIdeal (hFfnNIdeal := hFfnNIdeal)
    ∧ quiescent_FfnNRefIdeal (hFfnNRefIdeal := hFfnNRefIdeal)
    ∧ quiescent_MixF (hMixF := hMixF)
    ∧ quiescent_MixFIdeal (hMixFIdeal := hMixFIdeal)
    ∧ quiescent_MixFRefIdeal (hMixFRefIdeal := hMixFRefIdeal)
    ∧ quiescent_Rms (hRms := hRms)
    ∧ quiescent_RmsIdeal (hRmsIdeal := hRmsIdeal)
    ∧ quiescent_RmsRefIdeal (hRmsRefIdeal := hRmsRefIdeal)
    ∧ quiescent_PoolF (hPoolF := hPoolF)
    ∧ quiescent_PoolFIdeal (hPoolFIdeal := hPoolFIdeal)
    ∧ quiescent_PoolFIdeal_pre_pool_f_finite (hPoolFIdeal := hPoolFIdeal) (hPre_pool_f_finite := hPre_pool_f_finite)
    ∧ quiescent_PoolFRefIdeal (hPoolFRefIdeal := hPoolFRefIdeal)
    ∧ quiescent_PoolFRefIdeal_pre_pool_f_finite (hPoolFRefIdeal := hPoolFRefIdeal) (hPre_pool_f_finite := hPre_pool_f_finite)
    ∧ preserves_FfnX_FfnXIdeal
    ∧ algebraic_FfnXIdeal_FfnXRefIdeal (hFfnXIdeal := hFfnXIdeal) (hFfnXRefIdeal := hFfnXRefIdeal)
    ∧ preserves_MixX_MixXIdeal
    ∧ algebraic_MixXIdeal_MixXRefIdeal (hMixXIdeal := hMixXIdeal) (hMixXRefIdeal := hMixXRefIdeal)
    ∧ preserves_MixY_MixYIdeal
    ∧ algebraic_MixYIdeal_MixYRefIdeal_on_gates_written (hMixYIdeal := hMixYIdeal) (hMixYRefIdeal := hMixYRefIdeal) (hOn_gates_written := hOn_gates_written)
    ∧ preserves_FfnA_FfnAIdeal
    ∧ algebraic_FfnAIdeal_FfnARefIdeal_pre_ffn_a_finite (hFfnAIdeal := hFfnAIdeal) (hFfnARefIdeal := hFfnARefIdeal) (hPre_ffn_a_finite := hPre_ffn_a_finite)
    ∧ preserves_Sgu_SguIdeal
    ∧ algebraic_SguIdeal_SguRefIdeal_pre_sgu_finite (hSguIdeal := hSguIdeal) (hSguRefIdeal := hSguRefIdeal) (hPre_sgu_finite := hPre_sgu_finite)
    ∧ preserves_Pool_PoolIdeal
    ∧ preserves_Ple_PleIdeal
    ∧ algebraic_PleIdeal_PleRefIdeal (hPleIdeal := hPleIdeal) (hPleRefIdeal := hPleRefIdeal)
    ∧ preserves_SguF_SguFIdeal
    ∧ algebraic_SguFIdeal_SguFRefIdeal (hSguFIdeal := hSguFIdeal) (hSguFRefIdeal := hSguFRefIdeal)
    ∧ preserves_FfnGu_FfnGuIdeal
    ∧ algebraic_FfnGuIdeal_FfnGuRefIdeal (hFfnGuIdeal := hFfnGuIdeal) (hFfnGuRefIdeal := hFfnGuRefIdeal)
    ∧ preserves_FfnN_FfnNIdeal
    ∧ algebraic_FfnNIdeal_FfnNRefIdeal (hFfnNIdeal := hFfnNIdeal) (hFfnNRefIdeal := hFfnNRefIdeal)
    ∧ preserves_MixF_MixFIdeal
    ∧ algebraic_MixFIdeal_MixFRefIdeal (hMixFIdeal := hMixFIdeal) (hMixFRefIdeal := hMixFRefIdeal)
    ∧ preserves_Rms_RmsIdeal
    ∧ algebraic_RmsIdeal_RmsRefIdeal (hRmsIdeal := hRmsIdeal) (hRmsRefIdeal := hRmsRefIdeal)
    ∧ preserves_PoolF_PoolFIdeal
    ∧ algebraic_PoolFIdeal_PoolFRefIdeal_pre_pool_f_finite (hPoolFIdeal := hPoolFIdeal) (hPoolFRefIdeal := hPoolFRefIdeal) (hPre_pool_f_finite := hPre_pool_f_finite)
-- ==== On_gates_written.lean ====
abbrev S4096x1024 : Shape := ⟨2, ![4096, 1024]⟩
abbrev S4096x5120 : Shape := ⟨2, ![4096, 5120]⟩
abbrev S1024x1024 : Shape := ⟨2, ![1024, 1024]⟩
abbrev S1x1024 : Shape := ⟨2, ![1, 1024]⟩
abbrev S_ : Shape := ⟨0, ![]⟩
abbrev S5x4096x1024 : Shape := ⟨3, ![5, 4096, 1024]⟩

class Facts : Prop where
  bcast_S_S4096x1024 : S_.BroadcastsInDim S4096x1024 (![] : Fin 0 → Fin S4096x1024.rank)
  bcast_S_S5x4096x1024 : S_.BroadcastsInDim S5x4096x1024 (![] : Fin 0 → Fin S5x4096x1024.rank)
  bcast_S_S1x1024 : S_.BroadcastsInDim S1x1024 (![] : Fin 0 → Fin S1x1024.rank)

variable [Facts]

def fn_part1 {F : FTy → Type} [FloatOps F] (main_v2 : IVec S4096x1024 1) (main_v5 : IVec S4096x1024 1) (main_v8 : IVec S4096x1024 1) (main_v11 : IVec S5x4096x1024 1) (main_v14 : IVec S4096x1024 1) (main_v17 : IVec S4096x1024 1) : IVec S4096x1024 1 × IVec S4096x1024 1 × IVec S4096x1024 1 × IVec S5x4096x1024 1 × IVec S4096x1024 1 × IVec S4096x1024 1 × IVec S1x1024 1 :=
  let main_v18 : IVec S1x1024 32 := iotaInDim S1x1024 32 0
  let main_c_5 : IVec S_ 32 := constantI S_ 32 0#32
  let main_v19 : IVec S1x1024 32 := broadcastInDim S1x1024 ![] bcast_S_S1x1024 main_c_5
  let main_v20 : IVec S1x1024 1 := cmpi .sge main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S4096x5120 .f32) (main_arg3 : FVec F S1024x1024 .f32) (main_arg4 : FVec F S1024x1024 .f32) (main_arg5 : FVec F S1024x1024 .f32) (main_arg6 : FVec F S1x1024 .f32) (main_arg7 : FVec F S4096x1024 .f32) : IVec S4096x1024 1 × IVec S4096x1024 1 × IVec S4096x1024 1 × IVec S5x4096x1024 1 × IVec S4096x1024 1 × IVec S4096x1024 1 × IVec S1x1024 1 :=
  let main_v0 : IVec S4096x1024 32 := iotaInDim S4096x1024 32 0
  let main_c : IVec S_ 32 := constantI S_ 32 0#32
  let main_v1 : IVec S4096x1024 32 := broadcastInDim S4096x1024 ![] bcast_S_S4096x1024 main_c
  let main_v2 : IVec S4096x1024 1 := cmpi .sge main_v0 main_v1
  let main_v3 : IVec S4096x1024 32 := iotaInDim S4096x1024 32 0
  let main_c_0 : IVec S_ 32 := constantI S_ 32 0#32
  let main_v4 : IVec S4096x1024 32 := broadcastInDim S4096x1024 ![] bcast_S_S4096x1024 main_c_0
  let main_v5 : IVec S4096x1024 1 := cmpi .sge main_v3 main_v4
  let main_v6 : IVec S4096x1024 32 := iotaInDim S4096x1024 32 0
  let main_c_1 : IVec S_ 32 := constantI S_ 32 0#32
  let main_v7 : IVec S4096x1024 32 := broadcastInDim S4096x1024 ![] bcast_S_S4096x1024 main_c_1
  let main_v8 : IVec S4096x1024 1 := cmpi .sge main_v6 main_v7
  let main_v9 : IVec S5x4096x1024 32 := iotaInDim S5x4096x1024 32 0
  let main_c_2 : IVec S_ 32 := constantI S_ 32 2#32
  let main_v10 : IVec S5x4096x1024 32 := broadcastInDim S5x4096x1024 ![] bcast_S_S5x4096x1024 main_c_2
  let main_v11 : IVec S5x4096x1024 1 := cmpi .slt main_v9 main_v10
  let main_v12 : IVec S4096x1024 32 := iotaInDim S4096x1024 32 0
  let main_c_3 : IVec S_ 32 := constantI S_ 32 0#32
  let main_v13 : IVec S4096x1024 32 := broadcastInDim S4096x1024 ![] bcast_S_S4096x1024 main_c_3
  let main_v14 : IVec S4096x1024 1 := cmpi .sge main_v12 main_v13
  let main_v15 : IVec S4096x1024 32 := iotaInDim S4096x1024 32 0
  let main_c_4 : IVec S_ 32 := constantI S_ 32 0#32
  let main_v16 : IVec S4096x1024 32 := broadcastInDim S4096x1024 ![] bcast_S_S4096x1024 main_c_4
  let main_v17 : IVec S4096x1024 1 := cmpi .sge main_v15 main_v16
  fn_part1 (F := F) main_v2 main_v5 main_v8 main_v11 main_v14 main_v17
-- ==== Pre_ffn_a_finite.lean ====
abbrev S4096x1024 : Shape := ⟨2, ![4096, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S1x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_v13 main_v16
-- ==== Pre_pool_f_finite.lean ====
abbrev S4096x5120 : Shape := ⟨2, ![4096, 5120]⟩
abbrev S4x256x256 : Shape := ⟨3, ![4, 256, 256]⟩
abbrev S1x1024 : Shape := ⟨2, ![1, 1024]⟩
abbrev S4096x1024 : Shape := ⟨2, ![4096, 1024]⟩
abbrev S_ : Shape := ⟨0, ![]⟩

class Facts : Prop where
  slices_S4096x5120_S4096x1024_0_2048 : S4096x5120.Slices ![0, 2048] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x5120 .f32) (main_arg1 : FVec F S4x256x256 .f32) (main_arg2 : FVec F S1x1024 .f32) : IVec S_ 1 :=
  let main_v0 : FVec F S4096x1024 .f32 := (extractStridedSlice S4096x1024 ![0, 2048] · slices_S4096x5120_S4096x1024_0_2048) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  main_v4
-- ==== Pre_sgu_finite.lean ====
abbrev S4096x5120 : Shape := ⟨2, ![4096, 5120]⟩
abbrev S1x1024 : Shape := ⟨2, ![1, 1024]⟩
abbrev S4x128x128 : Shape := ⟨3, ![4, 128, 128]⟩
abbrev S4x128 : Shape := ⟨2, ![4, 128]⟩
abbrev S4096x1024 : Shape := ⟨2, ![4096, 1024]⟩
abbrev S5x4096x1024 : Shape := ⟨3, ![5, 4096, 1024]⟩
abbrev S4096x2048 : Shape := ⟨2, ![4096, 2048]⟩
abbrev S_ : Shape := ⟨0, ![]⟩

class Facts : Prop where
  slices_S4096x5120_S4096x2048_0_0 : S4096x5120.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v14 : IVec S_ 1) (main_v15 : FVec F S4x128 .f32) (main_v16 : FVec F S4x128 .f32) : IVec S_ 1 :=
  let main_v17 : IVec S4x128 1 := cmpf .olt main_v15 main_v16
  let main_c_5 : IVec S_ 1 := constantI S_ 1 1#1
  let main_v18 : IVec S_ 1 := (fun x v => Host.reduce IntOp.andi x v reducesTo_S4x128_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x5120 .f32) (main_arg1 : FVec F S1x1024 .f32) (main_arg2 : FVec F S4x128x128 .f32) (main_arg3 : FVec F S4x128 .f32) (main_arg4 : FVec F S4096x1024 .f32) (main_arg5 : FVec F S5x4096x1024 .f32) : IVec S_ 1 :=
  let main_v0 : FVec F S4096x2048 .f32 := (extractStridedSlice S4096x2048 ![0, 0] · slices_S4096x5120_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1x1024 .f32 := Host.absf main_arg1
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  let main_v10 : FVec F S4x128x128 .f32 := Host.absf main_arg2
  let main_cst_2 : FVec F S_ .f32 := constant S_ .f32 0x7F800000#32
  let main_v11 : FVec F S4x128x128 .f32 := broadcastInDim S4x128x128 ![] bcast_S_S4x128x128 main_cst_2
  let main_v12 : IVec S4x128x128 1 := cmpf .olt main_v10 main_v11
  let main_c_3 : IVec S_ 1 := constantI S_ 1 1#1
  let main_v13 : IVec S_ 1 := (fun x v => Host.reduce IntOp.andi x v reducesTo_S4x128x128_S_d0_1_2 h_S_) main_v12 main_c_3
  let main_v14 : IVec S_ 1 := andi main_v9 main_v13
  let main_v15 : FVec F S4x128 .f32 := Host.absf main_arg3
  let main_cst_4 : FVec F S_ .f32 := constant S_ .f32 0x7F800000#32
  let main_v16 : FVec F S4x128 .f32 := broadcastInDim S4x128 ![] bcast_S_S4x128 main_cst_4
  fn_part1 (F := F) main_arg4 main_v14 main_v15 main_v16
-- ==== FfnX.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S4x256x704 : Shape := ⟨3, ![4, 256, 704]⟩
abbrev S256x1024 : Shape := ⟨2, ![256, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S4096x4x704, .f32⟩
  | .hbm, ⟨14, _⟩ => ⟨S4x4096x704, .f32⟩
  | .hbm, ⟨15, _⟩ => ⟨S4x4096x704, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S4096x1024, .f32⟩
  | .hbm, ⟨20, _⟩ => ⟨S1x1024, .f32⟩
  | .local _ .vmem, ⟨0, _⟩ => ⟨S4x256x704, .bf16⟩
  | .local _ .vmem, ⟨1, _⟩ => ⟨S4x256x704, .bf16⟩
  | .local _ .vmem, ⟨2, _⟩ => ⟨S4x256x704, .bf16⟩
  | .local _ .vmem, ⟨3, _⟩ => ⟨S4x256x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnXRefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== MixX.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S1x4096x1024 : Shape := ⟨3, ![1, 4096, 1024]⟩
abbrev S5x4096x1024 : Shape := ⟨3, ![5, 4096, 1024]⟩
abbrev S1024x4x1280 : Shape := ⟨3, ![1024, 4, 1280]⟩
abbrev S4x1024x1280 : Shape := ⟨3, ![4, 1024, 1280]⟩
abbrev S5x256x1024 : Shape := ⟨3, ![5, 256, 1024]⟩
abbrev S256x1024 : Shape := ⟨2, ![256, 1024]⟩
abbrev S1x256x1024 : Shape := ⟨3, ![1, 256, 1024]⟩
abbrev S1x1024x1024 : Shape := ⟨3, ![1, 1024, 1024]⟩
abbrev S1024x1024 : Shape := ⟨2, ![1024, 1024]⟩
abbrev S1x256x256 : Shape := ⟨3, ![1, 256, 256]⟩
abbrev S256x256 : Shape := ⟨2, ![256, 256]⟩
abbrev S1x1024x256 : Shape := ⟨3, ![1, 1024, 256]⟩
abbrev S1024x256 : Shape := ⟨2, ![1024, 256]⟩
abbrev S1x256x768 : Shape := ⟨3, ![1, 256, 768]⟩
abbrev S256x768 : Shape := ⟨2, ![256, 768]⟩
abbrev S1x1024x768 : Shape := ⟨3, ![1, 1024, 768]⟩
abbrev S1024x768 : Shape := ⟨2, ![1024, 768]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 22
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S5x4096x1024, .f32⟩
  | .hbm, ⟨16, _⟩ => ⟨S5x4096x1024, .bf16⟩
  | .hbm, ⟨17, _⟩ => ⟨S1024x4x1280, .f32⟩
  | .hbm, ⟨18, _⟩ => ⟨S4x1024x1280, .f32⟩
  | .hbm, ⟨19, _⟩ => ⟨S4x1024x1280, .bf16⟩
  | .hbm, ⟨20, _⟩ => ⟨S4096x1024, .f32⟩
  | .hbm, ⟨21, _⟩ => ⟨S1x1024, .f32⟩
  | .local _ .vmem, ⟨0, _⟩ => ⟨S5x256x1024, .bf16⟩
  | .local _ .vmem, ⟨1, _⟩ => ⟨S5x256x1024, .bf16⟩
  | .local _ .vmem, ⟨2, _⟩ => ⟨S4x1024x1280, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixXRefIdeal.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5120, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MixY.lean ====
abbrev S4096x1024 : Shape := ⟨2, ![4096, 1024]⟩
abbrev S4096x5120 : Shape := ⟨2, ![4096, 5120]⟩
abbrev S1024x1024 : Shape := ⟨2, ![1024, 1024]⟩
abbrev S1x1024 : Shape := ⟨2, ![1, 1024]⟩
abbrev S_ : Shape := ⟨0, ![]⟩
abbrev S5x4096x1024 : Shape := ⟨3, ![5, 4096, 1024]⟩
abbrev S256x1024 : Shape := ⟨2, ![256, 1024]⟩
abbrev S2x256x1024 : Shape := ⟨3, ![2, 256, 1024]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩

abbrev nBuf : Space → Nat
  | .hbm => 46
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5120, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S1024x1024, .bf16⟩
  | .hbm, ⟨34, _⟩ => ⟨S4096x1024, .bf16⟩
  | .hbm, ⟨35, _⟩ => ⟨S4096x1024, .bf16⟩
  | .hbm, ⟨36, _⟩ => ⟨S4096x5120, .bf16⟩
  | .hbm, ⟨37, _⟩ => ⟨S1024x1024, .bf16⟩
  | .hbm, ⟨38, _⟩ => ⟨S1024x1024, .bf16⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S5x4096x1024, .bf16⟩
  | .hbm, ⟨43, _⟩ => ⟨S4096x1024, .bf16⟩
  | .hbm, ⟨44, _⟩ => ⟨S4096x1024, .bf16⟩
  | .hbm, ⟨45, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S2x256x1024, .bf16⟩
  | .local _ .vmem, ⟨23, _⟩ => ⟨S2x256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev main_v27_5 : Ref sig .tc := ⟨.hbm, 44, rfl⟩
abbrev main_v27_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixYRefIdeal.lean ====
abbrev S4096x1024 : Shape := ⟨2, ![4096, 1024]⟩
abbrev S4096x5120 : Shape := ⟨2, ![4096, 5120]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1x4096x1024 : Shape := ⟨3, ![1, 4096, 1024]⟩
abbrev S2x4096x1024 : Shape := ⟨3, ![2, 4096, 1024]⟩
abbrev S3x4096x1024 : Shape := ⟨3, ![3, 4096, 1024]⟩
abbrev S5x4096x1024 : Shape := ⟨3, ![5, 4096, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5120, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S1x4096x1024, .f32⟩
  | .hbm, ⟨97, _⟩ => ⟨S1x4096x1024, .f32⟩
  | .hbm, ⟨98, _⟩ => ⟨S2x4096x1024, .f32⟩
  | .hbm, ⟨99, _⟩ => ⟨S_, .f32⟩
  | .hbm, ⟨100, _⟩ => ⟨S3x4096x1024, .f32⟩
  | .hbm, ⟨101, _⟩ => ⟨S5x4096x1024, .f32⟩
  | .hbm, ⟨102, _⟩ => ⟨S4096x1024, .bf16⟩
  | .hbm, ⟨103, _⟩ => ⟨S4096x1024, .bf16⟩
  | .hbm, ⟨104, _⟩ => ⟨S4096x1024, .bf16⟩
  | .hbm, ⟨105, _⟩ => ⟨S5x4096x1024, .bf16⟩
  | .hbm, ⟨106, _⟩ => ⟨S4096x1024, .bf16⟩
  | .hbm, ⟨107, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== FfnA.lean ====
abbrev S4096x1024 : Shape := ⟨2, ![4096, 1024]⟩
abbrev S1024x2816 : Shape := ⟨2, ![1024, 2816]⟩
abbrev S2816x1024 : Shape := ⟨2, ![2816, 1024]⟩
abbrev S1x1024 : Shape := ⟨2, ![1, 1024]⟩
abbrev S4096x2816 : Shape := ⟨2, ![4096, 2816]⟩
abbrev S_ : Shape := ⟨0, ![]⟩
abbrev S4x704x1024 : Shape := ⟨3, ![4, 704, 1024]⟩
abbrev S4096x4x704 : Shape := ⟨3, ![4096, 4, 704]⟩
abbrev S4x4096x704 : Shape := ⟨3, ![4, 4096, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1024 : Shape := ⟨1, ![1024]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 41
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x1024, .bf16⟩
  | .hbm, ⟨28, _⟩ => ⟨S4x704x1024, .f32⟩
  | .hbm, ⟨29, _⟩ => ⟨S4x704x1024, .bf16⟩
  | .hbm, ⟨30, _⟩ => ⟨S4096x4x704, .f32⟩
  | .hbm, ⟨31, _⟩ => ⟨S4x4096x704, .f32⟩
  | .hbm, ⟨32, _⟩ => ⟨S4x4096x704, .bf16⟩
  | .hbm, ⟨33, _⟩ => ⟨S4096x2816, .f32⟩
  | .hbm, ⟨34, _⟩ => ⟨S4096x4x704, .f32⟩
  | .hbm, ⟨35, _⟩ => ⟨S4x4096x704, .f32⟩
  | .hbm, ⟨36, _⟩ => ⟨S4x4096x704, .bf16⟩
  | .hbm, ⟨37, _⟩ => ⟨S4096x1024, .bf16⟩
  | .hbm, ⟨38, _⟩ => ⟨S4x4096x704, .bf16⟩
  | .hbm, ⟨39, _⟩ => ⟨S4x4096x704, .bf16⟩
  | .hbm, ⟨40, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S4x704x1024, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S256x1024, .bf16⟩
  | .local _ .vmem, ⟨11, _⟩ => ⟨S256x1024, .bf16⟩
  | .local _ .vmem, ⟨12, _⟩ => ⟨S4x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnARefIdeal.lean ====
abbrev S4096x1024 : Shape := ⟨2, ![4096, 1024]⟩
abbrev S1024x2816 : Shape := ⟨2, ![1024, 2816]⟩
abbrev S2816x1024 : Shape := ⟨2, ![2816, 1024]⟩
abbrev S1x1024 : Shape := ⟨2, ![1, 1024]⟩
abbrev S4096x2816 : Shape := ⟨2, ![4096, 2816]⟩
abbrev S_ : Shape := ⟨0, ![]⟩
abbrev S1024 : Shape := ⟨1, ![1024]⟩
abbrev S4096 : Shape := ⟨1, ![4096]⟩
abbrev S4096x1 : Shape := ⟨2, ![4096, 1]⟩
abbrev S4096x4x704 : Shape := ⟨3, ![4096, 4, 704]⟩
abbrev S4x4096x704 : Shape := ⟨3, ![4, 4096, 704]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S4096x2816, .f32⟩
  | .hbm, ⟨83, _⟩ => ⟨S4096x1024, .bf16⟩
  | .hbm, ⟨84, _⟩ => ⟨S4096x4x704, .f32⟩
  | .hbm, ⟨85, _⟩ => ⟨S4x4096x704, .f32⟩
  | .hbm, ⟨86, _⟩ => ⟨S4x4096x704, .bf16⟩
  | .hbm, ⟨87, _⟩ => ⟨S4096x4x704, .f32⟩
  | .hbm, ⟨88, _⟩ => ⟨S4x4096x704, .f32⟩
  | .hbm, ⟨89, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]
-- ==== Sgu.lean ====
abbrev S4096x5120 : Shape := ⟨2, ![4096, 5120]⟩
abbrev S1x1024 : Shape := ⟨2, ![1, 1024]⟩
abbrev S4x128x128 : Shape := ⟨3, ![4, 128, 128]⟩
abbrev S4x128 : Shape := ⟨2, ![4, 128]⟩
abbrev S4096x1024 : Shape := ⟨2, ![4096, 1024]⟩
abbrev S5x4096x1024 : Shape := ⟨3, ![5, 4096, 1024]⟩
abbrev S4x128x1 : Shape := ⟨3, ![4, 128, 1]⟩
abbrev S256x1024 : Shape := ⟨2, ![256, 1024]⟩
abbrev S2x256x1024 : Shape := ⟨3, ![2, 256, 1024]⟩
abbrev S128x1024 : Shape := ⟨2, ![128, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩
abbrev S1x128x256 : Shape := ⟨3, ![1, 128, 256]⟩
abbrev S1024 : Shape := ⟨1, ![1024]⟩
abbrev S1x256x1024 : Shape := ⟨3, ![1, 256, 1024]⟩
abbrev S128 : Shape := ⟨1, ![128]⟩

abbrev nBuf : Space → Nat
  | .hbm => 14
  | .vmem => 16
  | .smem => 0
  | _ => 0

abbrev bufTy : (tb : Table) → Fin (tcTables nBuf tb) → BufTy
  | .hbm, ⟨0, _⟩ => ⟨S4096x5120, .f32⟩
  | .hbm, ⟨1, _⟩ => ⟨S1x1024, .f32⟩
  | .hbm, ⟨2, _⟩ => ⟨S4x128x128, .f32⟩
  | .hbm, ⟨3, _⟩ => ⟨S4x128, .f32⟩
  | .hbm, ⟨4, _⟩ => ⟨S4096x1024, .f32⟩
  | .hbm, ⟨5, _⟩ => ⟨S5x4096x1024, .f32⟩
  | .hbm, ⟨6, _⟩ => ⟨S4096x5120, .bf16⟩
  | .hbm, ⟨7, _⟩ => ⟨S4096x1024, .bf16⟩
  | .hbm, ⟨8, _⟩ => ⟨S5x4096x1024, .bf16⟩
  | .hbm, ⟨9, _⟩ => ⟨S4x128x1, .f32⟩
  | .hbm, ⟨10, _⟩ => ⟨S5x4096x1024, .bf16⟩
  | .hbm, ⟨11, _⟩ => ⟨S4x128x128, .f32⟩
  | .hbm, ⟨12, _⟩ => ⟨S4x128x128, .f32⟩
  | .hbm, ⟨13, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S4x128x128, .f32⟩
  | .local _ .vmem, ⟨8, _⟩ => ⟨S4x128x1, .f32⟩
  | .local _ .vmem, ⟨9, _⟩ => ⟨S2x256x1024, .bf16⟩
  | .local _ .vmem, ⟨10, _⟩ => ⟨S2x256x1024, .bf16⟩
  | .local _ .vmem, ⟨11, _⟩ => ⟨S4x128x128, .f32⟩
  | .local _ .vmem, ⟨12, _⟩ => ⟨S4x128x128, .f32⟩
  | .local _ .vmem, ⟨13, _⟩ => ⟨S1x1024, .f32⟩
  | .local _ .vmem, ⟨14, _⟩ => ⟨S256x1024, .f32⟩
  | .local _ .vmem, ⟨15, _⟩ => ⟨S128x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v389 : BitVec 1 := Scalar.cmpi .eq arg0 c15_i32
  let v390 : BitVec 32 := Scalar.extui v389
  let c0_i32_189 : BitVec 32 := 0#32
  let v391 : BitVec 1 := Scalar.cmpi .ne v390 c0_i32_189
  v391

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SguIdeal.lean ====
variable {F : FTy → Type} [FloatOps F] [Named F]
def κ : String → Option EReal := fun
  | "kc" => some ((80338380498831 / 2251799813685248 : ℝ) : EReal)
  | "kc3" => some ((241015141496493 / 2251799813685248 : ℝ) : EReal)
  | _ => none
-- ==== SguRefIdeal.lean ====
abbrev S4096x5120 : Shape := ⟨2, ![4096, 5120]⟩
abbrev S1x1024 : Shape := ⟨2, ![1, 1024]⟩
abbrev S4x128x128 : Shape := ⟨3, ![4, 128, 128]⟩
abbrev S4x128 : Shape := ⟨2, ![4, 128]⟩
abbrev S4096x1024 : Shape := ⟨2, ![4096, 1024]⟩
abbrev S5x4096x1024 : Shape := ⟨3, ![5, 4096, 1024]⟩
abbrev S_ : Shape := ⟨0, ![]⟩
abbrev S1x4096x1024 : Shape := ⟨3, ![1, 4096, 1024]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x4x256 : Shape := ⟨5, ![1, 32, 128, 4, 256]⟩
abbrev S128x128 : Shape := ⟨2, ![128, 128]⟩
abbrev S1x128x128 : Shape := ⟨3, ![1, 128, 128]⟩
abbrev S4x1x32x256x128 : Shape := ⟨5, ![4, 1, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S4096 : Shape := ⟨1, ![4096]⟩
abbrev S2x4096x1024 : Shape := ⟨3, ![2, 4096, 1024]⟩
abbrev S4x128x1 : Shape := ⟨3, ![4, 128, 1]⟩

abbrev nBuf : Space → Nat
  | .hbm => 227
  | .vmem => 0
  | .smem => 0
  | _ => 0

abbrev hbmTy0_0 (i : Nat) : BufTy := match i % 128 with
  | 0 => ⟨S4096x5120, .f32⟩
  | 1 => ⟨S1x1024, .f32⟩
  | 2 => ⟨S4x128x128, .f32⟩
  | 3 => ⟨S4x128, .f32⟩
  | 4 => ⟨S4096x1024, .f32⟩
  | 5 => ⟨S5x4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S4096x1024, .f32⟩
  | 36 => ⟨S1x4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S1x4096x1024, .f32⟩
  | 66 => ⟨S1024, .f32⟩
  | 67 => ⟨S_, .f32⟩
  | 68 => ⟨S1x4096, .f32⟩
  | 69 => ⟨S1x4096x1, .f32⟩
  | 70 => ⟨S_, .f32⟩
  | 71 => ⟨S1x4096x1, .f32⟩
  | 72 => ⟨S1x4096x1, .f32⟩
  | 73 => ⟨S1x4096x1024, .f32⟩
  | 74 => ⟨S1x4096x1024, .f32⟩
  | 75 => ⟨S1x4096x1024, .f32⟩
  | 76 => ⟨S_, .f32⟩
  | 77 => ⟨S1x4096, .f32⟩
  | 78 => ⟨S1x4096x1, .f32⟩
  | 79 => ⟨S_, .f32⟩
  | 80 => ⟨S1x4096x1, .f32⟩
  | 81 => ⟨S1x4096x1, .f32⟩
  | 82 => ⟨S_, .f32⟩
  | 83 => ⟨S1x4096x1, .f32⟩
  | 84 => ⟨S1x4096x1, .f32⟩
  | 85 => ⟨S1x4096x1, .f32⟩
  | 86 => ⟨S1x4096x1, .f32⟩
  | 87 => ⟨S_, .f32⟩
  | 88 => ⟨S1x4096x1, .f32⟩
  | 89 => ⟨S1x4096x1, .f32⟩
  | 90 => ⟨S1x4096x1024, .f32⟩
  | 91 => ⟨S1x4096x1024, .f32⟩
  | 92 => ⟨S1x1x1024, .f32⟩
  | 93 => ⟨S1x4096x1024, .f32⟩
  | 94 => ⟨S1x4096x1024, .f32⟩
  | 95 => ⟨S1x32x128x4x256, .f32⟩
  | 96 => ⟨S_, .i1⟩
  | 97 => ⟨S128x128, .i1⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i1⟩
  | 104 => ⟨S_, .i1⟩
  | 105 => ⟨S128x128, .i1⟩
  | 106 => ⟨S128x128, .i1⟩
  | 107 => ⟨S1x128x128, .i1⟩
  | 108 => ⟨S_, .f32⟩
  | 109 => ⟨S_, .f32⟩
  | 110 => ⟨S4x128x128, .i1⟩
  | 111 => ⟨S4x128x128, .f32⟩
  | 112 => ⟨S4x128x128, .f32⟩
  | 113 => ⟨S_, .f32⟩
  | 114 => ⟨S4x128x128, .f32⟩
  | 115 => ⟨S4x1x32x256x128, .f32⟩
  | 116 => ⟨S1x32x128x4x256, .f32⟩
  | 117 => ⟨S128x4, .f32⟩
  | 118 => ⟨S128x4x1, .f32⟩
  | 119 => ⟨S1x1x128x4x1, .f32⟩
  | 120 => ⟨S1x32x128x4x256, .f32⟩
  | 121 => ⟨S1x32x128x4x256, .f32⟩
  | 122 => ⟨S1x4096x1024, .f32⟩
  | 123 => ⟨S1x4096x1024, .f32⟩
  | 124 => ⟨S4096x1024, .f32⟩
  | 125 => ⟨S1x4096x1024, .f32⟩
  | 126 => ⟨S1x4096x1024, .f32⟩
  | 127 => ⟨S1x4096x1024, .f32⟩
  | _ => ⟨S4096x5120, .f32⟩

abbrev hbmTy0_1 (i : Nat) : BufTy := match i % 128 with
  | 0 => ⟨S1x32x128x4x256, .f32⟩
  | 1 => ⟨S_, .f32⟩
  | 2 => ⟨S1x128x4, .f32⟩
  | 3 => ⟨S1x1x128x4x1, .f32⟩
  | 4 => ⟨S_, .f32⟩
  | 5 => ⟨S128x4, .f32⟩
  | 6 => ⟨S128x4x1, .f32⟩
  | 7 => ⟨S_, .f32⟩
  | 8 => ⟨S128x4, .f32⟩
  | 9 => ⟨S4x128, .f32⟩
  | 10 => ⟨S4x1x32x256x128, .f32⟩
  | 11 => ⟨S4x128x128, .f32⟩
  | 12 => ⟨S4x1x32x256x128, .f32⟩
  | 13 => ⟨S1x32x128x4x256, .f32⟩
  | 14 => ⟨S_, .f32⟩
  | 15 => ⟨S4x128x128, .f32⟩
  | 16 => ⟨S4x128x128, .f32⟩
  | 17 => ⟨S1x4096x1024, .f32⟩
  | 18 => ⟨S1x4096x1024, .f32⟩
  | 19 => ⟨S_, .f32⟩
  | 20 => ⟨S1x1024, .f32⟩
  | 21 => ⟨S1x1x1024, .f32⟩
  | 22 => ⟨S1x4096x1024, .f32⟩
  | 23 => ⟨S1x4096x1024, .f32⟩
  | 24 => ⟨S_, .f32⟩
  | 25 => ⟨S1024, .f32⟩
  | 26 => ⟨S1x4096x1024, .f32⟩
  | 27 => ⟨S_, .f32⟩
  | 28 => ⟨S1x4096, .f32⟩
  | 29 => ⟨S1x4096x1, .f32⟩
  | 30 => ⟨S1x4096x1024, .f32⟩
  | 31 => ⟨S1x4096x1024, .f32⟩
  | 32 => ⟨S1x4096x1, .f32⟩
  | 33 => ⟨S_, .f32⟩
  | 34 => ⟨S1x4096x1, .f32⟩
  | 35 => ⟨S1x4096x1, .f32⟩
  | 36 => ⟨S_, .f32⟩
  | 37 => ⟨S4096, .f32⟩
  | 38 => ⟨S1x4096, .f32⟩
  | 39 => ⟨S1x4096x1024, .f32⟩
  | 40 => ⟨S1x4096x1024, .f32⟩
  | 41 => ⟨S1x4096x1024, .f32⟩
  | 42 => ⟨S1x4096x1024, .f32⟩
  | 43 => ⟨S1x4096x1024, .f32⟩
  | 44 => ⟨S1x4096x1024, .f32⟩
  | 45 => ⟨S_, .f32⟩
  | 46 => ⟨S1x4096, .f32⟩
  | 47 => ⟨S1x4096x1, .f32⟩
  | 48 => ⟨S_, .f32⟩
  | 49 => ⟨S1x4096x1, .f32⟩
  | 50 => ⟨S1x4096x1, .f32⟩
  | 51 => ⟨S_, .f32⟩
  | 52 => ⟨S4096, .f32⟩
  | 53 => ⟨S1x4096, .f32⟩
  | 54 => ⟨S1x4096x1024, .f32⟩
  | 55 => ⟨S1x4096x1024, .f32⟩
  | 56 => ⟨S1x1024, .f32⟩
  | 57 => ⟨S_, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S4096x1024, .f32⟩
  | 90 => ⟨S4096x1024, .f32⟩
  | 91 => ⟨S2x4096x1024, .f32⟩
  | 92 => ⟨S1x4096x1024, .f32⟩
  | 93 => ⟨S1x4096x1024, .f32⟩
  | 94 => ⟨S1x4096x1024, .f32⟩
  | 95 => ⟨S5x4096x1024, .f32⟩
  | 96 => ⟨S5x4096x1024, .bf16⟩
  | 97 => ⟨S4x128x1, .f32⟩
  | 98 => ⟨S4x128x128, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c : Ref sig .tc := ⟨.hbm, 96, rfl⟩
abbrev main_v70 : Ref sig .tc := ⟨.hbm, 97, rfl⟩
abbrev main_call0_v0 : Ref sig .tc := ⟨.hbm, 98, rfl⟩
abbrev main_call0_c : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_c_0 : Ref sig .tc := ⟨.hbm, 104, rfl⟩
abbrev main_call0_v5 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_call1_v0 : Ref sig .tc := ⟨.hbm, 109, rfl⟩
abbrev main_v73_1 : Ref sig .tc := ⟨.hbm, 110, rfl⟩
abbrev main_call1_v2 : Ref sig .tc := ⟨.hbm, 111, rfl⟩
abbrev main_v73_0 : Ref sig .tc := ⟨.hbm, 112, rfl⟩
abbrev main_call1_cst : Ref sig .tc := ⟨.hbm, 113, rfl⟩
abbrev main_v73_2 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_20 : Ref sig .tc := ⟨.hbm, 129, rfl⟩
abbrev main_v88 : Ref sig .tc := ⟨.hbm, 130, rfl⟩
abbrev main_v89 : Ref sig .tc := ⟨.hbm, 131, rfl⟩
abbrev main_cst_21 : Ref sig .tc := ⟨.hbm, 132, rfl⟩
abbrev main_v90 : Ref sig .tc := ⟨.hbm, 133, rfl⟩
abbrev main_v91 : Ref sig .tc := ⟨.hbm, 134, rfl⟩
abbrev main_cst_22 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_call2_cst : Ref sig .tc := ⟨.hbm, 142, rfl⟩
abbrev main_call2_v0 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_23 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_24 : Ref sig .tc := ⟨.hbm, 152, rfl⟩
abbrev main_v105 : Ref sig .tc := ⟨.hbm, 153, rfl⟩
abbrev main_v106 : Ref sig .tc := ⟨.hbm, 154, rfl⟩
abbrev main_cst_25 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_26 : Ref sig .tc := ⟨.hbm, 161, rfl⟩
abbrev main_v112 : Ref sig .tc := ⟨.hbm, 162, rfl⟩
abbrev main_v113 : Ref sig .tc := ⟨.hbm, 163, rfl⟩
abbrev main_cst_27 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_28 : Ref sig .tc := ⟨.hbm, 173, rfl⟩
abbrev main_v122 : Ref sig .tc := ⟨.hbm, 174, rfl⟩
abbrev main_v123 : Ref sig .tc := ⟨.hbm, 175, rfl⟩
abbrev main_cst_29 : Ref sig .tc := ⟨.hbm, 176, rfl⟩
abbrev main_v124 : Ref sig .tc := ⟨.hbm, 177, rfl⟩
abbrev main_v125 : Ref sig .tc := ⟨.hbm, 178, rfl⟩
abbrev main_cst_30 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_31 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_32 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_33 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_34 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_35 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_36 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_37 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_38 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩

abbrev nD : Nat := 1
abbrev τ : Topo := Topo.v7x

variable {F : FTy → Type} [FloatOps F]
-- ==== Pool.lean ====
abbrev S4096x1024 : Shape := ⟨2, ![4096, 1024]⟩
abbrev S4x256x256 : Shape := ⟨3, ![4, 256, 256]⟩
abbrev S1x1024 : Shape := ⟨2, ![1, 1024]⟩
abbrev S5x4096x1024 : Shape := ⟨3, ![5, 4096, 1024]⟩
abbrev S_ : Shape := ⟨0, ![]⟩
abbrev S16x1024 : Shape := ⟨2, ![16, 1024]⟩
abbrev S4112x1024 : Shape := ⟨2, ![4112, 1024]⟩
abbrev S4096x1 : Shape := ⟨2, ![4096, 1]⟩
abbrev S4112x256 : Shape := ⟨2, ![4112, 256]⟩
abbrev S1x256 : Shape := ⟨2, ![1, 256]⟩
abbrev S4111x256 : Shape := ⟨2, ![4111, 256]⟩
abbrev S4096x256 : Shape := ⟨2, ![4096, 256]⟩
abbrev S2x256 : Shape := ⟨2, ![2, 256]⟩
abbrev S4110x256 : Shape := ⟨2, ![4110, 256]⟩
abbrev S4x256 : Shape := ⟨2, ![4, 256]⟩
abbrev S4108x256 : Shape := ⟨2, ![4108, 256]⟩
abbrev S8x256 : Shape := ⟨2, ![8, 256]⟩
abbrev S4104x256 : Shape := ⟨2, ![4104, 256]⟩
abbrev S256x1024 : Shape := ⟨2, ![256, 1024]⟩
abbrev S1x256x1024 : Shape := ⟨3, ![1, 256, 1024]⟩
abbrev S272x1024 : Shape := ⟨2, ![272, 1024]⟩
abbrev S272x1 : Shape := ⟨2, ![272, 1]⟩
abbrev S272x256 : Shape := ⟨2, ![272, 256]⟩
abbrev S1x256x256 : Shape := ⟨3, ![1, 256, 256]⟩
abbrev S256x256 : Shape := ⟨2, ![256, 256]⟩
abbrev S256 : Shape := ⟨1, ![256]⟩

abbrev nBuf : Space → Nat
  | .hbm => 121
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1x1024, .f32⟩
  | .hbm, ⟨3, _⟩ => ⟨S4096x1024, .f32⟩
  | .hbm, ⟨4, _⟩ => ⟨S5x4096x1024, .f32⟩
  | .hbm, ⟨5, _⟩ => ⟨S_, .f32⟩
  | .hbm, ⟨6, _⟩ => ⟨S16x1024, .f32⟩
  | .hbm, ⟨7, _⟩ => ⟨S4112x1024, .f32⟩
  | .hbm, ⟨8, _⟩ => ⟨S4096x1, .i32⟩
  | .hbm, ⟨9, _⟩ => ⟨S4112x256, .f32⟩
  | .hbm, ⟨10, _⟩ => ⟨S1x256, .f32⟩
  | .hbm, ⟨11, _⟩ => ⟨S4111x256, .f32⟩
  | .hbm, ⟨12, _⟩ => ⟨S4112x256, .f32⟩
  | .hbm, ⟨13, _⟩ => ⟨S4112x256, .f32⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S_, .i32⟩
  | .hbm, ⟨18, _⟩ => ⟨S4096x1, .i32⟩
  | .hbm, ⟨19, _⟩ => ⟨S4096x1, .i32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4112x256, .f32⟩
  | .hbm, ⟨30, _⟩ => ⟨S1x256, .f32⟩
  | .hbm, ⟨31, _⟩ => ⟨S4111x256, .f32⟩
  | .hbm, ⟨32, _⟩ => ⟨S4112x256, .f32⟩
  | .hbm, ⟨33, _⟩ => ⟨S4112x256, .f32⟩
  | .hbm, ⟨34, _⟩ => ⟨S2x256, .f32⟩
  | .hbm, ⟨35, _⟩ => ⟨S4110x256, .f32⟩
  | .hbm, ⟨36, _⟩ => ⟨S4112x256, .f32⟩
  | .hbm, ⟨37, _⟩ => ⟨S4112x256, .f32⟩
  | .hbm, ⟨38, _⟩ => ⟨S_, .i32⟩
  | .hbm, ⟨39, _⟩ => ⟨S4096x1, .i32⟩
  | .hbm, ⟨40, _⟩ => ⟨S4096x1, .i32⟩
  | .hbm, ⟨41, _⟩ => ⟨S_, .i32⟩
  | .hbm, ⟨42, _⟩ => ⟨S4096x1, .i32⟩
  | .hbm, ⟨43, _⟩ => ⟨S4096x1, .i32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4112x256, .f32⟩
  | .hbm, ⟨54, _⟩ => ⟨S1x256, .f32⟩
  | .hbm, ⟨55, _⟩ => ⟨S4111x256, .f32⟩
  | .hbm, ⟨56, _⟩ => ⟨S4112x256, .f32⟩
  | .hbm, ⟨57, _⟩ => ⟨S4112x256, .f32⟩
  | .hbm, ⟨58, _⟩ => ⟨S2x256, .f32⟩
  | .hbm, ⟨59, _⟩ => ⟨S4110x256, .f32⟩
  | .hbm, ⟨60, _⟩ => ⟨S4112x256, .f32⟩
  | .hbm, ⟨61, _⟩ => ⟨S4112x256, .f32⟩
  | .hbm, ⟨62, _⟩ => ⟨S4x256, .f32⟩
  | .hbm, ⟨63, _⟩ => ⟨S4108x256, .f32⟩
  | .hbm, ⟨64, _⟩ => ⟨S4112x256, .f32⟩
  | .hbm, ⟨65, _⟩ => ⟨S4112x256, .f32⟩
  | .hbm, ⟨66, _⟩ => ⟨S_, .i32⟩
  | .hbm, ⟨67, _⟩ => ⟨S4096x1, .i32⟩
  | .hbm, ⟨68, _⟩ => ⟨S4096x1, .i32⟩
  | .hbm, ⟨69, _⟩ => ⟨S_, .i32⟩
  | .hbm, ⟨70, _⟩ => ⟨S4096x1, .i32⟩
  | .hbm, ⟨71, _⟩ => ⟨S4096x1, .i32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4112x256, .f32⟩
  | .hbm, ⟨82, _⟩ => ⟨S1x256, .f32⟩
  | .hbm, ⟨83, _⟩ => ⟨S4111x256, .f32⟩
  | .hbm, ⟨84, _⟩ => ⟨S4112x256, .f32⟩
  | .hbm, ⟨85, _⟩ => ⟨S4112x256, .f32⟩
  | .hbm, ⟨86, _⟩ => ⟨S2x256, .f32⟩
  | .hbm, ⟨87, _⟩ => ⟨S4110x256, .f32⟩
  | .hbm, ⟨88, _⟩ => ⟨S4112x256, .f32⟩
  | .hbm, ⟨89, _⟩ => ⟨S4112x256, .f32⟩
  | .hbm, ⟨90, _⟩ => ⟨S4x256, .f32⟩
  | .hbm, ⟨91, _⟩ => ⟨S4108x256, .f32⟩
  | .hbm, ⟨92, _⟩ => ⟨S4112x256, .f32⟩
  | .hbm, ⟨93, _⟩ => ⟨S4112x256, .f32⟩
  | .hbm, ⟨94, _⟩ => ⟨S8x256, .f32⟩
  | .hbm, ⟨95, _⟩ => ⟨S4104x256, .f32⟩
  | .hbm, ⟨96, _⟩ => ⟨S4112x256, .f32⟩
  | .hbm, ⟨97, _⟩ => ⟨S4112x256, .f32⟩
  | .hbm, ⟨98, _⟩ => ⟨S_, .i32⟩
  | .hbm, ⟨99, _⟩ => ⟨S4096x1, .i32⟩
  | .hbm, ⟨100, _⟩ => ⟨S4096x1, .i32⟩
  | .hbm, ⟨101, _⟩ => ⟨S_, .i32⟩
  | .hbm, ⟨102, _⟩ => ⟨S4096x1, .i32⟩
  | .hbm, ⟨103, _⟩ => ⟨S4096x1, .i32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S4096x256, .f32⟩
  | .hbm, ⟨109, _⟩ => ⟨S4096x256, .f32⟩
  | .hbm, ⟨110, _⟩ => ⟨S4096x256, .f32⟩
  | .hbm, ⟨111, _⟩ => ⟨S4096x256, .f32⟩
  | .hbm, ⟨112, _⟩ => ⟨S4096x256, .f32⟩
  | .hbm, ⟨113, _⟩ => ⟨S4096x1024, .f32⟩
  | .hbm, ⟨114, _⟩ => ⟨S4096x1024, .bf16⟩
  | .hbm, ⟨115, _⟩ => ⟨S4096x1024, .bf16⟩
  | .hbm, ⟨116, _⟩ => ⟨S5x4096x1024, .bf16⟩
  | .hbm, ⟨117, _⟩ => ⟨S4x256x256, .bf16⟩
  | .hbm, ⟨118, _⟩ => ⟨S5x4096x1024, .bf16⟩
  | .hbm, ⟨119, _⟩ => ⟨S4x256x256, .f32⟩
  | .hbm, ⟨120, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S256x1024, .bf16⟩
  | .local _ .vmem, ⟨5, _⟩ => ⟨S256x1024, .bf16⟩
  | .local _ .vmem, ⟨6, _⟩ => ⟨S4x256x256, .bf16⟩
  | .local _ .vmem, ⟨7, _⟩ => ⟨S1x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S4x256x256, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_v20 : Ref sig .tc := ⟨.hbm, 33, rfl⟩
abbrev main_call2_v0 : Ref sig .tc := ⟨.hbm, 34, rfl⟩
abbrev main_call2_v1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call3_v0 : Ref sig .tc := ⟨.hbm, 54, rfl⟩
abbrev main_call3_v1 : Ref sig .tc := ⟨.hbm, 55, rfl⟩
abbrev main_v36 : Ref sig .tc := ⟨.hbm, 56, rfl⟩
abbrev main_v37 : Ref sig .tc := ⟨.hbm, 57, rfl⟩
abbrev main_call4_v0 : Ref sig .tc := ⟨.hbm, 58, rfl⟩
abbrev main_call4_v1 : Ref sig .tc := ⟨.hbm, 59, rfl⟩
abbrev main_v38 : Ref sig .tc := ⟨.hbm, 60, rfl⟩
abbrev main_v39 : Ref sig .tc := ⟨.hbm, 61, rfl⟩
abbrev main_call5_v0 : Ref sig .tc := ⟨.hbm, 62, rfl⟩
abbrev main_call5_v1 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call6_v0 : Ref sig .tc := ⟨.hbm, 82, rfl⟩
abbrev main_call6_v1 : Ref sig .tc := ⟨.hbm, 83, rfl⟩
abbrev main_v55 : Ref sig .tc := ⟨.hbm, 84, rfl⟩
abbrev main_v56 : Ref sig .tc := ⟨.hbm, 85, rfl⟩
abbrev main_call7_v0 : Ref sig .tc := ⟨.hbm, 86, rfl⟩
abbrev main_call7_v1 : Ref sig .tc := ⟨.hbm, 87, rfl⟩
abbrev main_v57 : Ref sig .tc := ⟨.hbm, 88, rfl⟩
abbrev main_v58 : Ref sig .tc := ⟨.hbm, 89, rfl⟩
abbrev main_call8_v0 : Ref sig .tc := ⟨.hbm, 90, rfl⟩
abbrev main_call8_v1 : Ref sig .tc := ⟨.hbm, 91, rfl⟩
abbrev main_v59 : Ref sig .tc := ⟨.hbm, 92, rfl⟩
abbrev main_v60 : Ref sig .tc := ⟨.hbm, 93, rfl⟩
abbrev main_call9_v0 : Ref sig .tc := ⟨.hbm, 94, rfl⟩
abbrev main_call9_v1 : Ref sig .tc := ⟨.hbm, 95, rfl⟩
abbrev main_v61 : Ref sig .tc := ⟨.hbm, 96, rfl⟩
abbrev main_v62 : Ref sig .tc := ⟨.hbm, 97, rfl⟩
abbrev main_c_8 : Ref sig .tc := ⟨.hbm, 98, rfl⟩
abbrev main_v63 : Ref sig .tc := ⟨.hbm, 99, rfl⟩
abbrev main_v64 : Ref sig .tc := ⟨.hbm, 100, rfl⟩
abbrev main_c_9 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_10 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80_0 : Ref sig .tc := ⟨.hbm, 118, rfl⟩
abbrev main_v80_1 : Ref sig .tc := ⟨.hbm, 119, rfl⟩
abbrev main_v80_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolRefIdeal.lean ====
abbrev S4096x1024 : Shape := ⟨2, ![4096, 1024]⟩
abbrev S4x256x256 : Shape := ⟨3, ![4, 256, 256]⟩
abbrev S1x1024 : Shape := ⟨2, ![1, 1024]⟩
abbrev S5x4096x1024 : Shape := ⟨3, ![5, 4096, 1024]⟩
abbrev S1x4096x1024 : Shape := ⟨3, ![1, 4096, 1024]⟩
abbrev S1024 : Shape := ⟨1, ![1024]⟩
abbrev S_ : Shape := ⟨0, ![]⟩
abbrev S1x1x1024 : Shape := ⟨3, ![1, 1, 1024]⟩
abbrev S1x4097x1024 : Shape := ⟨3, ![1, 4097, 1024]⟩
abbrev S4096 : Shape := ⟨1, ![4096]⟩
abbrev S1x4097x256 : Shape := ⟨3, ![1, 4097, 256]⟩
abbrev S1x4096x1 : Shape := ⟨3, ![1, 4096, 1]⟩
abbrev S1x4096x256 : Shape := ⟨3, ![1, 4096, 256]⟩
abbrev S4096x1 : Shape := ⟨2, ![4096, 1]⟩
abbrev S1x256x256 : Shape := ⟨3, ![1, 256, 256]⟩
abbrev S256x256 : Shape := ⟨2, ![256, 256]⟩
abbrev S4x4096x1024 : Shape := ⟨3, ![4, 4096, 1024]⟩

abbrev nBuf : Space → Nat
  | .hbm => 272
  | .vmem => 0
  | .smem => 0
  | _ => 0

abbrev hbmTy0_0 (i : Nat) : BufTy := match i % 128 with
  | 0 => ⟨S4096x1024, .f32⟩
  | 1 => ⟨S4x256x256, .f32⟩
  | 2 => ⟨S1x1024, .f32⟩
  | 3 => ⟨S4096x1024, .f32⟩
  | 4 => ⟨S5x4096x1024, .f32⟩
  | 5 => ⟨S1x4096x1024, .f32⟩
  | 6 => ⟨S1024, .f32⟩
  | 7 => ⟨S_, .f32⟩
  | 8 => ⟨S1x1x1024, .f32⟩
  | 9 => ⟨S_, .f32⟩
  | 10 => ⟨S_, .f32⟩
  | 11 => ⟨S1x4096x1024, .f32⟩
  | 12 => ⟨S1x4097x1024, .f32⟩
  | 13 => ⟨S_, .f32⟩
  | 14 => ⟨S1x1x1024, .f32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S1x4097x256, .f32⟩
  | 26 => ⟨S_, .i32⟩
  | 27 => ⟨S4096, .i32⟩
  | 28 => ⟨S4096, .i32⟩
  | 29 => ⟨S4096, .i32⟩
  | 30 => ⟨S4096, .f32⟩
  | 31 => ⟨S1x4096x1, .f32⟩
  | 32 => ⟨S1x4096x256, .f32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S1x4096x256, .f32⟩
  | 42 => ⟨S1x4096x256, .f32⟩
  | 43 => ⟨S1x4096x256, .f32⟩
  | 44 => ⟨S1x4096x256, .f32⟩
  | 45 => ⟨S1x4096x256, .f32⟩
  | 46 => ⟨S1x4096x256, .f32⟩
  | 47 => ⟨S1x256x256, .f32⟩
  | 48 => ⟨S256x256, .f32⟩
  | 49 => ⟨S1x4096x256, .f32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S1x4097x256, .f32⟩
  | 60 => ⟨S_, .i32⟩
  | 61 => ⟨S4096, .i32⟩
  | 62 => ⟨S4096, .i32⟩
  | 63 => ⟨S4096, .i32⟩
  | 64 => ⟨S4096, .f32⟩
  | 65 => ⟨S1x4096x1, .f32⟩
  | 66 => ⟨S1x4096x256, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S1x4096x256, .f32⟩
  | 76 => ⟨S1x4096x256, .f32⟩
  | 77 => ⟨S1x4096x256, .f32⟩
  | 78 => ⟨S1x4096x256, .f32⟩
  | 79 => ⟨S1x4096x256, .f32⟩
  | 80 => ⟨S1x4096x256, .f32⟩
  | 81 => ⟨S1x256x256, .f32⟩
  | 82 => ⟨S256x256, .f32⟩
  | 83 => ⟨S1x4096x256, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S1x4097x256, .f32⟩
  | 94 => ⟨S_, .i32⟩
  | 95 => ⟨S4096, .i32⟩
  | 96 => ⟨S4096, .i32⟩
  | 97 => ⟨S4096, .i32⟩
  | 98 => ⟨S4096, .f32⟩
  | 99 => ⟨S1x4096x1, .f32⟩
  | 100 => ⟨S1x4096x256, .f32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S1x4096x256, .f32⟩
  | 110 => ⟨S1x4096x256, .f32⟩
  | 111 => ⟨S1x4096x256, .f32⟩
  | 112 => ⟨S1x4096x256, .f32⟩
  | 113 => ⟨S1x4096x256, .f32⟩
  | 114 => ⟨S1x4096x256, .f32⟩
  | 115 => ⟨S1x256x256, .f32⟩
  | 116 => ⟨S256x256, .f32⟩
  | 117 => ⟨S1x4096x256, .f32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i32⟩
  | 127 => ⟨S1x4097x256, .f32⟩
  | _ => ⟨S4096x1024, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096, .f32⟩
  | 5 => ⟨S1x4096x1, .f32⟩
  | 6 => ⟨S1x4096x256, .f32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S1x4096x256, .f32⟩
  | 16 => ⟨S1x4096x256, .f32⟩
  | 17 => ⟨S1x4096x256, .f32⟩
  | 18 => ⟨S1x4096x256, .f32⟩
  | 19 => ⟨S1x4096x256, .f32⟩
  | 20 => ⟨S1x4096x256, .f32⟩
  | 21 => ⟨S1x256x256, .f32⟩
  | 22 => ⟨S256x256, .f32⟩
  | 23 => ⟨S1x4096x256, .f32⟩
  | 24 => ⟨S1x4096x1024, .f32⟩
  | 25 => ⟨S1x1x1024, .f32⟩
  | 26 => ⟨S1x4096x1024, .f32⟩
  | 27 => ⟨S1x4096x1024, .f32⟩
  | 28 => ⟨S4096x1024, .f32⟩
  | 29 => ⟨S1x4096x1024, .f32⟩
  | 30 => ⟨S1x4096x1024, .f32⟩
  | 31 => ⟨S_, .f32⟩
  | 32 => ⟨S1x1024, .f32⟩
  | 33 => ⟨S1x1x1024, .f32⟩
  | 34 => ⟨S1x4096x1024, .f32⟩
  | 35 => ⟨S1x4096x1024, .f32⟩
  | 36 => ⟨S_, .f32⟩
  | 37 => ⟨S1024, .f32⟩
  | 38 => ⟨S1x4096x256, .f32⟩
  | 39 => ⟨S1x4096x256, .f32⟩
  | 40 => ⟨S1x4096x256, .f32⟩
  | 41 => ⟨S1x4096x256, .f32⟩
  | 42 => ⟨S256x256, .f32⟩
  | 43 => ⟨S256x256, .f32⟩
  | 44 => ⟨S1x4096x256, .f32⟩
  | 45 => ⟨S1x256x256, .f32⟩
  | 46 => ⟨S_, .f32⟩
  | 47 => ⟨S4x256x256, .f32⟩
  | 48 => ⟨S1x4096x256, .f32⟩
  | 49 => ⟨S_, .f32⟩
  | 50 => ⟨S1x4096x1024, .f32⟩
  | 51 => ⟨S1x4096x256, .f32⟩
  | 52 => ⟨S1x4096x256, .f32⟩
  | 53 => ⟨S1x4096x256, .f32⟩
  | 54 => ⟨S_, .f32⟩
  | 55 => ⟨S1x4097x256, .f32⟩
  | 56 => ⟨S1x4097x256, .f32⟩
  | 57 => ⟨S_, .f32⟩
  | 58 => ⟨S1x4097x256, .f32⟩
  | 59 => ⟨S1x4097x256, .f32⟩
  | 60 => ⟨S_, .f32⟩
  | 61 => ⟨S1x4097x1024, .f32⟩
  | 62 => ⟨S256x256, .f32⟩
  | 63 => ⟨S256x256, .f32⟩
  | 64 => ⟨S1x4096x256, .f32⟩
  | 65 => ⟨S1x256x256, .f32⟩
  | 66 => ⟨S_, .f32⟩
  | 67 => ⟨S4x256x256, .f32⟩
  | 68 => ⟨S4x256x256, .f32⟩
  | 69 => ⟨S1x4096x256, .f32⟩
  | 70 => ⟨S_, .f32⟩
  | 71 => ⟨S1x4096x1024, .f32⟩
  | 72 => ⟨S1x4096x1024, .f32⟩
  | 73 => ⟨S1x4096x256, .f32⟩
  | 74 => ⟨S1x4096x256, .f32⟩
  | 75 => ⟨S1x4096x256, .f32⟩
  | 76 => ⟨S_, .f32⟩
  | 77 => ⟨S1x4097x256, .f32⟩
  | 78 => ⟨S1x4097x256, .f32⟩
  | 79 => ⟨S_, .f32⟩
  | 80 => ⟨S1x4097x256, .f32⟩
  | 81 => ⟨S1x4097x256, .f32⟩
  | 82 => ⟨S_, .f32⟩
  | 83 => ⟨S1x4097x1024, .f32⟩
  | 84 => ⟨S1x4097x1024, .f32⟩
  | 85 => ⟨S256x256, .f32⟩
  | 86 => ⟨S256x256, .f32⟩
  | 87 => ⟨S1x4096x256, .f32⟩
  | 88 => ⟨S1x256x256, .f32⟩
  | 89 => ⟨S_, .f32⟩
  | 90 => ⟨S4x256x256, .f32⟩
  | 91 => ⟨S4x256x256, .f32⟩
  | 92 => ⟨S1x4096x256, .f32⟩
  | 93 => ⟨S_, .f32⟩
  | 94 => ⟨S1x4096x1024, .f32⟩
  | 95 => ⟨S1x4096x1024, .f32⟩
  | 96 => ⟨S1x4096x256, .f32⟩
  | 97 => ⟨S1x4096x256, .f32⟩
  | 98 => ⟨S1x4096x256, .f32⟩
  | 99 => ⟨S_, .f32⟩
  | 100 => ⟨S1x4097x256, .f32⟩
  | 101 => ⟨S1x4097x256, .f32⟩
  | 102 => ⟨S_, .f32⟩
  | 103 => ⟨S1x4097x256, .f32⟩
  | 104 => ⟨S1x4097x256, .f32⟩
  | 105 => ⟨S_, .f32⟩
  | 106 => ⟨S1x4097x1024, .f32⟩
  | 107 => ⟨S1x4097x1024, .f32⟩
  | 108 => ⟨S256x256, .f32⟩
  | 109 => ⟨S256x256, .f32⟩
  | 110 => ⟨S1x4096x256, .f32⟩
  | 111 => ⟨S1x256x256, .f32⟩
  | 112 => ⟨S_, .f32⟩
  | 113 => ⟨S4x256x256, .f32⟩
  | 114 => ⟨S4x256x256, .f32⟩
  | 115 => ⟨S1x4096x256, .f32⟩
  | 116 => ⟨S_, .f32⟩
  | 117 => ⟨S1x4096x1024, .f32⟩
  | 118 => ⟨S1x4096x1024, .f32⟩
  | 119 => ⟨S1x4096x256, .f32⟩
  | 120 => ⟨S1x4096x256, .f32⟩
  | 121 => ⟨S1x4096x256, .f32⟩
  | 122 => ⟨S_, .f32⟩
  | 123 => ⟨S1x4097x256, .f32⟩
  | 124 => ⟨S1x4097x256, .f32⟩
  | 125 => ⟨S_, .f32⟩
  | 126 => ⟨S1x4097x256, .f32⟩
  | 127 => ⟨S1x4097x256, .f32⟩
  | _ => ⟨S4096x1024, .f32⟩

abbrev hbmTy0_2 (i : Nat) : BufTy := match i % 128 with
  | 0 => ⟨S_, .f32⟩
  | 1 => ⟨S1x4097x1024, .f32⟩
  | 2 => ⟨S1x4097x1024, .f32⟩
  | 3 => ⟨S1x1x1024, .f32⟩
  | 4 => ⟨S1x4096x1024, .f32⟩
  | 5 => ⟨S_, .f32⟩
  | 6 => ⟨S_, .f32⟩
  | 7 => ⟨S1x4096x1024, .f32⟩
  | 8 => ⟨S1x4096x1024, .f32⟩
  | 9 => ⟨S1x1024, .f32⟩
  | 10 => ⟨S_, .f32⟩
  | 11 => ⟨S4096x1024, .f32⟩
  | 12 => ⟨S4x4096x1024, .f32⟩
  | 13 => ⟨S1x4096x1024, .f32⟩
  | 14 => ⟨S5x4096x1024, .f32⟩
  | 15 => ⟨S5x4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_call0_cst : Ref sig .tc := ⟨.hbm, 9, rfl⟩
abbrev main_call0_call0_v0 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_12 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_c_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_16 : Ref sig .tc := ⟨.hbm, 101, rfl⟩
abbrev main_v76 : Ref sig .tc := ⟨.hbm, 102, rfl⟩
abbrev main_v77 : Ref sig .tc := ⟨.hbm, 103, rfl⟩
abbrev main_c_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_18 : Ref sig .tc := ⟨.hbm, 118, rfl⟩
abbrev main_v91 : Ref sig .tc := ⟨.hbm, 119, rfl⟩
abbrev main_v92 : Ref sig .tc := ⟨.hbm, 120, rfl⟩
abbrev main_c_19 : Ref sig .tc := ⟨.hbm, 121, rfl⟩
abbrev main_v93 : Ref sig .tc := ⟨.hbm, 122, rfl⟩
abbrev main_v94 : Ref sig .tc := ⟨.hbm, 123, rfl⟩
abbrev main_c_20 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_21 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_22 : Ref sig .tc := ⟨.hbm, 135, rfl⟩
abbrev main_v104 : Ref sig .tc := ⟨.hbm, 136, rfl⟩
abbrev main_v105 : Ref sig .tc := ⟨.hbm, 137, rfl⟩
abbrev main_c_23 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_24 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_25 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_26 : Ref sig .tc := ⟨.hbm, 174, rfl⟩
abbrev main_v139 : Ref sig .tc := ⟨.hbm, 175, rfl⟩
abbrev main_v140 : Ref sig .tc := ⟨.hbm, 176, rfl⟩
abbrev main_cst_27 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_28 : Ref sig .tc := ⟨.hbm, 182, rfl⟩
abbrev main_v145 : Ref sig .tc := ⟨.hbm, 183, rfl⟩
abbrev main_v146 : Ref sig .tc := ⟨.hbm, 184, rfl⟩
abbrev main_cst_29 : Ref sig .tc := ⟨.hbm, 185, rfl⟩
abbrev main_v147 : Ref sig .tc := ⟨.hbm, 186, rfl⟩
abbrev main_v148 : Ref sig .tc := ⟨.hbm, 187, rfl⟩
abbrev main_cst_30 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_31 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_32 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_33 : Ref sig .tc := ⟨.hbm, 204, rfl⟩
abbrev main_v162 : Ref sig .tc := ⟨.hbm, 205, rfl⟩
abbrev main_v163 : Ref sig .tc := ⟨.hbm, 206, rfl⟩
abbrev main_cst_34 : Ref sig .tc := ⟨.hbm, 207, rfl⟩
abbrev main_v164 : Ref sig .tc := ⟨.hbm, 208, rfl⟩
abbrev main_v165 : Ref sig .tc := ⟨.hbm, 209, rfl⟩
abbrev main_cst_35 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_36 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_cst_37 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_38 : Ref sig .tc := ⟨.hbm, 227, rfl⟩
abbrev main_v180 : Ref sig .tc := ⟨.hbm, 228, rfl⟩
abbrev main_v181 : Ref sig .tc := ⟨.hbm, 229, rfl⟩
abbrev main_cst_39 : Ref sig .tc := ⟨.hbm, 230, rfl⟩
abbrev main_v182 : Ref sig .tc := ⟨.hbm, 231, rfl⟩
abbrev main_v183 : Ref sig .tc := ⟨.hbm, 232, rfl⟩
abbrev main_cst_40 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_41 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_42 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_cst_43 : Ref sig .tc := ⟨.hbm, 250, rfl⟩
abbrev main_v198 : Ref sig .tc := ⟨.hbm, 251, rfl⟩
abbrev main_v199 : Ref sig .tc := ⟨.hbm, 252, rfl⟩
abbrev main_cst_44 : Ref sig .tc := ⟨.hbm, 253, rfl⟩
abbrev main_v200 : Ref sig .tc := ⟨.hbm, 254, rfl⟩
abbrev main_v201 : Ref sig .tc := ⟨.hbm, 255, rfl⟩
abbrev main_cst_45 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_call1_call0_cst : Ref sig .tc := ⟨.hbm, 261, rfl⟩
abbrev main_call1_call0_v0 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_46 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩

abbrev nD : Nat := 1
abbrev τ : Topo := Topo.v7x

variable {F : FTy → Type} [FloatOps F]
-- ==== Ple.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 32
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x256, .bf16⟩
  | .hbm, ⟨24, _⟩ => ⟨S1024x1024, .bf16⟩
  | .hbm, ⟨25, _⟩ => ⟨S256x1024, .bf16⟩
  | .hbm, ⟨26, _⟩ => ⟨S4096x1024, .bf16⟩
  | .hbm, ⟨27, _⟩ => ⟨S4096x1024, .bf16⟩
  | .hbm, ⟨28, _⟩ => ⟨S4096x1024, .f32⟩
  | .hbm, ⟨29, _⟩ => ⟨S1x1024, .f32⟩
  | .hbm, ⟨30, _⟩ => ⟨S1x1024, .f32⟩
  | .hbm, ⟨31, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PleRefIdeal.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 148
  | .vmem => 0
  | .smem => 0
  | _ => 0

abbrev hbmTy0_0 (i : Nat) : BufTy := match i % 128 with
  | 0 => ⟨S4096x1024, .f32⟩
  | 1 => ⟨S4096x256, .f32⟩
  | 2 => ⟨S1x1024, .f32⟩
  | 3 => ⟨S1024x1024, .f32⟩
  | 4 => ⟨S256x1024, .f32⟩
  | 5 => ⟨S1x1024, .f32⟩
  | 6 => ⟨S4096x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S4096x1024, .f32⟩
  | 42 => ⟨S4096x1024, .f32⟩
  | 43 => ⟨S1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096, .f32⟩
  | 72 => ⟨S_, .f32⟩
  | 73 => ⟨S4096, .f32⟩
  | 74 => ⟨S4096, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S4096, .f32⟩
  | 83 => ⟨S_, .f32⟩
  | 84 => ⟨S4096, .f32⟩
  | 85 => ⟨S4096, .f32⟩
  | 86 => ⟨S4096x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S4096x1024, .f32⟩
  | 94 => ⟨S_, .f32⟩
  | 95 => ⟨S1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S1x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S4096x1024, .f32⟩
  | 123 => ⟨S4096x1024, .f32⟩
  | 124 => ⟨S_, .f32⟩
  | 125 => ⟨S1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S4096x1024, .f32⟩
  | 3 => ⟨S4096x1024, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S1x1024, .f32⟩
  | 16 => ⟨S4096x1024, .bf16⟩
  | 17 => ⟨S4096x1024, .bf16⟩
  | 18 => ⟨S4096x1024, .f32⟩
  | 19 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_cst_15 : Ref sig .tc := ⟨.hbm, 79, rfl⟩
abbrev main_cst_16 : Ref sig .tc := ⟨.hbm, 80, rfl⟩
abbrev main_v56 : Ref sig .tc := ⟨.hbm, 81, rfl⟩
abbrev main_v57 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_19 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_21 : Ref sig .tc := ⟨.hbm, 103, rfl⟩
abbrev main_v74 : Ref sig .tc := ⟨.hbm, 104, rfl⟩
abbrev main_v75 : Ref sig .tc := ⟨.hbm, 105, rfl⟩
abbrev main_cst_22 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_23 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_24 : Ref sig .tc := ⟨.hbm, 124, rfl⟩
abbrev main_v92 : Ref sig .tc := ⟨.hbm, 125, rfl⟩
abbrev main_v93 : Ref sig .tc := ⟨.hbm, 126, rfl⟩
abbrev main_cst_25 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_26 : Ref sig .tc := ⟨.hbm, 133, rfl⟩
abbrev main_v99 : Ref sig .tc := ⟨.hbm, 134, rfl⟩
abbrev main_v100 : Ref sig .tc := ⟨.hbm, 135, rfl⟩
abbrev main_cst_27 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]
-- ==== SguF.lean ====
abbrev S4096x5120 : Shape := ⟨2, ![4096, 5120]⟩
abbrev S1x1024 : Shape := ⟨2, ![1, 1024]⟩
abbrev S4x128x128 : Shape := ⟨3, ![4, 128, 128]⟩
abbrev S4x128 : Shape := ⟨2, ![4, 128]⟩
abbrev S4x128x1 : Shape := ⟨3, ![4, 128, 1]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x5120, .f32⟩
  | .hbm, ⟨1, _⟩ => ⟨S1x1024, .f32⟩
  | .hbm, ⟨2, _⟩ => ⟨S4x128x128, .f32⟩
  | .hbm, ⟨3, _⟩ => ⟨S4x128, .f32⟩
  | .hbm, ⟨4, _⟩ => ⟨S4096x5120, .bf16⟩
  | .hbm, ⟨5, _⟩ => ⟨S4x128x1, .f32⟩
  | .hbm, ⟨6, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S4x128x128, .f32⟩
  | .local _ .vmem, ⟨6, _⟩ => ⟨S4x128x1, .f32⟩
  | .local _ .vmem, ⟨7, _⟩ => ⟨S256x1024, .bf16⟩
  | .local _ .vmem, ⟨8, _⟩ => ⟨S256x1024, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFRefIdeal.lean ====
abbrev S4096x5120 : Shape := ⟨2, ![4096, 5120]⟩
abbrev S1x1024 : Shape := ⟨2, ![1, 1024]⟩
abbrev S4x128x128 : Shape := ⟨3, ![4, 128, 128]⟩
abbrev S4x128 : Shape := ⟨2, ![4, 128]⟩
abbrev S4096x1024 : Shape := ⟨2, ![4096, 1024]⟩
abbrev S_ : Shape := ⟨0, ![]⟩
abbrev S1x4096x1024 : Shape := ⟨3, ![1, 4096, 1024]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x4x256 : Shape := ⟨5, ![1, 32, 128, 4, 256]⟩
abbrev S128x128 : Shape := ⟨2, ![128, 128]⟩
abbrev S1x128x128 : Shape := ⟨3, ![1, 128, 128]⟩
abbrev S4x1x32x256x128 : Shape := ⟨5, ![4, 1, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 96
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S1x1024, .f32⟩
  | .hbm, ⟨2, _⟩ => ⟨S4x128x128, .f32⟩
  | .hbm, ⟨3, _⟩ => ⟨S4x128, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x4096x1024, .f32⟩
  | .hbm, ⟨42, _⟩ => ⟨S1024, .f32⟩
  | .hbm, ⟨43, _⟩ => ⟨S_, .f32⟩
  | .hbm, ⟨44, _⟩ => ⟨S1x4096, .f32⟩
  | .hbm, ⟨45, _⟩ => ⟨S1x4096x1, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1x4096, .f32⟩
  | .hbm, ⟨54, _⟩ => ⟨S1x4096x1, .f32⟩
  | .hbm, ⟨55, _⟩ => ⟨S_, .f32⟩
  | .hbm, ⟨56, _⟩ => ⟨S1x4096x1, .f32⟩
  | .hbm, ⟨57, _⟩ => ⟨S1x4096x1, .f32⟩
  | .hbm, ⟨58, _⟩ => ⟨S_, .f32⟩
  | .hbm, ⟨59, _⟩ => ⟨S1x4096x1, .f32⟩
  | .hbm, ⟨60, _⟩ => ⟨S1x4096x1, .f32⟩
  | .hbm, ⟨61, _⟩ => ⟨S1x4096x1, .f32⟩
  | .hbm, ⟨62, _⟩ => ⟨S1x4096x1024, .f32⟩
  | .hbm, ⟨63, _⟩ => ⟨S1x4096x1024, .f32⟩
  | .hbm, ⟨64, _⟩ => ⟨S1x1x1024, .f32⟩
  | .hbm, ⟨65, _⟩ => ⟨S1x4096x1024, .f32⟩
  | .hbm, ⟨66, _⟩ => ⟨S1x4096x1024, .f32⟩
  | .hbm, ⟨67, _⟩ => ⟨S1x32x128x4x256, .f32⟩
  | .hbm, ⟨68, _⟩ => ⟨S_, .i1⟩
  | .hbm, ⟨69, _⟩ => ⟨S128x128, .i1⟩
  | .hbm, ⟨70, _⟩ => ⟨S128x128, .i32⟩
  | .hbm, ⟨71, _⟩ => ⟨S_, .i32⟩
  | .hbm, ⟨72, _⟩ => ⟨S128x128, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S_, .i1⟩
  | .hbm, ⟨77, _⟩ => ⟨S128x128, .i1⟩
  | .hbm, ⟨78, _⟩ => ⟨S128x128, .i1⟩
  | .hbm, ⟨79, _⟩ => ⟨S1x128x128, .i1⟩
  | .hbm, ⟨80, _⟩ => ⟨S_, .f32⟩
  | .hbm, ⟨81, _⟩ => ⟨S_, .f32⟩
  | .hbm, ⟨82, _⟩ => ⟨S4x128x128, .i1⟩
  | .hbm, ⟨83, _⟩ => ⟨S4x128x128, .f32⟩
  | .hbm, ⟨84, _⟩ => ⟨S4x128x128, .f32⟩
  | .hbm, ⟨85, _⟩ => ⟨S4x1x32x256x128, .f32⟩
  | .hbm, ⟨86, _⟩ => ⟨S1x32x128x4x256, .f32⟩
  | .hbm, ⟨87, _⟩ => ⟨S128x4, .f32⟩
  | .hbm, ⟨88, _⟩ => ⟨S128x4x1, .f32⟩
  | .hbm, ⟨89, _⟩ => ⟨S1x1x128x4x1, .f32⟩
  | .hbm, ⟨90, _⟩ => ⟨S1x32x128x4x256, .f32⟩
  | .hbm, ⟨91, _⟩ => ⟨S1x32x128x4x256, .f32⟩
  | .hbm, ⟨92, _⟩ => ⟨S1x4096x1024, .f32⟩
  | .hbm, ⟨93, _⟩ => ⟨S1x4096x1024, .f32⟩
  | .hbm, ⟨94, _⟩ => ⟨S4096x1024, .f32⟩
  | .hbm, ⟨95, _⟩ => ⟨S4096x1024, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_v51 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]
-- ==== FfnGu.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S512x1024 : Shape := ⟨2, ![512, 1024]⟩
abbrev S1x704x1024 : Shape := ⟨3, ![1, 704, 1024]⟩
abbrev S1x512x704 : Shape := ⟨3, ![1, 512, 704]⟩
abbrev S704x1024 : Shape := ⟨2, ![704, 1024]⟩
abbrev S512x704 : Shape := ⟨2, ![512, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnGuRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x4x704, .f32⟩
  | .hbm, ⟨26, _⟩ => ⟨S4x4096x704, .f32⟩
  | .hbm, ⟨27, _⟩ => ⟨S4x4096x704, .bf16⟩
  | .hbm, ⟨28, _⟩ => ⟨S4096x4x704, .f32⟩
  | .hbm, ⟨29, _⟩ => ⟨S4x4096x704, .f32⟩
  | .hbm, ⟨30, _⟩ => ⟨S4x4096x704, .bf16⟩
  | .hbm, ⟨31, _⟩ => ⟨S4096x2816, .f32⟩
  | .hbm, ⟨32, _⟩ => ⟨S4096x4x704, .f32⟩
  | .hbm, ⟨33, _⟩ => ⟨S4x4096x704, .f32⟩
  | .hbm, ⟨34, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_cst : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== FfnN.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x256x704 : Shape := ⟨3, ![4, 256, 704]⟩
abbrev S256x1024 : Shape := ⟨2, ![256, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4x704x1024, .f32⟩
  | .hbm, ⟨9, _⟩ => ⟨S4x704x1024, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .local _ .vmem, ⟨0, _⟩ => ⟨S4x256x704, .bf16⟩
  | .local _ .vmem, ⟨1, _⟩ => ⟨S4x256x704, .bf16⟩
  | .local _ .vmem, ⟨2, _⟩ => ⟨S4x704x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnNRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== MixF.lean ====
abbrev S4096x1024 : Shape := ⟨2, ![4096, 1024]⟩
abbrev S4096x5120 : Shape := ⟨2, ![4096, 5120]⟩
abbrev S1024x1024 : Shape := ⟨2, ![1024, 1024]⟩
abbrev S256x1024 : Shape := ⟨2, ![256, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5120, .f32⟩
  | .hbm, ⟨3, _⟩ => ⟨S1024x1024, .f32⟩
  | .hbm, ⟨4, _⟩ => ⟨S1024x1024, .f32⟩
  | .hbm, ⟨5, _⟩ => ⟨S4096x1024, .bf16⟩
  | .hbm, ⟨6, _⟩ => ⟨S4096x1024, .bf16⟩
  | .hbm, ⟨7, _⟩ => ⟨S4096x5120, .bf16⟩
  | .hbm, ⟨8, _⟩ => ⟨S1024x1024, .bf16⟩
  | .hbm, ⟨9, _⟩ => ⟨S1024x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFRefIdeal.lean ====
abbrev S4096x1024 : Shape := ⟨2, ![4096, 1024]⟩
abbrev S4096x5120 : Shape := ⟨2, ![4096, 5120]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5120, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .bf16⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PoolF.lean ====
abbrev S4096x5120 : Shape := ⟨2, ![4096, 5120]⟩
abbrev S4x256x256 : Shape := ⟨3, ![4, 256, 256]⟩
abbrev S1x1024 : Shape := ⟨2, ![1, 1024]⟩
abbrev S4096x1024 : Shape := ⟨2, ![4096, 1024]⟩
abbrev S256x1024 : Shape := ⟨2, ![256, 1024]⟩
abbrev S16x1024 : Shape := ⟨2, ![16, 1024]⟩
abbrev S272x1024 : Shape := ⟨2, ![272, 1024]⟩
abbrev S256x1 : Shape := ⟨2, ![256, 1]⟩
abbrev S272x256 : Shape := ⟨2, ![272, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S4096x5120, .f32⟩
  | .hbm, ⟨1, _⟩ => ⟨S4x256x256, .f32⟩
  | .hbm, ⟨2, _⟩ => ⟨S1x1024, .f32⟩
  | .hbm, ⟨3, _⟩ => ⟨S4096x5120, .bf16⟩
  | .hbm, ⟨4, _⟩ => ⟨S4x256x256, .bf16⟩
  | .hbm, ⟨5, _⟩ => ⟨S4096x1024, .bf16⟩
  | .hbm, ⟨6, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S4x256x256, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolFRefIdeal.lean ====
abbrev S4096x5120 : Shape := ⟨2, ![4096, 5120]⟩
abbrev S4x256x256 : Shape := ⟨3, ![4, 256, 256]⟩
abbrev S1x1024 : Shape := ⟨2, ![1, 1024]⟩
abbrev S4096x1024 : Shape := ⟨2, ![4096, 1024]⟩
abbrev S1x4096x1024 : Shape := ⟨3, ![1, 4096, 1024]⟩
abbrev S_ : Shape := ⟨0, ![]⟩
abbrev S1x1x1024 : Shape := ⟨3, ![1, 1, 1024]⟩
abbrev S1x4097x1024 : Shape := ⟨3, ![1, 4097, 1024]⟩
abbrev S4096 : Shape := ⟨1, ![4096]⟩
abbrev S1x4097x256 : Shape := ⟨3, ![1, 4097, 256]⟩
abbrev S1x4096x1 : Shape := ⟨3, ![1, 4096, 1]⟩
abbrev S1x4096x256 : Shape := ⟨3, ![1, 4096, 256]⟩
abbrev S4096x1 : Shape := ⟨2, ![4096, 1]⟩
abbrev S1x256x256 : Shape := ⟨3, ![1, 256, 256]⟩
abbrev S256x256 : Shape := ⟨2, ![256, 256]⟩
abbrev S1024 : Shape := ⟨1, ![1024]⟩

abbrev nBuf : Space → Nat
  | .hbm => 158
  | .vmem => 0
  | .smem => 0
  | _ => 0

abbrev hbmTy0_0 (i : Nat) : BufTy := match i % 128 with
  | 0 => ⟨S4096x5120, .f32⟩
  | 1 => ⟨S4x256x256, .f32⟩
  | 2 => ⟨S1x1024, .f32⟩
  | 3 => ⟨S4096x1024, .f32⟩
  | 4 => ⟨S1x4096x1024, .f32⟩
  | 5 => ⟨S_, .f32⟩
  | 6 => ⟨S1x1x1024, .f32⟩
  | 7 => ⟨S_, .f32⟩
  | 8 => ⟨S_, .f32⟩
  | 9 => ⟨S1x4096x1024, .f32⟩
  | 10 => ⟨S1x4097x1024, .f32⟩
  | 11 => ⟨S4096, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S1x4097x256, .f32⟩
  | 22 => ⟨S_, .i32⟩
  | 23 => ⟨S4096, .i32⟩
  | 24 => ⟨S4096, .i32⟩
  | 25 => ⟨S4096, .i32⟩
  | 26 => ⟨S4096, .f32⟩
  | 27 => ⟨S1x4096x1, .f32⟩
  | 28 => ⟨S1x4096x256, .f32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S1x4096x256, .f32⟩
  | 38 => ⟨S1x4096x256, .f32⟩
  | 39 => ⟨S1x4096x256, .f32⟩
  | 40 => ⟨S1x4096x256, .f32⟩
  | 41 => ⟨S1x4096x256, .f32⟩
  | 42 => ⟨S1x4096x256, .f32⟩
  | 43 => ⟨S1x256x256, .f32⟩
  | 44 => ⟨S256x256, .f32⟩
  | 45 => ⟨S1x4096x256, .f32⟩
  | 46 => ⟨S_, .i32⟩
  | 47 => ⟨S4096, .i32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S1x4097x256, .f32⟩
  | 56 => ⟨S_, .i32⟩
  | 57 => ⟨S4096, .i32⟩
  | 58 => ⟨S4096, .i32⟩
  | 59 => ⟨S4096, .i32⟩
  | 60 => ⟨S4096, .f32⟩
  | 61 => ⟨S1x4096x1, .f32⟩
  | 62 => ⟨S1x4096x256, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S1x4096x256, .f32⟩
  | 72 => ⟨S1x4096x256, .f32⟩
  | 73 => ⟨S1x4096x256, .f32⟩
  | 74 => ⟨S1x4096x256, .f32⟩
  | 75 => ⟨S1x4096x256, .f32⟩
  | 76 => ⟨S1x4096x256, .f32⟩
  | 77 => ⟨S1x256x256, .f32⟩
  | 78 => ⟨S256x256, .f32⟩
  | 79 => ⟨S1x4096x256, .f32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S1x4097x256, .f32⟩
  | 90 => ⟨S_, .i32⟩
  | 91 => ⟨S4096, .i32⟩
  | 92 => ⟨S4096, .i32⟩
  | 93 => ⟨S4096, .i32⟩
  | 94 => ⟨S4096, .f32⟩
  | 95 => ⟨S1x4096x1, .f32⟩
  | 96 => ⟨S1x4096x256, .f32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S1x4096x256, .f32⟩
  | 106 => ⟨S1x4096x256, .f32⟩
  | 107 => ⟨S1x4096x256, .f32⟩
  | 108 => ⟨S1x4096x256, .f32⟩
  | 109 => ⟨S1x4096x256, .f32⟩
  | 110 => ⟨S1x4096x256, .f32⟩
  | 111 => ⟨S1x256x256, .f32⟩
  | 112 => ⟨S256x256, .f32⟩
  | 113 => ⟨S1x4096x256, .f32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S1x4097x256, .f32⟩
  | 124 => ⟨S_, .i32⟩
  | 125 => ⟨S4096, .i32⟩
  | 126 => ⟨S4096, .i32⟩
  | 127 => ⟨S4096, .i32⟩
  | _ => ⟨S4096x5120, .f32⟩

abbrev hbmTy0_1 (i : Nat) : BufTy := match i % 128 with
  | 0 => ⟨S4096, .f32⟩
  | 1 => ⟨S1x4096x1, .f32⟩
  | 2 => ⟨S1x4096x256, .f32⟩
  | 3 => ⟨S_, .i32⟩
  | 4 => ⟨S4096, .i32⟩
  | 5 => ⟨S4096, .i1⟩
  | 6 => ⟨S_, .i32⟩
  | 7 => ⟨S4096, .i32⟩
  | 8 => ⟨S4096, .i32⟩
  | 9 => ⟨S4096, .i32⟩
  | 10 => ⟨S4096x1, .i32⟩
  | 11 => ⟨S1x4096x256, .f32⟩
  | 12 => ⟨S1x4096x256, .f32⟩
  | 13 => ⟨S1x4096x256, .f32⟩
  | 14 => ⟨S1x4096x256, .f32⟩
  | 15 => ⟨S1x4096x256, .f32⟩
  | 16 => ⟨S1x4096x256, .f32⟩
  | 17 => ⟨S1x256x256, .f32⟩
  | 18 => ⟨S256x256, .f32⟩
  | 19 => ⟨S1x4096x256, .f32⟩
  | 20 => ⟨S1x4096x1024, .f32⟩
  | 21 => ⟨S4096x1024, .f32⟩
  | 22 => ⟨S4096x1024, .bf16⟩
  | 23 => ⟨S1x4096x1024, .f32⟩
  | 24 => ⟨S1024, .f32⟩
  | 25 => ⟨S1x1x1024, .f32⟩
  | 26 => ⟨S1x4096x1024, .f32⟩
  | 27 => ⟨S1x4096x1024, .f32⟩
  | 28 => ⟨S4096x1024, .f32⟩
  | 29 => ⟨S4096x1024, .bf16⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_9 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_11 : Ref sig .tc := ⟨.hbm, 80, rfl⟩
abbrev main_v62 : Ref sig .tc := ⟨.hbm, 81, rfl⟩
abbrev main_v63 : Ref sig .tc := ⟨.hbm, 82, rfl⟩
abbrev main_c_12 : Ref sig .tc := ⟨.hbm, 83, rfl⟩
abbrev main_v64 : Ref sig .tc := ⟨.hbm, 84, rfl⟩
abbrev main_v65 : Ref sig .tc := ⟨.hbm, 85, rfl⟩
abbrev main_c_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_15 : Ref sig .tc := ⟨.hbm, 97, rfl⟩
abbrev main_v75 : Ref sig .tc := ⟨.hbm, 98, rfl⟩
abbrev main_v76 : Ref sig .tc := ⟨.hbm, 99, rfl⟩
abbrev main_c_16 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_17 : Ref sig .tc := ⟨.hbm, 114, rfl⟩
abbrev main_v90 : Ref sig .tc := ⟨.hbm, 115, rfl⟩
abbrev main_v91 : Ref sig .tc := ⟨.hbm, 116, rfl⟩
abbrev main_c_18 : Ref sig .tc := ⟨.hbm, 117, rfl⟩
abbrev main_v92 : Ref sig .tc := ⟨.hbm, 118, rfl⟩
abbrev main_v93 : Ref sig .tc := ⟨.hbm, 119, rfl⟩
abbrev main_c_19 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_20 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_c_21 : Ref sig .tc := ⟨.hbm, 131, rfl⟩
abbrev main_v103 : Ref sig .tc := ⟨.hbm, 132, rfl⟩
abbrev main_v104 : Ref sig .tc := ⟨.hbm, 133, rfl⟩
abbrev main_c_22 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩

abbrev nD : Nat := 1
abbrev τ : Topo := Topo.v7x

variable {F : FTy → Type} [FloatOps F]
-- ==== Proof.Norm.lean ====
/-
  The gradient of a root-mean-square norm over the extended reals: the factors `r · r · r` of the hand-written
  gradient against the derivative of the reciprocal square root.
-/
module

public import Idealize.ShloMosaic.Lib.Pointwise

@[expose] public section

noncomputable section

namespace Cert.Norm

open Idealize.ShloMosaic

/-! ## The constants -/

/-- The word of 1024. -/
theorem w1024 : Ideal.ofBits .f32 0x44800000#32 = ((1024 : ℝ) : EReal) := by
  simp [Ideal.ofBits, Ideal.ieee, -EReal.coe_mul]; norm_num

/-- The word of one half. -/
theorem wHalf : Ideal.ofBits .f32 0x3F000000#32 = ((1 / 2 : ℝ) : EReal) := by
  simp [Ideal.ofBits, Ideal.ieee, -EReal.coe_mul]; norm_num

/-- The word of minus one half. -/
theorem wNegHalf : Ideal.ofBits .f32 0xBF000000#32 = ((-(1 / 2) : ℝ) : EReal) := by
  simp [Ideal.ofBits, Ideal.ieee, -EReal.coe_mul, -EReal.coe_neg]; norm_num

/-- The word added to the mean of squares is a positive real. -/
theorem wEps : ∃ e : ℝ, 0 < e ∧ Ideal.ofBits .f32 0x358637BD#32 = ((e : ℝ) : EReal) := by
  refine ⟨_, ?_, by simp only [Ideal.ofBits, Ideal.ieee]; rw [if_neg (by decide), if_neg (by decide)]⟩
  simp only [show ((0x358637BD#32).extractLsb' (8 + 23) 1 == 1#1) = false from by decide, Bool.false_eq_true, if_false]
  positivity

/-- The sum of the products of two families. -/
def dot {n : ℕ} (f g : Fin n → EReal) : EReal := ∑ l, f l * g l

/-! ## Squares and the mean of squares -/

theorem sq_nonneg (x : EReal) : 0 ≤ x * x := by
  induction x with
  | bot => simp
  | top => simp
  | coe r => exact_mod_cast mul_self_nonneg r

/-- Twice a product with minus one half. -/
theorem add_self_neg_half (y : EReal) : y * ((-(1 / 2) : ℝ) : EReal) + y * ((-(1 / 2) : ℝ) : EReal) = -y := by
  induction y with
  | bot =>
    rw [EReal.bot_mul_coe_of_neg (by norm_num)]; simp
  | top =>
    rw [EReal.top_mul_coe_of_neg (by norm_num)]; simp
  | coe r => rw [← EReal.coe_mul, ← EReal.coe_add, ← EReal.coe_neg]; congr 1; ring

/-- The mean of a row's squares, plus the small constant. -/
def meanSq {n : ℕ} (x : Fin n → EReal) : EReal :=
  Ideal.div (∑ k, x k * x k) (Ideal.ofBits .f32 0x44800000#32) + Ideal.ofBits .f32 0x358637BD#32

/-- It is a positive real or infinite. -/
theorem meanSq_pos {n : ℕ} (x : Fin n → EReal) : meanSq x = ⊤ ∨ ∃ v : ℝ, 0 < v ∧ meanSq x = ((v : ℝ) : EReal) := by
  obtain ⟨e, he, hw⟩ := wEps
  have hs : 0 ≤ ∑ k, x k * x k := Finset.sum_nonneg fun k _ => sq_nonneg (x k)
  unfold meanSq
  rw [hw, w1024, Ideal.div_coe (by norm_num)]
  generalize ∑ k, x k * x k = s at hs
  induction s with
  | bot => simp at hs
  | top => left; rw [EReal.top_mul_coe_of_pos (by norm_num)]; simp
  | coe r =>
    right
    have hr : 0 ≤ r := by exact_mod_cast hs
    refine ⟨r * (1 / 1024) + e, by positivity, by push_cast; rfl⟩

/-- For a positive or infinite `v`, the cube of its reciprocal square root is the reciprocal square root over `v`. -/
theorem rsqrt_cube {v : EReal} (h : v = ⊤ ∨ ∃ r : ℝ, 0 < r ∧ v = ((r : ℝ) : EReal)) :
    Ideal.rsqrt v * Ideal.rsqrt v * Ideal.rsqrt v = Ideal.div (Ideal.rsqrt v) v := by
  rcases h with rfl | ⟨r, hr, rfl⟩
  · simp [Ideal.div]
  · rw [Ideal.rsqrt_coe, if_neg (not_lt.mpr hr.le), if_neg hr.ne', Ideal.div_coe hr.ne', ← EReal.coe_mul, ← EReal.coe_mul,
      ← EReal.coe_mul]
    congr 1
    have hs : Real.sqrt r * Real.sqrt r = r := Real.mul_self_sqrt hr.le
    have hp : 0 < Real.sqrt r := Real.sqrt_pos.mpr hr
    rw [← hs]
    simp only [Real.sqrt_mul_self hp.le]
    field_simp

/-- The two halves of the derivative of `x · x` under the mean are the hand-written correction term: `S` is the sum of
    the products of the row with the scaled cotangent, `x` an element of the row. -/
theorem correction {n : ℕ} (row : Fin n → EReal) (S x : EReal) :
    x * Ideal.div (S * (Ideal.ofBits .f32 0xBF000000#32 * Ideal.div (Ideal.rsqrt (meanSq row)) (meanSq row))) (Ideal.ofBits .f32 0x44800000#32)
      + Ideal.div (S * (Ideal.ofBits .f32 0xBF000000#32 * Ideal.div (Ideal.rsqrt (meanSq row)) (meanSq row))) (Ideal.ofBits .f32 0x44800000#32) * x
      = -(x * (Ideal.rsqrt (meanSq row) * Ideal.rsqrt (meanSq row) * Ideal.rsqrt (meanSq row))
          * Ideal.div S (Ideal.ofBits .f32 0x44800000#32)) := by
  rw [rsqrt_cube (meanSq_pos row), w1024, Ideal.div_coe (by norm_num), Ideal.div_coe (by norm_num), wNegHalf]
  generalize Ideal.div (Ideal.rsqrt (meanSq row)) (meanSq row) = q
  rw [← add_self_neg_half]
  congr 1 <;> ac_rfl

/-- The gradient of `x · r · g` by `x`, `r` the reciprocal root of the row's mean square, at element `j`: the cotangent is `dy`. -/
def bwd {n : ℕ} (x g dy : Fin n → EReal) (j : Fin n) : EReal :=
  Ideal.rsqrt (meanSq x) * (dy j * g j)
    - x j * (Ideal.rsqrt (meanSq x) * Ideal.rsqrt (meanSq x) * Ideal.rsqrt (meanSq x))
      * Ideal.div (∑ k, x k * (dy k * g k)) (Ideal.ofBits .f32 0x44800000#32)

/-- The same gradient as differentiating the formula writes it: the scaled cotangent, then the two halves of the derivative
    of the squares; `d` is what is added before them. -/
theorem bwd_eq {n : ℕ} (x g dy : Fin n → EReal) (j : Fin n) (d : EReal) :
    d + dy j * g j * Ideal.rsqrt (meanSq x)
      + x j * Ideal.div ((∑ k, x k * (dy k * g k)) * (Ideal.ofBits .f32 0xBF000000#32 * Ideal.div (Ideal.rsqrt (meanSq x)) (meanSq x))) (Ideal.ofBits .f32 0x44800000#32)
      + Ideal.div ((∑ k, x k * (dy k * g k)) * (Ideal.ofBits .f32 0xBF000000#32 * Ideal.div (Ideal.rsqrt (meanSq x)) (meanSq x))) (Ideal.ofBits .f32 0x44800000#32) * x j
      = d + bwd x g dy j := by
  rw [add_assoc, correction x _ (x j), bwd, sub_eq_add_neg, mul_comm (dy j * g j), add_assoc]

/-! ## Rows in tiles of 256 -/

/-- Row `a` of tile `t`. -/
def row (t : Fin 16) (a : Fin 256) : Fin 4096 := ⟨t * 256 + a, by omega⟩

/-- A sum over the rows, tile by tile. -/
theorem sum_rows (f : Fin 4096 → EReal) : ∑ r, f r = ∑ t : Fin 16, ∑ a : Fin 256, f (row t a) :=
  Fin.sum_univ_tiles 16 256 rfl f

end Cert.Norm

end
-- ==== Proof.FfnXValue.lean ====
module

public import proofs.«01_k».proof.Proof.Gen.FfnXIdeal.Frame
public import proofs.«01_k».proof.Proof.Gen.FfnXRefIdeal.Read
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnXIdeal.Value

open Cert.FfnXIdeal Cert.FfnXIdeal.Gen

/-- The two products of the cotangents with the weights, at one row and column. -/
def dxn (wg wu : FVec Ideal S1024x2816 .f32) (dg du : FVec Ideal S4096x2816 .f32) (i : Fin 4096) (k : Fin 1024) : EReal :=
  (∑ l, du (ix2 i l) * wu (ix2 k l)) + ∑ l, dg (ix2 i l) * wg (ix2 k l)

/-- The gradient of the norm's input. -/
def DH (h : FVec Ideal S4096x1024 .f32) (g : FVec Ideal S1x1024 .f32) (wg wu : FVec Ideal S1024x2816 .f32)
    (dg du : FVec Ideal S4096x2816 .f32) (dh : FVec Ideal S4096x1024 .f32) : FVec Ideal S4096x1024 .f32 := fun i =>
  dh i + Norm.bwd (fun k => h (ix2 (i 0) k)) (fun k => g (ix2 0 k)) (dxn wg wu dg du (i 0)) (i 1)

/-- The gradient of the norm's gain. -/
def DG (h : FVec Ideal S4096x1024 .f32) (wg wu : FVec Ideal S1024x2816 .f32) (dg du : FVec Ideal S4096x2816 .f32) :
    FVec Ideal S1x1024 .f32 := fun i =>
  ∑ r, dxn wg wu dg du r (i 1) * h (ix2 r (i 1)) * Ideal.rsqrt (Norm.meanSq fun k => h (ix2 r k))

/-! ## What the body computes -/

theorem pay2_at (dy h : FVec Ideal S256x1024 .f32) (g : FVec Ideal S1x1024 .f32) (dh : FVec Ideal S256x1024 .f32)
    (a : Fin 256) (j : Fin 1024) :
    k0_pay2 dy h g (k0_pay8 h) dh (ix2 a j)
      = dh (ix2 a j) + Norm.bwd (fun k => h (ix2 a k)) (fun k => g (ix2 0 k)) (fun k => dy (ix2 a k)) j := by
  pointwise [k0_pay2, k0_pay1, k0_pay8, Norm.bwd, Norm.meanSq]

theorem pay3_at (j) : k0_pay3 (F := Ideal) j = 0 := by pointwise [k0_pay3]

theorem pay4_at (dy h : FVec Ideal S256x1024 .f32) (acc : FVec Ideal S1x1024 .f32) (j : S1x1024.Idx) :
    k0_pay4 dy h (k0_pay8 h) acc j
      = acc j + ∑ a : Fin 256, dy (ix2 a (j 1)) * h (ix2 a (j 1)) * Ideal.rsqrt (Norm.meanSq fun k => h (ix2 a k)) := by
  pointwise [k0_pay4, k0_pay1, k0_pay8, Norm.meanSq]

/-- One chip's product. -/
def part (v : FVec Ideal S1x256x704 .bf16) (w : FVec Ideal S1x704x1024 .bf16) (a : Fin 256) (k : Fin 1024) : EReal :=
  ∑ l, v (ix3 0 a l) * w (ix3 0 l k)

/-- The eight products of the body, one for each chip's columns of the two weights. -/
theorem pay7_at (v0 v5 v10 v15 v23 v28 v33 v38 : FVec Ideal S1x256x704 .bf16) (v2 v7 v12 v17 v25 v30 v35 v40 : FVec Ideal S1x704x1024 .bf16)
    (a : Fin 256) (k : Fin 1024) :
    k0_pay7 (F := Ideal) (k0_pay5 v0 v2 v5 v7 v10 v12 v15 v17) (k0_pay6 v23) v25 v28 v30 v33 v35 v38 v40 (ix2 a k)
      = part v0 v2 a k + part v5 v7 a k + part v10 v12 a k + part v15 v17 a k + part v23 v25 a k + part v28 v30 a k
        + part v33 v35 a k + part v38 v40 a k := by
  pointwise [k0_pay7, k0_pay5, k0_pay6, part]

/-! ## The blocks -/

variable (m : (ℓ : Loc nD τ sig) → Buf (Elt Ideal) ℓ)

theorem idx : ∀ t : Fin cfg0.N, win0_0.index t = ![0, t.val, 0] ∧ win0_1.index t = ![0, t.val, 0] ∧ win0_2.index t = ![0, 0, 0]
    ∧ win0_3.index t = ![0, 0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- Column `l` of chip `q`. -/
def col (q : Fin 4) (l : Fin 704) : Fin 2816 := ⟨q * 704 + l, by omega⟩

theorem blk0 (c : Dev nD) (t : Fin cfg0.N) (q : Fin 4) (a : Fin 256) (l : Fin 704) :
    iblk m c 0 t (ix3 q a l) = m ((c : Thread nD τ).loc main_arg4) (ix2 (Norm.row t a) (col q l)) := by
  unfold Norm.row col
  blk_point [iblk, V, idx t]

theorem blk1 (c : Dev nD) (t : Fin cfg0.N) (q : Fin 4) (a : Fin 256) (l : Fin 704) :
    iblk m c 1 t (ix3 q a l) = m ((c : Thread nD τ).loc main_arg5) (ix2 (Norm.row t a) (col q l)) := by
  unfold Norm.row col
  blk_point [iblk, V, idx t]

theorem blk2 (c : Dev nD) (t : Fin cfg0.N) (q : Fin 4) (l : Fin 704) (k : Fin 1024) :
    iblk m c 2 t (ix3 q l k) = m ((c : Thread nD τ).loc main_arg2) (ix2 k (col q l)) := by
  unfold col
  blk_point [iblk, V, idx t]

theorem blk3 (c : Dev nD) (t : Fin cfg0.N) (q : Fin 4) (l : Fin 704) (k : Fin 1024) :
    iblk m c 3 t (ix3 q l k) = m ((c : Thread nD τ).loc main_arg3) (ix2 k (col q l)) := by
  unfold col
  blk_point [iblk, V, idx t]

theorem blk4 (c : Dev nD) (t : Fin cfg0.N) (a : Fin 256) (k : Fin 1024) :
    iblk m c 4 t (ix2 a k) = m ((c : Thread nD τ).loc main_arg0) (ix2 (Norm.row t a) k) := by
  unfold Norm.row
  blk_point [iblk, V, idx t]

theorem blk5 (c : Dev nD) (t : Fin cfg0.N) (z : Fin 1) (k : Fin 1024) :
    iblk m c 5 t (ix2 z k) = m ((c : Thread nD τ).loc main_arg1) (ix2 z k) := by
  blk_point [iblk, V, idx t]

theorem blk6 (c : Dev nD) (t : Fin cfg0.N) (a : Fin 256) (k : Fin 1024) :
    iblk m c 6 t (ix2 a k) = m ((c : Thread nD τ).loc main_arg6) (ix2 (Norm.row t a) k) := by
  unfold Norm.row
  blk_point [iblk, V, idx t]

/-- The four products of 704 columns each are the product over all columns. -/
theorem sum_cols (f : Fin 2816 → EReal) : ∑ l, f l = (∑ l, f (col 0 l)) + (∑ l, f (col 1 l)) + (∑ l, f (col 2 l)) + ∑ l, f (col 3 l) := by
  rw [Fin.sum_univ_tiles 4 704 rfl f, Fin.sum_univ_four]; rfl

/-- The body adds the eight products one after another. -/
theorem eight (a0 a1 a2 a3 b0 b1 b2 b3 : EReal) :
    a0 + a1 + a2 + a3 + b0 + b1 + b2 + b3 = b0 + b1 + b2 + b3 + (a0 + a1 + a2 + a3) := by ac_rfl

/-- The cotangent of the norm's output at a grid point, from the blocks. -/
theorem dxn_at (c : Dev nD) (t : Fin cfg0.N) (a : Fin 256) (k : Fin 1024) :
    k0_pay7 (F := Ideal) (k0_pay5 (View.ld (iblk m c 0 t) (Rect.unit ![0, 0, 0] ![1, 256, 704] inb_S4x256x704_S1x256x704_0_0_0)) (View.ld (iblk m c 2 t) (Rect.unit ![0, 0, 0] ![1, 704, 1024] inb_S4x704x1024_S1x704x1024_0_0_0)) (View.ld (iblk m c 0 t) (Rect.unit ![1, 0, 0] ![1, 256, 704] inb_S4x256x704_S1x256x704_1_0_0)) (View.ld (iblk m c 2 t) (Rect.unit ![1, 0, 0] ![1, 704, 1024] inb_S4x704x1024_S1x704x1024_1_0_0)) (View.ld (iblk m c 0 t) (Rect.unit ![2, 0, 0] ![1, 256, 704] inb_S4x256x704_S1x256x704_2_0_0)) (View.ld (iblk m c 2 t) (Rect.unit ![2, 0, 0] ![1, 704, 1024] inb_S4x704x1024_S1x704x1024_2_0_0)) (View.ld (iblk m c 0 t) (Rect.unit ![3, 0, 0] ![1, 256, 704] inb_S4x256x704_S1x256x704_3_0_0)) (View.ld (iblk m c 2 t) (Rect.unit ![3, 0, 0] ![1, 704, 1024] inb_S4x704x1024_S1x704x1024_3_0_0)))
      (k0_pay6 (View.ld (iblk m c 1 t) (Rect.unit ![0, 0, 0] ![1, 256, 704] inb_S4x256x704_S1x256x704_0_0_0))) (View.ld (iblk m c 3 t) (Rect.unit ![0, 0, 0] ![1, 704, 1024] inb_S4x704x1024_S1x704x1024_0_0_0)) (View.ld (iblk m c 1 t) (Rect.unit ![1, 0, 0] ![1, 256, 704] inb_S4x256x704_S1x256x704_1_0_0)) (View.ld (iblk m c 3 t) (Rect.unit ![1, 0, 0] ![1, 704, 1024] inb_S4x704x1024_S1x704x1024_1_0_0)) (View.ld (iblk m c 1 t) (Rect.unit ![2, 0, 0] ![1, 256, 704] inb_S4x256x704_S1x256x704_2_0_0)) (View.ld (iblk m c 3 t) (Rect.unit ![2, 0, 0] ![1, 704, 1024] inb_S4x704x1024_S1x704x1024_2_0_0)) (View.ld (iblk m c 1 t) (Rect.unit ![3, 0, 0] ![1, 256, 704] inb_S4x256x704_S1x256x704_3_0_0)) (View.ld (iblk m c 3 t) (Rect.unit ![3, 0, 0] ![1, 704, 1024] inb_S4x704x1024_S1x704x1024_3_0_0)) (ix2 a k)
      = dxn (m ((c : Thread nD τ).loc main_arg2)) (m ((c : Thread nD τ).loc main_arg3)) (m ((c : Thread nD τ).loc main_arg4))
          (m ((c : Thread nD τ).loc main_arg5)) (Norm.row t a) k := by
  rw [pay7_at]
  simp only [dxn, sum_cols]
  pointwise [part]
  simp only [blk0, blk1, blk2, blk3]
  exact eight ..

/-! ## The two results -/

theorem final7 (c : Dev nD) : (dats m 0 c).arrAt 7 (cfgs 0).N
    = DH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  obtain ⟨a, j, rfl⟩ : ∃ (a : Fin 256) (j : Fin 1024), y = ix2 a j := ⟨y 0, y 1, eq_ix2 y⟩
  have e : ((View.whole main_v12_0).slice (win0_7.rect t)).emb (ix2 a j) = (ix2 (Norm.row t a) j : S4096x1024.Idx) := by
    unfold Norm.row; blk_ext [idx t]
  rw [after0_7, e]
  by_cases ht : t.val % 16 = 0
  on_goal 1 => rw [outsAt0_A m c t ht]
  on_goal 2 => rw [outsAt0_B m c t ht]
  all_goals
    frame_out
    rw [pay2_at]
    refine congrArg₂ (· + ·) (blk6 ..) ?_
    show Norm.bwd _ _ _ _ = Norm.bwd _ _ _ _
    congr 1
    · funext k; exact blk4 ..
    · funext k; exact blk5 ..
    · funext k; exact dxn_at ..

theorem final8 (c : Dev nD) : (dats m 0 c).arrAt 8 (cfgs 0).N
    = DG (m ((c : Thread nD τ).loc main_arg0)) (m ((c : Thread nD τ).loc main_arg2))
        (m ((c : Thread nD τ).loc main_arg3)) (m ((c : Thread nD τ).loc main_arg4)) (m ((c : Thread nD τ).loc main_arg5)) := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => 0) _
    (fun t h j => by rw [outsAt0_A m c t h]; frame_out; rw [pay4_at, pay3_at])
    (fun t h j => by rw [outsAt0_B m c t h]; frame_out; rw [pay4_at])
    (le_of_eq N_0) t0_15 rfl j, zero_add]
  rw [DG, Norm.sum_rows]
  refine Fin.sum_fin_congr fun t => Fin.sum_fin_congr fun a => ?_
  exact congrArg₂ (· * ·) (congrArg₂ (· * ·) (dxn_at ..) (blk4 ..)) (congrArg (fun x => Ideal.rsqrt (Norm.meanSq x)) (funext fun k => blk4 ..))

end Cert.FfnXIdeal.Value

namespace Cert.FfnXRefIdeal.Read

open Cert.FfnXRefIdeal Cert.FfnXRefIdeal.Gen

theorem ref0 (h : FVec Ideal S4096x1024 .f32) (g : FVec Ideal S1x1024 .f32) (wg wu : FVec Ideal S1024x2816 .f32)
    (dg du : FVec Ideal S4096x2816 .f32) (dh : FVec Ideal S4096x1024 .f32) :
    val_main_v42 (F := Ideal) h g wg wu dg du dh = Cert.FfnXIdeal.Value.DH h g wg wu dg du dh := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst, val_main_cst_0, val_main_cst_1, val_main_cst_2, val_main_cst_3, val_main_cst_4, val_main_cst_5, val_main_cst_6, val_main_cst_7]
  simp only [Fin.sum_univ_one]
  exact Cert.Norm.bwd_eq (fun k => h (ix2 i0 k)) (fun k => g (ix2 0 k)) (Cert.FfnXIdeal.Value.dxn wg wu dg du i0) i1 (dh (ix2 i0 i1))

theorem ref1 (h : FVec Ideal S4096x1024 .f32) (wg wu : FVec Ideal S1024x2816 .f32) (dg du : FVec Ideal S4096x2816 .f32) :
    val_main_v43 (F := Ideal) h wg wu dg du = Cert.FfnXIdeal.Value.DG h wg wu dg du := by
  funext i
  idx_vars i
  pointwise [val_main_v1, val_main_v2, val_main_v3, val_main_v4, val_main_v5, val_main_v6, val_main_v7, val_main_v8, val_main_v12, val_main_v13, val_main_v19, val_main_v20, val_main_v21, val_main_v22, val_main_v23, val_main_v24, val_main_v27, val_main_v43, val_main_cst, val_main_cst_0, val_main_cst_1, val_main_cst_3, val_main_cst_4]
  simp only [Fin.sum_univ_one]
  exact Fin.sum_fin_congr fun r => by rw [mul_comm, ← mul_assoc]; rfl

end Cert.FfnXRefIdeal.Read

end
-- ==== Proof.FfnXClaim.lean ====
/- The value claim of the feed-forward norm's gradient, from the two runs. -/
module

public import proofs.«01_k».proof.Defs
public import proofs.«01_k».proof.Proof.Gen.FfnXIdeal.Frame
public import proofs.«01_k».proof.Proof.FfnXValue
public import proofs.«01_k».proof.Proof.Gen.FfnXRefIdeal.Run
public import Idealize.ShloMosaic.Lib.Claim

set_option maxRecDepth 16384

@[expose] public section

noncomputable section

namespace Cert.Proof

open Idealize.ShloMosaic Idealize.SL.Sem

theorem frame_ffnXRef : Cert.quiescent_FfnXRefIdeal (hFfnXRefIdeal := Cert.FfnXRefIdeal.Gen.facts) := fun m g _ =>
  (θ_run Cert.FfnXRefIdeal.defs _ _).mono (fun r h => ⟨fun c => (h c).2.2, sem_eq_zero_of_no_sems (by decide) r.2⟩)
    (Cert.FfnXRefIdeal.Value.run (F := Ideal) m g)

theorem algebraic_ffnX : Cert.algebraic_FfnXIdeal_FfnXRefIdeal (hFfnXIdeal := Cert.FfnXIdeal.Gen.facts) (hFfnXRefIdeal := Cert.FfnXRefIdeal.Gen.facts) := by
  pair_intro
  · run_from Cert.FfnXIdeal.Gen.run_main m g
  · run_from Cert.FfnXRefIdeal.Value.run m' g'
    · rw [Cert.FfnXRefIdeal.Read.val_main_v42_eq]
      simp only [hagree c]
      exact (Cert.FfnXRefIdeal.Read.ref0 ..).trans (Cert.FfnXIdeal.Value.final7 m c).symm
    · exact (Cert.FfnXRefIdeal.Read.ref1 ..).trans (Cert.FfnXIdeal.Value.final8 m c).symm

end Cert.Proof

end
-- ==== Proof.MixXValue.lean ====
module

public import proofs.«01_k».proof.Proof.Gen.MixXIdeal.Frame
public import proofs.«01_k».proof.Proof.Gen.MixXRefIdeal.Read
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixXIdeal.Value

open Cert.MixXIdeal Cert.MixXIdeal.Gen

/-- The product of the cotangent with the weight, at one row and column. -/
def dxn (w : FVec Ideal S1024x5120 .f32) (dz : FVec Ideal S4096x5120 .f32) (i : Fin 4096) (k : Fin 1024) : EReal :=
  ∑ l, dz (ix2 i l) * w (ix2 k l)

/-- The gradient of the norm's input. -/
def DH (h : FVec Ideal S4096x1024 .f32) (g : FVec Ideal S1x1024 .f32) (w : FVec Ideal S1024x5120 .f32)
    (dz : FVec Ideal S4096x5120 .f32) (dh : FVec Ideal S4096x1024 .f32) : FVec Ideal S4096x1024 .f32 := fun i =>
  dh i + Norm.bwd (fun k => h (ix2 (i 0) k)) (fun k => g (ix2 0 k)) (dxn w dz (i 0)) (i 1)

/-- The gradient of the norm's gain. -/
def DG (h : FVec Ideal S4096x1024 .f32) (w : FVec Ideal S1024x5120 .f32) (dz : FVec Ideal S4096x5120 .f32) :
    FVec Ideal S1x1024 .f32 := fun i =>
  ∑ r, dxn w dz r (i 1) * h (ix2 r (i 1)) * Ideal.rsqrt (Norm.meanSq fun k => h (ix2 r k))

/-! ## What the body computes -/

theorem pay2_at (dy h : FVec Ideal S256x1024 .f32) (g : FVec Ideal S1x1024 .f32) (dh : FVec Ideal S256x1024 .f32)
    (a : Fin 256) (j : Fin 1024) :
    k0_pay2 dy h g (k0_pay12 h) dh (ix2 a j)
      = dh (ix2 a j) + Norm.bwd (fun k => h (ix2 a k)) (fun k => g (ix2 0 k)) (fun k => dy (ix2 a k)) j := by
  pointwise [k0_pay2, k0_pay1, k0_pay12, Norm.bwd, Norm.meanSq]

theorem pay3_at (j) : k0_pay3 (F := Ideal) j = 0 := by pointwise [k0_pay3]

theorem pay4_at (dy h : FVec Ideal S256x1024 .f32) (acc : FVec Ideal S1x1024 .f32) (j : S1x1024.Idx) :
    k0_pay4 dy h (k0_pay12 h) acc j
      = acc j + ∑ a : Fin 256, dy (ix2 a (j 1)) * h (ix2 a (j 1)) * Ideal.rsqrt (Norm.meanSq fun k => h (ix2 a k)) := by
  pointwise [k0_pay4, k0_pay1, k0_pay12, Norm.meanSq]

/-- The eight products of the body, one for each stretch of columns that lies in one section and one chip's weight. -/
theorem pay11_at (v0 : FVec Ideal S1x256x1024 .bf16) (v2 : FVec Ideal S1x1024x1024 .bf16) (v5 : FVec Ideal S1x256x256 .bf16)
    (v7 : FVec Ideal S1x1024x256 .bf16) (v10 : FVec Ideal S1x256x768 .bf16) (v12 : FVec Ideal S1x1024x768 .bf16)
    (v15 : FVec Ideal S1x256x512 .bf16) (v17 : FVec Ideal S1x1024x512 .bf16) (v20 : FVec Ideal S1x256x512 .bf16)
    (v22 : FVec Ideal S1x1024x512 .bf16) (v25 : FVec Ideal S1x256x768 .bf16) (v27 : FVec Ideal S1x1024x768 .bf16)
    (v30 : FVec Ideal S1x256x256 .bf16) (v32 : FVec Ideal S1x1024x256 .bf16) (v35 : FVec Ideal S1x256x1024 .bf16)
    (v37 : FVec Ideal S1x1024x1024 .bf16) (a : Fin 256) (k : Fin 1024) :
    k0_pay11 (F := Ideal) (k0_pay5 v0 v2) (k0_pay6 v5 v7) (k0_pay7 v10 v12) (k0_pay8 v15 v17) (k0_pay9 v20) (k0_pay10 v22)
        (constant S256x1024 .f32 0x00000000#32) v25 v27 v30 v32 v35 v37 (ix2 a k)
      = Norm.dot (fun l => v0 (ix3 0 a l)) (fun l => v2 (ix3 0 k l)) + Norm.dot (fun l => v5 (ix3 0 a l)) (fun l => v7 (ix3 0 k l))
        + Norm.dot (fun l => v10 (ix3 0 a l)) (fun l => v12 (ix3 0 k l)) + Norm.dot (fun l => v15 (ix3 0 a l)) (fun l => v17 (ix3 0 k l))
        + Norm.dot (fun l => v20 (ix3 0 a l)) (fun l => v22 (ix3 0 k l)) + Norm.dot (fun l => v25 (ix3 0 a l)) (fun l => v27 (ix3 0 k l))
        + Norm.dot (fun l => v30 (ix3 0 a l)) (fun l => v32 (ix3 0 k l)) + Norm.dot (fun l => v35 (ix3 0 a l)) (fun l => v37 (ix3 0 k l)) := by
  pointwise [k0_pay5, k0_pay6, k0_pay7, k0_pay8, k0_pay9, k0_pay10, k0_pay11, Norm.dot]

/-! ## The blocks -/

variable (m : (ℓ : Loc nD τ sig) → Buf (Elt Ideal) ℓ)

theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- Column `l` of the stretch of columns that begins at `lo`. -/
def col (lo w : ℕ) (h : lo + w ≤ 5120) (l : Fin w) : Fin 5120 := ⟨lo + l, by omega⟩

/-- The eight products are the product over all columns. -/
theorem sum_cols (f : Fin 5120 → EReal) : ∑ l, f l
    = (∑ l, f (col 0 1024 (by decide) l)) + (∑ l, f (col 1024 256 (by decide) l)) + (∑ l, f (col 1280 768 (by decide) l))
      + (∑ l, f (col 2048 512 (by decide) l)) + (∑ l, f (col 2560 512 (by decide) l)) + (∑ l, f (col 3072 768 (by decide) l))
      + (∑ l, f (col 3840 256 (by decide) l)) + ∑ l, f (col 4096 1024 (by decide) l) := by
  obtain ⟨F, hF⟩ : ∃ F : ℕ → EReal, ∀ l : Fin 5120, f l = F l :=
    ⟨fun n => if h : n < 5120 then f ⟨n, h⟩ else 0, fun l => by simp⟩
  have e (lo w : ℕ) : ∑ l : Fin w, F (lo + l) = ∑ n ∈ Finset.range w, F (lo + n) :=
    Fin.sum_univ_eq_sum_range (fun n => F (lo + n)) w
  simp only [hF, col, e, Fin.sum_univ_eq_sum_range F]
  rw [show 5120 = 1024 + 256 + 768 + 512 + 512 + 768 + 256 + 1024 from rfl]
  simp only [Finset.sum_range_add]
  simp only [Nat.reduceAdd, zero_add]

/-- The stacked sections of the cotangent: section 0 holds the columns from 3072. -/
theorem stack0 (c : Dev nD) (a : Fin 4096) (l : Fin 1024) :
    V m c main_v11 (ix3 0 a l) = m ((c : Thread nD τ).loc main_arg3) (ix2 a (col 3072 1024 (by decide) l)) := by
  show StableHlo.after hostOps0 _ (Proc.devRef .tc main_v11) _ = _
  after_results_simp
  dsimp only [Matrix.cons_val]
  unfold col
  pointwise []
  after_results_simp
  pointwise []

theorem stack1 (c : Dev nD) (a : Fin 4096) (l : Fin 1024) :
    V m c main_v11 (ix3 1 a l) = m ((c : Thread nD τ).loc main_arg3) (ix2 a (col 4096 1024 (by decide) l)) := by
  show StableHlo.after hostOps0 _ (Proc.devRef .tc main_v11) _ = _
  after_results_simp
  dsimp only [Matrix.cons_val]
  unfold col
  pointwise []
  after_results_simp
  pointwise []

theorem stack2 (c : Dev nD) (a : Fin 4096) (l : Fin 1024) :
    V m c main_v11 (ix3 2 a l) = m ((c : Thread nD τ).loc main_arg3) (ix2 a (col 0 1024 (by decide) l)) := by
  show StableHlo.after hostOps0 _ (Proc.devRef .tc main_v11) _ = _
  after_results_simp
  dsimp only [Matrix.cons_val]
  unfold col
  pointwise []
  after_results_simp
  pointwise []

theorem stack3 (c : Dev nD) (a : Fin 4096) (l : Fin 1024) :
    V m c main_v11 (ix3 3 a l) = m ((c : Thread nD τ).loc main_arg3) (ix2 a (col 1024 1024 (by decide) l)) := by
  show StableHlo.after hostOps0 _ (Proc.devRef .tc main_v11) _ = _
  after_results_simp
  dsimp only [Matrix.cons_val]
  unfold col
  pointwise []
  after_results_simp
  pointwise []

theorem stack4 (c : Dev nD) (a : Fin 4096) (l : Fin 1024) :
    V m c main_v11 (ix3 4 a l) = m ((c : Thread nD τ).loc main_arg3) (ix2 a (col 2048 1024 (by decide) l)) := by
  show StableHlo.after hostOps0 _ (Proc.devRef .tc main_v11) _ = _
  after_results_simp
  dsimp only [Matrix.cons_val]
  unfold col
  pointwise []
  after_results_simp
  pointwise []

theorem blk0 (c : Dev nD) (t : Fin cfg0.N) (q : Fin 5) (a : Fin 256) (l : Fin 1024) :
    iblk m c 0 t (ix3 q a l) = V m c main_v11 (ix3 q (Norm.row t a) l) := by
  unfold Norm.row
  blk_point [iblk, idx t]

theorem blk1 (c : Dev nD) (t : Fin cfg0.N) (q : Fin 4) (k : Fin 1024) (l : Fin 1280) :
    iblk m c 1 t (ix3 q k l) = m ((c : Thread nD τ).loc main_arg2) (ix2 k ⟨q * 1280 + l, by omega⟩) := by
  blk_point [iblk, V, idx t]

theorem blk2 (c : Dev nD) (t : Fin cfg0.N) (a : Fin 256) (k : Fin 1024) :
    iblk m c 2 t (ix2 a k) = m ((c : Thread nD τ).loc main_arg0) (ix2 (Norm.row t a) k) := by
  unfold Norm.row
  blk_point [iblk, V, idx t]

theorem blk3 (c : Dev nD) (t : Fin cfg0.N) (z : Fin 1) (k : Fin 1024) :
    iblk m c 3 t (ix2 z k) = m ((c : Thread nD τ).loc main_arg1) (ix2 z k) := by
  blk_point [iblk, V, idx t]

theorem blk4 (c : Dev nD) (t : Fin cfg0.N) (a : Fin 256) (k : Fin 1024) :
    iblk m c 4 t (ix2 a k) = m ((c : Thread nD τ).loc main_arg4) (ix2 (Norm.row t a) k) := by
  unfold Norm.row
  blk_point [iblk, V, idx t]

theorem at_col {n : ℕ} {f : FVec Ideal ⟨2, ![n, 5120]⟩ .f32} {a : Fin n} {l l' : Fin 5120} (h : l.val = l'.val) : f (ix2 a l) = f (ix2 a l') := by
  rw [Fin.ext h]

/-- The cotangent of the norm's output at a grid point, from the blocks. -/
theorem dxn_at (c : Dev nD) (t : Fin cfg0.N) (a : Fin 256) (k : Fin 1024) :
    k0_pay11 (F := Ideal) (k0_pay5 (View.ld (iblk m c 0 t) (Rect.unit ![2, 0, 0] ![1, 256, 1024] inb_S5x256x1024_S1x256x1024_2_0_0)) (View.ld (iblk m c 1 t) (Rect.unit ![0, 0, 0] ![1, 1024, 1024] inb_S4x1024x1280_S1x1024x1024_0_0_0)))
        (k0_pay6 (View.ld (iblk m c 0 t) (Rect.unit ![3, 0, 0] ![1, 256, 256] inb_S5x256x1024_S1x256x256_3_0_0)) (View.ld (iblk m c 1 t) (Rect.unit ![0, 0, 1024] ![1, 1024, 256] inb_S4x1024x1280_S1x1024x256_0_0_1024)))
        (k0_pay7 (View.ld (iblk m c 0 t) (Rect.unit ![3, 0, 256] ![1, 256, 768] inb_S5x256x1024_S1x256x768_3_0_256)) (View.ld (iblk m c 1 t) (Rect.unit ![1, 0, 0] ![1, 1024, 768] inb_S4x1024x1280_S1x1024x768_1_0_0)))
        (k0_pay8 (View.ld (iblk m c 0 t) (Rect.unit ![4, 0, 0] ![1, 256, 512] inb_S5x256x1024_S1x256x512_4_0_0)) (View.ld (iblk m c 1 t) (Rect.unit ![1, 0, 768] ![1, 1024, 512] inb_S4x1024x1280_S1x1024x512_1_0_768)))
        (k0_pay9 (View.ld (iblk m c 0 t) (Rect.unit ![4, 0, 512] ![1, 256, 512] inb_S5x256x1024_S1x256x512_4_0_512))) (k0_pay10 (View.ld (iblk m c 1 t) (Rect.unit ![2, 0, 0] ![1, 1024, 512] inb_S4x1024x1280_S1x1024x512_2_0_0)))
        (constant S256x1024 .f32 0x00000000#32)
        (View.ld (iblk m c 0 t) (Rect.unit ![0, 0, 0] ![1, 256, 768] inb_S5x256x1024_S1x256x768_0_0_0)) (View.ld (iblk m c 1 t) (Rect.unit ![2, 0, 512] ![1, 1024, 768] inb_S4x1024x1280_S1x1024x768_2_0_512))
        (View.ld (iblk m c 0 t) (Rect.unit ![0, 0, 768] ![1, 256, 256] inb_S5x256x1024_S1x256x256_0_0_768)) (View.ld (iblk m c 1 t) (Rect.unit ![3, 0, 0] ![1, 1024, 256] inb_S4x1024x1280_S1x1024x256_3_0_0))
        (View.ld (iblk m c 0 t) (Rect.unit ![1, 0, 0] ![1, 256, 1024] inb_S5x256x1024_S1x256x1024_1_0_0)) (View.ld (iblk m c 1 t) (Rect.unit ![3, 0, 256] ![1, 1024, 1024] inb_S4x1024x1280_S1x1024x1024_3_0_256)) (ix2 a k)
      = dxn (m ((c : Thread nD τ).loc main_arg2)) (m ((c : Thread nD τ).loc main_arg3)) (Norm.row t a) k := by
  rw [pay11_at]
  simp only [dxn, sum_cols]
  pointwise [Norm.dot]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  · refine Finset.sum_congr rfl fun x _ => congrArg₂ (· * ·) ((blk0 ..).trans ((stack2 ..).trans (at_col ?_))) ((blk1 ..).trans (at_col ?_)) <;>
      simp [col] <;> omega
  · refine Finset.sum_congr rfl fun x _ => congrArg₂ (· * ·) ((blk0 ..).trans ((stack3 ..).trans (at_col ?_))) ((blk1 ..).trans (at_col ?_)) <;>
      simp [col] <;> omega
  · refine Finset.sum_congr rfl fun x _ => congrArg₂ (· * ·) ((blk0 ..).trans ((stack3 ..).trans (at_col ?_))) ((blk1 ..).trans (at_col ?_)) <;>
      simp [col] <;> omega
  · refine Finset.sum_congr rfl fun x _ => congrArg₂ (· * ·) ((blk0 ..).trans ((stack4 ..).trans (at_col ?_))) ((blk1 ..).trans (at_col ?_)) <;>
      simp [col] <;> omega
  · refine Finset.sum_congr rfl fun x _ => congrArg₂ (· * ·) ((blk0 ..).trans ((stack4 ..).trans (at_col ?_))) ((blk1 ..).trans (at_col ?_)) <;>
      simp [col] <;> omega
  · refine Finset.sum_congr rfl fun x _ => congrArg₂ (· * ·) ((blk0 ..).trans ((stack0 ..).trans (at_col ?_))) ((blk1 ..).trans (at_col ?_)) <;>
      simp [col] <;> omega
  · refine Finset.sum_congr rfl fun x _ => congrArg₂ (· * ·) ((blk0 ..).trans ((stack0 ..).trans (at_col ?_))) ((blk1 ..).trans (at_col ?_)) <;>
      simp [col] <;> omega
  · refine Finset.sum_congr rfl fun x _ => congrArg₂ (· * ·) ((blk0 ..).trans ((stack1 ..).trans (at_col ?_))) ((blk1 ..).trans (at_col ?_)) <;>
      simp [col] <;> omega

/-! ## The two results -/

theorem final5 (c : Dev nD) : (dats m 0 c).arrAt 5 (cfgs 0).N
    = DH (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  obtain ⟨a, j, rfl⟩ : ∃ (a : Fin 256) (j : Fin 1024), y = ix2 a j := ⟨y 0, y 1, eq_ix2 y⟩
  have e : ((View.whole main_v15_0).slice (win0_5.rect t)).emb (ix2 a j) = (ix2 (Norm.row t a) j : S4096x1024.Idx) := by
    unfold Norm.row; blk_ext [idx t]
  rw [after0_5, e]
  by_cases ht : t.val % 16 = 0
  on_goal 1 => rw [outsAt0_A m c t ht]
  on_goal 2 => rw [outsAt0_B m c t ht]
  all_goals
    frame_out
    rw [pay2_at]
    refine congrArg₂ (· + ·) (blk4 ..) ?_
    show Norm.bwd _ _ _ _ = Norm.bwd _ _ _ _
    congr 1
    · funext k; exact blk2 ..
    · funext k; exact blk3 ..
    · funext k; exact dxn_at ..

theorem final6 (c : Dev nD) : (dats m 0 c).arrAt 6 (cfgs 0).N
    = DG (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) _
    (fun t h j => by rw [outsAt0_A m c t h]; frame_out; rw [pay4_at, pay3_at])
    (fun t h j => by rw [outsAt0_B m c t h]; frame_out; rw [pay4_at])
    (le_of_eq N_0) t0_15 rfl j, zero_add]
  rw [DG, Norm.sum_rows]
  refine Fin.sum_fin_congr fun t => Fin.sum_fin_congr fun a => ?_
  exact congrArg₂ (· * ·) (congrArg₂ (· * ·) (dxn_at ..) (blk2 ..)) (congrArg (fun x => Ideal.rsqrt (Norm.meanSq x)) (funext fun k => blk2 ..))

end Cert.MixXIdeal.Value

namespace Cert.MixXRefIdeal.Read

open Cert.MixXRefIdeal Cert.MixXRefIdeal.Gen

theorem ref0 (h : FVec Ideal S4096x1024 .f32) (g : FVec Ideal S1x1024 .f32) (w : FVec Ideal S1024x5120 .f32)
    (dz : FVec Ideal S4096x5120 .f32) (dh : FVec Ideal S4096x1024 .f32) :
    val_main_v39 (F := Ideal) h g w dz dh = Cert.MixXIdeal.Value.DH h g w dz dh := by
  funext i
  idx_vars i
  pointwise [val_main_v39, val_main_v37, val_main_v30, val_main_v29, val_main_v23, val_main_v18, val_main_v22, val_main_v14, val_main_v0, val_main_v28, val_main_v8, val_main_v7, val_main_v5, val_main_v3, val_main_v2, val_main_v1, val_main_cst, val_main_v4, val_main_cst_0, val_main_v6, val_main_cst_1, val_main_v36, val_main_v35, val_main_v34, val_main_v33, val_main_v31, val_main_v27, val_main_v26, val_main_v25, val_main_cst_5, val_main_v11, val_main_v10, val_main_cst_2, val_main_v9, val_main_v32, val_main_cst_6, val_main_cst_7, val_main_v38]
  simp only [Fin.sum_univ_one]
  exact Cert.Norm.bwd_eq (fun k => h (ix2 i0 k)) (fun k => g (ix2 0 k)) (Cert.MixXIdeal.Value.dxn w dz i0) i1 (dh (ix2 i0 i1))

theorem ref1 (h : FVec Ideal S4096x1024 .f32) (w : FVec Ideal S1024x5120 .f32) (dz : FVec Ideal S4096x5120 .f32) :
    val_main_v40 (F := Ideal) h w dz = Cert.MixXIdeal.Value.DG h w dz := by
  funext i
  idx_vars i
  pointwise [val_main_v40, val_main_v24, val_main_v21, val_main_v20, val_main_v19, val_main_v13, val_main_v12, val_main_v8, val_main_v7, val_main_v5, val_main_v3, val_main_v2, val_main_v1, val_main_cst, val_main_v4, val_main_cst_0, val_main_v6, val_main_cst_1, val_main_v18, val_main_cst_3, val_main_cst_4]
  simp only [Fin.sum_univ_one]
  exact Fin.sum_fin_congr fun r => by rw [mul_comm, ← mul_assoc]; rfl

end Cert.MixXRefIdeal.Read

end
-- ==== Proof.MixXClaim.lean ====
/- The value claim of the token mixer's first norm's gradient, from the two runs. -/
module

public import proofs.«01_k».proof.Defs
public import proofs.«01_k».proof.Proof.Gen.MixXIdeal.Frame
public import proofs.«01_k».proof.Proof.MixXValue
public import proofs.«01_k».proof.Proof.Gen.MixXRefIdeal.Run
public import Idealize.ShloMosaic.Lib.Claim

set_option maxRecDepth 16384

@[expose] public section

noncomputable section

namespace Cert.Proof

open Idealize.ShloMosaic Idealize.SL.Sem

theorem frame_mixXRef : Cert.quiescent_MixXRefIdeal (hMixXRefIdeal := Cert.MixXRefIdeal.Gen.facts) := fun m g _ =>
  (θ_run Cert.MixXRefIdeal.defs _ _).mono (fun r h => ⟨fun c => (h c).2.2, sem_eq_zero_of_no_sems (by decide) r.2⟩)
    (Cert.MixXRefIdeal.Value.run (F := Ideal) m g)

theorem algebraic_mixX : Cert.algebraic_MixXIdeal_MixXRefIdeal (hMixXIdeal := Cert.MixXIdeal.Gen.facts) (hMixXRefIdeal := Cert.MixXRefIdeal.Gen.facts) := by
  pair_intro
  · run_from Cert.MixXIdeal.Gen.run_main m g
  · run_from Cert.MixXRefIdeal.Value.run m' g'
    · rw [Cert.MixXRefIdeal.Read.val_main_v39_eq]
      simp only [hagree c]
      exact (Cert.MixXRefIdeal.Read.ref0 ..).trans (Cert.MixXIdeal.Value.final5 m c).symm
    · exact (Cert.MixXRefIdeal.Read.ref1 ..).trans (Cert.MixXIdeal.Value.final6 m c).symm

end Cert.Proof

end
-- ==== Proof.MixYValue.lean ====
module

public import proofs.«01_k».proof.Proof.Gen.MixYIdeal.Frame
public import proofs.«01_k».proof.Proof.Gen.MixYRefIdeal.Read
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixYIdeal.Value

open Cert.MixYIdeal Cert.MixYIdeal.Gen

/-- The logistic function as both programs write it. -/
def gate (x : EReal) : EReal :=
  Ideal.div (Ideal.ofBits .f32 0x3F800000#32) (Ideal.ofBits .f32 0x3F800000#32 + Ideal.exp (-x))

/-- One minus it. -/
def cogate (x : EReal) : EReal := Ideal.ofBits .f32 0x3F800000#32 - gate x

/-- The columns of the gates' sections. -/
def colA (k : Fin 1024) : Fin 5120 := ⟨3072 + k, by omega⟩
def colB (k : Fin 1024) : Fin 5120 := ⟨4096 + k, by omega⟩

/-- A branch's product with its output weight. -/
def branch (a : FVec Ideal S4096x1024 .f32) (w : FVec Ideal S1024x1024 .f32) (i : Fin 4096) (k : Fin 1024) : EReal :=
  ∑ l, a (ix2 i l) * w (ix2 l k)

variable (a b : FVec Ideal S4096x1024 .f32) (z : FVec Ideal S4096x5120 .f32) (wa wb wo : FVec Ideal S1024x1024 .f32)
  (g : FVec Ideal S1x1024 .f32) (dh : FVec Ideal S4096x1024 .f32)

/-- The gated sum of the two branches. -/
def mix (i : Fin 4096) (k : Fin 1024) : EReal :=
  gate (z (ix2 i (colA k))) * branch a wa i k + gate (z (ix2 i (colB k))) * branch b wb i k

/-- The output of the mixer's projection. -/
def out (i : Fin 4096) (k : Fin 1024) : EReal := ∑ l, mix a b z wa wb i l * wo (ix2 l k)

/-- The gradient of the projection's output. -/
def DM : FVec Ideal S4096x1024 .bf16 := fun i =>
  Norm.bwd (out a b z wa wb wo (i 0)) (fun k => g (ix2 0 k)) (fun k => dh (ix2 (i 0) k)) (i 1)

/-- The gradient of the gated sum. -/
def dmix (i : Fin 4096) (k : Fin 1024) : EReal := ∑ l, DM a b z wa wb wo g dh (ix2 i l) * wo (ix2 k l)

/-- The gradients of the two branches. -/
def DYA : FVec Ideal S4096x1024 .bf16 := fun i => dmix a b z wa wb wo g dh (i 0) (i 1) * gate (z (ix2 (i 0) (colA (i 1))))
def DYB : FVec Ideal S4096x1024 .bf16 := fun i => dmix a b z wa wb wo g dh (i 0) (i 1) * gate (z (ix2 (i 0) (colB (i 1))))

/-- The gradients of the gates' inputs. -/
def DGA (i : Fin 4096) (k : Fin 1024) : EReal :=
  dmix a b z wa wb wo g dh i k * branch a wa i k * gate (z (ix2 i (colA k))) * cogate (z (ix2 i (colA k)))
def DGB (i : Fin 4096) (k : Fin 1024) : EReal :=
  dmix a b z wa wb wo g dh i k * branch b wb i k * gate (z (ix2 i (colB k))) * cogate (z (ix2 i (colB k)))

/-- The gradients of the branches' inputs. -/
def DA : FVec Ideal S4096x1024 .bf16 := fun i => ∑ l, DYA a b z wa wb wo g dh (ix2 (i 0) l) * wa (ix2 (i 1) l)
def DB : FVec Ideal S4096x1024 .bf16 := fun i => ∑ l, DYB a b z wa wb wo g dh (ix2 (i 0) l) * wb (ix2 (i 1) l)

/-- The gradient of the norm's gain. -/
def DG : FVec Ideal S1x1024 .f32 := fun i =>
  ∑ r, dh (ix2 r (i 1)) * out a b z wa wb wo r (i 1) * Ideal.rsqrt (Norm.meanSq fun k => out a b z wa wb wo r k)

/-! ## What the body computes -/

theorem pay8_at (m : FVec Ideal S256x1024 .bf16) (g : FVec Ideal S1x1024 .f32) (dh : FVec Ideal S256x1024 .f32) (r : Fin 256) (j : Fin 1024) :
    k0_pay8 (F := Ideal) m g dh (ix2 r j) = Norm.bwd (fun k => m (ix2 r k)) (fun k => g (ix2 0 k)) (fun k => dh (ix2 r k)) j := by
  pointwise [k0_pay8, k0_pay6, k0_pay5, Norm.bwd, Norm.meanSq]

theorem pay9_at (j) : k0_pay9 (F := Ideal) j = 0 := by pointwise [k0_pay9]

theorem pay10_at (m : FVec Ideal S256x1024 .bf16) (dh : FVec Ideal S256x1024 .f32) (acc : FVec Ideal S1x1024 .f32) (j : S1x1024.Idx) :
    k0_pay10 (F := Ideal) (k0_pay7 m dh) acc j
      = acc j + ∑ r : Fin 256, dh (ix2 r (j 1)) * m (ix2 r (j 1)) * Ideal.rsqrt (Norm.meanSq fun k => m (ix2 r k)) := by
  pointwise [k0_pay10, k0_pay7, k0_pay6, k0_pay5, Norm.meanSq]

theorem pay11_at (dm : FVec Ideal S256x1024 .bf16) (w : FVec Ideal S1024x1024 .bf16) (r : Fin 256) (j : Fin 1024) :
    k0_pay11 (F := Ideal) dm w (ix2 r j) = ∑ l, dm (ix2 r l) * w (ix2 j l) := by pointwise [k0_pay11]

theorem pay12_at (x : FVec Ideal S256x1024 .bf16) (r : Fin 256) (j : Fin 1024) : k0_pay12 (F := Ideal) x (ix2 r j) = gate (x (ix2 r j)) := by
  pointwise [k0_pay12, gate]
  rw [zero_sub]

theorem pay13_at (x : FVec Ideal S256x1024 .bf16) (r : Fin 256) (j : Fin 1024) : k0_pay13 (F := Ideal) x (ix2 r j) = gate (x (ix2 r j)) := by
  pointwise [k0_pay13, gate]
  rw [zero_sub]

theorem pay3_at (dy : FVec Ideal S256x1024 .bf16) (w : FVec Ideal S1024x1024 .bf16) (r : Fin 256) (j : Fin 1024) :
    k0_pay3 (F := Ideal) dy w (ix2 r j) = ∑ l, dy (ix2 r l) * w (ix2 j l) := by pointwise [k0_pay3]

theorem pay4_at (dy : FVec Ideal S256x1024 .bf16) (w : FVec Ideal S1024x1024 .bf16) (r : Fin 256) (j : Fin 1024) :
    k0_pay4 (F := Ideal) dy w (ix2 r j) = ∑ l, dy (ix2 r l) * w (ix2 j l) := by pointwise [k0_pay4]

theorem pay1_at (dy sa : FVec Ideal S256x1024 .f32) (ya : FVec Ideal S256x1024 .bf16) (q : Fin 1) (r : Fin 256) (j : Fin 1024) :
    k0_pay1 (F := Ideal) dy sa (k0_pay16 ya) (ix3 q r j)
      = dy (ix2 r j) * ya (ix2 r j) * sa (ix2 r j) * (Ideal.ofBits .f32 0x3F800000#32 - sa (ix2 r j)) := by
  pointwise [k0_pay1, k0_pay16]

theorem pay2_at (dy sb : FVec Ideal S256x1024 .f32) (yb : FVec Ideal S256x1024 .bf16) (q : Fin 1) (r : Fin 256) (j : Fin 1024) :
    k0_pay2 (F := Ideal) dy sb yb (ix3 q r j)
      = dy (ix2 r j) * yb (ix2 r j) * sb (ix2 r j) * (Ideal.ofBits .f32 0x3F800000#32 - sb (ix2 r j)) := by
  pointwise [k0_pay2]

/-! ## The blocks -/

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 3]
    ∧ win0_7.index t = ![t.val, 4] ∧ win0_8.index t = ![0, 0] ∧ win0_9.index t = ![0, 0] ∧ win0_10.index t = ![t.val, 0]
    ∧ win0_11.index t = ![t.val, 0] ∧ win0_12.index t = ![t.val, 0] ∧ win0_13.index t = ![0, t.val, 0]
    ∧ win0_14.index t = ![t.val, 0] ∧ win0_15.index t = ![t.val, 0] ∧ win0_16.index t = ![0, 0] :=
  (by decide +kernel : ∀ t : Fin grid0.N, _)

theorem blk0 (c : Dev nD) (t : Fin cfg0.N) (r : Fin 256) (k : Fin 1024) :
    iblk m c 0 t (ix2 r k) = m ((c : Thread nD τ).loc main_arg7) (ix2 (Norm.row t r) k) := by
  unfold Norm.row; blk_point [iblk, V, idx t]

theorem blk2 (c : Dev nD) (t : Fin cfg0.N) (r : Fin 1) (k : Fin 1024) :
    iblk m c 2 t (ix2 r k) = m ((c : Thread nD τ).loc main_arg6) (ix2 r k) := by
  blk_point [iblk, V, idx t]

theorem blk3 (c : Dev nD) (t : Fin cfg0.N) (r k : Fin 1024) :
    iblk m c 3 t (ix2 r k) = m ((c : Thread nD τ).loc main_arg5) (ix2 r k) := by
  blk_point [iblk, V, idx t]

theorem blk8 (c : Dev nD) (t : Fin cfg0.N) (r k : Fin 1024) :
    iblk m c 8 t (ix2 r k) = m ((c : Thread nD τ).loc main_arg3) (ix2 r k) := by
  blk_point [iblk, V, idx t]

theorem blk9 (c : Dev nD) (t : Fin cfg0.N) (r k : Fin 1024) :
    iblk m c 9 t (ix2 r k) = m ((c : Thread nD τ).loc main_arg4) (ix2 r k) := by
  blk_point [iblk, V, idx t]

theorem blk6 (c : Dev nD) (t : Fin cfg0.N) (r : Fin 256) (k : Fin 1024) :
    iblk m c 6 t (ix2 r k) = m ((c : Thread nD τ).loc main_arg2) (ix2 (Norm.row t r) (colA k)) := by
  unfold Norm.row colA; blk_point [iblk, V, idx t]

theorem blk7 (c : Dev nD) (t : Fin cfg0.N) (r : Fin 256) (k : Fin 1024) :
    iblk m c 7 t (ix2 r k) = m ((c : Thread nD τ).loc main_arg2) (ix2 (Norm.row t r) (colB k)) := by
  unfold Norm.row colB; blk_point [iblk, V, idx t]

/-- What the forward pass saved. -/
theorem saved_ya (c : Dev nD) (i : Fin 4096) (k : Fin 1024) :
    V m c main_v22 (ix2 i k) = branch (m ((c : Thread nD τ).loc main_arg0)) (m ((c : Thread nD τ).loc main_arg3)) i k := by
  show StableHlo.after hostOps0 _ (Proc.devRef .tc main_v22) _ = _
  after_results_simp
  pointwise [branch]

theorem saved_yb (c : Dev nD) (i : Fin 4096) (k : Fin 1024) :
    V m c main_v23 (ix2 i k) = branch (m ((c : Thread nD τ).loc main_arg1)) (m ((c : Thread nD τ).loc main_arg4)) i k := by
  show StableHlo.after hostOps0 _ (Proc.devRef .tc main_v23) _ = _
  after_results_simp
  pointwise [branch]

theorem saved_m (c : Dev nD) (i : Fin 4096) (k : Fin 1024) :
    V m c main_v20 (ix2 i k) = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) i k := by
  show StableHlo.after hostOps0 _ (Proc.devRef .tc main_v20) _ = _
  after_results_simp
  pointwise [out, mix, branch, gate, colA, colB]

theorem blk4 (c : Dev nD) (t : Fin cfg0.N) (r : Fin 256) (k : Fin 1024) :
    iblk m c 4 t (ix2 r k) = V m c main_v22 (ix2 (Norm.row t r) k) := by
  unfold Norm.row; blk_point [iblk, idx t]

theorem blk5 (c : Dev nD) (t : Fin cfg0.N) (r : Fin 256) (k : Fin 1024) :
    iblk m c 5 t (ix2 r k) = V m c main_v23 (ix2 (Norm.row t r) k) := by
  unfold Norm.row; blk_point [iblk, idx t]

theorem blk1 (c : Dev nD) (t : Fin cfg0.N) (r : Fin 256) (k : Fin 1024) :
    iblk m c 1 t (ix2 r k) = V m c main_v20 (ix2 (Norm.row t r) k) := by
  unfold Norm.row; blk_point [iblk, idx t]

/-! ## The values at a grid point -/

theorem dm_at (c : Dev nD) (t : Fin cfg0.N) (r : Fin 256) (j : Fin 1024) :
    k0_pay8 (F := Ideal) (iblk m c 1 t) (iblk m c 2 t) (iblk m c 0 t) (ix2 r j)
      = DM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (Norm.row t r) j) := by
  rw [pay8_at]
  show Norm.bwd _ _ _ _ = Norm.bwd _ _ _ _
  congr 1
  · funext k; exact (blk1 ..).trans (saved_m ..)
  · funext k; exact blk2 ..
  · funext k; exact blk0 ..

theorem dmix_at (c : Dev nD) (t : Fin cfg0.N) (r : Fin 256) (j : Fin 1024) :
    k0_pay11 (F := Ideal) (k0_pay8 (F := Ideal) (iblk m c 1 t) (iblk m c 2 t) (iblk m c 0 t)) (iblk m c 3 t) (ix2 r j)
      = dmix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (Norm.row t r) j := by
  rw [pay11_at]
  exact Finset.sum_congr rfl fun l _ => congrArg₂ (· * ·) (dm_at ..) (blk3 ..)

theorem gateA_at (c : Dev nD) (t : Fin cfg0.N) (r : Fin 256) (j : Fin 1024) :
    k0_pay12 (F := Ideal) (iblk m c 6 t) (ix2 r j) = gate (m ((c : Thread nD τ).loc main_arg2) (ix2 (Norm.row t r) (colA j))) := by
  rw [pay12_at]; exact congrArg gate (blk6 ..)

theorem gateB_at (c : Dev nD) (t : Fin cfg0.N) (r : Fin 256) (j : Fin 1024) :
    k0_pay13 (F := Ideal) (iblk m c 7 t) (ix2 r j) = gate (m ((c : Thread nD τ).loc main_arg2) (ix2 (Norm.row t r) (colB j))) := by
  rw [pay13_at]; exact congrArg gate (blk7 ..)

theorem dya_at (c : Dev nD) (t : Fin cfg0.N) (r : Fin 256) (j : Fin 1024) :
    k0_pay14 (F := Ideal) (k0_pay8 (F := Ideal) (iblk m c 1 t) (iblk m c 2 t) (iblk m c 0 t)) (iblk m c 3 t) (iblk m c 6 t) (ix2 r j)
      = DYA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (Norm.row t r) j) :=
  congrArg₂ (· * ·) (dmix_at ..) (gateA_at ..)

theorem dyb_at (c : Dev nD) (t : Fin cfg0.N) (r : Fin 256) (j : Fin 1024) :
    k0_pay15 (F := Ideal) (k0_pay8 (F := Ideal) (iblk m c 1 t) (iblk m c 2 t) (iblk m c 0 t)) (iblk m c 3 t) (iblk m c 7 t) (ix2 r j)
      = DYB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (Norm.row t r) j) :=
  congrArg₂ (· * ·) (dmix_at ..) (gateB_at ..)

theorem da_at (c : Dev nD) (t : Fin cfg0.N) (r : Fin 256) (j : Fin 1024) :
    k0_pay3 (F := Ideal) (k0_pay14 (F := Ideal) (k0_pay8 (F := Ideal) (iblk m c 1 t) (iblk m c 2 t) (iblk m c 0 t)) (iblk m c 3 t) (iblk m c 6 t)) (iblk m c 8 t) (ix2 r j)
      = DA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (Norm.row t r) j) := by
  rw [pay3_at]
  exact Finset.sum_congr rfl fun l _ => congrArg₂ (· * ·) (dya_at ..) (blk8 ..)

theorem db_at (c : Dev nD) (t : Fin cfg0.N) (r : Fin 256) (j : Fin 1024) :
    k0_pay4 (F := Ideal) (k0_pay15 (F := Ideal) (k0_pay8 (F := Ideal) (iblk m c 1 t) (iblk m c 2 t) (iblk m c 0 t)) (iblk m c 3 t) (iblk m c 7 t)) (iblk m c 9 t) (ix2 r j)
      = DB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (Norm.row t r) j) := by
  rw [pay4_at]
  exact Finset.sum_congr rfl fun l _ => congrArg₂ (· * ·) (dyb_at ..) (blk9 ..)

theorem dga_at (c : Dev nD) (t : Fin cfg0.N) (q : Fin 1) (r : Fin 256) (j : Fin 1024) :
    k0_pay1 (F := Ideal) (k0_pay11 (k0_pay8 (iblk m c 1 t) (iblk m c 2 t) (iblk m c 0 t)) (iblk m c 3 t)) (k0_pay12 (iblk m c 6 t))
        (k0_pay16 (iblk m c 4 t)) (ix3 q r j)
      = DGA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (Norm.row t r) j := by
  rw [pay1_at]
  exact congrArg₂ (· * ·) (congrArg₂ (· * ·) (congrArg₂ (· * ·) (dmix_at ..) ((blk4 ..).trans (saved_ya ..))) (gateA_at ..))
    (congrArg (fun x => Ideal.ofBits .f32 0x3F800000#32 - x) (gateA_at ..))

theorem dgb_at (c : Dev nD) (t : Fin cfg0.N) (q : Fin 1) (r : Fin 256) (j : Fin 1024) :
    k0_pay2 (F := Ideal) (k0_pay11 (k0_pay8 (iblk m c 1 t) (iblk m c 2 t) (iblk m c 0 t)) (iblk m c 3 t)) (k0_pay13 (iblk m c 7 t))
        (iblk m c 5 t) (ix3 q r j)
      = DGB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (Norm.row t r) j := by
  rw [pay2_at]
  exact congrArg₂ (· * ·) (congrArg₂ (· * ·) (congrArg₂ (· * ·) (dmix_at ..) ((blk5 ..).trans (saved_yb ..))) (gateB_at ..))
    (congrArg (fun x => Ideal.ofBits .f32 0x3F800000#32 - x) (gateB_at ..))

/-! ## The results -/

theorem final10 (c : Dev nD) : (dats m 0 c).arrAt 10 (cfgs 0).N = DM
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  obtain ⟨r, j, rfl⟩ : ∃ (r : Fin 256) (j : Fin 1024), y = ix2 r j := ⟨y 0, y 1, eq_ix2 y⟩
  have e : ((View.whole main_v27_0).slice (win0_10.rect t)).emb (ix2 r j) = (ix2 (Norm.row t r) j : S4096x1024.Idx) := by
    unfold Norm.row; blk_ext [idx t]
  rw [after0_10, e]
  by_cases ht : t.val % 16 = 0
  on_goal 1 => rw [outsAt0_A m c t ht]
  on_goal 2 => rw [outsAt0_B m c t ht]
  all_goals
    frame_out
    exact dm_at ..

theorem final11 (c : Dev nD) : (dats m 0 c).arrAt 11 (cfgs 0).N = DYA
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  obtain ⟨r, j, rfl⟩ : ∃ (r : Fin 256) (j : Fin 1024), y = ix2 r j := ⟨y 0, y 1, eq_ix2 y⟩
  have e : ((View.whole main_v27_1).slice (win0_11.rect t)).emb (ix2 r j) = (ix2 (Norm.row t r) j : S4096x1024.Idx) := by
    unfold Norm.row; blk_ext [idx t]
  rw [after0_11, e]
  by_cases ht : t.val % 16 = 0
  on_goal 1 => rw [outsAt0_A m c t ht]
  on_goal 2 => rw [outsAt0_B m c t ht]
  all_goals
    frame_out
    exact dya_at ..

theorem final12 (c : Dev nD) : (dats m 0 c).arrAt 12 (cfgs 0).N = DYB
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  obtain ⟨r, j, rfl⟩ : ∃ (r : Fin 256) (j : Fin 1024), y = ix2 r j := ⟨y 0, y 1, eq_ix2 y⟩
  have e : ((View.whole main_v27_2).slice (win0_12.rect t)).emb (ix2 r j) = (ix2 (Norm.row t r) j : S4096x1024.Idx) := by
    unfold Norm.row; blk_ext [idx t]
  rw [after0_12, e]
  by_cases ht : t.val % 16 = 0
  on_goal 1 => rw [outsAt0_A m c t ht]
  on_goal 2 => rw [outsAt0_B m c t ht]
  all_goals
    frame_out
    exact dyb_at ..

theorem final14 (c : Dev nD) : (dats m 0 c).arrAt 14 (cfgs 0).N = DA
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 14 _ (by decide +kernel) fun t _ y => ?_
  blk_simp
  obtain ⟨r, j, rfl⟩ : ∃ (r : Fin 256) (j : Fin 1024), y = ix2 r j := ⟨y 0, y 1, eq_ix2 y⟩
  have e : ((View.whole main_v27_4).slice (win0_14.rect t)).emb (ix2 r j) = (ix2 (Norm.row t r) j : S4096x1024.Idx) := by
    unfold Norm.row; blk_ext [idx t]
  rw [after0_14, e]
  by_cases ht : t.val % 16 = 0
  on_goal 1 => rw [outsAt0_A m c t ht]
  on_goal 2 => rw [outsAt0_B m c t ht]
  all_goals
    frame_out
    exact da_at ..

theorem final15 (c : Dev nD) : (dats m 0 c).arrAt 15 (cfgs 0).N = DB
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t _ y => ?_
  blk_simp
  obtain ⟨r, j, rfl⟩ : ∃ (r : Fin 256) (j : Fin 1024), y = ix2 r j := ⟨y 0, y 1, eq_ix2 y⟩
  have e : ((View.whole main_v27_5).slice (win0_15.rect t)).emb (ix2 r j) = (ix2 (Norm.row t r) j : S4096x1024.Idx) := by
    unfold Norm.row; blk_ext [idx t]
  rw [after0_15, e]
  by_cases ht : t.val % 16 = 0
  on_goal 1 => rw [outsAt0_A m c t ht]
  on_goal 2 => rw [outsAt0_B m c t ht]
  all_goals
    frame_out
    exact db_at ..

theorem final16 (c : Dev nD) : (dats m 0 c).arrAt 16 (cfgs 0).N = DG
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.2) 16 (fun _ => 0) _
    (fun t h j => by rw [outsAt0_A m c t h]; frame_out; rw [pay10_at, pay9_at])
    (fun t h j => by rw [outsAt0_B m c t h]; frame_out; rw [pay10_at])
    (le_of_eq N_0) t0_15 rfl j, zero_add]
  rw [DG, Norm.sum_rows]
  refine Fin.sum_fin_congr fun t => Fin.sum_fin_congr fun a => ?_
  exact congrArg₂ (· * ·) (congrArg₂ (· * ·) (blk0 ..) ((blk1 ..).trans (saved_m ..)))
    (congrArg (fun x => Ideal.rsqrt (Norm.meanSq x)) (funext fun k => (blk1 ..).trans (saved_m ..)))

/-- The gates' gradients, one after the other. -/
def DZ (m : (ℓ : Loc nD τ sig) → Buf (Elt Ideal) ℓ) (c : Dev nD) : FVec Ideal S5x4096x1024 .bf16 := fun i =>
  if (i 0).val = 0 then DGA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 1) (i 2)
  else DGB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 1) (i 2)

/-- Where an element of the gates' block lies in the array. -/
theorem emb_dz (t : Fin cfg0.N) (y : ((cfg0.win 13).xblock (cfg0.grid.coords t)).Idx) (q : Fin 5) (r : Fin 256) (j : Fin 1024)
    (h0 : (y 0).val = q.val) (h1 : (y 1).val = r.val) (h2 : (y 2).val = j.val) :
    ((View.whole main_v27_3).slice (win0_13.rect t)).emb y = (ix3 q (Norm.row t r) j : S5x4096x1024.Idx) := by
  unfold Norm.row
  blk_ext [idx t]
  all_goals omega

theorem final13 (c : Dev nD) : (dats m 0 c).arrAt 13 (cfgs 0).N = fun i => if (i 0).val < 2 then DZ m c i else V m c main_v27_3 i := by
  refine (dats m 0 c).arrAt_eq_of_coversWhere 13 _ (fun β => β 0 < 1) (by decide +kernel) (fun t hf y => ?_)
    (fun j => by blk_simp [Pipeline.Window.cell_apply]; omega)
  blk_simp
  rw [after0_13]
  by_cases ht : t.val % 16 = 0
  on_goal 1 => rw [outsAt0_A m c t ht]
  on_goal 2 => rw [outsAt0_B m c t ht]
  all_goals
    frame_out
    canon_tiles x h
    all_goals obtain ⟨q, r, j, rfl⟩ : ∃ (q : Fin 1) (r : Fin 256) (j : Fin 1024), x = ix3 q r j := ⟨x 0, x 1, x 2, eq_ix3 x⟩
    · exact (congrArg (DZ m c) (emb_dz t y 1 r j (h0.trans (by have := q.isLt; show 1 + q.val = 1; omega)) h1 h2)).trans (dgb_at m c t q r j).symm |>.symm
    · exact (congrArg (DZ m c) (emb_dz t y 0 r j (h0.trans (by have := q.isLt; show q.val = 0; omega)) h1 h2)).trans (dga_at m c t q r j).symm |>.symm

end Cert.MixYIdeal.Value

namespace Cert.MixYRefIdeal.Read

open Cert.MixYRefIdeal Cert.MixYRefIdeal.Gen
open Cert.MixYIdeal.Value (gate cogate colA colB branch mix out DM dmix DYA DYB DGA DGB DA DB DG)

variable (a b : FVec Ideal S4096x1024 .f32) (z : FVec Ideal S4096x5120 .f32) (wa wb wo : FVec Ideal S1024x1024 .f32)
    (g : FVec Ideal S1x1024 .f32) (dh : FVec Ideal S4096x1024 .f32)

theorem ref_gateA (i : Fin 4096) (k : Fin 1024) : val_main_v9 (F := Ideal) z (ix2 i k) = gate (z (ix2 i (colA k))) := by
  pointwise [val_main_v9, val_main_v8, val_main_v7, val_main_v6, val_main_v5, val_main_v4, val_main_v0, val_main_cst, val_main_cst_0, gate, colA]

theorem ref_gateB (i : Fin 4096) (k : Fin 1024) : val_main_v19 (F := Ideal) z (ix2 i k) = gate (z (ix2 i (colB k))) := by
  pointwise [val_main_v19, val_main_v18, val_main_v17, val_main_v16, val_main_v15, val_main_v14, val_main_v1, val_main_cst_2, val_main_cst_3, gate, colB]

theorem ref_ya (i : Fin 4096) (k : Fin 1024) : val_main_v2 (F := Ideal) a wa (ix2 i k) = branch a wa i k := by
  pointwise [val_main_v2, branch]

theorem ref_yb (i : Fin 4096) (k : Fin 1024) : val_main_v3 (F := Ideal) b wb (ix2 i k) = branch b wb i k := by
  pointwise [val_main_v3, branch]

theorem ref_out (i : Fin 4096) (k : Fin 1024) : val_main_v25 (F := Ideal) a b z wa wb wo (ix2 i k) = out a b z wa wb wo i k := by
  pointwise [val_main_v25, val_main_v24, val_main_v23, val_main_v13, ref_gateA, ref_gateB, ref_ya, ref_yb, out, mix]

theorem ref_dm : val_main_v62 (F := Ideal) a b z wa wb wo g dh = DM a b z wa wb wo g dh := by
  funext i
  idx_vars i
  pointwise [val_main_v62, val_main_v61, val_main_v60, val_main_v59, val_main_v58, val_main_v57, val_main_v56, val_main_v55, val_main_v54, val_main_v53, val_main_v52, val_main_v51, val_main_v50, val_main_v49, val_main_v47, val_main_v46, val_main_v40, val_main_v38, val_main_v37, val_main_v36, val_main_v35, val_main_v34, val_main_v33, val_main_v32, val_main_v31, val_main_v30, val_main_v29, val_main_v28, val_main_v27, val_main_v26, val_main_cst_5, val_main_cst_6, val_main_cst_7, val_main_cst_8, val_main_cst_11, val_main_cst_12, val_main_cst_13, ref_out]
  simp only [Fin.sum_univ_one]
  have h := Cert.Norm.bwd_eq (out a b z wa wb wo i0) (fun k => g (ix2 0 k)) (fun k => dh (ix2 i0 k)) i1 0
  rw [zero_add, zero_add] at h
  exact h

theorem ref_dmix (i : Fin 4096) (k : Fin 1024) : val_main_v64 (F := Ideal) a b z wa wb wo g dh (ix2 i k) = dmix a b z wa wb wo g dh i k := by
  unfold val_main_v64
  rw [ref_dm]
  pointwise [dmix]

theorem ref_dya : val_main_v68 (F := Ideal) a b z wa wb wo g dh = DYA a b z wa wb wo g dh := by
  funext i
  idx_vars i
  exact (congrArg₂ (· * ·) (ref_gateA ..) (ref_dmix ..)).trans (mul_comm _ _)

theorem ref_dyb : val_main_v65 (F := Ideal) a b z wa wb wo g dh = DYB a b z wa wb wo g dh := by
  funext i
  idx_vars i
  exact (congrArg₂ (· * ·) (ref_gateB ..) (ref_dmix ..)).trans (mul_comm _ _)

theorem ref_da : val_main_v71 (F := Ideal) a b z wa wb wo g dh = DA a b z wa wb wo g dh := by
  funext i
  idx_vars i
  unfold val_main_v71
  rw [ref_dya]
  pointwise [DA]

theorem ref_db : val_main_v72 (F := Ideal) a b z wa wb wo g dh = DB a b z wa wb wo g dh := by
  funext i
  idx_vars i
  unfold val_main_v72
  rw [ref_dyb]
  pointwise [DB]

theorem ref_dga (i : Fin 4096) (k : Fin 1024) : val_main_v70 (F := Ideal) a b z wa wb wo g dh (ix2 i k) = DGA a b z wa wb wo g dh i k := by
  refine (congrArg₂ (· * ·) (congrArg₂ (· * ·) (ref_dmix ..) (ref_ya ..)) (congrArg₂ (· * ·) (ref_gateA ..)
    (congrArg (fun x => Ideal.ofBits .f32 0x3F800000#32 - x) (ref_gateA ..)))).trans (mul_assoc _ _ _).symm

theorem ref_dgb (i : Fin 4096) (k : Fin 1024) : val_main_v67 (F := Ideal) a b z wa wb wo g dh (ix2 i k) = DGB a b z wa wb wo g dh i k := by
  refine (congrArg₂ (· * ·) (congrArg₂ (· * ·) (ref_dmix ..) (ref_yb ..)) (congrArg₂ (· * ·) (ref_gateB ..)
    (congrArg (fun x => Ideal.ofBits .f32 0x3F800000#32 - x) (ref_gateB ..)))).trans (mul_assoc _ _ _).symm

theorem ref_dz (q : Fin 5) (i : Fin 4096) (k : Fin 1024) (hq : q.val < 2) : val_main_v81 (F := Ideal) a b z wa wb wo g dh (ix3 q i k)
    = if q.val = 0 then DGA a b z wa wb wo g dh i k else DGB a b z wa wb wo g dh i k := by
  pointwise [val_main_v81, val_main_v77, val_main_v75, val_main_v74, val_main_v73]
  rw [dif_pos hq]
  by_cases h : q.val = 0
  · rw [dif_pos (by omega), if_pos h]; exact ref_dga ..
  · rw [dif_neg (by omega), if_neg h]; exact ref_dgb ..

theorem ref_dg : val_main_v63 (F := Ideal) a b z wa wb wo dh = DG a b z wa wb wo dh := by
  funext i
  idx_vars i
  pointwise [val_main_v63, val_main_v48, val_main_v45, val_main_v44, val_main_v43, val_main_v39, val_main_v38, val_main_v34, val_main_v33, val_main_v32, val_main_v31, val_main_v30, val_main_v29, val_main_v28, val_main_v27, val_main_cst_5, val_main_cst_6, val_main_cst_7, val_main_cst_9, val_main_cst_10, ref_out]
  simp only [Fin.sum_univ_one]
  exact Fin.sum_fin_congr fun r => by rw [mul_comm, ← mul_assoc]; rfl

end Cert.MixYRefIdeal.Read

end
-- ==== Proof.MixYClaim.lean ====
/- The value claim of the mixer's output stage's gradient, from the two runs. -/
module

public import proofs.«01_k».proof.Defs
public import proofs.«01_k».proof.Proof.Gen.MixYIdeal.Value
public import proofs.«01_k».proof.Proof.MixYValue
public import proofs.«01_k».proof.Proof.Gen.MixYRefIdeal.Run
public import Idealize.ShloMosaic.Lib.Claim

set_option maxRecDepth 16384

@[expose] public section

noncomputable section

namespace Cert.Proof

open Idealize.ShloMosaic Idealize.SL.Sem

theorem frame_mixYRef : Cert.quiescent_MixYRefIdeal (hMixYRefIdeal := Cert.MixYRefIdeal.Gen.facts) := fun m g _ =>
  (θ_run Cert.MixYRefIdeal.defs _ _).mono (fun r h => ⟨fun c => (h c).2.2.2.2.2.2.2, sem_eq_zero_of_no_sems (by decide) r.2⟩)
    (Cert.MixYRefIdeal.Value.run (F := Ideal) m g)

theorem facts_gates_written : Cert.On_gates_written.Facts := ⟨by decide, by decide, by decide⟩

instance inst_gates_written : Cert.On_gates_written.Facts := facts_gates_written

/-- The array of gradients is claimed at its first two slots, the gates'. -/
theorem slot_lt (a b : FVec Ideal Cert.On_gates_written.S4096x1024 .f32) (z : FVec Ideal Cert.On_gates_written.S4096x5120 .f32)
    (wa wb wo : FVec Ideal Cert.On_gates_written.S1024x1024 .f32) (g : FVec Ideal Cert.On_gates_written.S1x1024 .f32)
    (dh : FVec Ideal Cert.On_gates_written.S4096x1024 .f32) (i : (⟨3, ![5, 4096, 1024]⟩ : Shape).Idx)
    (h : (Cert.On_gates_written.fn (F := Ideal) a b z wa wb wo g dh).2.2.2.1 i = 1#1) : (i 0).val < 2 := by
  have key : ∀ q : Fin 5, IntOp.cmpi .slt (BitVec.ofNat 32 q.val) 2#32 = 1#1 → q.val < 2 := by decide
  exact key (i 0) h

theorem algebraic_mixY : Cert.algebraic_MixYIdeal_MixYRefIdeal_on_gates_written (hMixYIdeal := Cert.MixYIdeal.Gen.facts)
    (hMixYRefIdeal := Cert.MixYRefIdeal.Gen.facts) (hOn_gates_written := facts_gates_written) := by
  intro m g m' g' _ hagree
  refine ⟨fun c => Cert.MixYIdeal.Value.DM (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7)),
    fun c => Cert.MixYIdeal.Value.DYA (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7)),
    fun c => Cert.MixYIdeal.Value.DYB (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7)),
    Cert.MixYIdeal.Value.DZ m,
    fun c => Cert.MixYIdeal.Value.DA (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7)),
    fun c => Cert.MixYIdeal.Value.DB (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg6)) (m ((c.tc : Thread Cert.MixYIdeal.nD Cert.MixYIdeal.τ).loc Cert.MixYIdeal.main_arg7)),
    fun c => Cert.MixYIdeal.Value.DG (m ((c.tc : Thread Cert.MixYIdeal.nD Cert.MixYIdeal.τ).loc Cert.MixYIdeal.main_arg0)) (m ((c.tc : Thread Cert.MixYIdeal.nD Cert.MixYIdeal.τ).loc Cert.MixYIdeal.main_arg1)) (m ((c.tc : Thread Cert.MixYIdeal.nD Cert.MixYIdeal.τ).loc Cert.MixYIdeal.main_arg2)) (m ((c.tc : Thread Cert.MixYIdeal.nD Cert.MixYIdeal.τ).loc Cert.MixYIdeal.main_arg3)) (m ((c.tc : Thread Cert.MixYIdeal.nD Cert.MixYIdeal.τ).loc Cert.MixYIdeal.main_arg4)) (m ((c.tc : Thread Cert.MixYIdeal.nD Cert.MixYIdeal.τ).loc Cert.MixYIdeal.main_arg5)) (m ((c.tc : Thread Cert.MixYIdeal.nD Cert.MixYIdeal.τ).loc Cert.MixYIdeal.main_arg7)),
    ?_, ?_⟩
  · refine (θ_run Cert.MixYIdeal.defs _ _).mono (fun r h c => ?_) (Cert.MixYIdeal.Value.run_blocks (F := Ideal) m g)
    obtain ⟨h0, h1, h2, h3, h4, h5, h6, hrest⟩ := h c
    exact ⟨fun i _ => congrFun (h0.trans (Cert.MixYIdeal.Value.final10 m c)) i,
      fun i _ => congrFun (h1.trans (Cert.MixYIdeal.Value.final11 m c)) i,
      fun i _ => congrFun (h2.trans (Cert.MixYIdeal.Value.final12 m c)) i,
      fun i hi => (congrFun (h3.trans (Cert.MixYIdeal.Value.final13 m c)) i).trans (if_pos (slot_lt _ _ _ _ _ _ _ _ i hi)),
      fun i _ => congrFun (h4.trans (Cert.MixYIdeal.Value.final14 m c)) i,
      fun i _ => congrFun (h5.trans (Cert.MixYIdeal.Value.final15 m c)) i,
      fun i _ => congrFun (h6.trans (Cert.MixYIdeal.Value.final16 m c)) i, hrest⟩
  · refine (θ_run Cert.MixYRefIdeal.defs _ _).mono (fun r h c => ?_) (Cert.MixYRefIdeal.Value.run (F := Ideal) m' g')
    obtain ⟨h0, h1, h2, h3, h4, h5, h6, hrest⟩ := h c
    rw [Cert.MixYRefIdeal.Read.val_main_v78_eq] at h0
    rw [Cert.MixYRefIdeal.Read.val_main_v79_eq] at h1
    rw [Cert.MixYRefIdeal.Read.val_main_v80_eq] at h2
    rw [Cert.MixYRefIdeal.Read.val_main_v81_eq] at h3
    rw [Cert.MixYRefIdeal.Read.val_main_v82_eq] at h4
    rw [Cert.MixYRefIdeal.Read.val_main_v83_eq] at h5
    rw [Cert.MixYRefIdeal.Read.val_main_v63_eq] at h6
    simp only [hagree c] at h0 h1 h2 h3 h4 h5 h6
    refine ⟨fun i _ => congrFun (h0.trans (Cert.MixYRefIdeal.Read.ref_dm ..)) i, fun i _ => congrFun (h1.trans (Cert.MixYRefIdeal.Read.ref_dya ..)) i,
      fun i _ => congrFun (h2.trans (Cert.MixYRefIdeal.Read.ref_dyb ..)) i, fun i hi => (congrFun h3 i).trans ?_,
      fun i _ => congrFun (h4.trans (Cert.MixYRefIdeal.Read.ref_da ..)) i, fun i _ => congrFun (h5.trans (Cert.MixYRefIdeal.Read.ref_db ..)) i,
      fun i _ => congrFun (h6.trans (Cert.MixYRefIdeal.Read.ref_dg ..)) i, hrest⟩
    have hs := slot_lt _ _ _ _ _ _ _ _ i hi
    rw [eq_ix3 i]
    exact Cert.MixYRefIdeal.Read.ref_dz (hq := hs) ..

end Cert.Proof

end
-- ==== Proof.Finite.lean ====
/-
  Finite extended reals: what the preconditions say of an array, and the arithmetic under which real numbers stay real.
-/
module

public import Idealize.ShloMosaic.Lib.Pointwise
public import Idealize.ShloMosaic.Lib.ReduceAll

@[expose] public section

noncomputable section

namespace Cert.Fin

open Idealize.ShloMosaic

/-- A real number among the extended reals. -/
def Re (x : EReal) : Prop := ∃ r : ℝ, x = (r : EReal)

theorem wInf : Ideal.ofBits .f32 0x7F800000#32 = ⊤ := by
  simp [Ideal.ofBits, Ideal.ieee]

/-- An absolute value below infinity. -/
theorem re_of_abs {x : EReal} (h : Ideal.cmp .olt (max x (-x)) (Ideal.ofBits .f32 0x7F800000#32) = 1#1) : Re x := by
  rw [wInf] at h
  induction x with
  | bot => simp [Ideal.cmp] at h
  | top => simp [Ideal.cmp] at h
  | coe r => exact ⟨r, rfl⟩

/-- An array all of whose absolute values are below infinity, the test being one reduction by `and`. -/
theorem re_of_all {s t u : Shape} {axes : List (_root_.Fin s.rank)} [Subsingleton t.Idx] (x : FVec Ideal s .f32) (b : FVec Ideal s .f32)
    (hb : ∀ i, b i = Ideal.ofBits .f32 0x7F800000#32) (init : u.Idx → BitVec 1)
    (h : s.ReducesTo axes t) (hu : 0 < u.numel) (j : t.Idx)
    (e : Host.reduce IntOp.andi (cmpf .olt (Host.absf x) b) init h hu j = 1#1) (i : s.Idx) : Re (x i) := by
  have := Host.reduce_andi_all _ init h hu j e i
  refine re_of_abs ?_
  rw [← hb i]
  exact this

theorem Re.coe (r : ℝ) : Re (r : EReal) := ⟨r, rfl⟩

theorem Re.zero : Re 0 := ⟨0, rfl⟩

theorem Re.add {x y : EReal} : Re x → Re y → Re (x + y) := by
  rintro ⟨a, rfl⟩ ⟨b, rfl⟩; exact ⟨a + b, by push_cast; rfl⟩

theorem Re.mul {x y : EReal} : Re x → Re y → Re (x * y) := by
  rintro ⟨a, rfl⟩ ⟨b, rfl⟩; exact ⟨a * b, by push_cast; rfl⟩

theorem Re.neg {x : EReal} : Re x → Re (-x) := by
  rintro ⟨a, rfl⟩; exact ⟨-a, by push_cast; rfl⟩

theorem Re.sub {x y : EReal} (hx : Re x) (hy : Re y) : Re (x - y) := hx.add hy.neg

theorem Re.sum {ι : Type} {s : Finset ι} {f : ι → EReal} (h : ∀ i ∈ s, Re (f i)) : Re (∑ i ∈ s, f i) := by
  classical
  induction s using Finset.induction_on with
  | empty => exact ⟨0, by simp⟩
  | insert a s ha ih =>
    rw [Finset.sum_insert ha]
    exact (h a (Finset.mem_insert_self ..)).add (ih fun i hi => h i (Finset.mem_insert_of_mem hi))

/-- A product with a real number distributes over a sum of two real numbers. -/
theorem Re.mul_add {x y z : EReal} : Re x → Re y → Re z → x * (y + z) = x * y + x * z := by
  rintro ⟨a, rfl⟩ ⟨b, rfl⟩ ⟨c, rfl⟩
  exact_mod_cast _root_.mul_add a b c

/-- A nonnegative real number distributes over any sum of two. -/
theorem coe_mul_add {r : ℝ} (hr : 0 ≤ r) (y z : EReal) : (r : EReal) * (y + z) = r * y + r * z :=
  EReal.left_distrib_of_nonneg_of_ne_top (by exact_mod_cast hr) (EReal.coe_ne_top r) y z

/-- A nonnegative real number distributes over any sum. -/
theorem coe_mul_sum {ι : Type} {r : ℝ} (hr : 0 ≤ r) (s : Finset ι) (f : ι → EReal) : (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- A nonnegative real number distributes over any difference. -/
theorem coe_mul_sub {r : ℝ} (hr : 0 ≤ r) (y z : EReal) : (r : EReal) * (y - z) = r * y - r * z := by
  rw [sub_eq_add_neg, coe_mul_add hr, sub_eq_add_neg, mul_neg]

end Cert.Fin

end
-- ==== Proof.Gate.lean ====
/-
  The logistic gate and the scaled norm gradient over the extended reals.
-/
module

public import proofs.«01_k».proof.Proof.Norm
public import proofs.«01_k».proof.Proof.Finite

@[expose] public section

noncomputable section

namespace Cert.Norm

open Idealize.ShloMosaic Cert.Fin

/-- The norm's gradient is linear in the cotangent, here at one half. -/
theorem bwd_half {n : ℕ} (x g dy : Fin n → EReal) (j : Fin n) :
    bwd x g (fun k => Ideal.ofBits .f32 0x3F000000#32 * dy k) j = Ideal.ofBits .f32 0x3F000000#32 * bwd x g dy j := by
  have hs : ∑ k, x k * (((1 / 2 : ℝ) : EReal) * dy k * g k) = ((1 / 2 : ℝ) : EReal) * ∑ k, x k * (dy k * g k) := by
    rw [coe_mul_sum (by norm_num)]
    exact Finset.sum_congr rfl fun k _ => by ac_rfl
  rw [wHalf]
  unfold bwd
  rw [hs, coe_mul_sub (by norm_num), w1024, Ideal.div_coe (by norm_num), Ideal.div_coe (by norm_num)]
  congr 1
  · exact (congrArg _ (mul_assoc _ _ _)).trans (mul_left_comm _ _ _)
  · ac_rfl

/-- A row whose mean square is finite is finite. -/
theorem re_of_meanSq {n : ℕ} (x : Fin n → EReal) (v : ℝ) (h : meanSq x = (v : EReal)) (k : Fin n) : Re (x k) := by
  by_contra hk
  have ht : x k * x k = ⊤ := by
    generalize x k = y at hk
    induction y with
    | bot => simp
    | top => simp
    | coe r => exact absurd ⟨r, rfl⟩ hk
  have hs : ∑ k, x k * x k = ⊤ :=
    top_le_iff.mp (ht ▸ Finset.single_le_sum (f := fun k => x k * x k) (fun k _ => sq_nonneg (x k)) (Finset.mem_univ k))
  obtain ⟨e, he, hw⟩ := wEps
  unfold meanSq at h
  rw [hs, w1024, Ideal.div_coe (by norm_num), EReal.top_mul_coe_of_pos (by norm_num), hw] at h
  simp at h

/-- The norm's gradient is finite wherever its cotangent and gain are: at an infinite row it is zero. -/
theorem re_bwd {n : ℕ} (x g dy : Fin n → EReal) (hg : ∀ k, Re (g k)) (hd : ∀ k, Re (dy k)) (j : Fin n) : Re (bwd x g dy j) := by
  unfold bwd
  rcases meanSq_pos x with h | ⟨v, hv, h⟩
  · rw [h]
    exact ⟨0, by simp⟩
  · have hx := re_of_meanSq x v h
    have hr : Re (Ideal.rsqrt (meanSq x)) := by
      rw [h, Ideal.rsqrt_coe, if_neg (not_lt.mpr hv.le), if_neg hv.ne']
      exact Re.coe _
    rw [w1024, Ideal.div_coe (by norm_num)]
    exact (hr.mul ((hd j).mul (hg j))).sub (((hx j).mul ((hr.mul hr).mul hr)).mul
      ((Re.sum fun k _ => (hx k).mul ((hd k).mul (hg k))).mul (Re.coe _)))

end Cert.Norm

namespace Cert.Gate

open Idealize.ShloMosaic Cert.Fin

/-- The word of one. -/
theorem wOne : Ideal.ofBits .f32 0x3F800000#32 = 1 := by
  simp [Ideal.ofBits, Ideal.ieee, -EReal.coe_mul]; norm_num

/-- The logistic function as the programs write it. -/
def gate (x : EReal) : EReal :=
  Ideal.div (Ideal.ofBits .f32 0x3F800000#32) (Ideal.ofBits .f32 0x3F800000#32 + Ideal.exp (-x))

theorem gate_bot : gate ⊥ = 0 := by
  unfold gate; rw [wOne]; simp [Ideal.div, show (1 : EReal) + ⊤ = ⊤ from rfl]

theorem gate_top : gate ⊤ = 1 := by
  unfold gate; rw [wOne]; simp [Ideal.div]

theorem gate_coe (r : ℝ) : gate r = ((1 / (1 + Real.exp (-r)) : ℝ) : EReal) := by
  unfold gate
  have h : 1 + Real.exp (-r) ≠ 0 := by positivity
  rw [wOne, ← EReal.coe_neg, Ideal.exp_coe, ← EReal.coe_one, ← EReal.coe_add, Ideal.div_coe h, ← EReal.coe_mul, one_mul]

/-- The derivative of `x · gate x` at `g`, against a finite cotangent `d` and a finite factor `u`: the two halves that
    differentiating the product gives add up to the one factor of the hand-written gradient, at infinite `g` too. -/
theorem silu_grad {d u : EReal} (hd : Re d) (hu : Re u) (g : EReal) :
    d * u * gate g + g * (d * u) * (gate g * (Ideal.ofBits .f32 0x3F800000#32 - gate g))
      = d * (u * (gate g * (Ideal.ofBits .f32 0x3F800000#32 + g * (Ideal.ofBits .f32 0x3F800000#32 - gate g)))) := by
  obtain ⟨a, rfl⟩ := hd
  obtain ⟨b, rfl⟩ := hu
  rw [wOne]
  induction g with
  | bot => rw [gate_bot]; simp
  | top =>
    have h : (1 : EReal) - 1 = 0 := by rw [← EReal.coe_one, ← EReal.coe_sub, sub_self]; rfl
    rw [gate_top, h]; simp
  | coe r =>
    rw [gate_coe, ← EReal.coe_one]
    norm_cast
    ring

end Cert.Gate

end
-- ==== Proof.FfnAValue.lean ====
/-
  The backward pass of the feed-forward block up to its hidden gradients: what the tiles leave in the four results, and what
  differentiating the forward formula gives.
-/
module

public import proofs.«01_k».proof.Proof.Gen.FfnAIdeal.Frame
public import proofs.«01_k».proof.Proof.Gen.FfnARefIdeal.Read
public import proofs.«01_k».proof.Proof.Gate
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Gate (gate)

namespace Cert.FfnAIdeal.Value

open Cert.FfnAIdeal Cert.FfnAIdeal.Gen

/-- Column `k` of chip `q`. -/
def col (q : Fin 4) (k : Fin 704) : Fin 2816 := ⟨q * 704 + k, by omega⟩

/-- A projection of the normed row. -/
def pre (x : FVec Ideal S4096x1024 .f32) (w : FVec Ideal S1024x2816 .f32) (i : Fin 4096) (k : Fin 2816) : EReal :=
  ∑ l, x (ix2 i l) * w (ix2 l k)

variable (x : FVec Ideal S4096x1024 .f32) (wg wu : FVec Ideal S1024x2816 .f32) (wd : FVec Ideal S2816x1024 .f32)
  (g : FVec Ideal S1x1024 .f32) (dh : FVec Ideal S4096x1024 .f32)

/-- The gated projection. -/
def act (i : Fin 4096) (k : Fin 2816) : EReal := pre x wg i k * gate (pre x wg i k)

/-- The derivative of the gated projection by the gate's input, without the cotangent. -/
def slope (i : Fin 4096) (k : Fin 2816) : EReal :=
  pre x wu i k * (gate (pre x wg i k)
    * (Ideal.ofBits .f32 0x3F800000#32 + pre x wg i k * (Ideal.ofBits .f32 0x3F800000#32 - gate (pre x wg i k))))

/-- The block's output before its norm. -/
def out (i : Fin 4096) (j : Fin 1024) : EReal := ∑ l, act x wg i l * pre x wu i l * wd (ix2 l j)

/-- Its gradient. -/
def DF : FVec Ideal S4096x1024 .bf16 := fun i =>
  Ideal.ofBits .f32 0x3F000000#32 * Norm.bwd (out x wg wu wd (i 0)) (fun k => g (ix2 0 k)) (fun k => dh (ix2 (i 0) k)) (i 1)

/-- The gradient of the hidden row. -/
def dhid (i : Fin 4096) (k : Fin 2816) : EReal := ∑ l, DF x wg wu wd g dh (ix2 i l) * wd (ix2 k l)

/-- The gradients of the two projections, columns by chip. -/
def DGT : FVec Ideal S4x4096x704 .bf16 := fun i => dhid x wg wu wd g dh (i 1) (col (i 0) (i 2)) * slope x wg wu (i 1) (col (i 0) (i 2))
def DU : FVec Ideal S4x4096x704 .bf16 := fun i => dhid x wg wu wd g dh (i 1) (col (i 0) (i 2)) * act x wg (i 1) (col (i 0) (i 2))

/-- The gradient of the norm's gain. -/
def DG : FVec Ideal S1x1024 .f32 := fun i =>
  ∑ r, Ideal.ofBits .f32 0x3F000000#32
    * (dh (ix2 r (i 1)) * out x wg wu wd r (i 1) * Ideal.rsqrt (Norm.meanSq fun k => out x wg wu wd r k))

/-! ## What the body computes -/

theorem pay7_at (f : FVec Ideal S256x1024 .bf16) (g : FVec Ideal S1x1024 .f32) (dh : FVec Ideal S256x1024 .f32) (r : Fin 256) (j : Fin 1024) :
    k0_pay7 (F := Ideal) f g dh (ix2 r j)
      = Ideal.ofBits .f32 0x3F000000#32 * Norm.bwd (fun k => f (ix2 r k)) (fun k => g (ix2 0 k)) (fun k => dh (ix2 r k)) j := by
  pointwise [k0_pay7, k0_pay6, k0_pay5, Norm.bwd, Norm.meanSq]

theorem pay9_at (j) : k0_pay9 (F := Ideal) j = 0 := by pointwise [k0_pay9]

theorem pay10_at (f : FVec Ideal S256x1024 .bf16) (dh : FVec Ideal S256x1024 .f32) (acc : FVec Ideal S1x1024 .f32) (j : S1x1024.Idx) :
    k0_pay10 (F := Ideal) (k0_pay8 f dh) acc j
      = acc j + ∑ r : Fin 256, Ideal.ofBits .f32 0x3F000000#32
          * (dh (ix2 r (j 1)) * f (ix2 r (j 1)) * Ideal.rsqrt (Norm.meanSq fun k => f (ix2 r k))) := by
  rw [Norm.wHalf, ← Fin.coe_mul_sum (by norm_num), ← Norm.wHalf]
  pointwise [k0_pay10, k0_pay8, k0_pay6, k0_pay5, Norm.meanSq]

/-- One chip's columns of the hidden gradient, times the saved factor. -/
def hid (d : FVec Ideal S256x1024 .bf16) (w : FVec Ideal S1x704x1024 .bf16) (s : FVec Ideal S1x256x704 .bf16) (r : Fin 256) (k : Fin 704) : EReal :=
  (∑ l, d (ix2 r l) * w (ix3 0 k l)) * s (ix3 0 r k)

variable (d : FVec Ideal S256x1024 .bf16) (w : FVec Ideal S1x704x1024 .bf16) (s : FVec Ideal S1x256x704 .bf16)
  (q : Fin 1) (r : Fin 256) (k : Fin 704)

theorem pay12_at : k0_pay12 (F := Ideal) d w s (ix3 q r k) = hid d w s r k := by pointwise [k0_pay12, k0_pay11, hid]
theorem pay13_at : k0_pay13 (F := Ideal) d w s (ix3 q r k) = hid d w s r k := by pointwise [k0_pay13, k0_pay11, hid]
theorem pay15_at : k0_pay15 (F := Ideal) (k0_pay14 d w) s (ix3 q r k) = hid d w s r k := by pointwise [k0_pay15, k0_pay14, hid]
theorem pay16_at : k0_pay16 (F := Ideal) (k0_pay14 d w) s (ix3 q r k) = hid d w s r k := by pointwise [k0_pay16, k0_pay14, hid]
theorem pay18_at : k0_pay18 (F := Ideal) d w s (ix3 q r k) = hid d w s r k := by pointwise [k0_pay18, k0_pay17, hid]
theorem pay1_at : k0_pay1 (F := Ideal) (k0_pay19 d w s) (ix3 q r k) = hid d w s r k := by pointwise [k0_pay1, k0_pay19, k0_pay17, hid]
theorem pay3_at : k0_pay3 (F := Ideal) d w s (ix3 q r k) = hid d w s r k := by pointwise [k0_pay3, k0_pay2, hid]
theorem pay4_at : k0_pay4 (F := Ideal) d w s (ix3 q r k) = hid d w s r k := by pointwise [k0_pay4, k0_pay2, hid]

/-! ## The blocks -/

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0, 0] ∧ win0_4.index t = ![0, t.val, 0] ∧ win0_5.index t = ![0, t.val, 0] ∧ win0_6.index t = ![t.val, 0]
    ∧ win0_7.index t = ![0, t.val, 0] ∧ win0_8.index t = ![0, t.val, 0] ∧ win0_9.index t = ![0, 0] :=
  (by decide +kernel : ∀ t : Fin grid0.N, _)

theorem blk0 (c : Dev nD) (t : Fin cfg0.N) (r : Fin 256) (k : Fin 1024) :
    iblk m c 0 t (ix2 r k) = m ((c : Thread nD τ).loc main_arg5) (ix2 (Norm.row t r) k) := by
  unfold Norm.row; blk_point [iblk, V, idx t]

theorem blk2 (c : Dev nD) (t : Fin cfg0.N) (r : Fin 1) (k : Fin 1024) :
    iblk m c 2 t (ix2 r k) = m ((c : Thread nD τ).loc main_arg4) (ix2 r k) := by
  blk_point [iblk, V, idx t]

theorem blk3 (c : Dev nD) (t : Fin cfg0.N) (q : Fin 4) (k : Fin 704) (l : Fin 1024) :
    iblk m c 3 t (ix3 q k l) = m ((c : Thread nD τ).loc main_arg3) (ix2 (col q k) l) := by
  unfold col; blk_point [iblk, V, idx t]

theorem saved1 (c : Dev nD) (i : Fin 4096) (k : Fin 1024) : V m c main_v17 (ix2 i k)
    = out (m ((c : Thread nD τ).loc main_arg0)) (m ((c : Thread nD τ).loc main_arg1)) (m ((c : Thread nD τ).loc main_arg2))
        (m ((c : Thread nD τ).loc main_arg3)) i k := by
  show StableHlo.after hostOps0 _ (Proc.devRef .tc main_v17) _ = _
  after_results_simp
  pointwise [out, act, pre, gate]

theorem saved4 (c : Dev nD) (q : Fin 4) (i : Fin 4096) (k : Fin 704) : V m c main_v22 (ix3 q i k)
    = act (m ((c : Thread nD τ).loc main_arg0)) (m ((c : Thread nD τ).loc main_arg1)) i (col q k) := by
  show StableHlo.after hostOps0 _ (Proc.devRef .tc main_v22) _ = _
  after_results_simp
  unfold col
  pointwise [act, pre, gate]

theorem saved5 (c : Dev nD) (q : Fin 4) (i : Fin 4096) (k : Fin 704) : V m c main_v26 (ix3 q i k)
    = slope (m ((c : Thread nD τ).loc main_arg0)) (m ((c : Thread nD τ).loc main_arg1)) (m ((c : Thread nD τ).loc main_arg2)) i (col q k) := by
  show StableHlo.after hostOps0 _ (Proc.devRef .tc main_v26) _ = _
  after_results_simp
  unfold col
  pointwise [slope, pre, gate]

theorem blk1 (c : Dev nD) (t : Fin cfg0.N) (r : Fin 256) (k : Fin 1024) :
    iblk m c 1 t (ix2 r k) = V m c main_v17 (ix2 (Norm.row t r) k) := by
  unfold Norm.row; blk_point [iblk, idx t]

theorem blk4 (c : Dev nD) (t : Fin cfg0.N) (q : Fin 4) (r : Fin 256) (k : Fin 704) :
    iblk m c 4 t (ix3 q r k) = V m c main_v22 (ix3 q (Norm.row t r) k) := by
  unfold Norm.row; blk_point [iblk, idx t]

theorem blk5 (c : Dev nD) (t : Fin cfg0.N) (q : Fin 4) (r : Fin 256) (k : Fin 704) :
    iblk m c 5 t (ix3 q r k) = V m c main_v26 (ix3 q (Norm.row t r) k) := by
  unfold Norm.row; blk_point [iblk, idx t]

/-! ## The results -/

theorem df_at (c : Dev nD) (t : Fin cfg0.N) (r : Fin 256) (j : Fin 1024) :
    k0_pay7 (F := Ideal) (iblk m c 1 t) (iblk m c 2 t) (iblk m c 0 t) (ix2 r j)
      = DF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 (Norm.row t r) j) := by
  rw [pay7_at]
  refine congrArg (_ * ·) ?_
  show Norm.bwd _ _ _ _ = Norm.bwd _ _ _ _
  congr 1
  · funext k; exact (blk1 ..).trans (saved1 ..)
  · funext k; exact blk2 ..
  · funext k; exact blk0 ..

theorem hid_at (c : Dev nD) (t : Fin cfg0.N) (q : Fin 4) (w : FVec Ideal S1x704x1024 .bf16) (s : FVec Ideal S1x256x704 .bf16)
    (hw : ∀ k l, w (ix3 0 k l) = iblk m c 3 t (ix3 q k l)) (r : Fin 256) (k : Fin 704) :
    hid (k0_pay7 (F := Ideal) (iblk m c 1 t) (iblk m c 2 t) (iblk m c 0 t)) w s r k
      = dhid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (Norm.row t r) (col q k)
        * s (ix3 0 r k) := by
  unfold hid dhid
  refine congrArg (· * _) (Finset.sum_congr rfl fun l _ => congrArg₂ (· * ·) (df_at ..) ?_)
  rw [hw, blk3]

theorem tile7 (c : Dev nD) (t : Fin cfg0.N) (q : Fin 4) (w : FVec Ideal S1x704x1024 .bf16) (s : FVec Ideal S1x256x704 .bf16)
    (hw : ∀ k l, w (ix3 0 k l) = iblk m c 3 t (ix3 q k l)) (hs : ∀ r k, s (ix3 0 r k) = iblk m c 5 t (ix3 q r k)) (r : Fin 256) (k : Fin 704) :
    hid (k0_pay7 (F := Ideal) (iblk m c 1 t) (iblk m c 2 t) (iblk m c 0 t)) w s r k
      = DGT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix3 q (Norm.row t r) k) := by
  rw [hid_at m c t q w s hw, hs, blk5, saved5]; rfl

theorem emb7 (t : Fin cfg0.N) (y : ((cfg0.win 7).xblock (cfg0.grid.coords t)).Idx) (q : Fin 4) (r : Fin 256) (j : Fin 704)
    (h0 : (y 0).val = q.val) (h1 : (y 1).val = r.val) (h2 : (y 2).val = j.val) :
    ((View.whole main_v27_1).slice (win0_7.rect t)).emb y = (ix3 q (Norm.row t r) j : S4x4096x704.Idx) := by
  unfold Norm.row
  blk_ext [idx t]
  all_goals omega

theorem final7 (c : Dev nD) : (dats m 0 c).arrAt 7 (cfgs 0).N
    = DGT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  by_cases ht : t.val % 16 = 0
  on_goal 1 => rw [outsAt0_A m c t ht]
  on_goal 2 => rw [outsAt0_B m c t ht]
  all_goals
    frame_out
    canon_tiles x h
    all_goals obtain ⟨q, r, j, rfl⟩ : ∃ (q : Fin 1) (r : Fin 256) (j : Fin 704), x = ix3 q r j := ⟨x 0, x 1, x 2, eq_ix3 x⟩
    case piece2 =>
      rw [emb7 t y 1 r j (h0.trans (by have := q.isLt; show 1 + q.val = 1; omega)) h1 h2, pay16_at]
      exact tile7 m c t 1 _ _ (fun k l => by pointwise []) (fun r k => by pointwise []) r j
    case piece3 =>
      rw [emb7 t y 0 r j (h0.trans (by have := q.isLt; show q.val = 0; omega)) h1 h2, pay13_at]
      exact tile7 m c t 0 _ _ (fun k l => by pointwise []) (fun r k => by pointwise []) r j
    case piece0 =>
      rw [emb7 t y 3 r j (h0.trans (by have := q.isLt; show 3 + q.val = 3; omega)) h1 h2, pay4_at]
      exact tile7 m c t 3 _ _ (fun k l => by pointwise []) (fun r k => by pointwise []) r j
    case piece1 =>
      rw [emb7 t y 2 r j (h0.trans (by have := q.isLt; show 2 + q.val = 2; omega)) h1 h2, pay1_at]
      exact tile7 m c t 2 _ _ (fun k l => by pointwise []) (fun r k => by pointwise []) r j

theorem tile8 (c : Dev nD) (t : Fin cfg0.N) (q : Fin 4) (w : FVec Ideal S1x704x1024 .bf16) (s : FVec Ideal S1x256x704 .bf16)
    (hw : ∀ k l, w (ix3 0 k l) = iblk m c 3 t (ix3 q k l)) (hs : ∀ r k, s (ix3 0 r k) = iblk m c 4 t (ix3 q r k)) (r : Fin 256) (k : Fin 704) :
    hid (k0_pay7 (F := Ideal) (iblk m c 1 t) (iblk m c 2 t) (iblk m c 0 t)) w s r k
      = DU (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix3 q (Norm.row t r) k) := by
  rw [hid_at m c t q w s hw, hs, blk4, saved4]; rfl

theorem emb8 (t : Fin cfg0.N) (y : ((cfg0.win 8).xblock (cfg0.grid.coords t)).Idx) (q : Fin 4) (r : Fin 256) (j : Fin 704)
    (h0 : (y 0).val = q.val) (h1 : (y 1).val = r.val) (h2 : (y 2).val = j.val) :
    ((View.whole main_v27_2).slice (win0_8.rect t)).emb y = (ix3 q (Norm.row t r) j : S4x4096x704.Idx) := by
  unfold Norm.row
  blk_ext [idx t]
  all_goals omega

theorem final8 (c : Dev nD) : (dats m 0 c).arrAt 8 (cfgs 0).N
    = DU (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  by_cases ht : t.val % 16 = 0
  on_goal 1 => rw [outsAt0_A m c t ht]
  on_goal 2 => rw [outsAt0_B m c t ht]
  all_goals
    frame_out
    canon_tiles x h
    all_goals obtain ⟨q, r, j, rfl⟩ : ∃ (q : Fin 1) (r : Fin 256) (j : Fin 704), x = ix3 q r j := ⟨x 0, x 1, x 2, eq_ix3 x⟩
    case piece2 =>
      rw [emb8 t y 1 r j (h0.trans (by have := q.isLt; show 1 + q.val = 1; omega)) h1 h2, pay15_at]
      exact tile8 m c t 1 _ _ (fun k l => by pointwise []) (fun r k => by pointwise []) r j
    case piece3 =>
      rw [emb8 t y 0 r j (h0.trans (by have := q.isLt; show q.val = 0; omega)) h1 h2, pay12_at]
      exact tile8 m c t 0 _ _ (fun k l => by pointwise []) (fun r k => by pointwise []) r j
    case piece0 =>
      rw [emb8 t y 3 r j (h0.trans (by have := q.isLt; show 3 + q.val = 3; omega)) h1 h2, pay3_at]
      exact tile8 m c t 3 _ _ (fun k l => by pointwise []) (fun r k => by pointwise []) r j
    case piece1 =>
      rw [emb8 t y 2 r j (h0.trans (by have := q.isLt; show 2 + q.val = 2; omega)) h1 h2, pay18_at]
      exact tile8 m c t 2 _ _ (fun k l => by pointwise []) (fun r k => by pointwise []) r j

theorem final6 (c : Dev nD) : (dats m 0 c).arrAt 6 (cfgs 0).N
    = DF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  obtain ⟨r, j, rfl⟩ : ∃ (r : Fin 256) (j : Fin 1024), y = ix2 r j := ⟨y 0, y 1, eq_ix2 y⟩
  have e : ((View.whole main_v27_0).slice (win0_6.rect t)).emb (ix2 r j) = (ix2 (Norm.row t r) j : S4096x1024.Idx) := by
    unfold Norm.row; blk_ext [idx t]
  rw [after0_6, e]
  by_cases ht : t.val % 16 = 0
  on_goal 1 => rw [outsAt0_A m c t ht]
  on_goal 2 => rw [outsAt0_B m c t ht]
  all_goals
    frame_out
    exact df_at ..

theorem final9 (c : Dev nD) : (dats m 0 c).arrAt 9 (cfgs 0).N
    = DG (m ((c : Thread nD τ).loc main_arg0)) (m ((c : Thread nD τ).loc main_arg1)) (m ((c : Thread nD τ).loc main_arg2))
        (m ((c : Thread nD τ).loc main_arg3)) (m ((c : Thread nD τ).loc main_arg5)) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) _
    (fun t h j => by rw [outsAt0_A m c t h]; frame_out; rw [pay10_at, pay9_at])
    (fun t h j => by rw [outsAt0_B m c t h]; frame_out; rw [pay10_at])
    (le_of_eq N_0) t0_15 rfl j, zero_add]
  rw [DG, Norm.sum_rows]
  refine Fin.sum_fin_congr fun t => Fin.sum_fin_congr fun a => ?_
  exact congrArg (_ * ·) (congrArg₂ (· * ·) (congrArg₂ (· * ·) (blk0 ..) ((blk1 ..).trans (saved1 ..)))
    (congrArg (fun x => Ideal.rsqrt (Norm.meanSq x)) (funext fun k => (blk1 ..).trans (saved1 ..))))

end Cert.FfnAIdeal.Value

namespace Cert.FfnARefIdeal.Read

open Cert.FfnARefIdeal Cert.FfnARefIdeal.Gen Cert.Fin
open Cert.FfnAIdeal.Value (col pre act slope out DF dhid DGT DU DG)

variable (x : FVec Ideal S4096x1024 .f32) (wg wu : FVec Ideal S1024x2816 .f32) (wd : FVec Ideal S2816x1024 .f32)
  (g : FVec Ideal S1x1024 .f32) (dh : FVec Ideal S4096x1024 .f32)

theorem ref_pre (i : Fin 4096) (k : Fin 2816) : val_main_v0 (F := Ideal) x wg (ix2 i k) = pre x wg i k := by
  pointwise [val_main_v0, pre]

theorem ref_up (i : Fin 4096) (k : Fin 2816) : val_main_v1 (F := Ideal) x wu (ix2 i k) = pre x wu i k := by
  pointwise [val_main_v1, pre]

theorem ref_gate (i : Fin 4096) (k : Fin 2816) : val_main_v2_2 (F := Ideal) x wg (ix2 i k) = gate (pre x wg i k) := by
  pointwise [val_main_v2_2, val_main_call0_v4, val_main_call0_v3, val_main_call0_cst_0, val_main_call0_v2, val_main_call0_v1, val_main_call0_cst, val_main_call0_v0, ref_pre, gate]

theorem ref_act (i : Fin 4096) (k : Fin 2816) : val_main_v2_0 (F := Ideal) x wg (ix2 i k) = act x wg i k :=
  congrArg₂ (· * ·) (ref_pre ..) (ref_gate ..)

theorem ref_out (i : Fin 4096) (k : Fin 1024) : val_main_v4 (F := Ideal) x wg wu wd (ix2 i k) = out x wg wu wd i k := by
  pointwise [val_main_v4, val_main_v3, ref_act, ref_up, out]

theorem ref_df (i : Fin 4096) (j : Fin 1024) : val_main_v45 (F := Ideal) x wg wu wd g dh (ix2 i j) = DF x wg wu wd g dh (ix2 i j) := by
  show _ = Ideal.ofBits .f32 0x3F000000#32 * Norm.bwd (out x wg wu wd i) (fun k => g (ix2 0 k)) (fun k => dh (ix2 i k)) j
  rw [← Norm.bwd_half]
  pointwise [val_main_v45, val_main_v43, val_main_v44, val_main_v36, val_main_v42, val_main_v41, val_main_v30, val_main_v35, val_main_v40, val_main_v25, val_main_v29, val_main_v13, val_main_v39, val_main_cst_9, val_main_v24, val_main_v19, val_main_v12, val_main_v37, val_main_v38, val_main_cst_4, val_main_v5, val_main_v10, val_main_v11, val_main_v34, val_main_v16, val_main_cst_8, val_main_v8, val_main_v9, val_main_cst_1, val_main_v33, val_main_v15, val_main_v14, val_main_v7, val_main_cst_0, val_main_v32, val_main_cst_7, val_main_cst_2, val_main_v6, val_main_cst, ref_out, Norm.meanSq]
  simp only [Fin.sum_univ_one]
  have h := Cert.Norm.bwd_eq (out x wg wu wd i) (fun k => g (ix2 0 k)) (fun k => Ideal.ofBits .f32 0x3F000000#32 * dh (ix2 i k)) j 0
  rw [zero_add, zero_add] at h
  exact h

theorem ref_dhid (i : Fin 4096) (k : Fin 2816) : val_main_v47 (F := Ideal) x wg wu wd g dh (ix2 i k) = dhid x wg wu wd g dh i k := by
  pointwise [val_main_v47, dhid]
  exact Finset.sum_congr rfl fun l _ => congrArg (· * wd (ix2 k l)) (ref_df ..)

theorem ref_du : val_main_v57 (F := Ideal) x wg wu wd g dh = DU x wg wu wd g dh := by
  funext i
  idx_vars i
  pointwise [val_main_v57, val_main_v56, val_main_v55, val_main_v48]
  exact (mul_comm _ _).trans (congrArg₂ (· * ·) (ref_dhid ..) (ref_act ..))

/-- The gate's gradient, where the hidden gradient and the other factor are finite. -/
theorem ref_dgt (hd : ∀ i k, Re (dhid x wg wu wd g dh i k)) (hu : ∀ i k, Re (pre x wu i k)) :
    val_main_v54 (F := Ideal) x wg wu wd g dh = DGT x wg wu wd g dh := by
  have h : ∀ i k, val_main_v50 (F := Ideal) x wg wu wd g dh (ix2 i k) = dhid x wg wu wd g dh i k * slope x wg wu i k := fun i k => by
    refine Eq.trans ?_ (Gate.silu_grad (hd i k) (hu i k) (pre x wg i k))
    refine congrArg₂ (· + ·) (congrArg₂ (· * ·) (congrArg₂ (· * ·) (ref_dhid ..) (ref_up ..)) (ref_gate ..)) (congrArg₂ (· * ·) (congrArg₂ (· * ·) (ref_pre ..)
      (congrArg₂ (· * ·) (ref_dhid ..) (ref_up ..))) (congrArg₂ (· * ·) (ref_gate ..) (congrArg (fun x => Ideal.ofBits .f32 0x3F800000#32 - x) (ref_gate ..))))
  funext i
  idx_vars i
  pointwise [val_main_v54, val_main_v53, val_main_v52]
  exact h ..

theorem ref_dg : val_main_v46 (F := Ideal) x wg wu wd dh = DG x wg wu wd dh := by
  funext i
  idx_vars i
  pointwise [val_main_v46, val_main_v31, val_main_v28, val_main_cst_6, val_main_v27, val_main_v26, val_main_cst_5, val_main_v18, val_main_v25, val_main_v17, val_main_v24, val_main_v13, val_main_cst_4, val_main_v12, val_main_v10, val_main_v11, val_main_v8, val_main_v9, val_main_cst_1, val_main_v7, val_main_cst_0, val_main_v6, val_main_cst, ref_out, DG, Norm.meanSq]
  simp only [Fin.sum_univ_one]
  exact Fin.sum_fin_congr fun r => by ac_rfl

/-- The hidden gradient is finite where the cotangent, the gain and the weight are. -/
theorem re_dhid (hw : ∀ i, Re (wd i)) (hg : ∀ i, Re (g i)) (hh : ∀ i, Re (dh i)) (i : Fin 4096) (k : Fin 2816) : Re (dhid x wg wu wd g dh i k) := by
  refine Re.sum fun l _ => Re.mul ?_ (hw _)
  show Re (Ideal.ofBits .f32 0x3F000000#32 * Norm.bwd _ _ _ _)
  rw [Norm.wHalf]
  exact (Re.coe _).mul (Norm.re_bwd _ _ _ (fun _ => hg _) (fun _ => hh _) _)

theorem re_pre (hx : ∀ i, Re (x i)) (hw : ∀ i, Re (wu i)) (i : Fin 4096) (k : Fin 2816) : Re (pre x wu i k) :=
  Re.sum fun l _ => (hx _).mul (hw _)

end Cert.FfnARefIdeal.Read

end
-- ==== Proof.FfnAClaim.lean ====
/- The value claim of the feed-forward block's gradient up to its hidden rows, from the two runs. -/
module

public import proofs.«01_k».proof.Defs
public import proofs.«01_k».proof.Proof.Gen.FfnAIdeal.Value
public import proofs.«01_k».proof.Proof.FfnAValue
public import proofs.«01_k».proof.Proof.Gen.FfnARefIdeal.Run
public import Idealize.ShloMosaic.Lib.Claim

set_option maxRecDepth 16384

@[expose] public section

noncomputable section

namespace Cert.Proof

open Idealize.ShloMosaic Idealize.SL.Sem Cert.FfnAIdeal

theorem frame_ffnARef : Cert.quiescent_FfnARefIdeal (hFfnARefIdeal := Cert.FfnARefIdeal.Gen.facts) := fun m g _ =>
  (θ_run Cert.FfnARefIdeal.defs _ _).mono (fun r h => ⟨fun c => (h c).2.2.2.2, sem_eq_zero_of_no_sems (by decide) r.2⟩)
    (Cert.FfnARefIdeal.Value.run (F := Ideal) m g)

theorem facts_ffn_a_finite : Cert.Pre_ffn_a_finite.Facts :=
  ⟨by decide, by decide, by decide, by decide, by decide, by decide, by decide, by decide, by decide⟩

instance inst_ffn_a_finite : Cert.Pre_ffn_a_finite.Facts := facts_ffn_a_finite

/-- What the precondition says: every argument but the gate's weight is finite. -/
theorem ffn_a_re (x : FVec Ideal Cert.Pre_ffn_a_finite.S4096x1024 .f32) (wg wu : FVec Ideal Cert.Pre_ffn_a_finite.S1024x2816 .f32)
    (wd : FVec Ideal Cert.Pre_ffn_a_finite.S2816x1024 .f32) (g : FVec Ideal Cert.Pre_ffn_a_finite.S1x1024 .f32)
    (dh : FVec Ideal Cert.Pre_ffn_a_finite.S4096x1024 .f32)
    (h : Cert.Pre_ffn_a_finite.fn (F := Ideal) x wg wu wd g dh = fun _ => 1#1) :
    (∀ i, Cert.Fin.Re (x i)) ∧ (∀ i, Cert.Fin.Re (wu i)) ∧ (∀ i, Cert.Fin.Re (wd i)) ∧ (∀ i, Cert.Fin.Re (g i)) ∧ ∀ i, Cert.Fin.Re (dh i) := by
  have e := congrFun h ix0
  obtain ⟨e, h5⟩ := IntOp.andi_eq_one.mp e
  obtain ⟨e, h4⟩ := IntOp.andi_eq_one.mp e
  obtain ⟨e, h3⟩ := IntOp.andi_eq_one.mp e
  obtain ⟨h1, h2⟩ := IntOp.andi_eq_one.mp e
  exact ⟨Cert.Fin.re_of_all _ _ (fun _ => rfl) _ _ _ _ h1, Cert.Fin.re_of_all _ _ (fun _ => rfl) _ _ _ _ h2,
    Cert.Fin.re_of_all _ _ (fun _ => rfl) _ _ _ _ h3, Cert.Fin.re_of_all _ _ (fun _ => rfl) _ _ _ _ h4,
    Cert.Fin.re_of_all _ _ (fun _ => rfl) _ _ _ _ h5⟩

theorem algebraic_ffnA : Cert.algebraic_FfnAIdeal_FfnARefIdeal_pre_ffn_a_finite (hFfnAIdeal := Cert.FfnAIdeal.Gen.facts)
    (hFfnARefIdeal := Cert.FfnARefIdeal.Gen.facts) (hPre_ffn_a_finite := facts_ffn_a_finite) := by
  intro m g m' g' hpre hagree
  refine ⟨fun c => Cert.FfnAIdeal.Value.DF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Cert.FfnAIdeal.Value.DGT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Cert.FfnAIdeal.Value.DU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Cert.FfnAIdeal.Value.DG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)),
    ?_, ?_⟩
  · refine (θ_run Cert.FfnAIdeal.defs _ _).mono (fun r h c => ?_) (Cert.FfnAIdeal.Value.run_blocks (F := Ideal) m g)
    obtain ⟨h0, h1, h2, h3, hrest⟩ := h c
    exact ⟨h0.trans (Cert.FfnAIdeal.Value.final6 m c), h1.trans (Cert.FfnAIdeal.Value.final7 m c), h2.trans (Cert.FfnAIdeal.Value.final8 m c), h3.trans (Cert.FfnAIdeal.Value.final9 m c), hrest⟩
  · refine (θ_run Cert.FfnARefIdeal.defs _ _).mono (fun r h c => ?_) (Cert.FfnARefIdeal.Value.run (F := Ideal) m' g')
    obtain ⟨h0, h1, h2, h3, hrest⟩ := h c
    rw [Cert.FfnARefIdeal.Read.val_main_v51_eq] at h0
    rw [Cert.FfnARefIdeal.Read.val_main_v54_eq] at h1
    rw [Cert.FfnARefIdeal.Read.val_main_v57_eq] at h2
    rw [Cert.FfnARefIdeal.Read.val_main_v46_eq] at h3
    simp only [hagree c] at h0 h1 h2 h3
    obtain ⟨rx, ru, rd, rg, rh⟩ := ffn_a_re _ _ _ _ _ _ (hpre c)
    exact ⟨h0.trans ((funext fun i => by idx_vars i; exact Cert.FfnARefIdeal.Read.ref_df ..)), h1.trans (Cert.FfnARefIdeal.Read.ref_dgt _ _ _ _ _ _ (Cert.FfnARefIdeal.Read.re_dhid _ _ _ _ _ _ rd rg rh) (Cert.FfnARefIdeal.Read.re_pre _ _ rx ru)), h2.trans (Cert.FfnARefIdeal.Read.ref_du ..), h3.trans (Cert.FfnARefIdeal.Read.ref_dg ..), hrest⟩

end Cert.Proof

end
-- ==== Proof.Layer.lean ====
/-
  The tanh form of the Gaussian error unit and the layer norm over the extended reals: their hand-written gradients against
  what differentiating the formulas gives, at finite arguments.
-/
module

public import proofs.«01_k».proof.Proof.Norm
public import proofs.«01_k».proof.Proof.Finite

@[expose] public section

noncomputable section

namespace Cert.Gelu

open Idealize.ShloMosaic Cert.Fin

/-- The two constants of the formula. -/
abbrev k : EReal := Ideal.ofBits .f32 0x3F4C422A#32
abbrev c : EReal := Ideal.ofBits .f32 0x3D372713#32

/-- Their product, and three times it. -/
abbrev kc : EReal := ((80338380498831 / 2251799813685248 : ℝ) : EReal)
abbrev kc3 : EReal := ((241015141496493 / 2251799813685248 : ℝ) : EReal)

theorem wK : k = ((13386282 / 16777216 : ℝ) : EReal) := by
  simp [k, Ideal.ofBits, Ideal.ieee, -EReal.coe_mul]; norm_num

theorem wC : c = ((12003091 / 268435456 : ℝ) : EReal) := by
  simp [c, Ideal.ofBits, Ideal.ieee, -EReal.coe_mul]; norm_num

theorem wThree : Ideal.ofBits .f32 0x40400000#32 = ((3 : ℝ) : EReal) := by
  simp [Ideal.ofBits, Ideal.ieee, -EReal.coe_mul]; norm_num

theorem wOne : Ideal.ofBits .f32 0x3F800000#32 = ((1 : ℝ) : EReal) := by
  simp [Ideal.ofBits, Ideal.ieee, -EReal.coe_mul]; norm_num

abbrev half : EReal := Ideal.ofBits .f32 0x3F000000#32

/-- The hyperbolic tangent of the formula, the share it gives, the unit itself and its derivative, as the kernel writes them. -/
def th (x : EReal) : EReal := Ideal.tanh (x * (k + kc * (x * x)))
def cdf (x : EReal) : EReal := half + half * th x
def gelu (x : EReal) : EReal := x * cdf x
def slope (x : EReal) : EReal := cdf x + x * (half - half * th x * th x) * (k + kc3 * (x * x))

/-- The hyperbolic tangent as the formula itself has it. -/
def th' (x : EReal) : EReal := Ideal.tanh (k * (x + c * (x * x * x)))

theorem th_coe (r : ℝ) : th r = ((Real.tanh (r * (13386282 / 16777216 + 80338380498831 / 2251799813685248 * (r * r))) : ℝ) : EReal) := by
  unfold th; rw [wK]; norm_cast

theorem th'_eq {x : EReal} : Re x → th' x = th x := by
  rintro ⟨r, rfl⟩
  rw [th_coe]
  unfold th'
  rw [wK, wC]
  norm_cast
  rw [Ideal.tanh_coe]
  congr 2
  ring

theorem re_th {x : EReal} : Re x → Re (th x) := by
  rintro ⟨r, rfl⟩; exact ⟨_, th_coe r⟩

theorem re_half : Re half := ⟨_, Norm.wHalf⟩

theorem re_cdf {x : EReal} (h : Re x) : Re (cdf x) := re_half.add (re_half.mul (re_th h))

theorem re_gelu {x : EReal} (h : Re x) : Re (gelu x) := h.mul (re_cdf h)

theorem re_slope {x : EReal} (h : Re x) : Re (slope x) :=
  (re_cdf h).add ((h.mul (re_half.sub ((re_half.mul (re_th h)).mul (re_th h)))).mul (Re.add ⟨_, wK⟩ ((Re.coe _).mul (h.mul h))))

/-- The share as the formula has it. -/
theorem cdf_eq {x : EReal} (h : Re x) : half * (Ideal.ofBits .f32 0x3F800000#32 + th' x) = cdf x := by
  rw [th'_eq h]
  unfold cdf
  obtain ⟨s, hs⟩ := re_th h
  rw [hs, wOne, half, Norm.wHalf]
  norm_cast
  ring

/-- The derivative as differentiating the formula gives it, against the cotangent `d`. -/
theorem grad_eq {x d : EReal} (h : Re x) (hd : Re d) :
    d * (half * (Ideal.ofBits .f32 0x3F800000#32 + th' x))
      + k * (half * (x * d) * ((Ideal.ofBits .f32 0x3F800000#32 + th' x) * (Ideal.ofBits .f32 0x3F800000#32 - th' x)))
      + c * (k * (half * (x * d) * ((Ideal.ofBits .f32 0x3F800000#32 + th' x) * (Ideal.ofBits .f32 0x3F800000#32 - th' x))))
          * (Ideal.ofBits .f32 0x40400000#32 * (x * x))
      = d * slope x := by
  rw [th'_eq h]
  unfold slope cdf
  obtain ⟨s, hs⟩ := re_th h
  rw [hs, wOne, wThree, half, Norm.wHalf, wK, wC]
  obtain ⟨r, rfl⟩ := h
  obtain ⟨e, rfl⟩ := hd
  norm_cast
  ring

end Cert.Gelu

namespace Cert.Layer

open Idealize.ShloMosaic Cert.Fin

variable {n : ℕ}

/-- The row less its mean. -/
def centred (v : Fin n → EReal) (j : Fin n) : EReal := v j - Ideal.div (∑ l, v l) (Ideal.ofBits .f32 0x44800000#32)

/-- The reciprocal deviation of a centred row. -/
def dev (a : Fin n → EReal) : EReal := Ideal.rsqrt (Norm.meanSq a)

/-- The gradient of a layer norm by its row, `a` the centred row and `d` the cotangent, gain included. -/
def bwd (a d : Fin n → EReal) (j : Fin n) : EReal :=
  dev a * (d j - Ideal.div (∑ l, d l) (Ideal.ofBits .f32 0x44800000#32)
    - a j * dev a * Ideal.div (∑ l, d l * (a l * dev a)) (Ideal.ofBits .f32 0x44800000#32))

/-- The share of a row's deviation in the gradient, as differentiating the formula gives it. -/
def share (a d : Fin n → EReal) : EReal :=
  Ideal.div ((∑ l, a l * d l) * (Ideal.ofBits .f32 0xBF000000#32 * Ideal.div (dev a) (Norm.meanSq a))) (Ideal.ofBits .f32 0x44800000#32)

/-- The gradient by the centred row, in the same way. -/
def centredGrad (a d : Fin n → EReal) (j : Fin n) : EReal := d j * dev a + a j * share a d + share a d * a j

theorem div1024 (x : EReal) : Ideal.div x (Ideal.ofBits .f32 0x44800000#32) = x * ((1 / 1024 : ℝ) : EReal) := by
  rw [Norm.w1024, Ideal.div_coe (by norm_num)]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem re_centred {v : Fin n → EReal} (h : ∀ j, Re (v j)) (j : Fin n) : Re (centred v j) := by
  unfold centred; rw [div1024]
  exact (h j).sub ((Re.sum fun l _ => h l).mul (Re.coe _))

/-- A centred row sums to nothing. -/
theorem sum_centred {v : Fin 1024 → EReal} (h : ∀ j, Re (v j)) : ∑ j, centred v j = 0 := by
  choose f hf using h
  have e : v = fun j => (f j : EReal) := funext hf
  subst e
  have e : ∀ j, centred (fun j => (f j : EReal)) j = ((f j - (∑ l, f l) * (1 / 1024) : ℝ) : EReal) := fun j => by
    unfold centred; rw [div1024, coe_sum]; norm_cast
  simp only [e]
  rw [coe_sum, Finset.sum_sub_distrib, Finset.sum_const]
  norm_cast
  rw [Finset.card_univ, Fintype.card_fin, nsmul_eq_mul]
  push_cast
  ring

/-- The mean square of a finite row is a positive real. -/
theorem meanSq_coe {a : Fin n → EReal} (h : ∀ j, Re (a j)) : ∃ v : ℝ, 0 < v ∧ Norm.meanSq a = (v : EReal) := by
  rcases Norm.meanSq_pos a with ht | hv
  · exfalso
    obtain ⟨e, -, hw⟩ := Norm.wEps
    have : Re (Norm.meanSq a) := by
      unfold Norm.meanSq
      rw [div1024]
      exact ((Re.sum fun l _ => (h l).mul (h l)).mul (Re.coe _)).add ⟨e, hw⟩
    obtain ⟨r, hr⟩ := this
    exact EReal.coe_ne_top r (hr.symm.trans ht)
  · exact hv

theorem re_dev {a : Fin n → EReal} (h : ∀ j, Re (a j)) : Re (dev a) := by
  obtain ⟨v, hv, e⟩ := meanSq_coe h
  unfold dev
  rw [e, Ideal.rsqrt_coe, if_neg (not_lt.mpr hv.le), if_neg hv.ne']
  exact Re.coe _

/-- The gradient is finite at a finite row and cotangent. -/
theorem re_bwd {a d : Fin n → EReal} (ha : ∀ j, Re (a j)) (hd : ∀ j, Re (d j)) (j : Fin n) : Re (bwd a d j) := by
  unfold bwd
  rw [div1024, div1024]
  have hr := re_dev ha
  exact hr.mul (((hd j).sub ((Re.sum fun l _ => hd l).mul (Re.coe _))).sub
    (((ha j).mul hr).mul ((Re.sum fun l _ => (hd l).mul ((ha l).mul hr)).mul (Re.coe _))))

/-- Differentiating the formula gives the hand-written gradient, at a finite centred row that sums to nothing. -/
theorem grad_eq {a d : Fin n → EReal} (ha : ∀ j, Re (a j)) (h0 : ∑ j, a j = 0) (hd : ∀ j, Re (d j)) (j : Fin n) :
    centredGrad a d j + Ideal.div (∑ l, -centredGrad a d l) (Ideal.ofBits .f32 0x44800000#32) = bwd a d j := by
  obtain ⟨v, hv, em⟩ := meanSq_coe ha
  have er : dev a = (((Real.sqrt v)⁻¹ : ℝ) : EReal) := by
    unfold dev; rw [em, Ideal.rsqrt_coe, if_neg (not_lt.mpr hv.le), if_neg hv.ne']
  have es : Real.sqrt v * Real.sqrt v = v := Real.mul_self_sqrt hv.le
  have hs : Real.sqrt v ≠ 0 := (Real.sqrt_pos.mpr hv).ne'
  unfold centredGrad bwd share
  rw [er, em, div1024, div1024, div1024, div1024, Norm.wNegHalf, Ideal.div_coe hv.ne']
  choose f hf using ha
  choose g hg using hd
  simp only [hf, hg, ← EReal.coe_mul, coe_sum, ← EReal.coe_add, ← EReal.coe_neg, ← EReal.coe_sub] at h0 ⊢
  have h0 : ∑ l, f l = 0 := by exact_mod_cast h0
  congr 1
  generalize Real.sqrt v = s at es hs
  subst es
  have e1 : ∑ l, g l * (f l * s⁻¹) = (∑ l, f l * g l) * s⁻¹ := by
    rw [Finset.sum_mul]; exact Finset.sum_congr rfl fun l _ => by ring
  have e2 : ∀ q : ℝ, ∑ l, -(g l * s⁻¹ + f l * q + q * f l) = -((∑ l, g l) * s⁻¹ + 2 * q * ∑ l, f l) := fun q => by
    rw [Finset.sum_mul, Finset.mul_sum, ← Finset.sum_add_distrib, ← Finset.sum_neg_distrib]
    exact Finset.sum_congr rfl fun l _ => by ring
  rw [e1, e2, h0]
  field_simp
  ring

end Cert.Layer

end
-- ==== Proof.SguTile.lean ====
/-
  The gradient of the spatial gate: its formulas, and what the arithmetic of one tile gives.
-/
module

public import proofs.«01_k».proof.Proof.Gen.SguIdeal.Frame
public import proofs.«01_k».proof.Proof.Layer
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Gelu (gelu slope)

namespace Cert.SguIdeal.Value

open Cert.SguIdeal Cert.SguIdeal.Gen

/-- Position `a` of chunk `n`, and column `l` of group `q`. -/
def tok (n : Fin 32) (a : Fin 128) : Fin 4096 := ⟨n * 128 + a, by omega⟩
def col (q : Fin 4) (l : Fin 256) : Fin 1024 := ⟨q * 256 + l, by omega⟩

/-- Column `j` of the two gated projections, among the columns of all. -/
def colU (j : Fin 1024) : Fin 5120 := ⟨j, by omega⟩
def colV (j : Fin 1024) : Fin 5120 := ⟨1024 + j, by omega⟩

variable (z : FVec Ideal S4096x5120 .f32) (g : FVec Ideal S1x1024 .f32) (w : FVec Ideal S4x128x128 .f32) (b : FVec Ideal S4x128 .f32)
  (da : FVec Ideal S4096x1024 .f32)

/-- The gated half's normed row: centred, and with its gain. -/
def cen (i : Fin 4096) : Fin 1024 → EReal := Layer.centred fun j => gelu (z (ix2 i (colV j)))
def nrm (i : Fin 4096) (j : Fin 1024) : EReal := cen z i j * Layer.dev (cen z i)
def vn (i : Fin 4096) (j : Fin 1024) : EReal := nrm z i j * g (ix2 0 j)

/-- The mixing weight of a group, at and below the diagonal. -/
def wm (q : Fin 4) (a k : Fin 128) : EReal := if k.val ≤ a.val then w (ix3 q a k) else 0

/-- The mixed rows, the cotangent of the mixed rows, and the cotangent of the normed rows. -/
def sv (n : Fin 32) (a : Fin 128) (q : Fin 4) (l : Fin 256) : EReal := (∑ k, wm w q a k * vn z g (tok n k) (col q l)) + b (ix2 q a)
def dsv (n : Fin 32) (a : Fin 128) (q : Fin 4) (l : Fin 256) : EReal :=
  da (ix2 (tok n a) (col q l)) * gelu (z (ix2 (tok n a) (colU (col q l))))
def dvn (n : Fin 32) (a : Fin 128) (q : Fin 4) (l : Fin 256) : EReal := ∑ k, wm w q k a * dsv z da n k q l

/-- Chunk and position of a row, group and column of a column. -/
def chunk (i : Fin 4096) : Fin 32 := ⟨i / 128, by omega⟩
def pos (i : Fin 4096) : Fin 128 := ⟨i % 128, by omega⟩
def grp (j : Fin 1024) : Fin 4 := ⟨j / 256, by omega⟩
def lane (j : Fin 1024) : Fin 256 := ⟨j % 256, by omega⟩

/-- The cotangent of a normed row, whole. -/
def dvnRow (i : Fin 4096) (j : Fin 1024) : EReal := dvn z w da (chunk i) (pos i) (grp j) (lane j)

/-- The gradients of the two projections. -/
def DZU (n : Fin 32) (a : Fin 128) (q : Fin 4) (l : Fin 256) : EReal :=
  da (ix2 (tok n a) (col q l)) * sv z g w b n a q l * slope (z (ix2 (tok n a) (colU (col q l))))
def DZV (i : Fin 4096) (j : Fin 1024) : EReal :=
  Layer.bwd (cen z i) (fun j => dvnRow z w da i j * g (ix2 0 j)) j * slope (z (ix2 i (colV j)))

/-- The gradients of the mixing weights, of the bias (in every column), and of the norm's gain. -/
def DW : FVec Ideal S4x128x128 .f32 := fun i =>
  if (i 2).val ≤ (i 1).val then ∑ n : Fin 32, ∑ l, dsv z da n (i 1) (i 0) l * vn z g (tok n (i 2)) (col (i 0) l) else 0
def DB : FVec Ideal S4x128x128 .f32 := fun i => ∑ n : Fin 32, ∑ l, dsv z da n (i 1) (i 0) l
def DG : FVec Ideal S1x1024 .f32 := fun i => ∑ r, dvnRow z w da r (i 1) * nrm z r (i 1)

/-- The slots of the projections' gradients: two are written, the others are as they came. -/
def DZ (dz : FVec Ideal S5x4096x1024 .f32) : FVec Ideal S5x4096x1024 .f32 := fun i =>
  if (i 0).val = 2 then DZU z g w b da (chunk (i 1)) (pos (i 1)) (grp (i 2)) (lane (i 2)) else if (i 0).val = 3 then DZV z g w da (i 1) (i 2) else dz i

/-! ## What the body computes -/

/-- Position `a` of a tile's chunk `h`. -/
def half (h : Fin 2) (a : Fin 128) : Fin 256 := ⟨h * 128 + a, by omega⟩

/-- The tile's part of the mixing. -/
def mk (a k : Fin 128) (x : EReal) : EReal := if k.val ≤ a.val then x else 0

section Body

variable (x v : FVec Ideal S256x1024 .bf16) (u : FVec Ideal S256x1024 .f32) (r : Fin 256) (j : Fin 1024)

theorem pay10_at (i : S256x1024.Idx) : k0_pay10 (F := Ideal) x i = x i := by pointwise [k0_pay10]
theorem pay11_at (i : S256x1024.Idx) : k0_pay11 (F := Ideal) x i = x i := by pointwise [k0_pay11]
theorem pay27_at (i : S256x1024.Idx) : k0_pay27 (F := Ideal) x i = x i := by pointwise [k0_pay27]

theorem pay15_at (i : S256x1024.Idx) : k0_pay15 (F := Ideal) x i = slope (x i) := by
  pointwise [k0_pay15, k0_pay14, k0_pay13, k0_pay12, k0_pay10, Gelu.slope, Gelu.cdf, Gelu.th]
  rfl

theorem pay26_at (i : S256x1024.Idx) : k0_pay26 (F := Ideal) u i = slope (u i) := by
  pointwise [k0_pay26, k0_pay24, k0_pay23, k0_pay22, Gelu.slope, Gelu.cdf, Gelu.th]
  rfl

theorem pay25_at (i : S256x1024.Idx) : k0_pay25 (F := Ideal) u i = gelu (u i) := by
  pointwise [k0_pay25, k0_pay24, k0_pay23, k0_pay22, Gelu.gelu, Gelu.cdf, Gelu.th]
  rfl

theorem pay16_at : k0_pay16 (F := Ideal) x (ix2 r j) = Layer.centred (fun k => gelu (x (ix2 r k))) j := by
  pointwise [k0_pay16, k0_pay14, k0_pay13, k0_pay12, k0_pay10, Gelu.gelu, Gelu.cdf, Gelu.th, Layer.centred]
  rfl

theorem pay19_at (z : Fin 1) : k0_pay19 (F := Ideal) (k0_pay17 x) k0_pay18 (ix2 r z) = Layer.dev fun k => k0_pay16 (F := Ideal) x (ix2 r k) := by
  pointwise [k0_pay19, k0_pay17, k0_pay18, Layer.dev, Norm.meanSq]

theorem mask_at (a k : Fin 128) (x : EReal) : Scalar.select (k0_pay28 (ix2 a k)) x 0 = mk a k x := by
  pointwise [k0_pay28, mk]
  rw [WordCmp.cmpi_sge_ofNat (by omega) (by omega)]
  by_cases h : k.val ≤ a.val <;> simp [h, Scalar.select]

theorem mk_mul (a k : Fin 128) (x y : EReal) : mk a k x * y = mk a k (x * y) := by
  unfold mk
  split <;> simp

theorem half_0 (a : Fin 128) : half 0 a = ⟨a, by omega⟩ := Fin.ext (by simp [half])
theorem half_1 (a : Fin 128) : half 1 a = ⟨128 + a, by omega⟩ := Fin.ext (by simp [half])
theorem col_0 (l : Fin 256) : col 0 l = ⟨l, by omega⟩ := Fin.ext (by simp [col])
theorem col_1 (l : Fin 256) : col 1 l = ⟨256 + l, by omega⟩ := Fin.ext (by simp [col])
theorem col_2 (l : Fin 256) : col 2 l = ⟨512 + l, by omega⟩ := Fin.ext (by simp [col])
theorem col_3 (l : Fin 256) : col 3 l = ⟨768 + l, by omega⟩ := Fin.ext (by simp [col])

end Body

section Tiles

variable (vt : FVec Ideal S256x1024 .bf16) (u s d : FVec Ideal S256x1024 .f32) (wt : FVec Ideal S1x128x128 .f32) (bt : FVec Ideal S1x128x1 .f32)
  (h : Fin 2) (q : Fin 4) (p : Fin 1) (a k : Fin 128) (l : Fin 256)

/-- One tile of the first projection's gradient. -/
def tileU : EReal :=
  d (ix2 (half h a) (col q l)) * ((∑ k, mk a k (wt (ix3 0 a k)) * vt (ix2 (half h k) (col q l))) + bt (ix3 0 a 0)) * s (ix2 (half h a) (col q l))

theorem tileU_at :
    k0_pay33 vt s d k0_pay28 wt bt (ix3 p a l) = tileU vt s d wt bt 0 0 a l
    ∧ k0_pay42 (k0_pay40 vt d k0_pay28 wt bt) (k0_pay41 s) (ix3 p a l) = tileU vt s d wt bt 1 0 a l
    ∧ k0_pay51 vt s d (k0_pay48 k0_pay28 wt) bt (ix3 p a l) = tileU vt s d wt bt 0 1 a l
    ∧ k0_pay58 vt s d (k0_pay48 k0_pay28 wt) bt (ix3 p a l) = tileU vt s d wt bt 1 1 a l
    ∧ k0_pay69 s d (k0_pay68 vt k0_pay28 wt) bt (ix3 p a l) = tileU vt s d wt bt 0 2 a l
    ∧ k0_pay75 vt s d (k0_pay64 k0_pay28 wt) bt (ix3 p a l) = tileU vt s d wt bt 1 2 a l
    ∧ k0_pay88 (k0_pay87 vt s d k0_pay28 wt bt) (ix3 p a l) = tileU vt s d wt bt 0 3 a l
    ∧ k0_pay93 vt s d (k0_pay83 k0_pay28 wt) bt (ix3 p a l) = tileU vt s d wt bt 1 3 a l := by
  refine ⟨?_, ?_, ?_, ?_, ?_, ?_, ?_, ?_⟩ <;>
  · pointwise [k0_pay33, k0_pay42, k0_pay40, k0_pay41, k0_pay39, k0_pay32, k0_pay31, k0_pay51, k0_pay50, k0_pay48, k0_pay58, k0_pay57, k0_pay69, k0_pay68,
      k0_pay67, k0_pay64, k0_pay75, k0_pay74, k0_pay88, k0_pay87, k0_pay86, k0_pay83, k0_pay93, k0_pay92, tileU, half_0, half_1, col_0, col_1, col_2, col_3]
    try simp only [mask_at, mk_mul]

/-- One tile of the normed rows' cotangent. -/
def tileV : EReal := ∑ k, mk k a (wt (ix3 0 k a)) * (d (ix2 (half h k) (col q l)) * u (ix2 (half h k) (col q l)))

theorem tileV_at :
    k0_pay38 u d k0_pay28 wt (ix2 a l) = tileV u d wt 0 0 a l ∧ k0_pay45 u d (k0_pay31 k0_pay28 wt) (ix2 a l) = tileV u d wt 1 0 a l
    ∧ k0_pay56 u d (k0_pay48 k0_pay28 wt) (ix2 a l) = tileV u d wt 0 1 a l ∧ k0_pay61 u d (k0_pay48 k0_pay28 wt) (ix2 a l) = tileV u d wt 1 1 a l
    ∧ k0_pay73 u d (k0_pay64 k0_pay28 wt) (ix2 a l) = tileV u d wt 0 2 a l ∧ k0_pay80 (k0_pay64 k0_pay28 wt) (k0_pay78 u d) (ix2 a l) = tileV u d wt 1 2 a l
    ∧ k0_pay91 u d (k0_pay83 k0_pay28 wt) (ix2 a l) = tileV u d wt 0 3 a l ∧ k0_pay98 u d (k0_pay83 k0_pay28 wt) (ix2 a l) = tileV u d wt 1 3 a l := by
  refine ⟨?_, ?_, ?_, ?_, ?_, ?_, ?_, ?_⟩ <;>
  · pointwise [k0_pay38, k0_pay36, k0_pay34, k0_pay31, k0_pay45, k0_pay44, k0_pay43, k0_pay56, k0_pay54, k0_pay52, k0_pay48, k0_pay61, k0_pay60, k0_pay59,
      k0_pay73, k0_pay71, k0_pay70, k0_pay64, k0_pay80, k0_pay78, k0_pay76, k0_pay91, k0_pay90, k0_pay89, k0_pay83, k0_pay98, k0_pay96, k0_pay94, tileV, half_0, half_1, col_0, col_1, col_2, col_3]
    try simp only [mask_at, mk_mul]

/-- What a tile adds to the gradient of the mixing weights. -/
def tileW : EReal := ∑ l, d (ix2 (half h a) (col q l)) * u (ix2 (half h a) (col q l)) * vt (ix2 (half h k) (col q l))

variable (acc : FVec Ideal S1x128x128 .f32)

theorem tileW_at :
    k0_pay46 u d (k0_pay37 vt u d) (k0_pay39 vt) acc (ix3 p a k) = acc (ix3 p a k) + (tileW vt u d 0 0 a k + tileW vt u d 1 0 a k)
    ∧ k0_pay62 u d (k0_pay55 vt u d k0_pay49) (k0_pay57 vt) acc (ix3 p a k) = acc (ix3 p a k) + (tileW vt u d 0 1 a k + tileW vt u d 1 1 a k)
    ∧ k0_pay81 (k0_pay72 u d k0_pay65 (k0_pay67 vt)) (k0_pay79 vt u d) acc (ix3 p a k) = acc (ix3 p a k) + (tileW vt u d 0 2 a k + tileW vt u d 1 2 a k)
    ∧ k0_pay99 (k0_pay97 vt u d k0_pay84 (k0_pay86 vt)) acc (ix3 p a k) = acc (ix3 p a k) + (tileW vt u d 0 3 a k + tileW vt u d 1 3 a k) := by
  obtain rfl : p = 0 := Subsingleton.elim _ _
  refine ⟨?_, ?_, ?_, ?_⟩ <;>
  · pointwise [k0_pay46, k0_pay44, k0_pay43, k0_pay37, k0_pay36, k0_pay34, k0_pay32, k0_pay39, k0_pay62, k0_pay60, k0_pay59, k0_pay55, k0_pay54, k0_pay52,
      k0_pay50, k0_pay49, k0_pay57, k0_pay81, k0_pay72, k0_pay71, k0_pay70, k0_pay67, k0_pay65, k0_pay79, k0_pay78, k0_pay76, k0_pay74, k0_pay99, k0_pay97,
      k0_pay96, k0_pay94, k0_pay92, k0_pay90, k0_pay89, k0_pay86, k0_pay84, tileW, zero_add, half_0, half_1, col_0, col_1, col_2, col_3]

/-- What a tile adds to the summed cotangent of the mixed rows. -/
def tileS : EReal := d (ix2 (half h a) (col q l)) * u (ix2 (half h a) (col q l))

variable (sum : FVec Ideal S128x256 .f32)

theorem tileS_at :
    k0_pay47 u d (k0_pay35 u d) sum (ix2 a l) = sum (ix2 a l) + (tileS u d 0 0 a l + tileS u d 1 0 a l)
    ∧ k0_pay63 u d (k0_pay53 u d (FloatOps.ofBits .f32 0#32)) sum (ix2 a l) = sum (ix2 a l) + (tileS u d 0 1 a l + tileS u d 1 1 a l)
    ∧ k0_pay82 (k0_pay77 u d k0_pay66) sum (ix2 a l) = sum (ix2 a l) + (tileS u d 0 2 a l + tileS u d 1 2 a l)
    ∧ k0_pay100 (k0_pay95 u d k0_pay85) sum (ix2 a l) = sum (ix2 a l) + (tileS u d 0 3 a l + tileS u d 1 3 a l) := by
  refine ⟨?_, ?_, ?_, ?_⟩ <;>
  · pointwise [k0_pay47, k0_pay43, k0_pay35, k0_pay34, k0_pay63, k0_pay59, k0_pay53, k0_pay52, k0_pay82, k0_pay77, k0_pay76, k0_pay70, k0_pay66, k0_pay100,
      k0_pay95, k0_pay94, k0_pay89, k0_pay85, tileS, zero_add, half_0, half_1, col_0, col_1, col_2, col_3]

end Tiles

end Cert.SguIdeal.Value

end
-- ==== Proof.SguStore.lean ====
/-
  The gradient of the spatial gate: what the tiles leave in the four results.
-/
module

public import proofs.«01_k».proof.Proof.SguTile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Gelu (gelu slope)

namespace Cert.SguIdeal.Value

open Cert.SguIdeal Cert.SguIdeal.Gen

variable (m : (ℓ : Loc nD τ sig) → Buf (Elt Ideal) ℓ)

theorem idx : ∀ t : Fin cfg0.N, win0_0.index t = ![t.val, 0] ∧ win0_1.index t = ![t.val, 1] ∧ win0_2.index t = ![t.val, 0]
    ∧ win0_3.index t = ![0, 0] ∧ win0_4.index t = ![0, 0, 0] ∧ win0_5.index t = ![0, 0, 0] ∧ win0_6.index t = ![1, t.val, 0]
    ∧ win0_7.index t = ![0, 0, 0] ∧ win0_8.index t = ![0, 0, 0] ∧ win0_9.index t = ![0, 0] :=
  (by decide +kernel : ∀ t : Fin grid0.N, _)

/-! ## What a tile reads -/

/-- The tile's gated rows, their slopes, its cotangent rows, its normed rows with and without their gain. -/
def gu (c : Dev nD) (t : Fin cfg0.N) : FVec Ideal S256x1024 .f32 := k0_pay25 (k0_pay11 (iblk m c 0 t))
def su (c : Dev nD) (t : Fin cfg0.N) : FVec Ideal S256x1024 .f32 := k0_pay26 (k0_pay11 (iblk m c 0 t))
def dt (c : Dev nD) (t : Fin cfg0.N) : FVec Ideal S256x1024 .f32 := k0_pay27 (iblk m c 2 t)
def vt (c : Dev nD) (t : Fin cfg0.N) : FVec Ideal S256x1024 .bf16 :=
  k0_pay21 (k0_pay16 (iblk m c 1 t)) (k0_pay17 (iblk m c 1 t)) k0_pay18 (iblk m c 3 t)
def nt (c : Dev nD) (t : Fin cfg0.N) : FVec Ideal S256x1024 .f32 := k0_pay20 (k0_pay16 (iblk m c 1 t)) (k0_pay17 (iblk m c 1 t)) k0_pay18

/-- What tile `t` adds to the gradient of the mixing weights, and to the summed cotangent of the mixed rows. -/
def addW (c : Dev nD) (t : Fin cfg0.N) (q : Fin 4) (a k : Fin 128) : EReal :=
  tileW (vt m c t) (gu m c t) (dt m c t) 0 q a k + tileW (vt m c t) (gu m c t) (dt m c t) 1 q a k
def addS (c : Dev nD) (t : Fin cfg0.N) (q : Fin 4) (a : Fin 128) (l : Fin 256) : EReal :=
  tileS (gu m c t) (dt m c t) 0 q a l + tileS (gu m c t) (dt m c t) 1 q a l

theorem at3 (j : S4x128x128.Idx) (q : Fin 4) (p : Fin 1) (a k : Fin 128) (h0 : (j 0).val = q.val + p.val) (h1 : (j 1).val = a.val)
    (h2 : (j 2).val = k.val) : j = ix3 q a k := by
  obtain ⟨q', a', k', rfl⟩ : ∃ (q : Fin 4) (a k : Fin 128), j = ix3 q a k := ⟨j 0, j 1, j 2, eq_ix3 j⟩
  exact congr (congr (congrArg ix3 (Fin.ext (h0.trans (by omega)))) (Fin.ext h1)) (Fin.ext h2)

theorem at2 (j : S128x1024.Idx) (q : Fin 4) (a : Fin 128) (l : Fin 256) (h0 : (j 0).val = a.val) (h1 : (j 1).val = q.val * 256 + l.val) :
    j = ix2 a (col q l) := by
  obtain ⟨a', l', rfl⟩ : ∃ (a : Fin 128) (l : Fin 1024), j = ix2 a l := ⟨j 0, j 1, eq_ix2 j⟩
  exact congr (congrArg ix2 (Fin.ext h0)) (Fin.ext h1)

theorem ld3 (X : FVec Ideal S4x128x128 .f32) (q : Fin 4) (n : ℕ) (hn : n = q.val) (inb : ∀ i, ![n, 0, 0] i + ![1, 128, 128] i ≤ S4x128x128.size i)
    (p : Fin 1) (a k : Fin 128) : View.ld (e' := .f32) (Val := Elt Ideal) X (Rect.unit ![n, 0, 0] ![1, 128, 128] inb) (ix3 p a k) = X (ix3 q a k) :=
  congrArg X (at3 _ q p a k (by show n + 1 * p.val = _; omega) (by show 0 + 1 * a.val = _; omega) (by show 0 + 1 * k.val = _; omega))

theorem ld2 (X : FVec Ideal S128x1024 .f32) (q : Fin 4) (n : ℕ) (hn : n = q.val * 256) (inb : ∀ i, ![0, n] i + ![128, 256] i ≤ S128x1024.size i)
    (a : Fin 128) (l : Fin 256) : View.ld (e' := .f32) (Val := Elt Ideal) X (Rect.unit ![0, n] ![128, 256] inb) (ix2 a l) = X (ix2 a (col q l)) :=
  congrArg X (at2 _ q a l (by show 0 + 1 * a.val = _; omega) (by show n + 1 * l.val = _; omega))

theorem emb3 (q : Fin 4) (n : ℕ) (hn : n = q.val) (inb : ∀ i, ![n, 0, 0] i + ![1, 128, 128] i ≤ S4x128x128.size i) (p : Fin 1) (a k : Fin 128) :
    (Rect.unit (s := S4x128x128) ![n, 0, 0] ![1, 128, 128] inb).emb (ix3 p a k) = ix3 q a k :=
  at3 _ q p a k (by show n + 1 * p.val = _; omega) (by show 0 + 1 * a.val = _; omega) (by show 0 + 1 * k.val = _; omega)

theorem emb2 (q : Fin 4) (n : ℕ) (hn : n = q.val * 256) (inb : ∀ i, ![0, n] i + ![128, 256] i ≤ S128x1024.size i) (a : Fin 128) (l : Fin 256) :
    (Rect.unit (s := S128x1024) ![0, n] ![128, 256] inb).emb (ix2 a l) = ix2 a (col q l) :=
  at2 _ q a l (by show 0 + 1 * a.val = _; omega) (by show n + 1 * l.val = _; omega)

theorem grp_col (q : Fin 4) (l : Fin 256) : grp (col q l) = q := Fin.ext (by show (q.val * 256 + l.val) / 256 = _; omega)
theorem lane_col (q : Fin 4) (l : Fin 256) : lane (col q l) = l := Fin.ext (by show (q.val * 256 + l.val) % 256 = _; omega)

section Stores

variable (v : FVec Ideal S256x1024 .bf16) (u d : FVec Ideal S256x1024 .f32)

/-- Four stores, one per group, that add the tile's part to `X`, over any earlier stores. -/
theorem stores_W (X : FVec Ideal S4x128x128 .f32) (L : List (View.Piece (Elt Ideal) S4x128x128 .f32)) (j : S4x128x128.Idx) :
    View.canon (Val := Elt Ideal) (s := S4x128x128) (e := .f32)
      (⟨Rect.unit ![3, 0, 0] ![1, 128, 128] inb_S4x128x128_S1x128x128_3_0_0,
          k0_pay99 (F := Ideal) (k0_pay97 v u d k0_pay84 (k0_pay86 v)) (View.ld (e' := .f32) (Val := Elt Ideal) X (Rect.unit ![3, 0, 0] ![1, 128, 128] inb_S4x128x128_S1x128x128_3_0_0))⟩
        :: ⟨Rect.unit ![2, 0, 0] ![1, 128, 128] inb_S4x128x128_S1x128x128_2_0_0,
          k0_pay81 (F := Ideal) (k0_pay72 u d k0_pay65 (k0_pay67 v)) (k0_pay79 v u d)
            (View.ld (e' := .f32) (Val := Elt Ideal) X (Rect.unit ![2, 0, 0] ![1, 128, 128] inb_S4x128x128_S1x128x128_2_0_0))⟩
        :: ⟨Rect.unit ![1, 0, 0] ![1, 128, 128] inb_S4x128x128_S1x128x128_1_0_0,
          k0_pay62 (F := Ideal) u d (k0_pay55 v u d k0_pay49) (k0_pay57 v) (View.ld (e' := .f32) (Val := Elt Ideal) X (Rect.unit ![1, 0, 0] ![1, 128, 128] inb_S4x128x128_S1x128x128_1_0_0))⟩
        :: ⟨Rect.unit ![0, 0, 0] ![1, 128, 128] inb_S4x128x128_S1x128x128_0_0_0,
          k0_pay46 (F := Ideal) u d (k0_pay37 v u d) (k0_pay39 v) (View.ld (e' := .f32) (Val := Elt Ideal) X (Rect.unit ![0, 0, 0] ![1, 128, 128] inb_S4x128x128_S1x128x128_0_0_0))⟩
        :: L) j
      = X j + (tileW v u d 0 (j 0) (j 1) (j 2) + tileW v u d 1 (j 0) (j 1) (j 2)) := by
  refine View.canon_append_of_piecesOf (fun j : S4x128x128.Idx => (X j : EReal) + (tileW v u d 0 (j 0) (j 1) (j 2) + tileW v u d 1 (j 0) (j 1) (j 2))) L [_, _, _, _]
    ⟨?_, ?_, ?_, ?_, trivial⟩ j (View.cover_of_tiledL _ ![1, 128, 128] (by sl_kernel_rfl) j)
  all_goals
    intro x
    obtain ⟨p, a, k, rfl⟩ : ∃ (p : Fin 1) (a k : Fin 128), x = ix3 p a k := ⟨x 0, x 1, x 2, eq_ix3 x⟩
  · rw [emb3 3 3 rfl]; exact (tileW_at ..).2.2.2.trans (congrArg (· + _) (ld3 _ 3 _ rfl _ ..))
  · rw [emb3 2 2 rfl]; exact (tileW_at ..).2.2.1.trans (congrArg (· + _) (ld3 _ 2 _ rfl _ ..))
  · rw [emb3 1 1 rfl]; exact (tileW_at ..).2.1.trans (congrArg (· + _) (ld3 _ 1 _ rfl _ ..))
  · rw [emb3 0 0 rfl]; exact (tileW_at ..).1.trans (congrArg (· + _) (ld3 _ 0 _ rfl _ ..))

theorem stores_S (X : FVec Ideal S128x1024 .f32) (L : List (View.Piece (Elt Ideal) S128x1024 .f32)) (j : S128x1024.Idx) :
    View.canon (Val := Elt Ideal) (s := S128x1024) (e := .f32)
      (⟨Rect.unit ![0, 768] ![128, 256] inb_S128x1024_S128x256_0_768,
          k0_pay100 (F := Ideal) (k0_pay95 u d k0_pay85) (View.ld (e' := .f32) (Val := Elt Ideal) X (Rect.unit ![0, 768] ![128, 256] inb_S128x1024_S128x256_0_768))⟩
        :: ⟨Rect.unit ![0, 512] ![128, 256] inb_S128x1024_S128x256_0_512,
          k0_pay82 (F := Ideal) (k0_pay77 u d k0_pay66) (View.ld (e' := .f32) (Val := Elt Ideal) X (Rect.unit ![0, 512] ![128, 256] inb_S128x1024_S128x256_0_512))⟩
        :: ⟨Rect.unit ![0, 256] ![128, 256] inb_S128x1024_S128x256_0_256,
          k0_pay63 (F := Ideal) u d (k0_pay53 u d (FloatOps.ofBits .f32 0#32)) (View.ld (e' := .f32) (Val := Elt Ideal) X (Rect.unit ![0, 256] ![128, 256] inb_S128x1024_S128x256_0_256))⟩
        :: ⟨Rect.unit ![0, 0] ![128, 256] inb_S128x1024_S128x256_0_0,
          k0_pay47 (F := Ideal) u d (k0_pay35 u d) (View.ld (e' := .f32) (Val := Elt Ideal) X (Rect.unit ![0, 0] ![128, 256] inb_S128x1024_S128x256_0_0))⟩
        :: L) j
      = X j + (tileS u d 0 (grp (j 1)) (j 0) (lane (j 1)) + tileS u d 1 (grp (j 1)) (j 0) (lane (j 1))) := by
  refine View.canon_append_of_piecesOf (fun j : S128x1024.Idx => (X j : EReal) + (tileS u d 0 (grp (j 1)) (j 0) (lane (j 1)) + tileS u d 1 (grp (j 1)) (j 0) (lane (j 1)))) L
    [_, _, _, _] ⟨?_, ?_, ?_, ?_, trivial⟩ j (View.cover_of_tiledL _ ![128, 256] (by sl_kernel_rfl) j)
  all_goals
    intro x
    obtain ⟨a, l, rfl⟩ : ∃ (a : Fin 128) (l : Fin 256), x = ix2 a l := ⟨x 0, x 1, eq_ix2 x⟩
  · rw [emb2 3 768 rfl]
    show _ = X _ + (tileS u d 0 (grp (col 3 l)) a (lane (col 3 l)) + tileS u d 1 (grp (col 3 l)) a (lane (col 3 l)))
    rw [grp_col, lane_col]; exact (tileS_at ..).2.2.2.trans (congrArg (· + _) (ld2 _ 3 _ rfl _ ..))
  · rw [emb2 2 512 rfl]
    show _ = X _ + (tileS u d 0 (grp (col 2 l)) a (lane (col 2 l)) + tileS u d 1 (grp (col 2 l)) a (lane (col 2 l)))
    rw [grp_col, lane_col]; exact (tileS_at ..).2.2.1.trans (congrArg (· + _) (ld2 _ 2 _ rfl _ ..))
  · rw [emb2 1 256 rfl]
    show _ = X _ + (tileS u d 0 (grp (col 1 l)) a (lane (col 1 l)) + tileS u d 1 (grp (col 1 l)) a (lane (col 1 l)))
    rw [grp_col, lane_col]; exact (tileS_at ..).2.1.trans (congrArg (· + _) (ld2 _ 1 _ rfl _ ..))
  · rw [emb2 0 0 rfl]
    show _ = X _ + (tileS u d 0 (grp (col 0 l)) a (lane (col 0 l)) + tileS u d 1 (grp (col 0 l)) a (lane (col 0 l)))
    rw [grp_col, lane_col]; exact (tileS_at ..).1.trans (congrArg (· + _) (ld2 _ 0 _ rfl _ ..))

theorem masked_at (X : FVec Ideal S1x128x128 .f32) (p : Fin 1) (a k : Fin 128) :
    k0_pay2 (F := Ideal) k0_pay28 X (ix3 p a k) = mk a k (X (ix3 p a k)) ∧ k0_pay4 (F := Ideal) k0_pay28 X (ix3 p a k) = mk a k (X (ix3 p a k))
    ∧ k0_pay6 (F := Ideal) k0_pay28 X (ix3 p a k) = mk a k (X (ix3 p a k)) ∧ k0_pay8 (F := Ideal) k0_pay28 X (ix3 p a k) = mk a k (X (ix3 p a k)) := by
  obtain rfl : p = 0 := Subsingleton.elim _ _
  refine ⟨?_, ?_, ?_, ?_⟩ <;>
  · pointwise [k0_pay2, k0_pay4, k0_pay6, k0_pay8]
    exact mask_at ..

theorem sums_at (X : FVec Ideal S128x256 .f32) (p : Fin 1) (a k : Fin 128) :
    k0_pay3 (F := Ideal) X (ix3 p a k) = ∑ l, X (ix2 a l) ∧ k0_pay5 (F := Ideal) X (ix3 p a k) = ∑ l, X (ix2 a l)
    ∧ k0_pay7 (F := Ideal) X (ix3 p a k) = ∑ l, X (ix2 a l) ∧ k0_pay9 (F := Ideal) X (ix3 p a k) = ∑ l, X (ix2 a l) := by
  refine ⟨?_, ?_, ?_, ?_⟩ <;> pointwise [k0_pay3, k0_pay5, k0_pay7, k0_pay9]

end Stores

section Stores

variable (u d : FVec Ideal S256x1024 .f32) (X : FVec Ideal S4x128x128 .f32)

/-- The normed rows' cotangent of a tile: eight stores, one per chunk and group, read back whole. -/
def tileR (r : Fin 256) (j : Fin 1024) : EReal :=
  ∑ k, mk k ⟨r % 128, Nat.mod_lt _ (by decide)⟩ (X (ix3 (grp j) k ⟨r % 128, Nat.mod_lt _ (by decide)⟩))
    * (d (ix2 (half ⟨r / 128, by omega⟩ k) j) * u (ix2 (half ⟨r / 128, by omega⟩ k) j))

theorem at2' (j : S256x1024.Idx) (h : Fin 2) (q : Fin 4) (a : Fin 128) (l : Fin 256) (h0 : (j 0).val = h.val * 128 + a.val)
    (h1 : (j 1).val = q.val * 256 + l.val) : j = ix2 (half h a) (col q l) := by
  obtain ⟨a', l', rfl⟩ : ∃ (a : Fin 256) (l : Fin 1024), j = ix2 a l := ⟨j 0, j 1, eq_ix2 j⟩
  exact congr (congrArg ix2 (Fin.ext h0)) (Fin.ext h1)

theorem emb2' (h : Fin 2) (q : Fin 4) (r n : ℕ) (hr : r = h.val * 128) (hn : n = q.val * 256)
    (inb : ∀ i, ![r, n] i + ![128, 256] i ≤ S256x1024.size i) (a : Fin 128) (l : Fin 256) :
    (Rect.unit (s := S256x1024) ![r, n] ![128, 256] inb).emb (ix2 a l) = ix2 (half h a) (col q l) :=
  at2' _ h q a l (by show r + 1 * a.val = _; omega) (by show n + 1 * l.val = _; omega)

theorem tileR_at (h : Fin 2) (q : Fin 4) (n : ℕ) (hn : n = q.val) (inb : ∀ i, ![n, 0, 0] i + ![1, 128, 128] i ≤ S4x128x128.size i) (a : Fin 128)
    (l : Fin 256) : tileV u d (View.ld (e' := .f32) (Val := Elt Ideal) X (Rect.unit ![n, 0, 0] ![1, 128, 128] inb)) h q a l
      = tileR u d X (half h a) (col q l) := by
  unfold tileV tileR
  have e : (⟨(half h a).val % 128, Nat.mod_lt _ (by decide)⟩ : Fin 128) = a := Fin.ext (by show (h.val * 128 + a.val) % 128 = _; omega)
  have e' : (⟨(half h a).val / 128, by omega⟩ : Fin 2) = h := Fin.ext (by show (h.val * 128 + a.val) / 128 = _; omega)
  rw [e, e', grp_col]
  exact Fin.sum_fin_congr fun k => congrArg (fun x => mk k a x * _) (ld3 X q n hn inb 0 k a)

theorem stores_R (v : View sig .tc .vmem S256x1024 .f32) (r : Fin 256) (j : Fin 1024) :
    View.readCov (Val := Elt Ideal) v
      [⟨Rect.unit ![128, 768] ![128, 256] inb_S256x1024_S128x256_128_768,
          k0_pay98 (F := Ideal) u d (k0_pay83 k0_pay28 (View.ld (e' := .f32) (Val := Elt Ideal) X (Rect.unit ![3, 0, 0] ![1, 128, 128] inb_S4x128x128_S1x128x128_3_0_0)))⟩,
        ⟨Rect.unit ![0, 768] ![128, 256] inb_S256x1024_S128x256_0_768,
          k0_pay91 (F := Ideal) u d (k0_pay83 k0_pay28 (View.ld (e' := .f32) (Val := Elt Ideal) X (Rect.unit ![3, 0, 0] ![1, 128, 128] inb_S4x128x128_S1x128x128_3_0_0)))⟩,
        ⟨Rect.unit ![128, 512] ![128, 256] inb_S256x1024_S128x256_128_512,
          k0_pay80 (F := Ideal) (k0_pay64 k0_pay28 (View.ld (e' := .f32) (Val := Elt Ideal) X (Rect.unit ![2, 0, 0] ![1, 128, 128] inb_S4x128x128_S1x128x128_2_0_0)))
            (k0_pay78 u d)⟩,
        ⟨Rect.unit ![0, 512] ![128, 256] inb_S256x1024_S128x256_0_512,
          k0_pay73 (F := Ideal) u d (k0_pay64 k0_pay28 (View.ld (e' := .f32) (Val := Elt Ideal) X (Rect.unit ![2, 0, 0] ![1, 128, 128] inb_S4x128x128_S1x128x128_2_0_0)))⟩,
        ⟨Rect.unit ![128, 256] ![128, 256] inb_S256x1024_S128x256_128_256,
          k0_pay61 (F := Ideal) u d (k0_pay48 k0_pay28 (View.ld (e' := .f32) (Val := Elt Ideal) X (Rect.unit ![1, 0, 0] ![1, 128, 128] inb_S4x128x128_S1x128x128_1_0_0)))⟩,
        ⟨Rect.unit ![0, 256] ![128, 256] inb_S256x1024_S128x256_0_256,
          k0_pay56 (F := Ideal) u d (k0_pay48 k0_pay28 (View.ld (e' := .f32) (Val := Elt Ideal) X (Rect.unit ![1, 0, 0] ![1, 128, 128] inb_S4x128x128_S1x128x128_1_0_0)))⟩,
        ⟨Rect.unit ![128, 0] ![128, 256] inb_S256x1024_S128x256_128_0,
          k0_pay45 (F := Ideal) u d (k0_pay31 k0_pay28 (View.ld (e' := .f32) (Val := Elt Ideal) X (Rect.unit ![0, 0, 0] ![1, 128, 128] inb_S4x128x128_S1x128x128_0_0_0)))⟩,
        ⟨Rect.unit ![0, 0] ![128, 256] inb_S256x1024_S128x256_0_0,
          k0_pay38 (F := Ideal) u d k0_pay28 (View.ld (e' := .f32) (Val := Elt Ideal) X (Rect.unit ![0, 0, 0] ![1, 128, 128] inb_S4x128x128_S1x128x128_0_0_0))⟩]
      (Rect.unit (s := S256x1024) ![0, 0] ![256, 1024] inb_S256x1024_S256x1024_0_0).toLoadRect (ix2 r j) = tileR u d X r j := by
  rw [View.readCov_eq_canon']
  show View.canon _ _ = _
  have e : (Rect.unit (s := S256x1024) ![0, 0] ![256, 1024] inb_S256x1024_S256x1024_0_0).toLoadRect.idx (ix2 r j) = ix2 r j :=
    (eq_ix2 _).trans (congr (congrArg ix2 (Fin.ext (by show 0 + 1 * r.val = _; omega))) (Fin.ext (by show 0 + 1 * j.val = _; omega)))
  rw [e]
  refine View.canon_append_of_piecesOf (Val := Elt Ideal) (e := .f32) (fun j : S256x1024.Idx => tileR u d X (j 0) (j 1)) [] [_, _, _, _, _, _, _, _]
    ⟨?_, ?_, ?_, ?_, ?_, ?_, ?_, ?_, trivial⟩ (ix2 r j) (View.cover_of_tiledL _ ![128, 256] (by sl_kernel_rfl) _)
  all_goals
    intro x
    obtain ⟨a, l, rfl⟩ : ∃ (a : Fin 128) (l : Fin 256), x = ix2 a l := ⟨x 0, x 1, eq_ix2 x⟩
  · rw [emb2' 1 3 128 768 rfl rfl]; exact (tileV_at ..).2.2.2.2.2.2.2.trans (tileR_at u d X 1 3 3 rfl ..)
  · rw [emb2' 0 3 0 768 rfl rfl]; exact (tileV_at ..).2.2.2.2.2.2.1.trans (tileR_at u d X 0 3 3 rfl ..)
  · rw [emb2' 1 2 128 512 rfl rfl]; exact (tileV_at ..).2.2.2.2.2.1.trans (tileR_at u d X 1 2 2 rfl ..)
  · rw [emb2' 0 2 0 512 rfl rfl]; exact (tileV_at ..).2.2.2.2.1.trans (tileR_at u d X 0 2 2 rfl ..)
  · rw [emb2' 1 1 128 256 rfl rfl]; exact (tileV_at ..).2.2.2.1.trans (tileR_at u d X 1 1 1 rfl ..)
  · rw [emb2' 0 1 0 256 rfl rfl]; exact (tileV_at ..).2.2.1.trans (tileR_at u d X 0 1 1 rfl ..)
  · rw [emb2' 1 0 128 0 rfl rfl]; exact (tileV_at ..).2.1.trans (tileR_at u d X 1 0 0 rfl ..)
  · rw [emb2' 0 0 0 0 rfl rfl]; exact (tileV_at ..).1.trans (tileR_at u d X 0 0 0 rfl ..)

end Stores

theorem w_B (c : Dev nD) (t : Fin cfg0.N) (h0 : ¬t.val % 16 = 0) (h2 : ¬t.val % 16 = 15) (j : S4x128x128.Idx) :
    (outsAt0 m c t.val t.isLt).2.1 j = (outsAt0 m c (t.val - 1) (Nat.lt_of_le_of_lt (Nat.sub_le _ _) t.isLt)).2.1 j + addW m c t (j 0) (j 1) (j 2) := by
  rw [outsAt0_B m c t h0 h0 h2]
  frame_out
  exact stores_W ..

theorem s_B (c : Dev nD) (t : Fin cfg0.N) (h0 : ¬t.val % 16 = 0) (h2 : ¬t.val % 16 = 15) (j : S128x1024.Idx) :
    (outsAt0 m c t.val t.isLt).2.2.2.2 j = (outsAt0 m c (t.val - 1) (Nat.lt_of_le_of_lt (Nat.sub_le _ _) t.isLt)).2.2.2.2 j + addS m c t (grp (j 1)) (j 0) (lane (j 1)) := by
  rw [outsAt0_B m c t h0 h0 h2]
  frame_out
  simp only [read_unread_whole]
  exact stores_S ..

theorem w_A (c : Dev nD) (t : Fin cfg0.N) (h0 : t.val % 16 = 0) (h2 : ¬t.val % 16 = 15) (j : S4x128x128.Idx) :
    (outsAt0 m c t.val t.isLt).2.1 j = k0_pay29 (F := Ideal) j + addW m c t (j 0) (j 1) (j 2) := by
  rw [outsAt0_A m c t h0 h0 h2]
  frame_open
  simp (disch := decide) only [↓ View.readCov_skip, ↓ View.readCov_cons_toLoadRect, ↓ View.readCov_fill]
  frame_out
  exact stores_W ..

theorem s_A (c : Dev nD) (t : Fin cfg0.N) (h0 : t.val % 16 = 0) (h2 : ¬t.val % 16 = 15) (j : S128x1024.Idx) :
    (outsAt0 m c t.val t.isLt).2.2.2.2 j = k0_pay30 (F := Ideal) j + addS m c t (grp (j 1)) (j 0) (lane (j 1)) := by
  rw [outsAt0_A m c t h0 h0 h2]
  frame_open
  simp (disch := decide) only [↓ View.readCov_skip, ↓ View.readCov_cons_toLoadRect, ↓ View.readCov_fill]
  frame_out
  exact stores_S ..

theorem w_C (c : Dev nD) (t : Fin cfg0.N) (h0 : ¬t.val % 16 = 0) (h2 : t.val % 16 = 15) (j : S4x128x128.Idx) :
    (outsAt0 m c t.val t.isLt).2.1 j
      = mk (j 1) (j 2) ((outsAt0 m c (t.val - 1) (Nat.lt_of_le_of_lt (Nat.sub_le _ _) t.isLt)).2.1 j + addW m c t (j 0) (j 1) (j 2)) := by
  rw [outsAt0_C m c t h0 h0 h2]
  frame_open
  simp (disch := decide) only [↓ View.readCov_skip, ↓ View.readCov_cons_toLoadRect, ↓ View.readCov_fill]
  frame_out
  refine View.canon_append_of_piecesOf (Val := Elt Ideal) (e := .f32)
    (fun j : S4x128x128.Idx => mk (j 1) (j 2) ((outsAt0 m c (t.val - 1) (Nat.lt_of_le_of_lt (Nat.sub_le _ _) t.isLt)).2.1 j + addW m c t (j 0) (j 1) (j 2))) [_, _, _, _]
    [_, _, _, _] ⟨?_, ?_, ?_, ?_, trivial⟩ j (View.cover_of_tiledL _ ![1, 128, 128] (by sl_kernel_rfl) j)
  all_goals
    intro x
    obtain ⟨p, a, k, rfl⟩ : ∃ (p : Fin 1) (a k : Fin 128), x = ix3 p a k := ⟨x 0, x 1, x 2, eq_ix3 x⟩
  · rw [emb3 3 3 rfl]
    exact (masked_at ..).2.2.2.trans (congrArg (mk a k) ((tileW_at ..).2.2.2.trans (congrArg (· + _) (ld3 _ 3 _ rfl _ ..))))
  · rw [emb3 2 2 rfl]
    exact (masked_at ..).2.2.1.trans (congrArg (mk a k) ((tileW_at ..).2.2.1.trans (congrArg (· + _) (ld3 _ 2 _ rfl _ ..))))
  · rw [emb3 1 1 rfl]
    exact (masked_at ..).2.1.trans (congrArg (mk a k) ((tileW_at ..).2.1.trans (congrArg (· + _) (ld3 _ 1 _ rfl _ ..))))
  · rw [emb3 0 0 rfl]
    exact (masked_at ..).1.trans (congrArg (mk a k) ((tileW_at ..).1.trans (congrArg (· + _) (ld3 _ 0 _ rfl _ ..))))

theorem s_C (c : Dev nD) (t : Fin cfg0.N) (h0 : ¬t.val % 16 = 0) (h2 : t.val % 16 = 15) (j : S128x1024.Idx) :
    (outsAt0 m c t.val t.isLt).2.2.2.2 j = (outsAt0 m c (t.val - 1) (Nat.lt_of_le_of_lt (Nat.sub_le _ _) t.isLt)).2.2.2.2 j + addS m c t (grp (j 1)) (j 0) (lane (j 1)) := by
  rw [outsAt0_C m c t h0 h0 h2]
  frame_out
  simp only [read_unread_whole]
  exact stores_S ..

theorem b_C (c : Dev nD) (t : Fin cfg0.N) (h0 : ¬t.val % 16 = 0) (h2 : t.val % 16 = 15) (j : S4x128x128.Idx) :
    (outsAt0 m c t.val t.isLt).2.2.1 j
      = ∑ l, ((outsAt0 m c (t.val - 1) (Nat.lt_of_le_of_lt (Nat.sub_le _ _) t.isLt)).2.2.2.2 (ix2 (j 1) (col (j 0) l)) + addS m c t (j 0) (j 1) l) := by
  rw [outsAt0_C m c t h0 h0 h2]
  frame_open
  simp (disch := decide) only [↓ View.readCov_skip, ↓ View.readCov_cons_toLoadRect, ↓ View.readCov_fill]
  frame_out
  refine View.canon_append_of_piecesOf (Val := Elt Ideal) (e := .f32) (fun j : S4x128x128.Idx =>
      ∑ l, ((outsAt0 m c (t.val - 1) (Nat.lt_of_le_of_lt (Nat.sub_le _ _) t.isLt)).2.2.2.2 (ix2 (j 1) (col (j 0) l)) + addS m c t (j 0) (j 1) l))
    [] [_, _, _, _] ⟨?_, ?_, ?_, ?_, trivial⟩ j (View.cover_of_tiledL _ ![1, 128, 128] (by sl_kernel_rfl) j)
  all_goals
    intro x
    obtain ⟨p, a, k, rfl⟩ : ∃ (p : Fin 1) (a k : Fin 128), x = ix3 p a k := ⟨x 0, x 1, x 2, eq_ix3 x⟩
    simp only [read_unread_whole]
  · rw [emb3 3 3 rfl]
    exact (sums_at ..).2.2.2.trans (Fin.sum_fin_congr fun l => (tileS_at ..).2.2.2.trans (congrArg (· + _) (ld2 _ 3 _ rfl _ ..)))
  · rw [emb3 2 2 rfl]
    exact (sums_at ..).2.2.1.trans (Fin.sum_fin_congr fun l => (tileS_at ..).2.2.1.trans (congrArg (· + _) (ld2 _ 2 _ rfl _ ..)))
  · rw [emb3 1 1 rfl]
    exact (sums_at ..).2.1.trans (Fin.sum_fin_congr fun l => (tileS_at ..).2.1.trans (congrArg (· + _) (ld2 _ 1 _ rfl _ ..)))
  · rw [emb3 0 0 rfl]
    exact (sums_at ..).1.trans (Fin.sum_fin_congr fun l => (tileS_at ..).1.trans (congrArg (· + _) (ld2 _ 0 _ rfl _ ..)))

theorem pay102_at (v y : FVec Ideal S256x1024 .f32) (X : FVec Ideal S1x1024 .f32) (z : Fin 1) (j : Fin 1024) :
    k0_pay102 (F := Ideal) v y X (ix2 z j) = X (ix2 z j) + ∑ r, y (ix2 r j) * v (ix2 r j) := by
  obtain rfl : z = 0 := Subsingleton.elim _ _
  pointwise [k0_pay102]

/-- What tile `t` adds to the gradient of the norm's gain. -/
def addG (c : Dev nD) (t : Fin cfg0.N) (j : Fin 1024) : EReal := ∑ r, tileR (gu m c t) (dt m c t) (iblk m c 4 t) r j * nt m c t (ix2 r j)

theorem g_B (c : Dev nD) (t : Fin cfg0.N) (h0 : ¬t.val % 16 = 0) (j : S1x1024.Idx) :
    (outsAt0 m c t.val t.isLt).2.2.2.1 j = (outsAt0 m c (t.val - 1) (Nat.lt_of_le_of_lt (Nat.sub_le _ _) t.isLt)).2.2.2.1 j + addG m c t (j 1) := by
  obtain ⟨z, j, rfl⟩ : ∃ (z : Fin 1) (j' : Fin 1024), j = ix2 z j' := ⟨j 0, j 1, eq_ix2 j⟩
  by_cases h2 : t.val % 16 = 15
  on_goal 1 => rw [outsAt0_C m c t h0 h0 h2]
  on_goal 2 => rw [outsAt0_B m c t h0 h0 h2]
  all_goals
    frame_out
    rw [pay102_at]
    exact congrArg (_ + ·) (Fin.sum_fin_congr fun r => congrArg (· * _) (stores_R ..))

theorem g_A (c : Dev nD) (t : Fin cfg0.N) (h0 : t.val % 16 = 0) (j : S1x1024.Idx) :
    (outsAt0 m c t.val t.isLt).2.2.2.1 j = k0_pay101 (F := Ideal) j + addG m c t (j 1) := by
  obtain ⟨z, j, rfl⟩ : ∃ (z : Fin 1) (j' : Fin 1024), j = ix2 z j' := ⟨j 0, j 1, eq_ix2 j⟩
  rw [outsAt0_A m c t h0 h0 (by omega)]
  frame_out
  rw [pay102_at]
  exact congrArg (_ + ·) (Fin.sum_fin_congr fun r => congrArg (· * _) (stores_R ..))

section Rows

variable (x : FVec Ideal S256x1024 .bf16) (g : FVec Ideal S1x1024 .f32) (y : FVec Ideal S256x1024 .f32) (p : Fin 1) (r : Fin 256) (j : Fin 1024)

/-- The gated half of a tile's row, centred. -/
def centredRow : Fin 1024 → EReal := Layer.centred fun k => gelu (x (ix2 r k))

theorem row16_at : (fun k => k0_pay16 (F := Ideal) x (ix2 r k)) = centredRow x r := funext fun k => pay16_at x r k

theorem pay20_at : k0_pay20 (F := Ideal) (k0_pay16 x) (k0_pay17 x) k0_pay18 (ix2 r j) = centredRow x r j * Layer.dev (centredRow x r) := by
  pointwise [k0_pay20, pay19_at, row16_at]
  rw [pay16_at, centredRow]

theorem pay21_at : k0_pay21 (F := Ideal) (k0_pay16 x) (k0_pay17 x) k0_pay18 g (ix2 r j)
    = centredRow x r j * Layer.dev (centredRow x r) * g (ix2 0 j) := by
  pointwise [k0_pay21, pay20_at]

theorem pay1_at : k0_pay1 (F := Ideal) (k0_pay15 x) (k0_pay19 (k0_pay17 x) k0_pay18) (k0_pay20 (k0_pay16 x) (k0_pay17 x) k0_pay18) (k0_pay104 g y)
      (k0_pay105 (k0_pay20 (k0_pay16 x) (k0_pay17 x) k0_pay18) g y) (ix3 p r j)
    = Layer.bwd (centredRow x r) (fun k => y (ix2 r k) * g (ix2 0 k)) j * slope (x (ix2 r j)) := by
  pointwise [k0_pay1, k0_pay104, k0_pay105, k0_pay103, pay20_at, pay19_at, pay15_at, row16_at, Layer.bwd]

end Rows

section Stores

variable (v : FVec Ideal S256x1024 .bf16) (s d : FVec Ideal S256x1024 .f32) (X : FVec Ideal S4x128x128 .f32) (B : FVec Ideal S4x128x1 .f32)

/-- The first projection's gradient of a tile. -/
def tileZ (r : Fin 256) (j : Fin 1024) : EReal :=
  d (ix2 r j) * ((∑ k, mk ⟨r % 128, Nat.mod_lt _ (by decide)⟩ k (X (ix3 (grp j) ⟨r % 128, Nat.mod_lt _ (by decide)⟩ k))
    * v (ix2 (half ⟨r / 128, by omega⟩ k) j)) + B (ix3 (grp j) ⟨r % 128, Nat.mod_lt _ (by decide)⟩ 0)) * s (ix2 r j)

theorem ldb (q : Fin 4) (n : ℕ) (hn : n = q.val) (inb : ∀ i, ![n, 0, 0] i + ![1, 128, 1] i ≤ S4x128x1.size i)
    (p : Fin 1) (a : Fin 128) : View.ld (e' := .f32) (Val := Elt Ideal) B (Rect.unit ![n, 0, 0] ![1, 128, 1] inb) (ix3 p a 0) = B (ix3 q a 0) :=
  congrArg B ((eq_ix3 _).trans (congr (congr (congrArg ix3 (Fin.ext (by show n + 1 * p.val = _; omega))) (Fin.ext (by show 0 + 1 * a.val = _; omega)))
    (Fin.ext rfl)))

theorem tileZ_at (h : Fin 2) (q : Fin 4) (n : ℕ) (hn : n = q.val) (inb : ∀ i, ![n, 0, 0] i + ![1, 128, 128] i ≤ S4x128x128.size i)
    (inb' : ∀ i, ![n, 0, 0] i + ![1, 128, 1] i ≤ S4x128x1.size i) (a : Fin 128) (l : Fin 256) :
    tileU v s d (View.ld (e' := .f32) (Val := Elt Ideal) X (Rect.unit ![n, 0, 0] ![1, 128, 128] inb))
        (View.ld (e' := .f32) (Val := Elt Ideal) B (Rect.unit ![n, 0, 0] ![1, 128, 1] inb')) h q a l
      = tileZ v s d X B (half h a) (col q l) := by
  unfold tileU tileZ
  have e : (⟨(half h a).val % 128, Nat.mod_lt _ (by decide)⟩ : Fin 128) = a := Fin.ext (by show (h.val * 128 + a.val) % 128 = _; omega)
  have e' : (⟨(half h a).val / 128, by omega⟩ : Fin 2) = h := Fin.ext (by show (h.val * 128 + a.val) / 128 = _; omega)
  rw [e, e', grp_col]
  exact congrArg (_ * · * _) (congrArg₂ (· + ·) (Fin.sum_fin_congr fun k => congrArg (fun x => mk a k x * _) (ld3 X q n hn inb 0 a k))
    (ldb B q n hn inb' 0 a))

theorem at3' (j : S2x256x1024.Idx) (h : Fin 2) (q : Fin 4) (p : Fin 1) (a : Fin 128) (l : Fin 256) (h0 : (j 0).val = p.val)
    (h1 : (j 1).val = h.val * 128 + a.val) (h2 : (j 2).val = q.val * 256 + l.val) : j = ix3 0 (half h a) (col q l) := by
  obtain ⟨s', a', l', rfl⟩ : ∃ (s : Fin 2) (a : Fin 256) (l : Fin 1024), j = ix3 s a l := ⟨j 0, j 1, j 2, eq_ix3 j⟩
  exact congr (congr (congrArg ix3 (Fin.ext (h0.trans (by show p.val = 0; omega)))) (Fin.ext h1)) (Fin.ext h2)

/-- Nine stores of a tile's two gradients: one of the second's rows, and one per chunk and group of the first's. -/
theorem stores_Z (y : FVec Ideal S1x256x1024 .f32) (j : S2x256x1024.Idx) :
    View.canon (Val := Elt Ideal) (s := S2x256x1024) (e := .f32)
      [⟨Rect.unit ![1, 0, 0] ![1, 256, 1024] inb_S2x256x1024_S1x256x1024_1_0_0, y⟩,
        ⟨Rect.unit ![0, 128, 768] ![1, 128, 256] inb_S2x256x1024_S1x128x256_0_128_768,
          k0_pay93 (F := Ideal) v s d (k0_pay83 k0_pay28 (View.ld (e' := .f32) (Val := Elt Ideal) X (Rect.unit ![3, 0, 0] ![1, 128, 128] inb_S4x128x128_S1x128x128_3_0_0))) (View.ld (e' := .f32) (Val := Elt Ideal) B (Rect.unit ![3, 0, 0] ![1, 128, 1] inb_S4x128x1_S1x128x1_3_0_0))⟩,
        ⟨Rect.unit ![0, 0, 768] ![1, 128, 256] inb_S2x256x1024_S1x128x256_0_0_768,
          k0_pay88 (F := Ideal) (k0_pay87 v s d k0_pay28 (View.ld (e' := .f32) (Val := Elt Ideal) X (Rect.unit ![3, 0, 0] ![1, 128, 128] inb_S4x128x128_S1x128x128_3_0_0)) (View.ld (e' := .f32) (Val := Elt Ideal) B (Rect.unit ![3, 0, 0] ![1, 128, 1] inb_S4x128x1_S1x128x1_3_0_0)))⟩,
        ⟨Rect.unit ![0, 128, 512] ![1, 128, 256] inb_S2x256x1024_S1x128x256_0_128_512,
          k0_pay75 (F := Ideal) v s d (k0_pay64 k0_pay28 (View.ld (e' := .f32) (Val := Elt Ideal) X (Rect.unit ![2, 0, 0] ![1, 128, 128] inb_S4x128x128_S1x128x128_2_0_0))) (View.ld (e' := .f32) (Val := Elt Ideal) B (Rect.unit ![2, 0, 0] ![1, 128, 1] inb_S4x128x1_S1x128x1_2_0_0))⟩,
        ⟨Rect.unit ![0, 0, 512] ![1, 128, 256] inb_S2x256x1024_S1x128x256_0_0_512,
          k0_pay69 (F := Ideal) s d (k0_pay68 v k0_pay28 (View.ld (e' := .f32) (Val := Elt Ideal) X (Rect.unit ![2, 0, 0] ![1, 128, 128] inb_S4x128x128_S1x128x128_2_0_0))) (View.ld (e' := .f32) (Val := Elt Ideal) B (Rect.unit ![2, 0, 0] ![1, 128, 1] inb_S4x128x1_S1x128x1_2_0_0))⟩,
        ⟨Rect.unit ![0, 128, 256] ![1, 128, 256] inb_S2x256x1024_S1x128x256_0_128_256,
          k0_pay58 (F := Ideal) v s d (k0_pay48 k0_pay28 (View.ld (e' := .f32) (Val := Elt Ideal) X (Rect.unit ![1, 0, 0] ![1, 128, 128] inb_S4x128x128_S1x128x128_1_0_0))) (View.ld (e' := .f32) (Val := Elt Ideal) B (Rect.unit ![1, 0, 0] ![1, 128, 1] inb_S4x128x1_S1x128x1_1_0_0))⟩,
        ⟨Rect.unit ![0, 0, 256] ![1, 128, 256] inb_S2x256x1024_S1x128x256_0_0_256,
          k0_pay51 (F := Ideal) v s d (k0_pay48 k0_pay28 (View.ld (e' := .f32) (Val := Elt Ideal) X (Rect.unit ![1, 0, 0] ![1, 128, 128] inb_S4x128x128_S1x128x128_1_0_0))) (View.ld (e' := .f32) (Val := Elt Ideal) B (Rect.unit ![1, 0, 0] ![1, 128, 1] inb_S4x128x1_S1x128x1_1_0_0))⟩,
        ⟨Rect.unit ![0, 128, 0] ![1, 128, 256] inb_S2x256x1024_S1x128x256_0_128_0,
          k0_pay42 (F := Ideal) (k0_pay40 v d k0_pay28 (View.ld (e' := .f32) (Val := Elt Ideal) X (Rect.unit ![0, 0, 0] ![1, 128, 128] inb_S4x128x128_S1x128x128_0_0_0)) (View.ld (e' := .f32) (Val := Elt Ideal) B (Rect.unit ![0, 0, 0] ![1, 128, 1] inb_S4x128x1_S1x128x1_0_0_0))) (k0_pay41 s)⟩,
        ⟨Rect.unit ![0, 0, 0] ![1, 128, 256] inb_S2x256x1024_S1x128x256_0_0_0,
          k0_pay33 (F := Ideal) v s d k0_pay28 (View.ld (e' := .f32) (Val := Elt Ideal) X (Rect.unit ![0, 0, 0] ![1, 128, 128] inb_S4x128x128_S1x128x128_0_0_0)) (View.ld (e' := .f32) (Val := Elt Ideal) B (Rect.unit ![0, 0, 0] ![1, 128, 1] inb_S4x128x1_S1x128x1_0_0_0))⟩] j
      = if (j 0).val = 0 then tileZ v s d X B (j 1) (j 2) else y (ix3 0 (j 1) (j 2)) := by
  canon_tiles x h using View.cover_of_tiledBy _ ![1, 128, 256] (by sl_kernel_rfl) _
  case piece0 =>
    obtain ⟨p, r, l, rfl⟩ : ∃ (p : Fin 1) (r : Fin 256) (l : Fin 1024), x = ix3 p r l := ⟨x 0, x 1, x 2, eq_ix3 x⟩
    obtain rfl : p = 0 := Subsingleton.elim _ _
    obtain rfl : j = ix3 1 r l := (eq_ix3 j).trans (congr (congr (congrArg ix3 (Fin.ext h0)) (Fin.ext h1)) (Fin.ext h2))
    exact (if_neg (show ¬(1 : Fin 2).val = 0 by decide)).symm
  case piece1 =>
    obtain ⟨p, a, l, rfl⟩ : ∃ (p : Fin 1) (a : Fin 128) (l : Fin 256), x = ix3 p a l := ⟨x 0, x 1, x 2, eq_ix3 x⟩
    obtain rfl := at3' j 1 3 p a l h0 (h1.trans (by first | rfl | exact (Nat.zero_add _).symm)) (h2.trans (by first | rfl | exact (Nat.zero_add _).symm))
    exact ((tileU_at ..).2.2.2.2.2.2.2.trans (tileZ_at _ _ _ _ _ 1 3 3 rfl ..)).trans (if_pos rfl).symm
  case piece2 =>
    obtain ⟨p, a, l, rfl⟩ : ∃ (p : Fin 1) (a : Fin 128) (l : Fin 256), x = ix3 p a l := ⟨x 0, x 1, x 2, eq_ix3 x⟩
    obtain rfl := at3' j 0 3 p a l h0 (h1.trans (by first | rfl | exact (Nat.zero_add _).symm)) (h2.trans (by first | rfl | exact (Nat.zero_add _).symm))
    exact ((tileU_at ..).2.2.2.2.2.2.1.trans (tileZ_at _ _ _ _ _ 0 3 3 rfl ..)).trans (if_pos rfl).symm
  case piece3 =>
    obtain ⟨p, a, l, rfl⟩ : ∃ (p : Fin 1) (a : Fin 128) (l : Fin 256), x = ix3 p a l := ⟨x 0, x 1, x 2, eq_ix3 x⟩
    obtain rfl := at3' j 1 2 p a l h0 (h1.trans (by first | rfl | exact (Nat.zero_add _).symm)) (h2.trans (by first | rfl | exact (Nat.zero_add _).symm))
    exact ((tileU_at ..).2.2.2.2.2.1.trans (tileZ_at _ _ _ _ _ 1 2 2 rfl ..)).trans (if_pos rfl).symm
  case piece4 =>
    obtain ⟨p, a, l, rfl⟩ : ∃ (p : Fin 1) (a : Fin 128) (l : Fin 256), x = ix3 p a l := ⟨x 0, x 1, x 2, eq_ix3 x⟩
    obtain rfl := at3' j 0 2 p a l h0 (h1.trans (by first | rfl | exact (Nat.zero_add _).symm)) (h2.trans (by first | rfl | exact (Nat.zero_add _).symm))
    exact ((tileU_at ..).2.2.2.2.1.trans (tileZ_at _ _ _ _ _ 0 2 2 rfl ..)).trans (if_pos rfl).symm
  case piece5 =>
    obtain ⟨p, a, l, rfl⟩ : ∃ (p : Fin 1) (a : Fin 128) (l : Fin 256), x = ix3 p a l := ⟨x 0, x 1, x 2, eq_ix3 x⟩
    obtain rfl := at3' j 1 1 p a l h0 (h1.trans (by first | rfl | exact (Nat.zero_add _).symm)) (h2.trans (by first | rfl | exact (Nat.zero_add _).symm))
    exact ((tileU_at ..).2.2.2.1.trans (tileZ_at _ _ _ _ _ 1 1 1 rfl ..)).trans (if_pos rfl).symm
  case piece6 =>
    obtain ⟨p, a, l, rfl⟩ : ∃ (p : Fin 1) (a : Fin 128) (l : Fin 256), x = ix3 p a l := ⟨x 0, x 1, x 2, eq_ix3 x⟩
    obtain rfl := at3' j 0 1 p a l h0 (h1.trans (by first | rfl | exact (Nat.zero_add _).symm)) (h2.trans (by first | rfl | exact (Nat.zero_add _).symm))
    exact ((tileU_at ..).2.2.1.trans (tileZ_at _ _ _ _ _ 0 1 1 rfl ..)).trans (if_pos rfl).symm
  case piece7 =>
    obtain ⟨p, a, l, rfl⟩ : ∃ (p : Fin 1) (a : Fin 128) (l : Fin 256), x = ix3 p a l := ⟨x 0, x 1, x 2, eq_ix3 x⟩
    obtain rfl := at3' j 1 0 p a l h0 (h1.trans (by first | rfl | exact (Nat.zero_add _).symm)) (h2.trans (by first | rfl | exact (Nat.zero_add _).symm))
    exact ((tileU_at ..).2.1.trans (tileZ_at _ _ _ _ _ 1 0 0 rfl ..)).trans (if_pos rfl).symm
  case piece8 =>
    obtain ⟨p, a, l, rfl⟩ : ∃ (p : Fin 1) (a : Fin 128) (l : Fin 256), x = ix3 p a l := ⟨x 0, x 1, x 2, eq_ix3 x⟩
    obtain rfl := at3' j 0 0 p a l h0 (h1.trans (by first | rfl | exact (Nat.zero_add _).symm)) (h2.trans (by first | rfl | exact (Nat.zero_add _).symm))
    exact ((tileU_at ..).1.trans (tileZ_at _ _ _ _ _ 0 0 0 rfl ..)).trans (if_pos rfl).symm

end Stores

/-- The two projections' gradients of tile `t`. -/
def outZ (c : Dev nD) (t : Fin cfg0.N) (s : Fin 2) (r : Fin 256) (j : Fin 1024) : EReal :=
  if s.val = 0 then tileZ (vt m c t) (su m c t) (dt m c t) (iblk m c 4 t) (iblk m c 5 t) r j
  else Layer.bwd (centredRow (iblk m c 1 t) r)
      (fun k => tileR (gu m c t) (dt m c t) (iblk m c 4 t) r k * (iblk m c 3 t : FVec Ideal S1x1024 .f32) (ix2 0 k)) j
    * slope ((iblk m c 1 t : FVec Ideal S256x1024 .bf16) (ix2 r j))

theorem second_at (x : FVec Ideal S256x1024 .bf16) (g : FVec Ideal S1x1024 .f32) (y : FVec Ideal S256x1024 .f32) (f : Fin 256 → Fin 1024 → EReal)
    (hy : ∀ r j, y (ix2 r j) = f r j) (r : Fin 256) (j : Fin 1024) :
    k0_pay1 (F := Ideal) (k0_pay15 x) (k0_pay19 (k0_pay17 x) k0_pay18) (k0_pay20 (k0_pay16 x) (k0_pay17 x) k0_pay18) (k0_pay104 g y)
      (k0_pay105 (k0_pay20 (k0_pay16 x) (k0_pay17 x) k0_pay18) g y) (ix3 0 r j)
    = Layer.bwd (centredRow x r) (fun k => f r k * g (ix2 0 k)) j * slope (x (ix2 r j)) := by
  rw [pay1_at]
  simp only [hy]

theorem z_all (c : Dev nD) (t : Fin cfg0.N) (j : S2x256x1024.Idx) : (outsAt0 m c t.val t.isLt).1 j = outZ m c t (j 0) (j 1) (j 2) := by
  rcases (by omega : t.val % 16 = 0 ∨ ¬t.val % 16 = 0 ∧ ¬t.val % 16 = 15 ∨ ¬t.val % 16 = 0 ∧ t.val % 16 = 15) with h | ⟨h, h'⟩ | ⟨h, h'⟩
  on_goal 1 => rw [outsAt0_A m c t h h (by omega)]
  on_goal 2 => rw [outsAt0_B m c t h h h']
  on_goal 3 => rw [outsAt0_C m c t h h h']
  all_goals
    frame_out
    refine (stores_Z ..).trans ?_
    by_cases hj : (j 0).val = 0
    · exact (if_pos hj).trans (if_pos hj).symm
    · refine (if_neg hj).trans (Eq.trans ?_ (if_neg hj).symm)
      refine second_at (iblk m c 1 t) (iblk m c 3 t) _ _ ?_ (j 1) (j 2)
      exact fun r j => stores_R ..

end Cert.SguIdeal.Value

end
-- ==== Proof.SguValue.lean ====
/-
  The gradient of the spatial gate: the four results, and what the reference writes.
-/
module

public import proofs.«01_k».proof.Proof.SguStore
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Gelu (gelu slope)

namespace Cert.SguIdeal.Value

open Cert.SguIdeal Cert.SguIdeal.Gen

variable (m : (ℓ : Loc nD τ sig) → Buf (Elt Ideal) ℓ)

section Blocks

variable (c : Dev nD) (t : Fin cfg0.N)

abbrev za (c : Dev nD) : FVec Ideal S4096x5120 .f32 := m ((c.tc : Thread nD τ).loc main_arg0)
abbrev ga (c : Dev nD) : FVec Ideal S1x1024 .f32 := m ((c.tc : Thread nD τ).loc main_arg1)
abbrev wa (c : Dev nD) : FVec Ideal S4x128x128 .f32 := m ((c.tc : Thread nD τ).loc main_arg2)
abbrev ba (c : Dev nD) : FVec Ideal S4x128 .f32 := m ((c.tc : Thread nD τ).loc main_arg3)
abbrev daa (c : Dev nD) : FVec Ideal S4096x1024 .f32 := m ((c.tc : Thread nD τ).loc main_arg4)
abbrev dza (c : Dev nD) : FVec Ideal S5x4096x1024 .f32 := m ((c.tc : Thread nD τ).loc main_arg5)

theorem host_z (i : Fin 4096) (j : Fin 5120) : (V m c main_v0 : FVec Ideal S4096x5120 .bf16) (ix2 i j) = za m c (ix2 i j) := by
  show StableHlo.after hostOps0 _ (Proc.devRef .tc main_v0) (ix2 i j) = _
  after_results_simp
  pointwise []

theorem host_da (i : Fin 4096) (j : Fin 1024) : (V m c main_v1 : FVec Ideal S4096x1024 .bf16) (ix2 i j) = daa m c (ix2 i j) := by
  show StableHlo.after hostOps0 _ (Proc.devRef .tc main_v1) (ix2 i j) = _
  after_results_simp
  pointwise []

theorem host_b (q : Fin 4) (a : Fin 128) (x : Fin 1) : (V m c main_v3 : FVec Ideal S4x128x1 .f32) (ix3 q a x) = ba m c (ix2 q a) := by
  show StableHlo.after hostOps0 _ (Proc.devRef .tc main_v3) (ix3 q a x) = _
  after_results_simp
  pointwise []

theorem blk0 (r : Fin 256) (j : Fin 1024) : (iblk m c 0 t : FVec Ideal S256x1024 .bf16) (ix2 r j) = za m c (ix2 (Norm.row t r) (colU j)) := by
  refine Eq.trans ?_ (host_z m c (Norm.row t r) (colU j))
  unfold Norm.row colU
  blk_point [iblk, V, idx t]

theorem blk1 (r : Fin 256) (j : Fin 1024) : (iblk m c 1 t : FVec Ideal S256x1024 .bf16) (ix2 r j) = za m c (ix2 (Norm.row t r) (colV j)) := by
  refine Eq.trans ?_ (host_z m c (Norm.row t r) (colV j))
  unfold Norm.row colV
  blk_point [iblk, V, idx t]

theorem blk2 (r : Fin 256) (j : Fin 1024) : (iblk m c 2 t : FVec Ideal S256x1024 .bf16) (ix2 r j) = daa m c (ix2 (Norm.row t r) j) := by
  refine Eq.trans ?_ (host_da m c (Norm.row t r) j)
  unfold Norm.row
  blk_point [iblk, V, idx t]

theorem blk3 (j : Fin 1024) : (iblk m c 3 t : FVec Ideal S1x1024 .f32) (ix2 0 j) = ga m c (ix2 0 j) := by
  blk_point [iblk, V, idx t]

theorem blk4 (q : Fin 4) (a k : Fin 128) : (iblk m c 4 t : FVec Ideal S4x128x128 .f32) (ix3 q a k) = wa m c (ix3 q a k) := by
  blk_point [iblk, V, idx t]

theorem blk5 (q : Fin 4) (a : Fin 128) : (iblk m c 5 t : FVec Ideal S4x128x1 .f32) (ix3 q a 0) = ba m c (ix2 q a) := by
  refine Eq.trans ?_ (host_b m c q a 0)
  blk_point [iblk, V, idx t]

end Blocks

/-! ## What a tile adds, in the rows of the whole -/

section Tiles

variable (c : Dev nD) (t : Fin cfg0.N) (h : Fin 2) (r : Fin 256) (q : Fin 4) (a k : Fin 128) (l : Fin 256) (j : Fin 1024)

/-- Chunk `h` of tile `t`. -/
def part (t : Fin 16) (h : Fin 2) : Fin 32 := ⟨t * 2 + h, by omega⟩

theorem row_half : Norm.row t (half h a) = tok (part t h) a :=
  Fin.ext (by show t.val * 256 + (h.val * 128 + a.val) = (t.val * 2 + h.val) * 128 + a.val; omega)

theorem row_chunk : Norm.row t (half ⟨r / 128, by omega⟩ k) = tok (chunk (Norm.row t r)) k :=
  Fin.ext (by show t.val * 256 + (r.val / 128 * 128 + k.val) = (t.val * 256 + r.val) / 128 * 128 + k.val; omega)

theorem pos_row : pos (Norm.row t r) = ⟨r % 128, Nat.mod_lt _ (by decide)⟩ :=
  Fin.ext (by show (t.val * 256 + r.val) % 128 = r.val % 128; omega)

theorem tok_chunk (i : Fin 4096) : tok (chunk i) (pos i) = i := Fin.ext (by show i.val / 128 * 128 + i.val % 128 = _; omega)
theorem col_grp : col (grp j) (lane j) = j := Fin.ext (by show j.val / 256 * 256 + j.val % 256 = _; omega)

theorem gu_at : gu m c t (ix2 r j) = gelu (za m c (ix2 (Norm.row t r) (colU j))) := by
  rw [gu, pay25_at, pay11_at, blk0]
theorem su_at : su m c t (ix2 r j) = slope (za m c (ix2 (Norm.row t r) (colU j))) := by
  rw [su, pay26_at, pay11_at, blk0]
theorem dt_at : dt m c t (ix2 r j) = daa m c (ix2 (Norm.row t r) j) := by
  rw [dt, pay27_at, blk2]

theorem centred_at : centredRow (iblk m c 1 t) r = cen (za m c) (Norm.row t r) :=
  congrArg Layer.centred (funext fun k => congrArg gelu (blk1 m c t r k))

theorem nt_at : nt m c t (ix2 r j) = nrm (za m c) (Norm.row t r) j := by
  rw [nt, pay20_at, centred_at, nrm]
theorem vt_at : vt m c t (ix2 r j) = vn (za m c) (ga m c) (Norm.row t r) j := by
  rw [vt, pay21_at, centred_at, blk3, vn, nrm]

theorem tileR_eq : tileR (gu m c t) (dt m c t) (iblk m c 4 t) r j = dvnRow (za m c) (wa m c) (daa m c) (Norm.row t r) j := by
  unfold tileR dvnRow dvn
  rw [← pos_row t r]
  refine Fin.sum_fin_congr fun k => ?_
  rw [gu_at, dt_at, blk4, row_chunk, dsv, col_grp]
  rfl

theorem tileZ_eq : tileZ (vt m c t) (su m c t) (dt m c t) (iblk m c 4 t) (iblk m c 5 t) r j
    = DZU (za m c) (ga m c) (wa m c) (ba m c) (daa m c) (chunk (Norm.row t r)) (pos (Norm.row t r)) (grp j) (lane j) := by
  unfold tileZ DZU sv
  rw [← pos_row t r, su_at, dt_at, tok_chunk, col_grp, blk5]
  refine congrArg (fun x : EReal => _ * (x + _) * _) (Fin.sum_fin_congr fun k => ?_)
  rw [vt_at, blk4, row_chunk]
  rfl

theorem tileW_eq : tileW (vt m c t) (gu m c t) (dt m c t) h q a k
    = ∑ l, dsv (za m c) (daa m c) (part t h) a q l * vn (za m c) (ga m c) (tok (part t h) k) (col q l) := by
  unfold tileW dsv
  refine Fin.sum_fin_congr fun l => ?_
  rw [gu_at, dt_at, vt_at, row_half, row_half]

theorem tileS_eq : tileS (gu m c t) (dt m c t) h q a l = dsv (za m c) (daa m c) (part t h) a q l := by
  unfold tileS dsv
  rw [gu_at, dt_at, row_half]

theorem addW_eq : addW m c t q a k
    = ∑ h : Fin 2, ∑ l, dsv (za m c) (daa m c) (part t h) a q l * vn (za m c) (ga m c) (tok (part t h) k) (col q l) := by
  rw [addW, tileW_eq, tileW_eq, Fin.sum_univ_two]

theorem addS_eq : addS m c t q a l = ∑ h : Fin 2, dsv (za m c) (daa m c) (part t h) a q l := by
  rw [addS, tileS_eq, tileS_eq, Fin.sum_univ_two]

theorem addG_eq : addG m c t j = ∑ r, dvnRow (za m c) (wa m c) (daa m c) (Norm.row t r) j * nrm (za m c) (Norm.row t r) j := by
  unfold addG
  refine Fin.sum_fin_congr fun r => ?_
  rw [tileR_eq, nt_at]

theorem sum_parts (f : Fin 32 → EReal) : ∑ n, f n = ∑ t : Fin 16, ∑ h : Fin 2, f (part t h) := Fin.sum_univ_tiles 16 2 rfl f

end Tiles

/-! ## The four results -/

theorem mk_idem (a k : Fin 128) (x : EReal) : mk a k (mk a k x) = mk a k x := by
  unfold mk
  split <;> rfl

theorem mk_add (a k : Fin 128) (x y : EReal) : mk a k (x + y) = mk a k x + mk a k y := by
  unfold mk
  split <;> simp

theorem zeroW (j : S4x128x128.Idx) : k0_pay29 (F := Ideal) j = 0 := by pointwise [k0_pay29]
theorem zeroS (j : S128x1024.Idx) : k0_pay30 (F := Ideal) j = 0 := by pointwise [k0_pay30]
theorem zeroG (j : S1x1024.Idx) : k0_pay101 (F := Ideal) j = 0 := by pointwise [k0_pay101]

theorem final7 (c : Dev nD) : (dats m 0 c).arrAt 7 cfg0.N = DW (za m c) (ga m c) (daa m c) := by
  refine (dats m 0 c).arrAt_eq_of_after_last 7 t0_15 (by decide +kernel) _ fun j => ?_
  blk_simp
  rw [after0_7]
  have e : (outsAt0 m c t0_15.val t0_15.isLt).2.1 j = mk (j 1) (j 2) ((outsAt0 m c t0_15.val t0_15.isLt).2.1 j) :=
    (w_C m c t0_15 (by decide) (by decide) j).trans (((congrArg (mk _ _) (w_C m c t0_15 (by decide) (by decide) j)).trans (mk_idem ..)).symm)
  refine (e.trans (Pipeline.eq_sum_fin_of_reset_step_apply_last (fun n h (j : S4x128x128.Idx) => mk (j 1) (j 2) ((outsAt0 m c n h).2.1 j)) 16 (fun _ => 0)
    (fun t (j : S4x128x128.Idx) => mk (j 1) (j 2) (addW m c t (j 0) (j 1) (j 2))) (fun t h j => ?_) (fun t h j => ?_) (le_of_eq N_0) t0_15 rfl j)).trans ?_
  · refine (congrArg (mk _ _) ((w_A m c t h (by omega) j).trans ?_)).trans (zero_add _).symm
    rw [zeroW, zero_add]
  · by_cases h2 : t.val % 16 = 15
    · exact (congrArg (mk _ _) (w_C m c t h h2 j)).trans ((mk_idem ..).trans (mk_add ..))
    · exact (congrArg (mk _ _) (w_B m c t h h2 j)).trans (mk_add ..)
  obtain ⟨q, a, k, rfl⟩ : ∃ (q : Fin 4) (a k : Fin 128), j = ix3 q a k := ⟨j 0, j 1, j 2, eq_ix3 j⟩
  show 0 + ∑ t : Fin 16, mk a k (addW m c t q a k) = if k.val ≤ a.val then _ else 0
  rw [zero_add]
  by_cases hk : k.val ≤ a.val
  · rw [if_pos hk, sum_parts]
    refine Fin.sum_fin_congr fun t => ?_
    rw [mk, if_pos hk]
    exact addW_eq ..
  · rw [if_neg hk]
    refine Finset.sum_eq_zero fun t _ => ?_
    rw [mk, if_neg hk]

theorem final8 (c : Dev nD) : (dats m 0 c).arrAt 8 cfg0.N = DB (za m c) (daa m c) := by
  refine (dats m 0 c).arrAt_eq_of_after_last 8 t0_15 (by decide +kernel) _ fun j => ?_
  blk_simp
  rw [after0_8]
  obtain ⟨q, a, k, rfl⟩ : ∃ (q : Fin 4) (a k : Fin 128), j = ix3 q a k := ⟨j 0, j 1, j 2, eq_ix3 j⟩
  refine (b_C m c t0_15 (by decide) (by decide) (ix3 q a k)).trans ?_
  show _ = ∑ n : Fin 32, ∑ l, dsv (za m c) (daa m c) n a q l
  rw [Finset.sum_comm]
  refine Fin.sum_fin_congr fun l => ?_
  have e := s_C m c t0_15 (by decide) (by decide) (ix2 a (col q l))
  have e' := Pipeline.eq_sum_fin_of_reset_step_apply_last (fun n h (j : S128x1024.Idx) => (outsAt0 m c n h).2.2.2.2 j) 16 (fun _ => 0)
    (fun t (j : S128x1024.Idx) => addS m c t (grp (j 1)) (j 0) (lane (j 1)))
    (fun t h j => (s_A m c t h (by omega) j).trans (congrArg (· + _) (zeroS j)))
    (fun t h j => by
      by_cases h2 : t.val % 16 = 15
      · exact s_C m c t h h2 j
      · exact s_B m c t h h2 j) (le_of_eq N_0) t0_15 rfl (ix2 a (col q l))
  refine (Eq.trans ?_ (e.symm.trans e')).trans ?_
  · refine congrArg (_ + ·) ?_
    show addS m c t0_15 q a l = addS m c t0_15 (grp (col q l)) a (lane (col q l))
    rw [grp_col, lane_col]
  · show 0 + ∑ t : Fin 16, addS m c t (grp (col q l)) a (lane (col q l)) = _
    rw [zero_add, sum_parts, grp_col, lane_col]
    exact Fin.sum_fin_congr fun t => addS_eq ..

theorem final9 (c : Dev nD) : (dats m 0 c).arrAt 9 cfg0.N = DG (za m c) (wa m c) (daa m c) := by
  refine (dats m 0 c).arrAt_eq_of_after_last 9 t0_15 (by decide +kernel) _ fun j => ?_
  blk_simp
  rw [after0_9]
  refine (Pipeline.eq_sum_fin_of_reset_step_apply_last (fun n h (j : S1x1024.Idx) => (outsAt0 m c n h).2.2.2.1 j) 16 (fun _ => 0)
    (fun t (j : S1x1024.Idx) => addG m c t (j 1)) (fun t h j => (g_A m c t h j).trans (congrArg (· + _) (zeroG j))) (fun t h j => g_B m c t h j)
    (le_of_eq N_0) t0_15 rfl j).trans ?_
  unfold DG
  rw [zero_add, Norm.sum_rows]
  exact Fin.sum_fin_congr fun t => addG_eq ..

theorem host_dz (c : Dev nD) (i : S5x4096x1024.Idx) : (V m c main_v2 : FVec Ideal S5x4096x1024 .bf16) i = dza m c i := by
  show StableHlo.after hostOps0 _ (Proc.devRef .tc main_v2) i = _
  after_results_simp
  pointwise []

/-- Where an element of the two written rows lies in the array. -/
theorem emb6 (t : Fin cfg0.N) (y : ((cfg0.win 6).xblock (cfg0.grid.coords t)).Idx) (q : Fin 5) (r : Fin 256) (j : Fin 1024)
    (h0 : (y 0).val + 2 = q.val) (h1 : (y 1).val = r.val) (h2 : (y 2).val = j.val) :
    ((View.whole main_v4_0).slice (win0_6.rect t)).emb y = (ix3 q (Norm.row t r) j : S5x4096x1024.Idx) := by
  unfold Norm.row
  blk_ext [idx t]
  all_goals omega

theorem written (c : Dev nD) : (dats m 0 c).arrAt 6 cfg0.N = fun i => if (i 0).val / 2 = 1 then
    DZ (za m c) (ga m c) (wa m c) (ba m c) (daa m c) (dza m c) i else V m c main_v2 i := by
  refine (dats m 0 c).arrAt_eq_of_coversWhere 6 _ (fun β => β 0 = 1) (by decide +kernel) (fun t hf y => ?_)
    (fun j => by blk_simp [Pipeline.Window.cell_apply])
  blk_simp
  rw [after0_6]
  refine (z_all m c t _).trans ?_
  obtain ⟨s, r, j, hx⟩ : ∃ (s : Fin 2) (r : Fin 256) (j : Fin 1024), ((cfg0.win 6).xinj (cfg0.grid.coords t) y : S2x256x1024.Idx) = ix3 s r j :=
    ⟨_, _, _, eq_ix3 _⟩
  have h0 : (y 0).val = s.val := congrArg (fun i : S2x256x1024.Idx => (i 0).val) hx
  have h1 : (y 1).val = r.val := congrArg (fun i : S2x256x1024.Idx => (i 1).val) hx
  have h2 : (y 2).val = j.val := congrArg (fun i : S2x256x1024.Idx => (i 2).val) hx
  refine Eq.trans ?_ (congrArg (DZ _ _ _ _ _ _) (emb6 t y ⟨s.val + 2, by omega⟩ r j (by rw [h0]) h1 h2)).symm
  refine (congrArg (fun i : S2x256x1024.Idx => outZ m c t (i 0) (i 1) (i 2)) hx).trans ?_
  show outZ m c t s r j = if s.val + 2 = 2 then DZU (za m c) (ga m c) (wa m c) (ba m c) (daa m c) (chunk (Norm.row t r)) (pos (Norm.row t r)) (grp j) (lane j)
    else if s.val + 2 = 3 then DZV (za m c) (ga m c) (wa m c) (daa m c) (Norm.row t r) j else _
  unfold outZ
  by_cases hs : s.val = 0
  · rw [if_pos hs, if_pos (by omega)]
    exact tileZ_eq ..
  · rw [if_neg hs, if_neg (by omega), if_pos (by omega), DZV, centred_at, blk1]
    simp only [tileR_eq, blk3]

theorem final6 (c : Dev nD) : (dats m 0 c).arrAt 6 cfg0.N = DZ (za m c) (ga m c) (wa m c) (ba m c) (daa m c) (dza m c) := by
  rw [written]
  funext i
  by_cases h : (i 0).val / 2 = 1
  · exact if_pos h
  · refine (if_neg h).trans ((host_dz m c i).trans ?_)
    unfold DZ
    exact ((if_neg (by omega)).trans (if_neg (by omega))).symm

end Cert.SguIdeal.Value

end
-- ==== Proof.SguRead.lean ====
/-
  The gradient of the spatial gate: what differentiating the forward formula gives.
-/
module

public import proofs.«01_k».proof.Proof.Gen.SguRefIdeal.Read
public import proofs.«01_k».proof.Proof.SguTile

@[expose] public section

set_option maxRecDepth 16384

noncomputable section

open Idealize.ShloMosaic Idealize.ShloMosaic.TcCoe Idealize.SL.Sem
open Cert.Gelu (gelu slope)

namespace Cert.SguRefIdeal.Read

open Cert.SguRefIdeal Cert.SguRefIdeal.Gen Cert.Fin
open Cert.SguIdeal.Value (tok col colU colV cen nrm vn wm sv dsv dvn chunk pos grp lane dvnRow DZ DZU DZV DW DB DG)

variable (z : FVec Ideal S4096x5120 .f32) (g : FVec Ideal S1x1024 .f32) (w : FVec Ideal S4x128x128 .f32) (b : FVec Ideal S4x128 .f32)
  (da : FVec Ideal S4096x1024 .f32) (dz : FVec Ideal S5x4096x1024 .f32)

theorem ref_thu (i : Fin 4096) (j : Fin 1024) : val_main_v12 (F := Ideal) z (ix2 i j) = Gelu.th' (z (ix2 i (colU j))) := by
  pointwise [val_main_v12, val_main_v11, val_main_v10, val_main_v9, val_main_cst_1, val_main_v0, val_main_v8, val_main_v7, val_main_v3, val_main_cst_0, val_main_v2, Gelu.th', Gelu.k, Gelu.c, colU]

theorem ref_thv (i : Fin 4096) (j : Fin 1024) : val_main_v34 (F := Ideal) z (ix2 i j) = Gelu.th' (z (ix2 i (colV j))) := by
  pointwise [val_main_v34, val_main_v33, val_main_v32, val_main_v31, val_main_cst_8, val_main_v1, val_main_v30, val_main_v29, val_main_v25, val_main_cst_7, val_main_v24, Gelu.th', Gelu.k, Gelu.c, colV]

/-- The gated columns are the first 2048. -/
theorem in_u (i : Fin 4096) (j : Fin 1024) : ((ix2 i (colU j) : S4096x5120.Idx) 1).val < 2048 := by show j.val < 2048; omega
theorem in_v (i : Fin 4096) (j : Fin 1024) : ((ix2 i (colV j) : S4096x5120.Idx) 1).val < 2048 := by show 1024 + j.val < 2048; omega

variable (hz : ∀ i, (i 1).val < 2048 → Re (z i))
include hz

theorem ref_u (i : Fin 4096) (j : Fin 1024) : val_main_v22 (F := Ideal) z (ix2 i j) = gelu (z (ix2 i (colU j))) := by
  rw [Gelu.gelu, ← Gelu.cdf_eq (hz _ (in_u i j))]
  pointwise [val_main_v22, val_main_v21, val_main_v20, val_main_cst_5, val_main_v19, val_main_v18, val_main_cst_4, ref_thu, val_main_v0, colU, Gelu.half]

theorem ref_v (i : Fin 4096) (j : Fin 1024) : val_main_v44 (F := Ideal) z (ix2 i j) = gelu (z (ix2 i (colV j))) := by
  rw [Gelu.gelu, ← Gelu.cdf_eq (hz _ (in_v i j))]
  pointwise [val_main_v44, val_main_v43, val_main_v42, val_main_cst_12, val_main_v41, val_main_v40, val_main_cst_11, ref_thv, val_main_v1, colV, Gelu.half]

theorem ref_cen (p : Fin 1) (i : Fin 4096) (j : Fin 1024) : val_main_v52 (F := Ideal) z (ix3 p i j) = cen z i j := by
  pointwise [val_main_v52, val_main_v51, val_main_v50, val_main_v49, val_main_v48, val_main_v47, val_main_cst_13, val_main_cst_14, val_main_v45, ref_v z hz, cen, Layer.centred]

theorem ref_var (p : Fin 1) (i : Fin 4096) (x : Fin 1) : val_main_v59 (F := Ideal) z (ix3 p i x) = Norm.meanSq (cen z i) := by
  pointwise [val_main_v59, val_main_v58, val_main_v57, val_main_v56, val_main_v55, val_main_v54, val_main_v53, val_main_cst_15, val_main_cst_16, val_main_cst_17, ref_cen z hz, Norm.meanSq]

theorem ref_dev (p : Fin 1) (i : Fin 4096) (x : Fin 1) : val_main_v60 (F := Ideal) z (ix3 p i x) = Layer.dev (cen z i) := by
  pointwise [val_main_v60, ref_var z hz, Layer.dev]

theorem ref_nrm (p : Fin 1) (i : Fin 4096) (j : Fin 1024) : val_main_v65 (F := Ideal) z (ix3 p i j) = nrm z i j := by
  pointwise [val_main_v65, val_main_v64, ref_dev z hz, ref_cen z hz, nrm]

theorem ref_vn3 (p : Fin 1) (i : Fin 4096) (j : Fin 1024) : val_main_v68 (F := Ideal) z g (ix3 p i j) = vn z g i j := by
  pointwise [val_main_v68, val_main_v67, val_main_v66, val_main_v46, ref_nrm z hz, vn]

omit hz

/-! Sums over several axes, coordinate by coordinate. -/

theorem sum_groups (x : S1x32x128x4x256.Idx → EReal) (init : EReal) (p : Fin 1) (a : Fin 128) (q : Fin 4) :
    Ideal.hostReduceAdd reducesTo_S1x32x128x4x256_S1x128x4_d1_4 x init (ix3 p a q) = init + ∑ n : Fin 32, ∑ l : Fin 256, x (ix5 0 n a q l) := by
  refine congrArg (init + ·) ((Finset.sum_filter_eq_sum_of_fiber _ (fun k : Fin 32 × Fin 256 => (ix5 0 k.1 a q k.2 : S1x32x128x4x256.Idx))
    (fun _ _ e => Prod.ext (congrFun e 1) (congrFun e 4)) (fun i => ?_) x).trans (by simp only [Fintype.sum_prod_type]))
  constructor
  · intro e
    refine ⟨(i 1, i 4), ?_⟩
    rw [eq_ix5 i]
    exact congr (congr (congr (congr (congrArg ix5 (Subsingleton.elim (α := Fin 1) _ _)) rfl) (congrFun e 1).symm) (congrFun e 2).symm) rfl
  · rintro ⟨k, rfl⟩
    rw [eq_ix3 (Shape.ReducesTo.drop _ _)]
    exact congr (congr (congrArg ix3 (Subsingleton.elim (α := Fin 1) _ _)) rfl) rfl

theorem sum_units (x : S1x1x128x4x1.Idx → EReal) (init : EReal) (a : Fin 128) (q : Fin 4) :
    Ideal.hostReduceAdd reducesTo_S1x1x128x4x1_S128x4_d0_1_4 x init (ix2 a q) = init + x (ix5 0 0 a q 0) := by
  refine congrArg (init + ·) ((Finset.sum_filter_eq_sum_of_fiber _ (fun k : Fin 1 => (ix5 0 0 a q k : S1x1x128x4x1.Idx))
    (fun _ _ e => congrFun e 4) (fun i => ?_) x).trans (Fin.sum_univ_one _))
  constructor
  · intro e
    refine ⟨i 4, ?_⟩
    rw [eq_ix5 i]
    exact congr (congr (congr (congr (congrArg ix5 (Subsingleton.elim (α := Fin 1) _ _)) (Subsingleton.elim (α := Fin 1) _ _)) (congrFun e 0).symm) (congrFun e 1).symm) rfl
  · rintro ⟨k, rfl⟩
    rw [eq_ix2 (Shape.ReducesTo.drop _ _)]
    exact congr (congrArg ix2 rfl) rfl

theorem sum_ends (x : S1x4096x1.Idx → EReal) (init : EReal) (i : Fin 4096) :
    Ideal.hostReduceAdd reducesTo_S1x4096x1_S4096_d0_2 x init (ix1 i) = init + x (ix3 0 i 0) := by
  refine congrArg (init + ·) ((Finset.sum_filter_eq_sum_of_fiber _ (fun k : Fin 1 => (ix3 0 i k : S1x4096x1.Idx))
    (fun _ _ e => congrFun e 2) (fun y => ?_) x).trans (Fin.sum_univ_one _))
  constructor
  · intro e
    refine ⟨y 2, ?_⟩
    rw [eq_ix3 y]
    exact congr (congr (congrArg ix3 (Subsingleton.elim (α := Fin 1) _ _)) (congrFun e 0).symm) rfl
  · rintro ⟨k, rfl⟩
    rw [eq_ix1 (Shape.ReducesTo.drop _ _)]
    rfl

theorem sum_first (x : S1x1x1024.Idx → EReal) (init : EReal) (j : Fin 1024) :
    Ideal.hostReduceAdd reducesTo_S1x1x1024_S1024_d0_1 x init (ix1 j) = init + x (ix3 0 0 j) := by
  refine congrArg (init + ·) ((Finset.sum_filter_eq_sum_of_fiber _ (fun k : Fin 1 => (ix3 0 k j : S1x1x1024.Idx))
    (fun _ _ e => congrFun e 1) (fun y => ?_) x).trans (Fin.sum_univ_one _))
  constructor
  · intro e
    refine ⟨y 1, ?_⟩
    rw [eq_ix3 y]
    exact congr (congr (congrArg ix3 (Subsingleton.elim (α := Fin 1) _ _)) rfl) (congrFun e 0).symm
  · rintro ⟨k, rfl⟩
    rw [eq_ix1 (Shape.ReducesTo.drop _ _)]
    rfl

abbrev rowsDot := dot_S4x1x32x256x128_S1x32x128x4x256_S4x128x128_123_014_4_2_0_3

/-- A chunk and a column of a group, as the pair the weights' gradient sums over. -/
def overRows (k : Fin 32 × Fin 256) : rowsDot.contr.Idx := fun a => match a with
  | ⟨0, _⟩ => (0 : Fin 1)
  | ⟨1, _⟩ => k.1
  | ⟨2, _⟩ => k.2

theorem sum_rows_cols (x : S4x1x32x256x128.Idx → EReal) (y : S1x32x128x4x256.Idx → EReal) (q : Fin 4) (a k : Fin 128) :
    Ideal.matmul rowsDot x y (fun _ => 0) (ix3 q a k) = ∑ n : Fin 32, ∑ l : Fin 256, x (ix5 q 0 n l a) * y (ix5 0 n k q l) := by
  have e : (fun k => overRows k).Bijective := by
    refine ⟨fun u v h => Prod.ext (congrFun h ⟨1, by decide⟩) (congrFun h ⟨2, by decide⟩), fun v => ⟨(v ⟨1, by decide⟩, v ⟨2, by decide⟩), ?_⟩⟩
    funext a
    match a with
    | ⟨0, _⟩ => exact Subsingleton.elim (α := Fin 1) _ _
    | ⟨1, _⟩ => rfl
    | ⟨2, _⟩ => rfl
  refine (zero_add _).trans ?_
  rw [← Function.Bijective.sum_comp e, Fintype.sum_prod_type]
  refine Fin.sum_fin_congr fun n => Fin.sum_fin_congr fun l => congrArg₂ (fun i j => x i * y j) ?_ ?_
  · funext a; apply Fin.ext
    match a with
    | ⟨0, _⟩ => rfl
    | ⟨1, _⟩ => rfl
    | ⟨2, _⟩ => rfl
    | ⟨3, _⟩ => rfl
    | ⟨4, _⟩ => rfl
  · funext a; apply Fin.ext
    match a with
    | ⟨0, _⟩ => rfl
    | ⟨1, _⟩ => rfl
    | ⟨2, _⟩ => rfl
    | ⟨3, _⟩ => rfl
    | ⟨4, _⟩ => rfl

theorem ref_mask (a k : Fin 128) : val_main_v71 (F := Ideal) (ix2 a k) = if k.val ≤ a.val then 1#1 else 0#1 := by
  pointwise [val_main_v71, val_main_call0_v4, val_main_call0_v2, val_main_call0_v0, val_main_call0_v1, val_main_call0_c, val_main_call0_v3, val_main_v70, val_main_c, val_main_call0_v5, val_main_call0_c_0]
  rw [show IntOp.addi (BitVec.ofNat 32 a.val) 0#32 = BitVec.ofNat 32 a.val from BitVec.add_zero _, WordCmp.cmpi_sge_ofNat (by omega) (by omega)]
  by_cases h : k.val ≤ a.val <;> simp [h, Scalar.select]

theorem ref_w (q : Fin 4) (a k : Fin 128) : val_main_v73_0 (F := Ideal) w (ix3 q a k) = wm w q a k := by
  pointwise [val_main_v73_0, val_main_v73_1, val_main_v72, val_main_call1_v2, val_main_call1_v0, val_main_cst_19, ref_mask]
  unfold wm
  by_cases h : k.val ≤ a.val <;> simp [h, Scalar.select, constant, Ideal.ofBits_zero]

theorem ref_vn (hz : ∀ i, (i 1).val < 2048 → Re (z i)) (p : Fin 1) (n : Fin 32) (a : Fin 128) (q : Fin 4) (l : Fin 256) :
    val_main_v69 (F := Ideal) z g (ix5 p n a q l) = vn z g (tok n a) (col q l) := by
  pointwise [val_main_v69]
  rw [ref_vn3 z g hz]
  refine congrArg₂ (vn z g) (Fin.ext ?_) (Fin.ext ?_)
  · show _ = n.val * 128 + a.val
    simp
  · show _ = q.val * 256 + l.val
    simp

theorem ref_mix (hz : ∀ i, (i 1).val < 2048 → Re (z i)) (p : Fin 1) (n : Fin 32) (a : Fin 128) (q : Fin 4) (l : Fin 256) :
    val_main_v80 (F := Ideal) z g w b (ix5 p n a q l) = sv z g w b n a q l := by
  pointwise [val_main_v80, val_main_v75, val_main_v74, val_main_v79, val_main_v78, val_main_v77, val_main_v76, ref_vn z g hz, ref_w, sv, mul_comm]

theorem ref_dsv3 (hz : ∀ i, (i 1).val < 2048 → Re (z i)) (p : Fin 1) (i : Fin 4096) (j : Fin 1024) :
    val_main_v85 (F := Ideal) z da (ix3 p i j) = da (ix2 i j) * gelu (z (ix2 i (colU j))) := by
  pointwise [val_main_v85, val_main_v84, val_main_v23, ref_u z hz, mul_comm]

theorem ref_dsv (hz : ∀ i, (i 1).val < 2048 → Re (z i)) (p : Fin 1) (n : Fin 32) (a : Fin 128) (q : Fin 4) (l : Fin 256) :
    val_main_v87 (F := Ideal) z da (ix5 p n a q l) = dsv z da n a q l := by
  pointwise [val_main_v87]
  rw [ref_dsv3 z da hz]
  rfl

theorem ref_dvn (hz : ∀ i, (i 1).val < 2048 → Re (z i)) (p : Fin 1) (n : Fin 32) (a : Fin 128) (q : Fin 4) (l : Fin 256) :
    val_main_v97 (F := Ideal) z w da (ix5 p n a q l) = dvn z w da n a q l := by
  pointwise [val_main_v97, val_main_v96, val_main_v94, ref_dsv z da hz, ref_w, dvn, mul_comm]

theorem ref_dw0 (hz : ∀ i, (i 1).val < 2048 → Re (z i)) (q : Fin 4) (a k : Fin 128) :
    val_main_v95 (F := Ideal) z g da (ix3 q a k) = ∑ n : Fin 32, ∑ l, dsv z da n a q l * vn z g (tok n k) (col q l) := by
  pointwise [val_main_v95, sum_rows_cols, val_main_v94, ref_dsv z da hz, ref_vn z g hz]

theorem ref_db0 (hz : ∀ i, (i 1).val < 2048 → Re (z i)) (q : Fin 4) (a : Fin 128) :
    val_main_v93 (F := Ideal) z da (ix2 q a) = ∑ n : Fin 32, ∑ l, dsv z da n a q l := by
  pointwise [val_main_v93, val_main_v92, val_main_v91, val_main_v90, val_main_v89, val_main_v88, val_main_cst_20, val_main_cst_21, val_main_cst_22, sum_units, sum_groups, Fin.sum_univ_one, ref_dsv z da hz]

/-! The whole rows. -/

theorem at_rows (i : Fin 4096) (j : Fin 1024) : tok (chunk i) (pos i) = i ∧ col (grp j) (lane j) = j := by
  refine ⟨Fin.ext ?_, Fin.ext ?_⟩
  · show i.val / 128 * 128 + i.val % 128 = i.val; omega
  · show j.val / 256 * 256 + j.val % 256 = j.val; omega

theorem ref_mixRow (hz : ∀ i, (i 1).val < 2048 → Re (z i)) (p : Fin 1) (i : Fin 4096) (j : Fin 1024) :
    val_main_v81 (F := Ideal) z g w b (ix3 p i j) = sv z g w b (chunk i) (pos i) (grp j) (lane j) := by
  pointwise [val_main_v81]
  exact ref_mix z g w b hz ..

theorem ref_dvnRow (hz : ∀ i, (i 1).val < 2048 → Re (z i)) (p : Fin 1) (i : Fin 4096) (j : Fin 1024) :
    val_main_v99 (F := Ideal) z w da (ix3 p i j) = dvnRow z w da i j := by
  pointwise [val_main_v99]
  exact ref_dvn z w da hz ..

theorem ref_dng (hz : ∀ i, (i 1).val < 2048 → Re (z i)) : val_main_v130 (F := Ideal) z w da = DG z w da := by
  funext i
  obtain ⟨p, j, rfl⟩ : ∃ (p : Fin 1) (j : Fin 1024), i = ix2 p j := ⟨i 0, i 1, eq_ix2 i⟩
  pointwise [val_main_v130, val_main_v105, sum_first, val_main_cst_24, val_main_v102, val_main_v101, val_main_cst_23, val_main_v100, ref_nrm z hz, ref_dvnRow z w da hz, DG, mul_comm]

theorem ref_gain (hz : ∀ i, (i 1).val < 2048 → Re (z i)) (p : Fin 1) (i : Fin 4096) (j : Fin 1024) :
    val_main_v104 (F := Ideal) z g w da (ix3 p i j) = dvnRow z w da i j * g (ix2 0 j) := by
  pointwise [val_main_v104, val_main_v103, val_main_v66, val_main_v46, ref_dvnRow z w da hz]

/-- The cotangent of a normed row, gain included. -/
abbrev dn (i : Fin 4096) (j : Fin 1024) : EReal := dvnRow z w da i j * g (ix2 0 j)

theorem ref_share (hz : ∀ i, (i 1).val < 2048 → Re (z i)) (p : Fin 1) (i : Fin 4096) (j : Fin 1024) :
    val_main_v116 (F := Ideal) z g w da (ix3 p i j) = Layer.share (cen z i) (dn z g w da i) := by
  pointwise [val_main_v116, val_main_v115, val_main_v114, val_main_cst_27, sum_ends, val_main_v113, val_main_v112, val_main_cst_26, val_main_v111, val_main_v63, val_main_v62, val_main_cst_18, val_main_v61,
    val_main_v108, val_main_v107, val_main_cst_25, val_main_v106, ref_dev z hz, ref_var z hz, ref_cen z hz, ref_gain z g w da hz, Layer.share, dn]

theorem ref_cgrad (hz : ∀ i, (i 1).val < 2048 → Re (z i)) (p : Fin 1) (i : Fin 4096) (j : Fin 1024) :
    val_main_v120 (F := Ideal) z g w da (ix3 p i j) = Layer.centredGrad (cen z i) (dn z g w da i) j := by
  pointwise [val_main_v120, val_main_v119, val_main_v118, val_main_v117, val_main_v110, val_main_v109, ref_share z g w da hz, ref_dev z hz, ref_cen z hz, ref_gain z g w da hz, Layer.centredGrad, dn]

theorem ref_rowGrad (hz : ∀ i, (i 1).val < 2048 → Re (z i)) (i : Fin 4096) (j : Fin 1024) :
    val_main_v131 (F := Ideal) z g w da (ix2 i j) = Layer.centredGrad (cen z i) (dn z g w da i) j
      + Ideal.div (∑ l, -Layer.centredGrad (cen z i) (dn z g w da i) l) (Ideal.ofBits .f32 0x44800000#32) := by
  pointwise [val_main_v131, val_main_cst_31, val_main_v129, val_main_v128, val_main_v127, val_main_v126, val_main_cst_30, sum_ends, val_main_v125, val_main_v124, val_main_cst_29, val_main_v123, val_main_v122, val_main_cst_28,
    val_main_v121, ref_cgrad z g w da hz, Fin.sum_univ_one]

/-! Finiteness, and the two gradients through the gate. -/

section Finite

variable (hz : ∀ i, (i 1).val < 2048 → Re (z i)) (hg : ∀ i, Re (g i)) (hw : ∀ i, Re (w i)) (hb : ∀ i, Re (b i)) (hda : ∀ i, Re (da i))
include hz

theorem re_cen (i : Fin 4096) (j : Fin 1024) : Re (cen z i j) := Layer.re_centred (fun j => Gelu.re_gelu (hz _ (in_v i j))) j

include hg in
theorem re_vn (i : Fin 4096) (j : Fin 1024) : Re (vn z g i j) := ((re_cen z hz i j).mul (Layer.re_dev (re_cen z hz i))).mul (hg _)

omit hz in
include hw in
theorem re_wm (q : Fin 4) (a k : Fin 128) : Re (wm w q a k) := by
  unfold wm
  split
  · exact hw _
  · exact ⟨0, rfl⟩

include hg hw hb in
theorem re_sv (n : Fin 32) (a : Fin 128) (q : Fin 4) (l : Fin 256) : Re (sv z g w b n a q l) :=
  (Re.sum fun k _ => (re_wm w hw q a k).mul (re_vn z g hz hg _ _)).add (hb _)

include hw hda in
theorem re_dvnRow (i : Fin 4096) (j : Fin 1024) : Re (dvnRow z w da i j) := by
  unfold dvnRow dvn dsv
  exact Re.sum fun k _ => (re_wm w hw ..).mul ((hda _).mul (Gelu.re_gelu (hz _ (in_u ..))))

include hg hw hda in
theorem re_dn (i : Fin 4096) (j : Fin 1024) : Re (dn z g w da i j) := (re_dvnRow z w da hz hw hda i j).mul (hg _)

include hg hw hda in
theorem ref_rowBwd (i : Fin 4096) (j : Fin 1024) :
    val_main_v131 (F := Ideal) z g w da (ix2 i j) = Layer.bwd (cen z i) (dn z g w da i) j :=
  (ref_rowGrad z g w da hz i j).trans
    (Layer.grad_eq (re_cen z hz i) (Layer.sum_centred fun j => Gelu.re_gelu (hz _ (in_v i j))) (re_dn z g w da hz hg hw hda i) j)

include hg hw hda in
theorem ref_dzv (i : Fin 4096) (j : Fin 1024) : val_main_v143 (F := Ideal) z g w da (ix2 i j) = DZV z g w da i j := by
  refine Eq.trans ?_ (Gelu.grad_eq (hz _ (in_v i j)) (Layer.re_bwd (re_cen z hz i) (re_dn z g w da hz hg hw hda i) j))
  pointwise [val_main_v143, val_main_v142, val_main_v141, val_main_v140, val_main_cst_34, val_main_v139, val_main_v138, val_main_v137, val_main_cst_33, val_main_v136, val_main_v135, val_main_v134, val_main_cst_32,
    val_main_v133, val_main_v132, val_main_v43, val_main_v42, val_main_cst_12, val_main_v41, val_main_v40, val_main_cst_11, val_main_v39, val_main_v38, val_main_v37, val_main_cst_10, val_main_v36, val_main_v35, val_main_cst_9,
    val_main_v28, val_main_v27, val_main_cst_6, val_main_v26, val_main_v1, ref_thv, ref_rowBwd z g w da hz hg hw hda, Gelu.half, Gelu.k, Gelu.c, colV]

theorem ref_dsu (i : Fin 4096) (j : Fin 1024) :
    val_main_v144 (F := Ideal) z g w b da (ix2 i j) = da (ix2 i j) * sv z g w b (chunk i) (pos i) (grp j) (lane j) := by
  pointwise [val_main_v144, val_main_cst_35, val_main_v86, val_main_v84, ref_mixRow z g w b hz, Fin.sum_univ_one]

include hg hw hb hda in
theorem ref_dzu (i : Fin 4096) (j : Fin 1024) :
    val_main_v156 (F := Ideal) z g w b da (ix2 i j) = DZU z g w b da (chunk i) (pos i) (grp j) (lane j) := by
  unfold DZU
  rw [(at_rows i j).1, (at_rows i j).2]
  refine Eq.trans ?_ (Gelu.grad_eq (hz _ (in_u i j)) ((hda (ix2 i j)).mul (re_sv z g w b hz hg hw hb (chunk i) (pos i) (grp j) (lane j))))
  pointwise [val_main_v156, val_main_v155, val_main_v154, val_main_v153, val_main_cst_37, val_main_v152, val_main_v151, val_main_v150, val_main_cst_36, val_main_v149, val_main_v148, val_main_v147, val_main_cst_38,
    val_main_v146, val_main_v145, val_main_v21, val_main_v20, val_main_cst_5, val_main_v19, val_main_v18, val_main_cst_4, val_main_v17, val_main_v16, val_main_v15, val_main_cst_3, val_main_v14, val_main_v13, val_main_cst_2,
    val_main_v6, val_main_v5, val_main_cst, val_main_v4, val_main_v0, ref_thu, ref_dsu z g w b da hz, Gelu.half, Gelu.k, Gelu.c, colU]

include hg hw hb hda in
theorem ref_dz : val_main_v162 (F := Ideal) z g w b da dz = DZ z g w b da dz := by
  funext i
  obtain ⟨s, i, j, rfl⟩ : ∃ (s : Fin 5) (r : Fin 4096) (j : Fin 1024), i = ix3 s r j := ⟨i 0, i 1, i 2, eq_ix3 i⟩
  unfold DZ
  fin_cases s
  · pointwise [val_main_v162, val_main_v161, val_main_v157]
  · pointwise [val_main_v162, val_main_v161, val_main_v157]
  · pointwise [val_main_v162, val_main_v161, val_main_v158, ref_dzu z g w b da hz hg hw hb hda]
  · pointwise [val_main_v162, val_main_v161, val_main_v159, ref_dzv z g w da hz hg hw hda]
  · pointwise [val_main_v162, val_main_v161, val_main_v160]

end Finite

theorem ref_dw (hz : ∀ i, (i 1).val < 2048 → Re (z i)) : val_main_v98 (F := Ideal) z g da = DW z g da := by
  funext i
  obtain ⟨q, a, k, rfl⟩ : ∃ (q : Fin 4) (a k : Fin 128), i = ix3 q a k := ⟨i 0, i 1, i 2, eq_ix3 i⟩
  pointwise [val_main_v98, val_main_call2_v0, val_main_call2_cst, val_main_v73_1, val_main_v72, ref_mask, ref_dw0 z g da hz, DW]
  by_cases h : k.val ≤ a.val <;> simp [h, Scalar.select]

theorem ref_db (hz : ∀ i, (i 1).val < 2048 → Re (z i)) : val_main_v164 (F := Ideal) z da = DB z da := by
  funext i
  obtain ⟨q, a, k, rfl⟩ : ∃ (q : Fin 4) (a k : Fin 128), i = ix3 q a k := ⟨i 0, i 1, i 2, eq_ix3 i⟩
  pointwise [val_main_v164, val_main_v163, ref_db0 z da hz, DB]

end Cert.SguRefIdeal.Read

end
-- ==== Proof.SguClaim.lean ====
/- The value claim of the spatial gate's gradient, from the two runs. -/
module

public import proofs.«01_k».proof.Defs
public import proofs.«01_k».proof.Proof.Gen.SguIdeal.Value
public import proofs.«01_k».proof.Proof.SguValue
public import proofs.«01_k».proof.Proof.SguRead
public import proofs.«01_k».proof.Proof.Gen.SguRefIdeal.Run
public import Idealize.ShloMosaic.Lib.Claim

set_option maxRecDepth 16384

@[expose] public section

noncomputable section

namespace Cert.Proof

open Idealize.ShloMosaic Idealize.SL.Sem Cert.SguIdeal

theorem frame_sguRef : Cert.quiescent_SguRefIdeal (hSguRefIdeal := Cert.SguRefIdeal.Gen.facts) := fun m g _ =>
  (θ_run Cert.SguRefIdeal.defs _ _).mono (fun r h => ⟨fun c => (h c).2.2.2.2, sem_eq_zero_of_no_sems (by decide) r.2⟩)
    (Cert.SguRefIdeal.Value.run (F := Ideal) m g)

theorem facts_sgu_finite : Cert.Pre_sgu_finite.Facts :=
  ⟨by decide, by decide, by decide, by decide, by decide, by decide, by decide, by decide, by decide, by decide, by decide, by decide⟩

instance inst_sgu_finite : Cert.Pre_sgu_finite.Facts := facts_sgu_finite

/-- The kernel names two of its rounded constants; nothing else of it changes. -/
theorem preserves_sgu : Cert.preserves_Sgu_SguIdeal :=
  ⟨IdealRules.named_const.statement _ _ _ _ _ rfl, IdealRules.named_const.statement _ _ _ _ _ rfl⟩

/-- What the precondition says: the gated columns and every other argument but the kept slots are finite. -/
theorem sgu_re (z : FVec Ideal Cert.Pre_sgu_finite.S4096x5120 .f32) (g : FVec Ideal Cert.Pre_sgu_finite.S1x1024 .f32)
    (w : FVec Ideal Cert.Pre_sgu_finite.S4x128x128 .f32) (b : FVec Ideal Cert.Pre_sgu_finite.S4x128 .f32)
    (da : FVec Ideal Cert.Pre_sgu_finite.S4096x1024 .f32) (dz : FVec Ideal Cert.Pre_sgu_finite.S5x4096x1024 .f32)
    (h : Cert.Pre_sgu_finite.fn (F := Ideal) z g w b da dz = fun _ => 1#1) :
    (∀ i, (i 1).val < 2048 → Cert.Fin.Re (z i)) ∧ (∀ i, Cert.Fin.Re (g i)) ∧ (∀ i, Cert.Fin.Re (w i)) ∧ (∀ i, Cert.Fin.Re (b i)) ∧ ∀ i, Cert.Fin.Re (da i) := by
  have e := congrFun h ix0
  obtain ⟨e, h5⟩ := IntOp.andi_eq_one.mp e
  obtain ⟨e, h4⟩ := IntOp.andi_eq_one.mp e
  obtain ⟨e, h3⟩ := IntOp.andi_eq_one.mp e
  obtain ⟨h1, h2⟩ := IntOp.andi_eq_one.mp e
  refine ⟨fun i hi => ?_, Cert.Fin.re_of_all _ _ (fun _ => rfl) _ _ _ _ h2,
    Cert.Fin.re_of_all _ _ (fun _ => rfl) _ _ _ _ h3, Cert.Fin.re_of_all _ _ (fun _ => rfl) _ _ _ _ h4,
    Cert.Fin.re_of_all _ _ (fun _ => rfl) _ _ _ _ h5⟩
  have hs := Cert.Fin.re_of_all _ _ (fun _ => rfl) _ _ _ _ h1 (ix2 (i 0) ⟨(i 1).val, hi⟩)
  have hv : i = ix2 (i 0) (i 1) := eq_ix2 i
  rw [hv]
  convert hs using 1
  pointwise []

theorem algebraic_sgu : Cert.algebraic_SguIdeal_SguRefIdeal_pre_sgu_finite (hSguIdeal := Cert.SguIdeal.Gen.facts)
    (hSguRefIdeal := Cert.SguRefIdeal.Gen.facts) (hPre_sgu_finite := facts_sgu_finite) := by
  intro m g m' g' hpre hagree
  refine ⟨fun c => Cert.SguIdeal.Value.DZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Cert.SguIdeal.Value.DW (m ((c.tc : Thread nD τ).loc main_arg0)) (m ((c.tc : Thread nD τ).loc main_arg1)) (m ((c.tc : Thread nD τ).loc main_arg4)),
    fun c => Cert.SguIdeal.Value.DB (m ((c.tc : Thread nD τ).loc main_arg0)) (m ((c.tc : Thread nD τ).loc main_arg4)),
    fun c => Cert.SguIdeal.Value.DG (m ((c.tc : Thread nD τ).loc main_arg0)) (m ((c.tc : Thread nD τ).loc main_arg2)) (m ((c.tc : Thread nD τ).loc main_arg4)),
    ?_, ?_⟩
  · refine (θ_run Cert.SguIdeal.defs _ _).mono (fun r h c => ?_) (Cert.SguIdeal.Value.run_blocks (F := Ideal) m g)
    obtain ⟨h0, h1, h2, h3, hrest⟩ := h c
    exact ⟨h0.trans (Cert.SguIdeal.Value.final6 m c), h1.trans (Cert.SguIdeal.Value.final7 m c), h2.trans (Cert.SguIdeal.Value.final8 m c), h3.trans (Cert.SguIdeal.Value.final9 m c), hrest⟩
  · refine (θ_run Cert.SguRefIdeal.defs _ _).mono (fun r h c => ?_) (Cert.SguRefIdeal.Value.run (F := Ideal) m' g')
    obtain ⟨h0, h1, h2, h3, hrest⟩ := h c
    rw [Cert.SguRefIdeal.Read.val_main_v162_eq] at h0
    rw [Cert.SguRefIdeal.Read.val_main_v98_eq] at h1
    rw [Cert.SguRefIdeal.Read.val_main_v164_eq] at h2
    rw [Cert.SguRefIdeal.Read.val_main_v130_eq] at h3
    simp only [hagree c] at h0 h1 h2 h3
    obtain ⟨rz, rg, rw', rb, rd⟩ := sgu_re _ _ _ _ _ _ (hpre c)
    exact ⟨h0.trans (Cert.SguRefIdeal.Read.ref_dz _ _ _ _ _ _ rz rg rw' rb rd), h1.trans (Cert.SguRefIdeal.Read.ref_dw _ _ _ rz), h2.trans (Cert.SguRefIdeal.Read.ref_db _ _ rz), h3.trans (Cert.SguRefIdeal.Read.ref_dng _ _ _ rz), hrest⟩

end Cert.Proof

end
-- ==== Proof.PoolFrame.lean ====
/- The reference for the pooling mixer ends with its arguments unchanged. -/
module

public import proofs.«01_k».proof.Defs
public import Idealize.ShloMosaic.Lib.Claim
public import proofs.«01_k».proof.Proof.Gen.PoolRefIdeal.Run

set_option maxRecDepth 16384

@[expose] public section

noncomputable section

namespace Cert.Proof

open Idealize.ShloMosaic Idealize.SL.Sem

theorem frame_poolRef : Cert.quiescent_PoolRefIdeal (hPoolRefIdeal := Cert.PoolRefIdeal.Gen.facts) := fun m g _ =>
  (θ_run Cert.PoolRefIdeal.defs _ _).mono (fun r h => ⟨fun c => (h c).2.2.2, sem_eq_zero_of_no_sems (by decide) r.2⟩)
    (Cert.PoolRefIdeal.Value.run (F := Ideal) m g)

end Cert.Proof

end
-- ==== Proof.PleValue.lean ====
/-
  The embedding gate, the loss and their gradients: what the tiles leave in the six results, and what differentiating the
  loss gives.
-/
module

public import proofs.«01_k».proof.Proof.Gen.PleIdeal.Frame
public import proofs.«01_k».proof.Proof.Gen.PleRefIdeal.Read
public import proofs.«01_k».proof.Proof.Gate
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Gate (gate)

namespace Cert.PleIdeal.Value

open Cert.PleIdeal Cert.PleIdeal.Gen

variable (h : FVec Ideal S4096x1024 .f32) (p : FVec Ideal S4096x256 .f32) (pg : FVec Ideal S1x1024 .f32)
  (wg : FVec Ideal S1024x1024 .f32) (wp : FVec Ideal S256x1024 .f32) (qg : FVec Ideal S1x1024 .f32) (tg : FVec Ideal S4096x1024 .f32)

/-- The normed row. -/
def xn (i : Fin 4096) (k : Fin 1024) : EReal := h (ix2 i k) * Ideal.rsqrt (Norm.meanSq fun k => h (ix2 i k)) * pg (ix2 0 k)

/-- The gate, the embedding's projection, and their product. -/
def gt (i : Fin 4096) (j : Fin 1024) : EReal := gate (∑ l, xn h pg i l * wg (ix2 l j))
def emb (i : Fin 4096) (j : Fin 1024) : EReal := ∑ l, p (ix2 i l) * wp (ix2 l j)
def prod (i : Fin 4096) (j : Fin 1024) : EReal := gt h pg wg i j * emb p wp i j

/-- The error against the target. -/
def err (i : Fin 4096) (j : Fin 1024) : EReal :=
  h (ix2 i j) + prod h p pg wg wp i j * Ideal.rsqrt (Norm.meanSq (prod h p pg wg wp i)) * qg (ix2 0 j) - tg (ix2 i j)

/-- The loss's gradient by the output: the error over 1024. -/
def dy (i : Fin 4096) (j : Fin 1024) : EReal := err h p pg wg wp qg tg i j * Ideal.ofBits .f32 0x3A800000#32

/-- The gradient of the gated product, before its norm. -/
def dq (i : Fin 4096) (j : Fin 1024) : EReal :=
  Norm.bwd (prod h p pg wg wp i) (fun k => qg (ix2 0 k)) (dy h p pg wg wp qg tg i) j

/-- The gradients of the gate's input and of the embedding's projection. -/
def DS : FVec Ideal S4096x1024 .bf16 := fun i =>
  dq h p pg wg wp qg tg (i 0) (i 1) * emb p wp (i 0) (i 1) * gt h pg wg (i 0) (i 1)
    * (Ideal.ofBits .f32 0x3F800000#32 - gt h pg wg (i 0) (i 1))
def DE : FVec Ideal S4096x1024 .bf16 := fun i => dq h p pg wg wp qg tg (i 0) (i 1) * gt h pg wg (i 0) (i 1)

/-- The gradient of the normed row. -/
def dxn (i : Fin 4096) (k : Fin 1024) : EReal := ∑ l, DS h p pg wg wp qg tg (ix2 i l) * wg (ix2 k l)

/-- The gradient of the block's input: through the sum and through the norm. -/
def DH : FVec Ideal S4096x1024 .f32 := fun i =>
  dy h p pg wg wp qg tg (i 0) (i 1)
    + Norm.bwd (fun k => h (ix2 (i 0) k)) (fun k => pg (ix2 0 k)) (dxn h p pg wg wp qg tg (i 0)) (i 1)

/-- The gradients of the two gains. -/
def DPOST : FVec Ideal S1x1024 .f32 := fun i =>
  ∑ r, dy h p pg wg wp qg tg r (i 1) * prod h p pg wg wp r (i 1) * Ideal.rsqrt (Norm.meanSq (prod h p pg wg wp r))
def DPRE : FVec Ideal S1x1024 .f32 := fun i =>
  ∑ r, dxn h p pg wg wp qg tg r (i 1) * h (ix2 r (i 1)) * Ideal.rsqrt (Norm.meanSq fun k => h (ix2 r k))

/-- The loss: the errors' squares over 2048, tile by tile. -/
def LOSS : FVec Ideal S8x128 .f32 := fun _ =>
  ∑ t : Fin 16, Ideal.ofBits .f32 0x3A000000#32 * ∑ a : Fin 256, ∑ j : Fin 1024,
    err h p pg wg wp qg tg (Norm.row t a) j * err h p pg wg wp qg tg (Norm.row t a) j

/-! ## What the body computes -/

section Body

variable (x : FVec Ideal S256x1024 .bf16) (w : FVec Ideal S1024x1024 .bf16) (pb : FVec Ideal S256x256 .bf16) (v : FVec Ideal S256x1024 .bf16)
  (h : FVec Ideal S256x1024 .f32) (g : FVec Ideal S1x1024 .f32) (tg q e ga ge dq : FVec Ideal S256x1024 .f32)
  (r : Fin 256) (j : Fin 1024)

theorem pay6_at : k0_pay6 (F := Ideal) x w (ix2 r j) = gate (∑ l, x (ix2 r l) * w (ix2 l j)) := by
  pointwise [k0_pay6, gate]
  rw [zero_sub]

theorem pay7_at : k0_pay7 (F := Ideal) pb v (ix2 r j) = ∑ l, pb (ix2 r l) * v (ix2 l j) := by pointwise [k0_pay7]

theorem pay8_at : k0_pay8 (F := Ideal) x w pb v (ix2 r j) = k0_pay6 x w (ix2 r j) * k0_pay7 pb v (ix2 r j) := by pointwise [k0_pay8]

theorem pay9_at : k0_pay9 (F := Ideal) x w pb v h g tg (ix2 r j)
    = h (ix2 r j) + k0_pay8 x w pb v (ix2 r j) * Ideal.rsqrt (Norm.meanSq fun k => k0_pay8 (F := Ideal) x w pb v (ix2 r k)) * g (ix2 0 j) - tg (ix2 r j) := by
  pointwise [k0_pay9, Norm.meanSq]

theorem pay11_at (j) : k0_pay11 (F := Ideal) j = 0 := by pointwise [k0_pay11]
theorem pay2_at (j) : k0_pay2 (F := Ideal) j = 0 := by pointwise [k0_pay2]
theorem pay4_at (j) : k0_pay4 (F := Ideal) j = 0 := by pointwise [k0_pay4]

theorem pay12_at (acc : FVec Ideal S8x128 .f32) (i : S8x128.Idx) : k0_pay12 (F := Ideal) (k0_pay10 x w pb v h g tg) acc i
    = acc i + Ideal.ofBits .f32 0x3A000000#32 * ∑ a : Fin 256, ∑ j : Fin 1024,
        k0_pay9 x w pb v h g tg (ix2 a j) * k0_pay9 x w pb v h g tg (ix2 a j) := by
  pointwise [k0_pay12, k0_pay10]

theorem pay13_at : k0_pay13 (F := Ideal) e (ix2 r j) = e (ix2 r j) * Ideal.ofBits .f32 0x3A800000#32 := by pointwise [k0_pay13]

theorem pay15_at : k0_pay15 (F := Ideal) q e g (ix2 r j)
    = Norm.bwd (fun k => q (ix2 r k)) (fun k => g (ix2 0 k)) (fun k => e (ix2 r k) * Ideal.ofBits .f32 0x3A800000#32) j := by
  pointwise [k0_pay15, k0_pay14, k0_pay13, Norm.bwd, Norm.meanSq]

theorem pay3_at (acc : FVec Ideal S1x1024 .f32) (i : S1x1024.Idx) : k0_pay3 (F := Ideal) (k0_pay17 (k0_pay16 q e)) acc i
    = acc i + ∑ a : Fin 256, e (ix2 a (i 1)) * Ideal.ofBits .f32 0x3A800000#32 * q (ix2 a (i 1))
        * Ideal.rsqrt (Norm.meanSq fun k => q (ix2 a k)) := by
  pointwise [k0_pay3, k0_pay17, k0_pay16, k0_pay14, k0_pay13, Norm.meanSq]

theorem pay18_at : k0_pay18 (F := Ideal) ga ge dq (ix2 r j)
    = dq (ix2 r j) * ge (ix2 r j) * ga (ix2 r j) * (Ideal.ofBits .f32 0x3F800000#32 - ga (ix2 r j)) := by pointwise [k0_pay18]

theorem pay19_at : k0_pay19 (F := Ideal) ga dq (ix2 r j) = dq (ix2 r j) * ga (ix2 r j) := by pointwise [k0_pay19]

theorem pay20_at : k0_pay20 (F := Ideal) ga ge dq w (ix2 r j) = ∑ l, k0_pay18 ga ge dq (ix2 r l) * w (ix2 j l) := by pointwise [k0_pay20]

theorem pay1_at : k0_pay1 (F := Ideal) (k0_pay13 e) (k0_pay22 ga ge h dq g w) (ix2 r j)
    = e (ix2 r j) * Ideal.ofBits .f32 0x3A800000#32
      + Norm.bwd (fun k => h (ix2 r k)) (fun k => g (ix2 0 k)) (fun k => k0_pay20 ga ge dq w (ix2 r k)) j := by
  pointwise [k0_pay1, k0_pay13, k0_pay22, k0_pay21, Norm.bwd, Norm.meanSq]

theorem pay5_at (acc : FVec Ideal S1x1024 .f32) (i : S1x1024.Idx) : k0_pay5 (F := Ideal) (k0_pay23 ga ge h dq w) (k0_pay24 h) acc i
    = acc i + ∑ a : Fin 256, k0_pay20 ga ge dq w (ix2 a (i 1)) * h (ix2 a (i 1)) * Ideal.rsqrt (Norm.meanSq fun k => h (ix2 a k)) := by
  pointwise [k0_pay5, k0_pay23, k0_pay24, k0_pay21, Norm.meanSq]

end Body

/-! ## The blocks -/

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0] :=
  (by decide +kernel : ∀ t : Fin grid0.N, _)

variable (c : Dev nD) (t : Fin cfg0.N) (r : Fin 256) (j : Fin 1024)

theorem saved (i : Fin 4096) : V m c main_v12 (ix2 i j) = xn (m ((c : Thread nD τ).loc main_arg0)) (m ((c : Thread nD τ).loc main_arg2)) i j := by
  show StableHlo.after hostOps0 _ (Proc.devRef .tc main_v12) _ = _
  after_results_simp
  pointwise [xn, Norm.meanSq]

theorem blk0' : iblk m c 0 t (ix2 r j) = V m c main_v12 (ix2 (Norm.row t r) j) := by
  unfold Norm.row; blk_point [iblk, idx t]

theorem blk0 : iblk m c 0 t (ix2 r j) = xn (m ((c : Thread nD τ).loc main_arg0)) (m ((c : Thread nD τ).loc main_arg2)) (Norm.row t r) j := (blk0' ..).trans (saved ..)

theorem blk1 (k : Fin 256) : iblk m c 1 t (ix2 r k) = m ((c : Thread nD τ).loc main_arg1) (ix2 (Norm.row t r) k) := by
  unfold Norm.row; blk_point [iblk, V, idx t]

theorem blk2 (k : Fin 1024) : iblk m c 2 t (ix2 k j) = m ((c : Thread nD τ).loc main_arg3) (ix2 k j) := by
  blk_point [iblk, V, idx t]

theorem blk3 (k : Fin 256) : iblk m c 3 t (ix2 k j) = m ((c : Thread nD τ).loc main_arg4) (ix2 k j) := by
  blk_point [iblk, V, idx t]

theorem blk4 : iblk m c 4 t (ix2 r j) = m ((c : Thread nD τ).loc main_arg0) (ix2 (Norm.row t r) j) := by
  unfold Norm.row; blk_point [iblk, V, idx t]

theorem blk5 (z : Fin 1) : iblk m c 5 t (ix2 z j) = m ((c : Thread nD τ).loc main_arg5) (ix2 z j) := by
  blk_point [iblk, V, idx t]

theorem blk6 (z : Fin 1) : iblk m c 6 t (ix2 z j) = m ((c : Thread nD τ).loc main_arg2) (ix2 z j) := by
  blk_point [iblk, V, idx t]

theorem blk7 : iblk m c 7 t (ix2 r j) = m ((c : Thread nD τ).loc main_arg6) (ix2 (Norm.row t r) j) := by
  unfold Norm.row; blk_point [iblk, V, idx t]

/-! ## The values at a grid point -/

theorem gt_at : k0_pay6 (F := Ideal) (iblk m c 0 t) (iblk m c 2 t) (ix2 r j) = gt (m ((c : Thread nD τ).loc main_arg0)) (m ((c : Thread nD τ).loc main_arg2)) (m ((c : Thread nD τ).loc main_arg3)) (Norm.row t r) j := by
  rw [pay6_at]
  exact congrArg gate (Finset.sum_congr rfl fun l _ => congrArg₂ (· * ·) (blk0 ..) (blk2 ..))

theorem emb_at : k0_pay7 (F := Ideal) (iblk m c 1 t) (iblk m c 3 t) (ix2 r j) = emb (m ((c : Thread nD τ).loc main_arg1)) (m ((c : Thread nD τ).loc main_arg4)) (Norm.row t r) j := by
  rw [pay7_at]
  exact Finset.sum_congr rfl fun l _ => congrArg₂ (· * ·) (blk1 ..) (blk3 ..)

theorem prod_at : k0_pay8 (F := Ideal) (iblk m c 0 t) (iblk m c 2 t) (iblk m c 1 t) (iblk m c 3 t) (ix2 r j) = prod (m ((c : Thread nD τ).loc main_arg0)) (m ((c : Thread nD τ).loc main_arg1)) (m ((c : Thread nD τ).loc main_arg2)) (m ((c : Thread nD τ).loc main_arg3)) (m ((c : Thread nD τ).loc main_arg4)) (Norm.row t r) j := by
  rw [pay8_at]
  exact congrArg₂ (· * ·) (gt_at ..) (emb_at ..)

theorem err_at : k0_pay9 (F := Ideal) (iblk m c 0 t) (iblk m c 2 t) (iblk m c 1 t) (iblk m c 3 t) (iblk m c 4 t) (iblk m c 5 t) (iblk m c 7 t) (ix2 r j)
    = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Norm.row t r) j := by
  rw [pay9_at]
  exact congrArg₂ (· - ·) (congrArg₂ (· + ·) (blk4 ..) (congrArg₂ (· * ·) (congrArg₂ (· * ·) (prod_at ..)
    (congrArg (fun x => Ideal.rsqrt (Norm.meanSq x)) (funext fun k => prod_at ..))) (blk5 ..))) (blk7 ..)

theorem dq_at : k0_pay15 (F := Ideal) (k0_pay8 (iblk m c 0 t) (iblk m c 2 t) (iblk m c 1 t) (iblk m c 3 t)) (k0_pay9 (iblk m c 0 t) (iblk m c 2 t) (iblk m c 1 t) (iblk m c 3 t) (iblk m c 4 t) (iblk m c 5 t) (iblk m c 7 t)) (iblk m c 5 t) (ix2 r j) = dq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Norm.row t r) j := by
  rw [pay15_at]
  show Norm.bwd _ _ _ _ = Norm.bwd _ _ _ _
  congr 1
  · funext k; exact prod_at ..
  · funext k; exact blk5 ..
  · funext k; exact congrArg (· * _) (err_at ..)

theorem ds_at : k0_pay18 (F := Ideal) (k0_pay6 (iblk m c 0 t) (iblk m c 2 t)) (k0_pay7 (iblk m c 1 t) (iblk m c 3 t)) (k0_pay15 (k0_pay8 (iblk m c 0 t) (iblk m c 2 t) (iblk m c 1 t) (iblk m c 3 t)) (k0_pay9 (iblk m c 0 t) (iblk m c 2 t) (iblk m c 1 t) (iblk m c 3 t) (iblk m c 4 t) (iblk m c 5 t) (iblk m c 7 t)) (iblk m c 5 t)) (ix2 r j) = DS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (Norm.row t r) j) := by
  rw [pay18_at]
  exact congrArg₂ (· * ·) (congrArg₂ (· * ·) (congrArg₂ (· * ·) (dq_at ..) (emb_at ..)) (gt_at ..))
    (congrArg (fun x => Ideal.ofBits .f32 0x3F800000#32 - x) (gt_at ..))

theorem de_at : k0_pay19 (F := Ideal) (k0_pay6 (iblk m c 0 t) (iblk m c 2 t)) (k0_pay15 (k0_pay8 (iblk m c 0 t) (iblk m c 2 t) (iblk m c 1 t) (iblk m c 3 t)) (k0_pay9 (iblk m c 0 t) (iblk m c 2 t) (iblk m c 1 t) (iblk m c 3 t) (iblk m c 4 t) (iblk m c 5 t) (iblk m c 7 t)) (iblk m c 5 t)) (ix2 r j) = DE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (Norm.row t r) j) := by
  rw [pay19_at]
  exact congrArg₂ (· * ·) (dq_at ..) (gt_at ..)

theorem dxn_at : k0_pay20 (F := Ideal) (k0_pay6 (iblk m c 0 t) (iblk m c 2 t)) (k0_pay7 (iblk m c 1 t) (iblk m c 3 t)) (k0_pay15 (k0_pay8 (iblk m c 0 t) (iblk m c 2 t) (iblk m c 1 t) (iblk m c 3 t)) (k0_pay9 (iblk m c 0 t) (iblk m c 2 t) (iblk m c 1 t) (iblk m c 3 t) (iblk m c 4 t) (iblk m c 5 t) (iblk m c 7 t)) (iblk m c 5 t)) (iblk m c 2 t) (ix2 r j) = dxn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Norm.row t r) j := by
  rw [pay20_at]
  exact Finset.sum_congr rfl fun l _ => congrArg₂ (· * ·) (ds_at ..) (blk2 ..)

theorem dh_at : k0_pay1 (F := Ideal) (k0_pay13 (k0_pay9 (iblk m c 0 t) (iblk m c 2 t) (iblk m c 1 t) (iblk m c 3 t) (iblk m c 4 t) (iblk m c 5 t) (iblk m c 7 t))) (k0_pay22 (k0_pay6 (iblk m c 0 t) (iblk m c 2 t)) (k0_pay7 (iblk m c 1 t) (iblk m c 3 t)) (iblk m c 4 t) (k0_pay15 (k0_pay8 (iblk m c 0 t) (iblk m c 2 t) (iblk m c 1 t) (iblk m c 3 t)) (k0_pay9 (iblk m c 0 t) (iblk m c 2 t) (iblk m c 1 t) (iblk m c 3 t) (iblk m c 4 t) (iblk m c 5 t) (iblk m c 7 t)) (iblk m c 5 t)) (iblk m c 6 t) (iblk m c 2 t)) (ix2 r j)
    = DH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (Norm.row t r) j) := by
  rw [pay1_at]
  refine congrArg₂ (· + ·) (congrArg (· * _) (err_at ..)) ?_
  show Norm.bwd _ _ _ _ = Norm.bwd _ _ _ _
  congr 1
  · funext k; exact blk4 ..
  · funext k; exact blk6 ..
  · funext k; exact dxn_at ..

/-! ## The results -/

theorem final8 (c : Dev nD) : (dats m 0 c).arrAt 8 (cfgs 0).N
    = DS (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6)) := by
  refine (dats m 0 c).arrAt_eq_of_covers 8 _ (by decide +kernel) fun t _ y => ?_
  blk_simp
  obtain ⟨r, j, rfl⟩ : ∃ (r : Fin 256) (j : Fin 1024), y = ix2 r j := ⟨y 0, y 1, eq_ix2 y⟩
  have e : ((View.whole main_v16_0).slice (win0_8.rect t)).emb (ix2 r j) = (ix2 (Norm.row t r) j : S4096x1024.Idx) := by
    unfold Norm.row; blk_ext [idx t]
  rw [after0_8, e]
  by_cases ht : t.val % 16 = 0
  on_goal 1 => rw [outsAt0_A m c t ht ht ht]
  on_goal 2 => rw [outsAt0_B m c t ht ht ht]
  all_goals
    frame_out
    exact ds_at ..

theorem final9 (c : Dev nD) : (dats m 0 c).arrAt 9 (cfgs 0).N
    = DE (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6)) := by
  refine (dats m 0 c).arrAt_eq_of_covers 9 _ (by decide +kernel) fun t _ y => ?_
  blk_simp
  obtain ⟨r, j, rfl⟩ : ∃ (r : Fin 256) (j : Fin 1024), y = ix2 r j := ⟨y 0, y 1, eq_ix2 y⟩
  have e : ((View.whole main_v16_1).slice (win0_9.rect t)).emb (ix2 r j) = (ix2 (Norm.row t r) j : S4096x1024.Idx) := by
    unfold Norm.row; blk_ext [idx t]
  rw [after0_9, e]
  by_cases ht : t.val % 16 = 0
  on_goal 1 => rw [outsAt0_A m c t ht ht ht]
  on_goal 2 => rw [outsAt0_B m c t ht ht ht]
  all_goals
    frame_out
    exact de_at ..

theorem final10 (c : Dev nD) : (dats m 0 c).arrAt 10 (cfgs 0).N
    = DH (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6)) := by
  refine (dats m 0 c).arrAt_eq_of_covers 10 _ (by decide +kernel) fun t _ y => ?_
  blk_simp
  obtain ⟨r, j, rfl⟩ : ∃ (r : Fin 256) (j : Fin 1024), y = ix2 r j := ⟨y 0, y 1, eq_ix2 y⟩
  have e : ((View.whole main_v16_2).slice (win0_10.rect t)).emb (ix2 r j) = (ix2 (Norm.row t r) j : S4096x1024.Idx) := by
    unfold Norm.row; blk_ext [idx t]
  rw [after0_10, e]
  by_cases ht : t.val % 16 = 0
  on_goal 1 => rw [outsAt0_A m c t ht ht ht]
  on_goal 2 => rw [outsAt0_B m c t ht ht ht]
  all_goals
    frame_out
    exact dh_at ..

theorem final11 (c : Dev nD) : (dats m 0 c).arrAt 11 (cfgs 0).N
    = DPOST (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6)) := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => 0) _
    (fun t h j => by rw [outsAt0_A m c t h h h]; frame_out; rw [pay3_at, pay2_at])
    (fun t h j => by rw [outsAt0_B m c t h h h]; frame_out; rw [pay3_at])
    (le_of_eq N_0) t0_15 rfl j, zero_add]
  rw [DPOST, Norm.sum_rows]
  refine Fin.sum_fin_congr fun t => Fin.sum_fin_congr fun a => ?_
  exact congrArg₂ (· * ·) (congrArg₂ (· * ·) (congrArg (· * _) (err_at ..)) (prod_at ..))
    (congrArg (fun x => Ideal.rsqrt (Norm.meanSq x)) (funext fun k => prod_at ..))

theorem final12 (c : Dev nD) : (dats m 0 c).arrAt 12 (cfgs 0).N
    = DPRE (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6)) := by
  refine (dats m 0 c).arrAt_eq_of_after_last 12 t0_15 (by decide +kernel) _ fun j => ?_
  blk_simp
  rw [after0_12, Pipeline.eq_sum_fin_of_reset_step_apply_last (fun n h => (outsAt0 m c n h).2.2.2.2.1) 16 (fun _ => 0) _
    (fun t h j => by rw [outsAt0_A m c t h h h]; frame_out; rw [pay5_at, pay4_at])
    (fun t h j => by rw [outsAt0_B m c t h h h]; frame_out; rw [pay5_at])
    (le_of_eq N_0) t0_15 rfl j, zero_add]
  rw [DPRE, Norm.sum_rows]
  refine Fin.sum_fin_congr fun t => Fin.sum_fin_congr fun a => ?_
  exact congrArg₂ (· * ·) (congrArg₂ (· * ·) (dxn_at ..) (blk4 ..))
    (congrArg (fun x => Ideal.rsqrt (Norm.meanSq x)) (funext fun k => blk4 ..))

theorem final13 (c : Dev nD) : (dats m 0 c).arrAt 13 (cfgs 0).N
    = LOSS (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6)) := by
  refine (dats m 0 c).arrAt_eq_of_after_last 13 t0_15 (by decide +kernel) _ fun j => ?_
  blk_simp
  rw [after0_13, Pipeline.eq_sum_fin_of_reset_step_apply_last (fun n h => (outsAt0 m c n h).2.2.2.2.2) 16 (fun _ => 0) _
    (fun t h j => by rw [outsAt0_A m c t h h h]; frame_out; rw [pay12_at, pay11_at])
    (fun t h j => by rw [outsAt0_B m c t h h h]; frame_out; rw [pay12_at])
    (le_of_eq N_0) t0_15 rfl j, zero_add]
  rw [LOSS]
  refine Fin.sum_fin_congr fun t => congrArg (_ * ·) (Fin.sum_fin_congr fun a => Fin.sum_fin_congr fun k => ?_)
  exact congrArg₂ (· * ·) (err_at ..) (err_at ..)

end Cert.PleIdeal.Value

namespace Cert.PleRefIdeal.Read

open Cert.PleRefIdeal Cert.PleRefIdeal.Gen
open Cert.PleIdeal.Value (xn gt emb prod err dy dq DS DE dxn DH DPOST DPRE LOSS)

variable (h : FVec Ideal S4096x1024 .f32) (p : FVec Ideal S4096x256 .f32) (pg : FVec Ideal S1x1024 .f32)
  (wg : FVec Ideal S1024x1024 .f32) (wp : FVec Ideal S256x1024 .f32) (qg : FVec Ideal S1x1024 .f32) (tg : FVec Ideal S4096x1024 .f32)
  (i : Fin 4096) (j : Fin 1024)

theorem ref_xn : val_main_v16 (F := Ideal) h pg (ix2 i j) = xn h pg i j := by
  pointwise [val_main_v16, val_main_v13, val_main_v15, val_main_v12, val_main_v14, val_main_v8, val_main_v0, val_main_v7, val_main_v5, val_main_v6, val_main_v3, val_main_v4, val_main_cst_1, val_main_v2, val_main_cst_0, val_main_v1, val_main_cst, xn, Norm.meanSq]

theorem ref_gt : val_main_v24 (F := Ideal) h pg wg (ix2 i j) = gt h pg wg i j := by
  pointwise [val_main_v24, val_main_v23, val_main_v22, val_main_cst_4, val_main_v21, val_main_v20, val_main_cst_3, val_main_v19, val_main_v17, ref_xn, gt, gate]

theorem ref_emb : val_main_v18 (F := Ideal) p wp (ix2 i j) = emb p wp i j := by
  pointwise [val_main_v18, emb]

theorem ref_prod : val_main_v28 (F := Ideal) h p pg wg wp (ix2 i j) = prod h p pg wg wp i j :=
  congrArg₂ (· * ·) (ref_gt ..) (ref_emb ..)

theorem ref_err : val_main_v47 (F := Ideal) h p pg wg wp qg tg (ix2 i j) = err h p pg wg wp qg tg i j := by
  pointwise [val_main_v47, val_main_v46, val_main_v45, val_main_v42, val_main_v44, val_main_v41, val_main_v43, val_main_v37, val_main_v29, val_main_v36, val_main_v34, val_main_v35, val_main_v32, val_main_v33, val_main_cst_8, val_main_v31, val_main_cst_7, val_main_v30, val_main_cst_6, ref_prod, err, Norm.meanSq]

/-- Half of twice the error over 1024. -/
theorem half_two (e : EReal) : Ideal.div (Ideal.ofBits .f32 0x3F000000#32) (Ideal.ofBits .f32 0x44800000#32) * (Ideal.ofBits .f32 0x40000000#32 * e)
    = e * Ideal.ofBits .f32 0x3A800000#32 := by
  have h2 : Ideal.ofBits .f32 0x40000000#32 = ((2 : ℝ) : EReal) := by
    simp [Ideal.ofBits, Ideal.ieee, -EReal.coe_mul]; norm_num
  have hw : Ideal.ofBits .f32 0x3A800000#32 = ((1 / 1024 : ℝ) : EReal) := by
    simp [Ideal.ofBits, Ideal.ieee, -EReal.coe_mul]; norm_num
  rw [h2, hw, Norm.w1024, Norm.wHalf, Ideal.div_coe (by norm_num), ← EReal.coe_mul, ← mul_assoc, ← EReal.coe_mul, mul_comm]
  norm_num

theorem ref_dy : val_main_v61 (F := Ideal) h p pg wg wp qg tg (ix2 i j) = dy h p pg wg wp qg tg i j := by
  pointwise [val_main_v61, val_main_v60, val_main_v50, val_main_v59, val_main_v49, val_main_v57, val_main_v58, val_main_cst_10, val_main_v56, val_main_cst_17, val_main_cst_15, val_main_cst_16, ref_err, dy]
  exact half_two _

theorem ref_dq : val_main_v81 (F := Ideal) h p pg wg wp qg tg (ix2 i j) = dq h p pg wg wp qg tg i j := by
  pointwise [val_main_v81, val_main_v79, val_main_v80, val_main_v72, val_main_v78, val_main_v77, val_main_v66, val_main_v71, val_main_v76, val_main_v65, val_main_v37, val_main_v75, val_main_cst_22, val_main_v43, val_main_v36, val_main_v73, val_main_v74, val_main_v29, val_main_v34, val_main_v35, val_main_v70, val_main_v40, val_main_cst_21, val_main_v32, val_main_v33, val_main_cst_8, val_main_v69, val_main_v39, val_main_v38, val_main_v31, val_main_cst_7, val_main_v68, val_main_cst_20, val_main_cst_9, val_main_v30, val_main_cst_6, ref_prod, ref_dy, Norm.meanSq]
  simp only [Fin.sum_univ_one]
  have h := Cert.Norm.bwd_eq (prod h p pg wg wp i) (fun k => qg (ix2 0 k)) (dy h p pg wg wp qg tg i) j 0
  rw [zero_add, zero_add] at h
  exact h

theorem ref_ds : val_main_v85 (F := Ideal) h p pg wg wp qg tg (ix2 i j) = DS h p pg wg wp qg tg (ix2 i j) :=
  (congrArg₂ (· * ·) (congrArg₂ (· * ·) (ref_dq ..) (ref_emb ..)) (congrArg₂ (· * ·) (ref_gt ..)
    (congrArg (fun x => Ideal.ofBits .f32 0x3F800000#32 - x) (ref_gt ..)))).trans (mul_assoc _ _ _).symm

theorem ref_de : val_main_v83 (F := Ideal) h p pg wg wp qg tg (ix2 i j) = DE h p pg wg wp qg tg (ix2 i j) :=
  (congrArg₂ (· * ·) (ref_gt ..) (ref_dq ..)).trans (mul_comm _ _)

theorem ref_dxn : val_main_v86 (F := Ideal) h p pg wg wp qg tg (ix2 i j) = dxn h p pg wg wp qg tg i j := by
  pointwise [val_main_v86, dxn]
  exact Finset.sum_congr rfl fun l _ => congrArg (· * wg (ix2 j l)) (ref_ds ..)

theorem ref_dh : val_main_v110 (F := Ideal) h p pg wg wp qg tg (ix2 i j) = DH h p pg wg wp qg tg (ix2 i j) := by
  refine congrArg₂ (· + ·) (ref_dy ..) ?_
  pointwise [val_main_v106, val_main_v104, val_main_v105, val_main_v97, val_main_v103, val_main_v102, val_main_v91, val_main_v96, val_main_v101, val_main_v90, val_main_v8, val_main_v100, val_main_cst_27, val_main_v14, val_main_v7, val_main_v98, val_main_v99, val_main_v0, val_main_v5, val_main_v6, val_main_v95, val_main_v11, val_main_cst_26, val_main_v3, val_main_v4, val_main_cst_1, val_main_v94, val_main_v10, val_main_v9, val_main_v2, val_main_cst_0, val_main_v93, val_main_cst_25, val_main_cst_2, val_main_v1, val_main_cst, ref_dxn, Norm.meanSq]
  simp only [Fin.sum_univ_one]
  have h := Cert.Norm.bwd_eq (fun k => h (ix2 i k)) (fun k => pg (ix2 0 k)) (dxn h p pg wg wp qg tg i) j 0
  rw [zero_add, zero_add] at h
  exact h

theorem ref_dpost : val_main_v82 (F := Ideal) h p pg wg wp qg tg = DPOST h p pg wg wp qg tg := by
  funext i
  idx_vars i
  pointwise [val_main_v82, val_main_v67, val_main_v64, val_main_cst_19, val_main_v63, val_main_v62, val_main_cst_18, val_main_v42, val_main_v41, val_main_v37, val_main_v36, val_main_v34, val_main_v35, val_main_v32, val_main_v33, val_main_cst_8, val_main_v31, val_main_cst_7, val_main_v30, val_main_cst_6, ref_prod, ref_dy, DPOST, Norm.meanSq]
  simp only [Fin.sum_univ_one]
  exact Fin.sum_fin_congr fun r => by rw [mul_comm, ← mul_assoc]

theorem ref_dpre : val_main_v107 (F := Ideal) h p pg wg wp qg tg = DPRE h p pg wg wp qg tg := by
  funext i
  idx_vars i
  pointwise [val_main_v107, val_main_v92, val_main_v89, val_main_cst_24, val_main_v88, val_main_v87, val_main_cst_23, val_main_v13, val_main_v12, val_main_v8, val_main_v7, val_main_v5, val_main_v6, val_main_v3, val_main_v4, val_main_cst_1, val_main_v2, val_main_cst_0, val_main_v1, val_main_cst, ref_dxn, DPRE, Norm.meanSq]
  simp only [Fin.sum_univ_one]
  exact Fin.sum_fin_congr fun r => by rw [mul_comm, ← mul_assoc]

theorem ref_loss : val_main_v111 (F := Ideal) h p pg wg wp qg tg = LOSS h p pg wg wp qg tg := by
  funext i
  idx_vars i
  have hw : Ideal.ofBits .f32 0x3A000000#32 = ((1 / 2048 : ℝ) : EReal) := by
    simp [Ideal.ofBits, Ideal.ieee, -EReal.coe_mul]; norm_num
  pointwise [val_main_v111, val_main_v55, val_main_cst_14, val_main_v54, val_main_v53, val_main_cst_13, val_main_v51, val_main_v52, val_main_v48, val_main_cst_11, val_main_cst_12, ref_err, LOSS]
  rw [Norm.sum_rows, hw, Norm.wHalf, Norm.w1024, Fin.coe_mul_sum (by norm_num)]
  refine Fin.sum_fin_congr fun t => ?_
  rw [Fin.coe_mul_sum (by norm_num), Fin.coe_mul_sum (by norm_num)]
  refine Fin.sum_fin_congr fun a => ?_
  rw [Ideal.div_coe (by norm_num), mul_comm, mul_assoc, ← EReal.coe_mul, mul_comm]
  norm_num

end Cert.PleRefIdeal.Read

end
-- ==== Proof.PleClaim.lean ====
/- The value claim of the embedding gate's and the loss's gradients, from the two runs. -/
module

public import proofs.«01_k».proof.Defs
public import proofs.«01_k».proof.Proof.Gen.PleIdeal.Value
public import proofs.«01_k».proof.Proof.PleValue
public import proofs.«01_k».proof.Proof.Gen.PleRefIdeal.Run
public import Idealize.ShloMosaic.Lib.Claim

set_option maxRecDepth 16384

@[expose] public section

noncomputable section

namespace Cert.Proof

open Idealize.ShloMosaic Idealize.SL.Sem Cert.PleIdeal

theorem frame_pleRef : Cert.quiescent_PleRefIdeal (hPleRefIdeal := Cert.PleRefIdeal.Gen.facts) := fun m g _ =>
  (θ_run Cert.PleRefIdeal.defs _ _).mono (fun r h => ⟨fun c => (h c).2.2.2.2.2.2, sem_eq_zero_of_no_sems (by decide) r.2⟩)
    (Cert.PleRefIdeal.Value.run (F := Ideal) m g)

theorem algebraic_ple : Cert.algebraic_PleIdeal_PleRefIdeal (hPleIdeal := Cert.PleIdeal.Gen.facts)
    (hPleRefIdeal := Cert.PleRefIdeal.Gen.facts) := by
  intro m g m' g' hpre hagree
  refine ⟨fun c => Cert.PleIdeal.Value.DS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.PleIdeal.Value.DE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.PleIdeal.Value.DH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.PleIdeal.Value.DPOST (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.PleIdeal.Value.DPRE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.PleIdeal.Value.LOSS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    ?_, ?_⟩
  · refine (θ_run Cert.PleIdeal.defs _ _).mono (fun r h c => ?_) (Cert.PleIdeal.Value.run_blocks (F := Ideal) m g)
    obtain ⟨h0, h1, h2, h3, h4, h5, hrest⟩ := h c
    exact ⟨h0.trans (Cert.PleIdeal.Value.final8 m c), h1.trans (Cert.PleIdeal.Value.final9 m c), h2.trans (Cert.PleIdeal.Value.final10 m c), h3.trans (Cert.PleIdeal.Value.final11 m c), h4.trans (Cert.PleIdeal.Value.final12 m c), h5.trans (Cert.PleIdeal.Value.final13 m c), hrest⟩
  · refine (θ_run Cert.PleRefIdeal.defs _ _).mono (fun r h c => ?_) (Cert.PleRefIdeal.Value.run (F := Ideal) m' g')
    obtain ⟨h0, h1, h2, h3, h4, h5, hrest⟩ := h c
    rw [Cert.PleRefIdeal.Read.val_main_v108_eq] at h0
    rw [Cert.PleRefIdeal.Read.val_main_v109_eq] at h1
    rw [Cert.PleRefIdeal.Read.val_main_v110_eq] at h2
    rw [Cert.PleRefIdeal.Read.val_main_v82_eq] at h3
    rw [Cert.PleRefIdeal.Read.val_main_v107_eq] at h4
    rw [Cert.PleRefIdeal.Read.val_main_v111_eq] at h5
    simp only [hagree c] at h0 h1 h2 h3 h4 h5
    exact ⟨h0.trans ((funext fun i => by idx_vars i; exact Cert.PleRefIdeal.Read.ref_ds ..)), h1.trans ((funext fun i => by idx_vars i; exact Cert.PleRefIdeal.Read.ref_de ..)), h2.trans ((funext fun i => by idx_vars i; exact Cert.PleRefIdeal.Read.ref_dh ..)), h3.trans (Cert.PleRefIdeal.Read.ref_dpost ..), h4.trans (Cert.PleRefIdeal.Read.ref_dpre ..), h5.trans (Cert.PleRefIdeal.Read.ref_loss ..), hrest⟩

end Cert.Proof

end
-- ==== Proof.SguFValue.lean ====
/-
  The spatial gate of the forward pass: its formula, what the tiles leave in its result, and what the reference writes.
-/
module

public import proofs.«01_k».proof.Proof.Gen.SguFIdeal.Frame
public import proofs.«01_k».proof.Proof.Gen.SguFRefIdeal.Read
public import proofs.«01_k».proof.Proof.SguTile

@[expose] public section

set_option maxRecDepth 16384

noncomputable section

open Idealize.ShloMosaic Idealize.ShloMosaic.TcCoe Idealize.SL.Sem
open Idealize.ShloMosaic.Pipeline (Dat)
open Cert.SguIdeal.Value (tok col colU colV wm chunk pos grp lane half mk)

namespace Cert.Gelu

/-- The unit as the forward formula has it. -/
def unit (x : EReal) : EReal := x * (half * (Ideal.ofBits .f32 0x3F800000#32 + th' x))

/-- The same with the products taken from the left. -/
theorem unit_left (x : EReal) :
    half * x * (Ideal.ofBits .f32 0x3F800000#32 + Ideal.tanh (k * (x + c * x * x * x))) = unit x := by
  unfold unit th'
  rw [mul_comm half x, mul_assoc x, mul_assoc (c * x), mul_assoc c, mul_assoc x x x]

end Cert.Gelu

namespace Cert.SguFIdeal.Value

open Cert.SguFIdeal Cert.SguFIdeal.Gen
open Cert.Gelu (unit)

variable (z : FVec Ideal S4096x5120 .f32) (g : FVec Ideal S1x1024 .f32) (w : FVec Ideal S4x128x128 .f32) (b : FVec Ideal S4x128 .f32)

/-- A row's centred values, and the normed row with its gain. -/
def cen (i : Fin 4096) : Fin 1024 → EReal := Layer.centred fun j => unit (z (ix2 i (colV j)))
def vn (i : Fin 4096) (j : Fin 1024) : EReal := cen z i j * Layer.dev (cen z i) * g (ix2 0 j)

/-- The mixed rows. -/
def sv (n : Fin 32) (a : Fin 128) (q : Fin 4) (l : Fin 256) : EReal := (∑ k, wm w q a k * vn z g (tok n k) (col q l)) + b (ix2 q a)

/-- The gated rows. -/
def A : FVec Ideal S4096x1024 .bf16 := fun i =>
  unit (z (ix2 (i 0) (colU (i 1)))) * sv z g w b (chunk (i 0)) (pos (i 0)) (grp (i 1)) (lane (i 1))

/-! ## What the body computes -/

section Body

variable (x : FVec Ideal S256x1024 .bf16) (g : FVec Ideal S1x1024 .f32) (r : Fin 256) (j : Fin 1024)

theorem gate_at : k0_pay6 (F := Ideal) (k0_pay3 x) (k0_pay4 x) k0_pay5 (ix2 r j) = unit (x (ix2 r j)) := by
  rw [← Gelu.unit_left]
  pointwise [k0_pay6, k0_pay5, k0_pay4, k0_pay3, Gelu.k, Gelu.c, Gelu.half]

theorem norm_at : k0_pay2 (F := Ideal) x g (ix2 r j)
    = Layer.centred (fun k => unit (x (ix2 r k))) j * Layer.dev (Layer.centred fun k => unit (x (ix2 r k))) * g (ix2 0 j) := by
  simp only [← Gelu.unit_left]
  pointwise [k0_pay2, Layer.centred, Layer.dev, Norm.meanSq, Gelu.k, Gelu.c, Gelu.half]

theorem mask_at (a k : Fin 128) (x : EReal) : Scalar.select (k0_pay7 (ix2 a k)) x 0 = mk a k x := by
  pointwise [k0_pay7, mk]
  rw [WordCmp.cmpi_sge_ofNat (by omega) (by omega)]
  by_cases h : k.val ≤ a.val <;> simp [h, Scalar.select]

end Body

section Tiles

open Cert.SguIdeal.Value (half_0 half_1 col_0 col_1 col_2 col_3)

variable (v : FVec Ideal S256x1024 .bf16) (u x y s : FVec Ideal S256x1024 .f32) (wt : FVec Ideal S1x128x128 .f32) (bt : FVec Ideal S1x128x1 .f32)
  (h : Fin 2) (q : Fin 4) (a : Fin 128) (l : Fin 256)

/-- One chunk and group of a tile. -/
def tileA : EReal :=
  u (ix2 (half h a) (col q l)) * ((∑ k, mk a k (wt (ix3 0 a k)) * v (ix2 (half h k) (col q l))) + bt (ix3 0 a 0))

theorem tileA_at :
    k0_pay9 v x y s wt bt (ix2 a l) = tileA v (k0_pay6 x y s) wt bt 0 0 a l
    ∧ k0_pay10 v x y s wt bt (ix2 a l) = tileA v (k0_pay6 x y s) wt bt 1 0 a l
    ∧ k0_pay12 v u k0_pay7 wt bt (ix2 a l) = tileA v u wt bt 0 1 a l
    ∧ k0_pay13 v u k0_pay7 wt bt (ix2 a l) = tileA v u wt bt 1 1 a l
    ∧ k0_pay16 u (k0_pay15 v k0_pay7 wt bt) (ix2 a l) = tileA v u wt bt 0 2 a l
    ∧ k0_pay17 v u (k0_pay14 k0_pay7 wt) bt (ix2 a l) = tileA v u wt bt 1 2 a l
    ∧ k0_pay19 v u k0_pay7 wt bt (ix2 a l) = tileA v u wt bt 0 3 a l
    ∧ k0_pay1 u (k0_pay20 v k0_pay7 wt bt) (ix2 a l) = tileA v u wt bt 1 3 a l := by
  refine ⟨?_, ?_, ?_, ?_, ?_, ?_, ?_, ?_⟩ <;>
  · pointwise [k0_pay9, k0_pay8, k0_pay10, k0_pay12, k0_pay11, k0_pay13, k0_pay16, k0_pay15, k0_pay14, k0_pay17, k0_pay19, k0_pay18, k0_pay1, k0_pay20,
      tileA, half_0, half_1, col_0, col_1, col_2, col_3]
    try simp only [mask_at, Cert.SguIdeal.Value.mk_mul]

end Tiles

/-! ## The blocks -/

variable (m : (ℓ : Loc nD τ sig) → Buf (Elt Ideal) ℓ)

theorem idx : ∀ t : Fin cfg0.N, win0_0.index t = ![t.val, 0] ∧ win0_1.index t = ![t.val, 1] ∧ win0_2.index t = ![0, 0]
    ∧ win0_3.index t = ![0, 0, 0] ∧ win0_4.index t = ![0, 0, 0] ∧ win0_5.index t = ![t.val, 0] :=
  (by decide +kernel : ∀ t : Fin grid0.N, _)

section Blocks

variable (c : Dev nD) (t : Fin cfg0.N)

abbrev za (c : Dev nD) : FVec Ideal S4096x5120 .f32 := m ((c.tc : Thread nD τ).loc main_arg0)
abbrev ga (c : Dev nD) : FVec Ideal S1x1024 .f32 := m ((c.tc : Thread nD τ).loc main_arg1)
abbrev wa (c : Dev nD) : FVec Ideal S4x128x128 .f32 := m ((c.tc : Thread nD τ).loc main_arg2)
abbrev ba (c : Dev nD) : FVec Ideal S4x128 .f32 := m ((c.tc : Thread nD τ).loc main_arg3)

theorem host_z (i : Fin 4096) (j : Fin 5120) : (V m c main_v0 : FVec Ideal S4096x5120 .bf16) (ix2 i j) = za m c (ix2 i j) := by
  show StableHlo.after hostOps0 _ (Proc.devRef .tc main_v0) (ix2 i j) = _
  after_results_simp
  pointwise []

theorem host_b (q : Fin 4) (a : Fin 128) (x : Fin 1) : (V m c main_v1 : FVec Ideal S4x128x1 .f32) (ix3 q a x) = ba m c (ix2 q a) := by
  show StableHlo.after hostOps0 _ (Proc.devRef .tc main_v1) (ix3 q a x) = _
  after_results_simp
  pointwise []

theorem blk0 (r : Fin 256) (j : Fin 1024) : (iblk m c 0 t : FVec Ideal S256x1024 .bf16) (ix2 r j) = za m c (ix2 (Norm.row t r) (colU j)) := by
  refine Eq.trans ?_ (host_z m c (Norm.row t r) (colU j))
  unfold Norm.row colU
  blk_point [iblk, V, idx t]

theorem blk1 (r : Fin 256) (j : Fin 1024) : (iblk m c 1 t : FVec Ideal S256x1024 .bf16) (ix2 r j) = za m c (ix2 (Norm.row t r) (colV j)) := by
  refine Eq.trans ?_ (host_z m c (Norm.row t r) (colV j))
  unfold Norm.row colV
  blk_point [iblk, V, idx t]

theorem blk2 (j : Fin 1024) : (iblk m c 2 t : FVec Ideal S1x1024 .f32) (ix2 0 j) = ga m c (ix2 0 j) := by
  blk_point [iblk, V, idx t]

theorem blk3 (q : Fin 4) (a k : Fin 128) : (iblk m c 3 t : FVec Ideal S4x128x128 .f32) (ix3 q a k) = wa m c (ix3 q a k) := by
  blk_point [iblk, V, idx t]

theorem blk4 (q : Fin 4) (a : Fin 128) : (iblk m c 4 t : FVec Ideal S4x128x1 .f32) (ix3 q a 0) = ba m c (ix2 q a) := by
  refine Eq.trans ?_ (host_b m c q a 0)
  blk_point [iblk, V, idx t]

/-- The tile's gated rows and its normed rows. -/
def ut : FVec Ideal S256x1024 .f32 := k0_pay6 (k0_pay3 (iblk m c 0 t)) (k0_pay4 (iblk m c 0 t)) k0_pay5
def vt : FVec Ideal S256x1024 .bf16 := k0_pay2 (iblk m c 1 t) (iblk m c 2 t)

theorem ut_at (r : Fin 256) (j : Fin 1024) : ut m c t (ix2 r j) = unit (za m c (ix2 (Norm.row t r) (colU j))) := by
  rw [ut, gate_at, blk0]

theorem vt_at (r : Fin 256) (j : Fin 1024) : vt m c t (ix2 r j) = vn (za m c) (ga m c) (Norm.row t r) j := by
  rw [vt, norm_at, blk2, vn, cen]
  simp only [blk1]

/-- A chunk and group of a tile is its part of the result. -/
theorem tile_eq (h : Fin 2) (q : Fin 4) (wt : FVec Ideal S1x128x128 .f32) (bt : FVec Ideal S1x128x1 .f32)
    (hw : ∀ a k, wt (ix3 0 a k) = iblk m c 3 t (ix3 q a k)) (hb : ∀ a, bt (ix3 0 a 0) = iblk m c 4 t (ix3 q a 0)) (a : Fin 128) (l : Fin 256) :
    tileA (vt m c t) (ut m c t) wt bt h q a l = A (za m c) (ga m c) (wa m c) (ba m c) (ix2 (Norm.row t (half h a)) (col q l)) := by
  have e1 : chunk (Norm.row t (half h a)) = ⟨t.val * 2 + h.val, by have : t.val < 16 := t.isLt; omega⟩ :=
    Fin.ext (by show (t.val * 256 + (h.val * 128 + a.val)) / 128 = _; simp only; omega)
  have e2 : pos (Norm.row t (half h a)) = a := Fin.ext (by show (t.val * 256 + (h.val * 128 + a.val)) % 128 = _; omega)
  have e3 : grp (col q l) = q := Fin.ext (by show (q.val * 256 + l.val) / 256 = _; omega)
  have e4 : lane (col q l) = l := Fin.ext (by show (q.val * 256 + l.val) % 256 = _; omega)
  have e5 (k : Fin 128) : Norm.row t (half h k) = tok (chunk (Norm.row t (half h a))) k :=
    Fin.ext (by rw [e1]; show t.val * 256 + (h.val * 128 + k.val) = (t.val * 2 + h.val) * 128 + k.val; omega)
  show _ = unit (za m c (ix2 (Norm.row t (half h a)) (colU (col q l)))) * sv (za m c) (ga m c) (wa m c) (ba m c) (chunk (Norm.row t (half h a)))
    (pos (Norm.row t (half h a))) (grp (col q l)) (lane (col q l))
  rw [tileA, ut_at, hb, blk4, e2, e3, e4, sv]
  refine congrArg (fun s : EReal => _ * (s + _)) (Fin.sum_fin_congr fun k => ?_)
  rw [vt_at, hw, blk3, e5]
  rfl

end Blocks

/-! ## The result -/

theorem emb5 (t : Fin cfg0.N) (y : ((cfg0.win 5).xblock (cfg0.grid.coords t)).Idx) (h : Fin 2) (q : Fin 4) (a : Fin 128) (l : Fin 256)
    (h0 : (y 0).val = h.val * 128 + a.val) (h1 : (y 1).val = q.val * 256 + l.val) :
    ((View.whole main_v2).slice (win0_5.rect t)).emb y = (ix2 (Norm.row t (half h a)) (col q l) : S4096x1024.Idx) := by
  unfold Norm.row half col
  blk_ext [idx t]
  all_goals omega

theorem final5 (c : Dev nD) : (dats m 0 c).arrAt 5 (cfgs 0).N = A (za m c) (ga m c) (wa m c) (ba m c) := by
  refine (dats m 0 c).arrAt_eq_of_covers 5 _ (by decide +kernel) fun t _ y => ?_
  blk_simp
  rw [after0_5]
  unfold_out out0_5
  frame_out
  canon_tiles x h
  all_goals obtain ⟨a, l, rfl⟩ : ∃ (a : Fin 128) (l : Fin 256), x = ix2 a l := ⟨x 0, x 1, eq_ix2 x⟩
  case piece0 =>
    rw [emb5 t y 1 3 a l (h0.trans (by show 128 + a.val = 1 * 128 + a.val; omega)) (h1.trans (by show 768 + l.val = 3 * 256 + l.val; omega))]
    exact (tileA_at _ _ (ut m c t) (ut m c t) (ut m c t) ..).2.2.2.2.2.2.2.trans (tile_eq m c t 1 3 _ _ (fun a k => by pointwise []) (fun a => by pointwise []) a l)
  case piece1 =>
    rw [emb5 t y 0 3 a l (h0.trans (by show a.val = 0 * 128 + a.val; omega)) (h1.trans (by show 768 + l.val = 3 * 256 + l.val; omega))]
    exact (tileA_at _ _ (ut m c t) (ut m c t) (ut m c t) ..).2.2.2.2.2.2.1.trans (tile_eq m c t 0 3 _ _ (fun a k => by pointwise []) (fun a => by pointwise []) a l)
  case piece2 =>
    rw [emb5 t y 1 2 a l (h0.trans (by show 128 + a.val = 1 * 128 + a.val; omega)) (h1.trans (by show 512 + l.val = 2 * 256 + l.val; omega))]
    exact (tileA_at _ _ (ut m c t) (ut m c t) (ut m c t) ..).2.2.2.2.2.1.trans (tile_eq m c t 1 2 _ _ (fun a k => by pointwise []) (fun a => by pointwise []) a l)
  case piece3 =>
    rw [emb5 t y 0 2 a l (h0.trans (by show a.val = 0 * 128 + a.val; omega)) (h1.trans (by show 512 + l.val = 2 * 256 + l.val; omega))]
    exact (tileA_at _ _ (ut m c t) (ut m c t) (ut m c t) ..).2.2.2.2.1.trans (tile_eq m c t 0 2 _ _ (fun a k => by pointwise []) (fun a => by pointwise []) a l)
  case piece4 =>
    rw [emb5 t y 1 1 a l (h0.trans (by show 128 + a.val = 1 * 128 + a.val; omega)) (h1.trans (by show 256 + l.val = 1 * 256 + l.val; omega))]
    exact (tileA_at _ _ (ut m c t) (ut m c t) (ut m c t) ..).2.2.2.1.trans (tile_eq m c t 1 1 _ _ (fun a k => by pointwise []) (fun a => by pointwise []) a l)
  case piece5 =>
    rw [emb5 t y 0 1 a l (h0.trans (by show a.val = 0 * 128 + a.val; omega)) (h1.trans (by show 256 + l.val = 1 * 256 + l.val; omega))]
    exact (tileA_at _ _ (ut m c t) (ut m c t) (ut m c t) ..).2.2.1.trans (tile_eq m c t 0 1 _ _ (fun a k => by pointwise []) (fun a => by pointwise []) a l)
  case piece6 =>
    rw [emb5 t y 1 0 a l (h0.trans (by show 128 + a.val = 1 * 128 + a.val; omega)) (h1.trans (by show l.val = 0 * 256 + l.val; omega))]
    exact (tileA_at _ (ut m c t) ..).2.1.trans (tile_eq m c t 1 0 _ _ (fun a k => by pointwise []) (fun a => by pointwise []) a l)
  case piece7 =>
    rw [emb5 t y 0 0 a l (h0.trans (by show a.val = 0 * 128 + a.val; omega)) (h1.trans (by show l.val = 0 * 256 + l.val; omega))]
    exact (tileA_at _ (ut m c t) ..).1.trans (tile_eq m c t 0 0 _ _ (fun a k => by pointwise []) (fun a => by pointwise []) a l)

end Cert.SguFIdeal.Value

end
-- ==== Proof.SguFRead.lean ====
/-
  The spatial gate of the forward pass: what the reference writes.
-/
module

public import proofs.«01_k».proof.Proof.SguFValue

@[expose] public section

set_option maxRecDepth 16384

noncomputable section

open Idealize.ShloMosaic Idealize.ShloMosaic.TcCoe Idealize.SL.Sem

namespace Cert.SguFRefIdeal.Read

open Cert.SguFRefIdeal Cert.SguFRefIdeal.Gen
open Cert.SguIdeal.Value (tok col colU colV wm chunk pos grp lane)
open Cert.SguFIdeal.Value (cen vn sv A)
open Cert.Gelu (unit)

variable (z : FVec Ideal S4096x5120 .f32) (g : FVec Ideal S1x1024 .f32) (w : FVec Ideal S4x128x128 .f32) (b : FVec Ideal S4x128 .f32)
  (p : Fin 1) (i : Fin 4096) (j : Fin 1024)

theorem ref_u : val_main_v14 (F := Ideal) z (ix2 i j) = unit (z (ix2 i (colU j))) := by
  pointwise [val_main_v14, val_main_v13, val_main_v12, val_main_cst_2, val_main_v11, val_main_v10, val_main_cst_1, val_main_v9, val_main_v8, val_main_v7,
    val_main_cst_0, val_main_v6, val_main_v5, val_main_v4, val_main_cst, val_main_v3, val_main_v2, val_main_v0, unit, Gelu.th', Gelu.k, Gelu.c, Gelu.half, colU]

theorem ref_v : val_main_v28 (F := Ideal) z (ix2 i j) = unit (z (ix2 i (colV j))) := by
  pointwise [val_main_v28, val_main_v27, val_main_v26, val_main_cst_6, val_main_v25, val_main_v24, val_main_cst_5, val_main_v23, val_main_v22, val_main_v21,
    val_main_cst_4, val_main_v20, val_main_v19, val_main_v18, val_main_cst_3, val_main_v17, val_main_v16, val_main_v1, unit, Gelu.th', Gelu.k, Gelu.c, Gelu.half, colV]

theorem ref_cen : val_main_v36 (F := Ideal) z (ix3 p i j) = cen z i j := by
  pointwise [val_main_v36, val_main_v35, val_main_v34, val_main_v33, val_main_v32, val_main_v31, val_main_cst_7, val_main_cst_8, val_main_v29, ref_v, cen, Layer.centred]

theorem ref_dev (x : Fin 1) : val_main_v44 (F := Ideal) z (ix3 p i x) = Layer.dev (cen z i) := by
  pointwise [val_main_v44, val_main_v43, val_main_v42, val_main_v41, val_main_v40, val_main_v39, val_main_v38, val_main_v37, val_main_cst_9, val_main_cst_10,
    val_main_cst_11, ref_cen, Layer.dev, Norm.meanSq]

theorem ref_row : val_main_v49 (F := Ideal) z g (ix3 p i j) = vn z g i j := by
  pointwise [val_main_v49, val_main_v48, val_main_v47, val_main_v46, val_main_v45, val_main_v30, ref_dev, ref_cen, vn]

theorem ref_mask (a k : Fin 128) : val_main_v52 (F := Ideal) (ix2 a k) = if k.val ≤ a.val then 1#1 else 0#1 := by
  pointwise [val_main_v52, val_main_call0_v4, val_main_call0_v2, val_main_call0_v0, val_main_call0_v1, val_main_call0_c, val_main_call0_v3, val_main_v51, val_main_c, val_main_call0_v5, val_main_call0_c_0]
  rw [show IntOp.addi (BitVec.ofNat 32 a.val) 0#32 = BitVec.ofNat 32 a.val from BitVec.add_zero _, WordCmp.cmpi_sge_ofNat (by omega) (by omega)]
  by_cases h : k.val ≤ a.val <;> simp [h, Scalar.select]

theorem ref_w (q : Fin 4) (a k : Fin 128) : val_main_v54 (F := Ideal) w (ix3 q a k) = wm w q a k := by
  pointwise [val_main_v54, val_main_call1_v1, val_main_v53, val_main_call1_v2, val_main_call1_v0, val_main_cst_12, ref_mask]
  unfold wm
  by_cases h : k.val ≤ a.val <;> simp [h, Scalar.select, constant, Ideal.ofBits_zero]

theorem ref_vn (n : Fin 32) (a : Fin 128) (q : Fin 4) (l : Fin 256) :
    val_main_v50 (F := Ideal) z g (ix5 p n a q l) = vn z g (tok n a) (col q l) := by
  pointwise [val_main_v50]
  rw [ref_row]
  refine congrArg₂ (vn z g) (Fin.ext ?_) (Fin.ext ?_)
  · show _ = n.val * 128 + a.val
    simp
  · show _ = q.val * 256 + l.val
    simp

theorem ref_mix (n : Fin 32) (a : Fin 128) (q : Fin 4) (l : Fin 256) : val_main_v61 (F := Ideal) z g w b (ix5 p n a q l) = sv z g w b n a q l := by
  pointwise [val_main_v61, val_main_v56, val_main_v55, val_main_v60, val_main_v59, val_main_v58, val_main_v57, ref_vn, ref_w, sv, mul_comm]

theorem ref_mixRow : val_main_v62 (F := Ideal) z g w b (ix3 p i j) = sv z g w b (chunk i) (pos i) (grp j) (lane j) := by
  pointwise [val_main_v62]
  exact ref_mix ..

theorem ref_A : val_main_v65 (F := Ideal) z g w b = A z g w b := by
  funext i
  obtain ⟨i, j, rfl⟩ : ∃ (r : Fin 4096) (j : Fin 1024), i = ix2 r j := ⟨i 0, i 1, eq_ix2 i⟩
  pointwise [val_main_v65, val_main_v64, val_main_v63, val_main_v15, ref_u, ref_mixRow, A]

end Cert.SguFRefIdeal.Read

end
-- ==== Proof.SguFClaim.lean ====
/- The value claim of the forward pass's spatial gate, from the two runs. -/
module

public import proofs.«01_k».proof.Defs
public import proofs.«01_k».proof.Proof.Gen.SguFIdeal.Value
public import proofs.«01_k».proof.Proof.SguFRead
public import proofs.«01_k».proof.Proof.Gen.SguFRefIdeal.Run
public import Idealize.ShloMosaic.Lib.Claim

set_option maxRecDepth 16384

@[expose] public section

noncomputable section

namespace Cert.Proof

open Idealize.ShloMosaic Idealize.SL.Sem Cert.SguFIdeal

theorem frame_sguFRef : Cert.quiescent_SguFRefIdeal (hSguFRefIdeal := Cert.SguFRefIdeal.Gen.facts) := fun m g _ =>
  (θ_run Cert.SguFRefIdeal.defs _ _).mono (fun r h => ⟨fun c => (h c).2, sem_eq_zero_of_no_sems (by decide) r.2⟩)
    (Cert.SguFRefIdeal.Value.run (F := Ideal) m g)

theorem algebraic_sguF : Cert.algebraic_SguFIdeal_SguFRefIdeal (hSguFIdeal := Cert.SguFIdeal.Gen.facts)
    (hSguFRefIdeal := Cert.SguFRefIdeal.Gen.facts) := by
  intro m g m' g' hpre hagree
  refine ⟨fun c => Cert.SguFIdeal.Value.A (m ((c.tc : Thread nD τ).loc main_arg0)) (m ((c.tc : Thread nD τ).loc main_arg1)) (m ((c.tc : Thread nD τ).loc main_arg2)) (m ((c.tc : Thread nD τ).loc main_arg3)),
    ?_, ?_⟩
  · refine (θ_run Cert.SguFIdeal.defs _ _).mono (fun r h c => ?_) (Cert.SguFIdeal.Value.run_blocks (F := Ideal) m g)
    obtain ⟨h0, hrest⟩ := h c
    exact ⟨h0.trans (Cert.SguFIdeal.Value.final5 m c), hrest⟩
  · refine (θ_run Cert.SguFRefIdeal.defs _ _).mono (fun r h c => ?_) (Cert.SguFRefIdeal.Value.run (F := Ideal) m' g')
    obtain ⟨h0, hrest⟩ := h c
    rw [Cert.SguFRefIdeal.Read.val_main_v65_eq] at h0
    simp only [hagree c] at h0
    exact ⟨h0.trans (Cert.SguFRefIdeal.Read.ref_A _ _ _ _), hrest⟩

end Cert.Proof

end
-- ==== Proof.FfnGuValue.lean ====
/-
  The feed-forward block's gated projections: what the tiles leave in the three results, and what the formula and its derivative give.
-/
module

public import proofs.«01_k».proof.Proof.Gen.FfnGuIdeal.Frame
public import proofs.«01_k».proof.Proof.Gen.FfnGuRefIdeal.Read
public import proofs.«01_k».proof.Proof.Norm
public import proofs.«01_k».proof.Proof.Gate
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

open Cert.Gate (gate)

namespace Cert.FfnGuIdeal.Value

open Cert.FfnGuIdeal Cert.FfnGuIdeal.Gen

/-- Column `k` of chip `q`. -/
def col (q : Fin 4) (k : Fin 704) : Fin 2816 := ⟨q * 704 + k, by omega⟩

/-- A projection of the normed row. -/
def pre (x : FVec Ideal S4096x1024 .f32) (w : FVec Ideal S1024x2816 .f32) (i : Fin 4096) (k : Fin 2816) : EReal :=
  ∑ l, x (ix2 i l) * w (ix2 l k)

/-- The derivative of `g · gate g`. -/
def slope (g : EReal) : EReal := gate g * (Ideal.ofBits .f32 0x3F800000#32 + g * (Ideal.ofBits .f32 0x3F800000#32 - gate g))

variable (x : FVec Ideal S4096x1024 .f32) (wg wu : FVec Ideal S1024x2816 .f32)

/-- The gated projection, the same times the other projection, and the other projection times the derivative; the columns
    by chip. -/
def S : FVec Ideal S4x4096x704 .bf16 := fun i => pre x wg (i 1) (col (i 0) (i 2)) * gate (pre x wg (i 1) (col (i 0) (i 2)))
def SU : FVec Ideal S4x4096x704 .bf16 := fun i =>
  pre x wg (i 1) (col (i 0) (i 2)) * gate (pre x wg (i 1) (col (i 0) (i 2))) * pre x wu (i 1) (col (i 0) (i 2))
def T : FVec Ideal S4x4096x704 .bf16 := fun i => pre x wu (i 1) (col (i 0) (i 2)) * slope (pre x wg (i 1) (col (i 0) (i 2)))

/-! ## What the body computes -/

/-- A tile's product with one chip's rows of the transposed weight. -/
def part (x : FVec Ideal S512x1024 .bf16) (w : FVec Ideal S1x704x1024 .bf16) (r : Fin 512) (k : Fin 704) : EReal :=
  ∑ l, x (ix2 r l) * w (ix3 0 k l)

section body

variable (x : FVec Ideal S512x1024 .bf16) (wg wu : FVec Ideal S1x704x1024 .bf16) (q : Fin 1) (r : Fin 512) (k : Fin 704)

theorem pay3_at : k0_pay3 (F := Ideal) x wg (ix2 r k) = part x wg r k := by pointwise [k0_pay3, k0_pay2, part]
theorem pay7_at : k0_pay7 (F := Ideal) x wu (ix2 r k) = part x wu r k := by pointwise [k0_pay7, k0_pay2, part]
theorem pay4_at : k0_pay4 (F := Ideal) x wg (ix2 r k) = gate (part x wg r k) := by
  pointwise [k0_pay4, pay3_at, gate]
  rw [zero_sub]
theorem pay5_at : k0_pay5 (F := Ideal) x wg (ix2 r k) = part x wg r k * gate (part x wg r k) := by pointwise [k0_pay5, pay3_at, pay4_at]
theorem pay6_at : k0_pay6 (F := Ideal) x wg (ix3 q r k) = part x wg r k * gate (part x wg r k) := by pointwise [k0_pay6, pay5_at]
theorem pay8_at : k0_pay8 (F := Ideal) x wg wu (ix3 q r k) = part x wg r k * gate (part x wg r k) * part x wu r k := by
  pointwise [k0_pay8, pay5_at, pay7_at]
theorem pay1_at : k0_pay1 (F := Ideal) (k0_pay9 x wg wu) (ix3 q r k) = part x wu r k * slope (part x wg r k) := by
  pointwise [k0_pay1, k0_pay9, pay3_at, pay4_at, pay7_at, slope]

end body

/-! ## The blocks -/

variable (m : (ℓ : Loc nD τ sig) → Buf (Elt Ideal) ℓ)

theorem idx : ∀ t : Fin cfg0.N, win0_0.index t = ![t.val % 8, 0] ∧ win0_1.index t = ![t.val / 8, 0, 0] ∧ win0_2.index t = ![t.val / 8, 0, 0]
    ∧ win0_3.index t = ![t.val / 8, t.val % 8, 0] ∧ win0_4.index t = ![t.val / 8, t.val % 8, 0] ∧ win0_5.index t = ![t.val / 8, t.val % 8, 0] :=
  (by decide +kernel : ∀ t : Fin grid0.N, _)

/-- The chip whose columns a grid point computes, and row `r` of its tile. -/
def chip (t : Fin 32) : Fin 4 := ⟨t / 8, by omega⟩
def row (t : Fin 32) (r : Fin 512) : Fin 4096 := ⟨t % 8 * 512 + r, by omega⟩

theorem blk0 (c : Dev nD) (t : Fin cfg0.N) (r : Fin 512) (k : Fin 1024) :
    iblk m c 0 t (ix2 r k) = m ((c : Thread nD τ).loc main_arg0) (ix2 (row t r) k) := by
  unfold row; blk_point [iblk, V, idx t]

theorem blk1 (c : Dev nD) (t : Fin cfg0.N) (q : Fin 1) (k : Fin 704) (l : Fin 1024) :
    iblk m c 1 t (ix3 q k l) = m ((c : Thread nD τ).loc main_arg1) (ix2 l (col (chip t) k)) := by
  unfold col chip; blk_point [iblk, V, idx t]

theorem blk2 (c : Dev nD) (t : Fin cfg0.N) (q : Fin 1) (k : Fin 704) (l : Fin 1024) :
    iblk m c 2 t (ix3 q k l) = m ((c : Thread nD τ).loc main_arg2) (ix2 l (col (chip t) k)) := by
  unfold col chip; blk_point [iblk, V, idx t]

theorem blk_g (c : Dev nD) (t : Fin cfg0.N) (r : Fin 512) (k : Fin 704) : part (iblk m c 0 t) (iblk m c 1 t) r k
    = pre (m ((c : Thread nD τ).loc main_arg0)) (m ((c : Thread nD τ).loc main_arg1)) (row t r) (col (chip t) k) :=
  Finset.sum_congr rfl fun l _ => congrArg₂ (· * ·) (blk0 ..) (blk1 ..)

theorem blk_u (c : Dev nD) (t : Fin cfg0.N) (r : Fin 512) (k : Fin 704) : part (iblk m c 0 t) (iblk m c 2 t) r k
    = pre (m ((c : Thread nD τ).loc main_arg0)) (m ((c : Thread nD τ).loc main_arg2)) (row t r) (col (chip t) k) :=
  Finset.sum_congr rfl fun l _ => congrArg₂ (· * ·) (blk0 ..) (blk2 ..)

/-! ## The three results -/

theorem final3 (c : Dev nD) : (dats m 0 c).arrAt 3 (cfgs 0).N
    = SU (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  obtain ⟨q, r, k, rfl⟩ : ∃ (q : Fin 1) (r : Fin 512) (k : Fin 704), y = ix3 q r k := ⟨y 0, y 1, y 2, eq_ix3 y⟩
  have e : ((View.whole main_v7_0).slice (win0_3.rect t)).emb (ix3 q r k) = (ix3 (chip t) (row t r) k : S4x4096x704.Idx) := by
    unfold chip row; blk_ext [idx t]
    all_goals omega
  rw [after0_3, e]
  unfold out0_3
  frame_out
  refine (pay8_at ..).trans ?_
  rw [blk_g, blk_u]
  rfl

theorem final4 (c : Dev nD) : (dats m 0 c).arrAt 4 (cfgs 0).N
    = S (m ((c : Thread nD τ).loc main_arg0)) (m ((c : Thread nD τ).loc main_arg1)) := by
  refine (dats m 0 c).arrAt_eq_of_covers 4 _ (by decide +kernel) fun t _ y => ?_
  blk_simp
  obtain ⟨q, r, k, rfl⟩ : ∃ (q : Fin 1) (r : Fin 512) (k : Fin 704), y = ix3 q r k := ⟨y 0, y 1, y 2, eq_ix3 y⟩
  have e : ((View.whole main_v7_1).slice (win0_4.rect t)).emb (ix3 q r k) = (ix3 (chip t) (row t r) k : S4x4096x704.Idx) := by
    unfold chip row; blk_ext [idx t]
    all_goals omega
  rw [after0_4, e]
  unfold out0_4
  frame_out
  refine (pay6_at ..).trans ?_
  rw [blk_g]
  rfl

theorem final5 (c : Dev nD) : (dats m 0 c).arrAt 5 (cfgs 0).N
    = T (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  obtain ⟨q, r, k, rfl⟩ : ∃ (q : Fin 1) (r : Fin 512) (k : Fin 704), y = ix3 q r k := ⟨y 0, y 1, y 2, eq_ix3 y⟩
  have e : ((View.whole main_v7_2).slice (win0_5.rect t)).emb (ix3 q r k) = (ix3 (chip t) (row t r) k : S4x4096x704.Idx) := by
    unfold chip row; blk_ext [idx t]
    all_goals omega
  rw [after0_5, e]
  unfold out0_5
  frame_out
  refine (pay1_at ..).trans ?_
  rw [blk_g, blk_u]
  rfl

end Cert.FfnGuIdeal.Value

namespace Cert.FfnGuRefIdeal.Read

open Cert.FfnGuRefIdeal Cert.FfnGuRefIdeal.Gen Cert.Fin
open Cert.FfnGuIdeal.Value (col pre slope S SU T)

variable (x : FVec Ideal S4096x1024 .f32) (wg wu : FVec Ideal S1024x2816 .f32)

theorem ref_pre (i : Fin 4096) (k : Fin 2816) : val_main_v0 (F := Ideal) x wg (ix2 i k) = pre x wg i k := by
  pointwise [val_main_v0, pre]

theorem ref_up (i : Fin 4096) (k : Fin 2816) : val_main_v1 (F := Ideal) x wu (ix2 i k) = pre x wu i k := by
  pointwise [val_main_v1, pre]

theorem ref_gate (i : Fin 4096) (k : Fin 2816) : val_main_v2_2 (F := Ideal) x wg (ix2 i k) = gate (pre x wg i k) := by
  pointwise [val_main_v2_2, val_main_call0_v4, val_main_call0_v3, val_main_call0_cst_0, val_main_call0_v2, val_main_call0_v1, val_main_call0_cst, val_main_call0_v0, ref_pre, gate]

theorem ref_act (i : Fin 4096) (k : Fin 2816) : val_main_v2_0 (F := Ideal) x wg (ix2 i k) = pre x wg i k * gate (pre x wg i k) :=
  congrArg₂ (· * ·) (ref_pre ..) (ref_gate ..)

/-- Differentiating `g · gate g` with the cotangent one gives the slope, at an infinite `g` too. -/
theorem ref_slope (i : Fin 4096) (k : Fin 2816) : val_main_v4 (F := Ideal) x wg (ix2 i k) = slope (pre x wg i k) := by
  have h := Gate.silu_grad (d := ((1 : ℝ) : EReal)) (u := ((1 : ℝ) : EReal)) (Re.coe _) (Re.coe _) (pre x wg i k)
  rw [EReal.coe_one, one_mul, one_mul, one_mul, one_mul, mul_one] at h
  pointwise [val_main_v4, val_main_call1_v2, val_main_call1_v1, val_main_call1_v0, val_main_v3, val_main_cst, val_main_v2_1, val_main_call0_v7, val_main_call0_v6, val_main_call0_cst_1, ref_pre, ref_gate]
  simp only [Gate.wOne, one_mul, mul_one] at h ⊢
  unfold FfnGuIdeal.Value.slope
  simp only [Gate.wOne]
  exact h

theorem ref_s : val_main_v11 (F := Ideal) x wg = S x wg := by
  funext i
  idx_vars i
  pointwise [val_main_v11, val_main_v10, val_main_v9]
  exact ref_act ..

theorem ref_su : val_main_v8 (F := Ideal) x wg wu = SU x wg wu := by
  funext i
  idx_vars i
  pointwise [val_main_v8, val_main_v7, val_main_v6, val_main_v5]
  exact congrArg₂ (· * ·) (ref_act ..) (ref_up ..)

theorem ref_t : val_main_v15 (F := Ideal) x wg wu = T x wg wu := by
  funext i
  idx_vars i
  pointwise [val_main_v15, val_main_v14, val_main_v13, val_main_v12]
  exact congrArg₂ (· * ·) (ref_up ..) (ref_slope ..)

end Cert.FfnGuRefIdeal.Read

end
-- ==== Proof.FfnGuClaim.lean ====
/- The value claim of the feed-forward block's gated projections, from the two runs. -/
module

public import proofs.«01_k».proof.Defs
public import proofs.«01_k».proof.Proof.Gen.FfnGuIdeal.Value
public import proofs.«01_k».proof.Proof.FfnGuValue
public import proofs.«01_k».proof.Proof.Gen.FfnGuRefIdeal.Run
public import Idealize.ShloMosaic.Lib.Claim

set_option maxRecDepth 16384

@[expose] public section

noncomputable section

namespace Cert.Proof

open Idealize.ShloMosaic Idealize.SL.Sem Cert.FfnGuIdeal

theorem frame_ffnGuRef : Cert.quiescent_FfnGuRefIdeal (hFfnGuRefIdeal := Cert.FfnGuRefIdeal.Gen.facts) := fun m g _ =>
  (θ_run Cert.FfnGuRefIdeal.defs _ _).mono (fun r h => ⟨fun c => (h c).2.2.2, sem_eq_zero_of_no_sems (by decide) r.2⟩)
    (Cert.FfnGuRefIdeal.Value.run (F := Ideal) m g)

theorem algebraic_ffnGu : Cert.algebraic_FfnGuIdeal_FfnGuRefIdeal (hFfnGuIdeal := Cert.FfnGuIdeal.Gen.facts)
    (hFfnGuRefIdeal := Cert.FfnGuRefIdeal.Gen.facts) := by
  intro m g m' g' hpre hagree
  refine ⟨fun c => Cert.FfnGuIdeal.Value.SU (m ((c.tc : Thread nD τ).loc main_arg0)) (m ((c.tc : Thread nD τ).loc main_arg1)) (m ((c.tc : Thread nD τ).loc main_arg2)),
    fun c => Cert.FfnGuIdeal.Value.S (m ((c.tc : Thread nD τ).loc main_arg0)) (m ((c.tc : Thread nD τ).loc main_arg1)),
    fun c => Cert.FfnGuIdeal.Value.T (m ((c.tc : Thread nD τ).loc main_arg0)) (m ((c.tc : Thread nD τ).loc main_arg1)) (m ((c.tc : Thread nD τ).loc main_arg2)),
    ?_, ?_⟩
  · refine (θ_run Cert.FfnGuIdeal.defs _ _).mono (fun r h c => ?_) (Cert.FfnGuIdeal.Value.run_blocks (F := Ideal) m g)
    obtain ⟨h0, h1, h2, hrest⟩ := h c
    exact ⟨h0.trans (Cert.FfnGuIdeal.Value.final3 m c), h1.trans (Cert.FfnGuIdeal.Value.final4 m c), h2.trans (Cert.FfnGuIdeal.Value.final5 m c), hrest⟩
  · refine (θ_run Cert.FfnGuRefIdeal.defs _ _).mono (fun r h c => ?_) (Cert.FfnGuRefIdeal.Value.run (F := Ideal) m' g')
    obtain ⟨h0, h1, h2, hrest⟩ := h c
    rw [Cert.FfnGuRefIdeal.Read.val_main_v8_eq] at h0
    rw [Cert.FfnGuRefIdeal.Read.val_main_v11_eq] at h1
    rw [Cert.FfnGuRefIdeal.Read.val_main_v15_eq] at h2
    simp only [hagree c] at h0 h1 h2
    exact ⟨h0.trans (Cert.FfnGuRefIdeal.Read.ref_su _ _ _), h1.trans (Cert.FfnGuRefIdeal.Read.ref_s _ _), h2.trans (Cert.FfnGuRefIdeal.Read.ref_t _ _ _), hrest⟩

end Cert.Proof

end
-- ==== Proof.RmsValue.lean ====
/-
  The norm that opens a block: what the tiles leave, and what the formula gives.
-/
module

public import proofs.«01_k».proof.Proof.Gen.RmsIdeal.Frame
public import proofs.«01_k».proof.Proof.Gen.RmsRefIdeal.Read
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm

/-- The normed row: each element times the reciprocal root of the mean square, times its gain. -/
def fwd {n : ℕ} (x g : Fin n → EReal) (j : Fin n) : EReal := x j * Ideal.rsqrt (meanSq x) * g j

end Cert.Norm

namespace Cert.RmsIdeal.Value

open Cert.RmsIdeal Cert.RmsIdeal.Gen

/-- The normed rows. -/
def XN (h : FVec Ideal S4096x1024 .f32) (g : FVec Ideal S1x1024 .f32) : FVec Ideal S4096x1024 .bf16 := fun i =>
  Norm.fwd (fun k => h (ix2 (i 0) k)) (fun k => g (ix2 0 k)) (i 1)

theorem pay1_at (h : FVec Ideal S512x1024 .f32) (g : FVec Ideal S1x1024 .f32) (r : Fin 512) (j : Fin 1024) :
    k0_pay1 (F := Ideal) h g (ix2 r j) = Norm.fwd (fun k => h (ix2 r k)) (fun k => g (ix2 0 k)) j := by
  pointwise [k0_pay1, Norm.fwd, Norm.meanSq]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `r` of tile `t`. -/
def row (t : Fin 8) (r : Fin 512) : Fin 4096 := ⟨t * 512 + r, by omega⟩

theorem blk0 (c : Dev nD) (t : Fin cfg0.N) (r : Fin 512) (k : Fin 1024) :
    iblk m c 0 t (ix2 r k) = m ((c : Thread nD τ).loc main_arg0) (ix2 (row t r) k) := by
  unfold row; blk_point [iblk, V, idx t]

theorem blk1 (c : Dev nD) (t : Fin cfg0.N) (r : Fin 1) (k : Fin 1024) :
    iblk m c 1 t (ix2 r k) = m ((c : Thread nD τ).loc main_arg1) (ix2 r k) := by
  blk_point [iblk, V, idx t]

theorem final2 (c : Dev nD) : (dats m 0 c).arrAt 2 (cfgs 0).N
    = XN (m ((c : Thread nD τ).loc main_arg0)) (m ((c : Thread nD τ).loc main_arg1)) := by
  refine (dats m 0 c).arrAt_eq_of_covers 2 _ (by decide +kernel) fun t _ y => ?_
  blk_simp
  obtain ⟨r, j, rfl⟩ : ∃ (r : Fin 512) (j : Fin 1024), y = ix2 r j := ⟨y 0, y 1, eq_ix2 y⟩
  have e : ((View.whole main_v0).slice (win0_2.rect t)).emb (ix2 r j) = (ix2 (row t r) j : S4096x1024.Idx) := by
    unfold row; blk_ext [idx t]
  rw [after0_2, e]
  unfold out0_2
  frame_out
  refine (pay1_at ..).trans ?_
  exact congrArg₂ (fun x g => Norm.fwd x g j) (funext fun k => blk0 ..) (funext fun k => blk1 ..)

end Cert.RmsIdeal.Value

namespace Cert.RmsRefIdeal.Read

open Cert.RmsRefIdeal Cert.RmsRefIdeal.Gen
open Cert.RmsIdeal.Value (XN)

theorem ref_xn (h : FVec Ideal S4096x1024 .f32) (g : FVec Ideal S1x1024 .f32) : val_main_v14 (F := Ideal) h g = XN h g := by
  funext i
  idx_vars i
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, XN, Norm.fwd, Norm.meanSq]

end Cert.RmsRefIdeal.Read

end
-- ==== Proof.FfnNValue.lean ====
/-
  The feed-forward block's last product with its norm, the residual sum and the next norm: what the tiles leave in the three
  results, and what the formula gives.
-/
module

public import proofs.«01_k».proof.Proof.Gen.FfnNIdeal.Frame
public import proofs.«01_k».proof.Proof.Gen.FfnNRefIdeal.Read
public import proofs.«01_k».proof.Proof.RmsValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnNIdeal.Value

open Cert.FfnNIdeal Cert.FfnNIdeal.Gen

/-- Column `l` of chip `q`. -/
def col (q : Fin 4) (l : Fin 704) : Fin 2816 := ⟨q * 704 + l, by omega⟩

/-- The four products of 704 columns each are the product over all columns. -/
theorem sum_cols (f : Fin 2816 → EReal) : ∑ l, f l = (∑ l, f (col 0 l)) + (∑ l, f (col 1 l)) + (∑ l, f (col 2 l)) + ∑ l, f (col 3 l) := by
  rw [Fin.sum_univ_tiles 4 704 rfl f, Fin.sum_univ_four]; rfl

/-- The residual row with half the normed row added. -/
def step {n : ℕ} (f h g : Fin n → EReal) (j : Fin n) : EReal := h j + Ideal.ofBits .f32 0x3F000000#32 * Norm.fwd f g j

variable (a : FVec Ideal S4096x2816 .f32) (w : FVec Ideal S2816x1024 .f32) (h : FVec Ideal S4096x1024 .f32) (g gn : FVec Ideal S1x1024 .f32)

/-- The block's output, the residual rows after it, and the next block's normed rows. -/
def O : FVec Ideal S4096x1024 .bf16 := fun i => ∑ l, a (ix2 (i 0) l) * w (ix2 l (i 1))
def H : FVec Ideal S4096x1024 .f32 := fun i =>
  step (fun k => O a w (ix2 (i 0) k)) (fun k => h (ix2 (i 0) k)) (fun k => g (ix2 0 k)) (i 1)
def XN : FVec Ideal S4096x1024 .bf16 := fun i => Norm.fwd (fun k => H a w h g (ix2 (i 0) k)) (fun k => gn (ix2 0 k)) (i 1)

/-! ## What the body computes -/

theorem pay1_at (f h : FVec Ideal S256x1024 .f32) (g : FVec Ideal S1x1024 .f32) (r : Fin 256) (j : Fin 1024) :
    k0_pay1 (F := Ideal) f h g (ix2 r j) = step (fun k => f (ix2 r k)) (fun k => h (ix2 r k)) (fun k => g (ix2 0 k)) j := by
  pointwise [k0_pay1, step, Norm.fwd, Norm.meanSq]

theorem pay2_at (f h : FVec Ideal S256x1024 .f32) (g gn : FVec Ideal S1x1024 .f32) (r : Fin 256) (j : Fin 1024) :
    k0_pay2 (F := Ideal) f h g gn (ix2 r j)
      = Norm.fwd (step (fun k => f (ix2 r k)) (fun k => h (ix2 r k)) (fun k => g (ix2 0 k))) (fun k => gn (ix2 0 k)) j := by
  pointwise [k0_pay2, pay1_at, Norm.fwd, Norm.meanSq]

/-- One chip's product. -/
def part (v : FVec Ideal S1x256x704 .bf16) (w : FVec Ideal S1x704x1024 .bf16) (r : Fin 256) (k : Fin 1024) : EReal :=
  ∑ l, v (ix3 0 r l) * w (ix3 0 l k)

theorem pay3_at (v0 v1 v2 v3 : FVec Ideal S1x256x704 .bf16) (w0 w1 w2 w3 : FVec Ideal S1x704x1024 .bf16) (r : Fin 256) (j : Fin 1024) :
    k0_pay3 (F := Ideal) v0 w0 v1 w1 v2 w2 v3 w3 (ix2 r j) = part v0 w0 r j + part v1 w1 r j + part v2 w2 r j + part v3 w3 r j := by
  pointwise [k0_pay3, part]

/-! ## The blocks -/

variable (m : (ℓ : Loc nD τ sig) → Buf (Elt Ideal) ℓ)

theorem idx : ∀ t : Fin cfg0.N, win0_0.index t = ![0, t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem blk0 (c : Dev nD) (t : Fin cfg0.N) (q : Fin 4) (r : Fin 256) (l : Fin 704) :
    iblk m c 0 t (ix3 q r l) = m ((c : Thread nD τ).loc main_arg0) (ix2 (Norm.row t r) (col q l)) := by
  unfold Norm.row col; blk_point [iblk, V, idx t]

theorem blk1 (c : Dev nD) (t : Fin cfg0.N) (q : Fin 4) (l : Fin 704) (k : Fin 1024) :
    iblk m c 1 t (ix3 q l k) = m ((c : Thread nD τ).loc main_arg1) (ix2 (col q l) k) := by
  unfold col; blk_point [iblk, V, idx t]

theorem blk2 (c : Dev nD) (t : Fin cfg0.N) (r : Fin 256) (k : Fin 1024) :
    iblk m c 2 t (ix2 r k) = m ((c : Thread nD τ).loc main_arg2) (ix2 (Norm.row t r) k) := by
  unfold Norm.row; blk_point [iblk, V, idx t]

theorem blk3 (c : Dev nD) (t : Fin cfg0.N) (r : Fin 1) (k : Fin 1024) :
    iblk m c 3 t (ix2 r k) = m ((c : Thread nD τ).loc main_arg3) (ix2 r k) := by
  blk_point [iblk, V, idx t]

theorem blk4 (c : Dev nD) (t : Fin cfg0.N) (r : Fin 1) (k : Fin 1024) :
    iblk m c 4 t (ix2 r k) = m ((c : Thread nD τ).loc main_arg4) (ix2 r k) := by
  blk_point [iblk, V, idx t]

/-- The tile's product, from the blocks. -/
theorem tile (c : Dev nD) (t : Fin cfg0.N) (r : Fin 256) (j : Fin 1024) :
    k0_pay5 (F := Ideal) (iblk m c 0 t) (iblk m c 1 t) (iblk m c 2 t) (iblk m c 3 t) (iblk m c 4 t) (ix2 r j)
      = O (m ((c : Thread nD τ).loc main_arg0)) (m ((c : Thread nD τ).loc main_arg1)) (ix2 (Norm.row t r) j) := by
  unfold k0_pay5
  rw [pay3_at]
  simp only [O, sum_cols]
  pointwise [part, r0_0, r0_1, r0_2, r0_3, r0_4, r0_5, r0_6, r0_7]
  simp only [blk0, blk1]

/-- The tile's residual rows, from the blocks. -/
theorem tile_h (c : Dev nD) (t : Fin cfg0.N) (r : Fin 256) (j : Fin 1024) :
    step (fun k => k0_pay5 (F := Ideal) (iblk m c 0 t) (iblk m c 1 t) (iblk m c 2 t) (iblk m c 3 t) (iblk m c 4 t) (ix2 r k))
        (fun k => iblk m c 2 t (ix2 r k)) (fun k => iblk m c 3 t (ix2 0 k)) j
      = H (m ((c : Thread nD τ).loc main_arg0)) (m ((c : Thread nD τ).loc main_arg1)) (m ((c : Thread nD τ).loc main_arg2))
          (m ((c : Thread nD τ).loc main_arg3)) (ix2 (Norm.row t r) j) := by
  simp only [tile, blk2, blk3]; rfl

/-! ## The three results -/

theorem final5 (c : Dev nD) : (dats m 0 c).arrAt 5 (cfgs 0).N
    = O (m ((c : Thread nD τ).loc main_arg0)) (m ((c : Thread nD τ).loc main_arg1)) := by
  refine (dats m 0 c).arrAt_eq_of_covers 5 _ (by decide +kernel) fun t _ y => ?_
  blk_simp
  obtain ⟨r, j, rfl⟩ : ∃ (r : Fin 256) (j : Fin 1024), y = ix2 r j := ⟨y 0, y 1, eq_ix2 y⟩
  have e : ((View.whole main_v5_0).slice (win0_5.rect t)).emb (ix2 r j) = (ix2 (Norm.row t r) j : S4096x1024.Idx) := by
    unfold Norm.row; blk_ext [idx t]
  rw [after0_5, e]
  unfold out0_5
  frame_out
  exact tile ..

theorem final6 (c : Dev nD) : (dats m 0 c).arrAt 6 (cfgs 0).N
    = H (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  obtain ⟨r, j, rfl⟩ : ∃ (r : Fin 256) (j : Fin 1024), y = ix2 r j := ⟨y 0, y 1, eq_ix2 y⟩
  have e : ((View.whole main_v5_1).slice (win0_6.rect t)).emb (ix2 r j) = (ix2 (Norm.row t r) j : S4096x1024.Idx) := by
    unfold Norm.row; blk_ext [idx t]
  rw [after0_6, e]
  unfold out0_6
  frame_out
  exact (pay1_at ..).trans (tile_h ..)

theorem final7 (c : Dev nD) : (dats m 0 c).arrAt 7 (cfgs 0).N
    = XN (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  obtain ⟨r, j, rfl⟩ : ∃ (r : Fin 256) (j : Fin 1024), y = ix2 r j := ⟨y 0, y 1, eq_ix2 y⟩
  have e : ((View.whole main_v5_2).slice (win0_7.rect t)).emb (ix2 r j) = (ix2 (Norm.row t r) j : S4096x1024.Idx) := by
    unfold Norm.row; blk_ext [idx t]
  rw [after0_7, e]
  unfold out0_7
  frame_out
  refine (pay2_at ..).trans ?_
  exact congrArg₂ (fun x g => Norm.fwd x g j) (funext fun k => tile_h ..) (funext fun k => blk4 ..)

end Cert.FfnNIdeal.Value

namespace Cert.FfnNRefIdeal.Read

open Cert.FfnNRefIdeal Cert.FfnNRefIdeal.Gen
open Cert.FfnNIdeal.Value (step O H XN)

variable (a : FVec Ideal S4096x2816 .f32) (w : FVec Ideal S2816x1024 .f32) (h : FVec Ideal S4096x1024 .f32) (g gn : FVec Ideal S1x1024 .f32)

theorem ref_dot (i : Fin 4096) (j : Fin 1024) : val_main_v0 (F := Ideal) a w (ix2 i j) = O a w (ix2 i j) := by
  pointwise [val_main_v0, O]

theorem ref_o : val_main_v18 (F := Ideal) a w = O a w := by
  funext i
  idx_vars i
  pointwise [val_main_v18, ref_dot]

theorem ref_res (i : Fin 4096) (j : Fin 1024) : val_main_v17 (F := Ideal) a w h g (ix2 i j) = H a w h g (ix2 i j) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, ref_dot, H, step, Norm.fwd, Norm.meanSq]

theorem ref_h : val_main_v17 (F := Ideal) a w h g = H a w h g := by
  funext i
  obtain ⟨r, j, rfl⟩ : ∃ (r : Fin 4096) (j : Fin 1024), i = ix2 r j := ⟨i 0, i 1, eq_ix2 i⟩
  exact ref_res ..

theorem ref_xn : val_main_v33 (F := Ideal) a w h g gn = XN a w h g gn := by
  funext i
  idx_vars i
  pointwise [val_main_v33, val_main_v32, val_main_v31, val_main_v30, val_main_v29, val_main_v28, val_main_v27, val_main_v26, val_main_v25, val_main_v24, val_main_v23, val_main_v22, val_main_v21, val_main_v20, val_main_v19, val_main_cst_3, val_main_cst_4, val_main_cst_5, ref_res, XN, Norm.fwd, Norm.meanSq]

end Cert.FfnNRefIdeal.Read

end
-- ==== Proof.FfnNClaim.lean ====
/- The value claim of the feed-forward block's last product with its norms, from the two runs. -/
module

public import proofs.«01_k».proof.Defs
public import proofs.«01_k».proof.Proof.Gen.FfnNIdeal.Value
public import proofs.«01_k».proof.Proof.FfnNValue
public import proofs.«01_k».proof.Proof.Gen.FfnNRefIdeal.Run
public import Idealize.ShloMosaic.Lib.Claim

set_option maxRecDepth 16384

@[expose] public section

noncomputable section

namespace Cert.Proof

open Idealize.ShloMosaic Idealize.SL.Sem Cert.FfnNIdeal

theorem frame_ffnNRef : Cert.quiescent_FfnNRefIdeal (hFfnNRefIdeal := Cert.FfnNRefIdeal.Gen.facts) := fun m g _ =>
  (θ_run Cert.FfnNRefIdeal.defs _ _).mono (fun r h => ⟨fun c => (h c).2.2.2, sem_eq_zero_of_no_sems (by decide) r.2⟩)
    (Cert.FfnNRefIdeal.Value.run (F := Ideal) m g)

theorem algebraic_ffnN : Cert.algebraic_FfnNIdeal_FfnNRefIdeal (hFfnNIdeal := Cert.FfnNIdeal.Gen.facts)
    (hFfnNRefIdeal := Cert.FfnNRefIdeal.Gen.facts) := by
  intro m g m' g' hpre hagree
  refine ⟨fun c => Cert.FfnNIdeal.Value.O (m ((c.tc : Thread nD τ).loc main_arg0)) (m ((c.tc : Thread nD τ).loc main_arg1)),
    fun c => Cert.FfnNIdeal.Value.H (m ((c.tc : Thread nD τ).loc main_arg0)) (m ((c.tc : Thread nD τ).loc main_arg1)) (m ((c.tc : Thread nD τ).loc main_arg2)) (m ((c.tc : Thread nD τ).loc main_arg3)),
    fun c => Cert.FfnNIdeal.Value.XN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    ?_, ?_⟩
  · refine (θ_run Cert.FfnNIdeal.defs _ _).mono (fun r h c => ?_) (Cert.FfnNIdeal.Value.run_blocks (F := Ideal) m g)
    obtain ⟨h0, h1, h2, hrest⟩ := h c
    exact ⟨h0.trans (Cert.FfnNIdeal.Value.final5 m c), h1.trans (Cert.FfnNIdeal.Value.final6 m c), h2.trans (Cert.FfnNIdeal.Value.final7 m c), hrest⟩
  · refine (θ_run Cert.FfnNRefIdeal.defs _ _).mono (fun r h c => ?_) (Cert.FfnNRefIdeal.Value.run (F := Ideal) m' g')
    obtain ⟨h0, h1, h2, hrest⟩ := h c
    rw [Cert.FfnNRefIdeal.Read.val_main_v18_eq] at h0
    rw [Cert.FfnNRefIdeal.Read.val_main_v17_eq] at h1
    rw [Cert.FfnNRefIdeal.Read.val_main_v33_eq] at h2
    simp only [hagree c] at h0 h1 h2
    exact ⟨h0.trans (Cert.FfnNRefIdeal.Read.ref_o _ _), h1.trans (Cert.FfnNRefIdeal.Read.ref_h _ _ _ _), h2.trans (Cert.FfnNRefIdeal.Read.ref_xn _ _ _ _ _), hrest⟩

end Cert.Proof

end
-- ==== Proof.MixFValue.lean ====
/-
  The mixer's gated sum of its two branches: what the tiles leave in the three results, and what the formula gives.
-/
module

public import proofs.«01_k».proof.Proof.Gen.MixFIdeal.Frame
public import proofs.«01_k».proof.Proof.Gen.MixFRefIdeal.Read
public import proofs.«01_k».proof.Proof.Norm
public import proofs.«01_k».proof.Proof.Gate
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

open Cert.Gate (gate)

namespace Cert.MixFIdeal.Value

open Cert.MixFIdeal Cert.MixFIdeal.Gen

/-- The columns of the gates' sections. -/
def colA (k : Fin 1024) : Fin 5120 := ⟨3072 + k, by omega⟩
def colB (k : Fin 1024) : Fin 5120 := ⟨4096 + k, by omega⟩

/-- A branch's product with its output weight. -/
def Y (a : FVec Ideal S4096x1024 .f32) (w : FVec Ideal S1024x1024 .f32) : FVec Ideal S4096x1024 .bf16 := fun i =>
  ∑ l, a (ix2 (i 0) l) * w (ix2 l (i 1))

/-- The gated sum of the two products. -/
def M (a b : FVec Ideal S4096x1024 .f32) (z : FVec Ideal S4096x5120 .f32) (wa wb : FVec Ideal S1024x1024 .f32) :
    FVec Ideal S4096x1024 .bf16 := fun i =>
  gate (z (ix2 (i 0) (colA (i 1)))) * Y a wa i + gate (z (ix2 (i 0) (colB (i 1)))) * Y b wb i

/-! ## What the body computes -/

/-- A tile's product with a weight. -/
def part (a : FVec Ideal S256x1024 .bf16) (w : FVec Ideal S1024x1024 .bf16) (r : Fin 256) (j : Fin 1024) : EReal :=
  ∑ l, a (ix2 r l) * w (ix2 l j)

variable (a b ga gb : FVec Ideal S256x1024 .bf16) (wa wb : FVec Ideal S1024x1024 .bf16) (r : Fin 256) (j : Fin 1024)

theorem pay4_at : k0_pay4 (F := Ideal) a wa (ix2 r j) = part a wa r j := by pointwise [k0_pay4, k0_pay2, part]
theorem pay5_at : k0_pay5 (F := Ideal) b wb (ix2 r j) = part b wb r j := by pointwise [k0_pay5, k0_pay3, part]

theorem pay1_at : k0_pay1 (F := Ideal) (k0_pay3 b wb) (k0_pay6 a wa ga) (k0_pay7 gb) (Scalar.ofBits .f32 0x3F800000#32) (ix2 r j)
    = gate (ga (ix2 r j)) * part a wa r j + gate (gb (ix2 r j)) * part b wb r j := by
  pointwise [k0_pay1, k0_pay3, k0_pay6, k0_pay2, k0_pay7, gate, part]
  simp only [zero_sub]

/-! ## The blocks -/

variable (m : (ℓ : Loc nD τ sig) → Buf (Elt Ideal) ℓ)

theorem idx : ∀ t : Fin cfg0.N, win0_0.index t = ![t.val, 0] ∧ win0_1.index t = ![t.val, 0] ∧ win0_2.index t = ![t.val, 3]
    ∧ win0_3.index t = ![t.val, 4] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

theorem blk0 (c : Dev nD) (t : Fin cfg0.N) (r : Fin 256) (k : Fin 1024) :
    iblk m c 0 t (ix2 r k) = m ((c : Thread nD τ).loc main_arg0) (ix2 (Norm.row t r) k) := by
  unfold Norm.row; blk_point [iblk, V, idx t]

theorem blk1 (c : Dev nD) (t : Fin cfg0.N) (r : Fin 256) (k : Fin 1024) :
    iblk m c 1 t (ix2 r k) = m ((c : Thread nD τ).loc main_arg1) (ix2 (Norm.row t r) k) := by
  unfold Norm.row; blk_point [iblk, V, idx t]

theorem blk2 (c : Dev nD) (t : Fin cfg0.N) (r : Fin 256) (k : Fin 1024) :
    iblk m c 2 t (ix2 r k) = m ((c : Thread nD τ).loc main_arg2) (ix2 (Norm.row t r) (colA k)) := by
  unfold Norm.row colA; blk_point [iblk, V, idx t]

theorem blk3 (c : Dev nD) (t : Fin cfg0.N) (r : Fin 256) (k : Fin 1024) :
    iblk m c 3 t (ix2 r k) = m ((c : Thread nD τ).loc main_arg2) (ix2 (Norm.row t r) (colB k)) := by
  unfold Norm.row colB; blk_point [iblk, V, idx t]

theorem blk4 (c : Dev nD) (t : Fin cfg0.N) (k l : Fin 1024) : iblk m c 4 t (ix2 k l) = m ((c : Thread nD τ).loc main_arg3) (ix2 k l) := by
  blk_point [iblk, V, idx t]

theorem blk5 (c : Dev nD) (t : Fin cfg0.N) (k l : Fin 1024) : iblk m c 5 t (ix2 k l) = m ((c : Thread nD τ).loc main_arg4) (ix2 k l) := by
  blk_point [iblk, V, idx t]

/-- A tile's products, from the blocks. -/
theorem tile_a (c : Dev nD) (t : Fin cfg0.N) (r : Fin 256) (j : Fin 1024) : part (iblk m c 0 t) (iblk m c 4 t) r j
    = Y (m ((c : Thread nD τ).loc main_arg0)) (m ((c : Thread nD τ).loc main_arg3)) (ix2 (Norm.row t r) j) :=
  Finset.sum_congr rfl fun l _ => congrArg₂ (· * ·) (blk0 ..) (blk4 ..)

theorem tile_b (c : Dev nD) (t : Fin cfg0.N) (r : Fin 256) (j : Fin 1024) : part (iblk m c 1 t) (iblk m c 5 t) r j
    = Y (m ((c : Thread nD τ).loc main_arg1)) (m ((c : Thread nD τ).loc main_arg4)) (ix2 (Norm.row t r) j) :=
  Finset.sum_congr rfl fun l _ => congrArg₂ (· * ·) (blk1 ..) (blk5 ..)

/-! ## The three results -/

theorem final6 (c : Dev nD) : (dats m 0 c).arrAt 6 (cfgs 0).N
    = Y (m ((c : Thread nD τ).loc main_arg0)) (m ((c : Thread nD τ).loc main_arg3)) := by
  refine (dats m 0 c).arrAt_eq_of_covers 6 _ (by decide +kernel) fun t _ y => ?_
  blk_simp
  obtain ⟨r, j, rfl⟩ : ∃ (r : Fin 256) (j : Fin 1024), y = ix2 r j := ⟨y 0, y 1, eq_ix2 y⟩
  have e : ((View.whole main_v5_0).slice (win0_6.rect t)).emb (ix2 r j) = (ix2 (Norm.row t r) j : S4096x1024.Idx) := by
    unfold Norm.row; blk_ext [idx t]
  rw [after0_6, e]
  unfold out0_6
  frame_out
  exact (pay4_at ..).trans (tile_a ..)

theorem final7 (c : Dev nD) : (dats m 0 c).arrAt 7 (cfgs 0).N
    = Y (m ((c : Thread nD τ).loc main_arg1)) (m ((c : Thread nD τ).loc main_arg4)) := by
  refine (dats m 0 c).arrAt_eq_of_covers 7 _ (by decide +kernel) fun t _ y => ?_
  blk_simp
  obtain ⟨r, j, rfl⟩ : ∃ (r : Fin 256) (j : Fin 1024), y = ix2 r j := ⟨y 0, y 1, eq_ix2 y⟩
  have e : ((View.whole main_v5_1).slice (win0_7.rect t)).emb (ix2 r j) = (ix2 (Norm.row t r) j : S4096x1024.Idx) := by
    unfold Norm.row; blk_ext [idx t]
  rw [after0_7, e]
  unfold out0_7
  frame_out
  exact (pay5_at ..).trans (tile_b ..)

theorem final8 (c : Dev nD) : (dats m 0 c).arrAt 8 (cfgs 0).N
    = M (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  obtain ⟨r, j, rfl⟩ : ∃ (r : Fin 256) (j : Fin 1024), y = ix2 r j := ⟨y 0, y 1, eq_ix2 y⟩
  have e : ((View.whole main_v5_2).slice (win0_8.rect t)).emb (ix2 r j) = (ix2 (Norm.row t r) j : S4096x1024.Idx) := by
    unfold Norm.row; blk_ext [idx t]
  rw [after0_8, e]
  unfold out0_8
  frame_out
  refine (pay1_at ..).trans ?_
  exact congrArg₂ (· + ·) (congrArg₂ (· * ·) (congrArg gate (blk2 ..)) (tile_a ..)) (congrArg₂ (· * ·) (congrArg gate (blk3 ..)) (tile_b ..))

end Cert.MixFIdeal.Value

namespace Cert.MixFRefIdeal.Read

open Cert.MixFRefIdeal Cert.MixFRefIdeal.Gen
open Cert.MixFIdeal.Value (Y colA colB)

variable (a b : FVec Ideal S4096x1024 .f32) (z : FVec Ideal S4096x5120 .f32) (wa wb : FVec Ideal S1024x1024 .f32)

theorem ref_ya : val_main_v19 (F := Ideal) a wa = Y a wa := by
  funext i
  idx_vars i
  pointwise [val_main_v19, val_main_v0, Y]

theorem ref_yb : val_main_v20 (F := Ideal) b wb = Y b wb := by
  funext i
  idx_vars i
  pointwise [val_main_v20, val_main_v1, Y]

theorem ref_m : val_main_v21 (F := Ideal) a b z wa wb = MixFIdeal.Value.M a b z wa wb := by
  funext i
  idx_vars i
  unfold MixFIdeal.Value.M colA colB
  pointwise [val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, Y, gate]

end Cert.MixFRefIdeal.Read

end
-- ==== Proof.MixFClaim.lean ====
/- The value claim of the mixer's gated sum of its two branches, from the two runs. -/
module

public import proofs.«01_k».proof.Defs
public import proofs.«01_k».proof.Proof.Gen.MixFIdeal.Value
public import proofs.«01_k».proof.Proof.MixFValue
public import proofs.«01_k».proof.Proof.Gen.MixFRefIdeal.Run
public import Idealize.ShloMosaic.Lib.Claim

set_option maxRecDepth 16384

@[expose] public section

noncomputable section

namespace Cert.Proof

open Idealize.ShloMosaic Idealize.SL.Sem Cert.MixFIdeal

theorem frame_mixFRef : Cert.quiescent_MixFRefIdeal (hMixFRefIdeal := Cert.MixFRefIdeal.Gen.facts) := fun m g _ =>
  (θ_run Cert.MixFRefIdeal.defs _ _).mono (fun r h => ⟨fun c => (h c).2.2.2, sem_eq_zero_of_no_sems (by decide) r.2⟩)
    (Cert.MixFRefIdeal.Value.run (F := Ideal) m g)

theorem algebraic_mixF : Cert.algebraic_MixFIdeal_MixFRefIdeal (hMixFIdeal := Cert.MixFIdeal.Gen.facts)
    (hMixFRefIdeal := Cert.MixFRefIdeal.Gen.facts) := by
  intro m g m' g' hpre hagree
  refine ⟨fun c => Cert.MixFIdeal.Value.Y (m ((c.tc : Thread nD τ).loc main_arg0)) (m ((c.tc : Thread nD τ).loc main_arg3)),
    fun c => Cert.MixFIdeal.Value.Y (m ((c.tc : Thread nD τ).loc main_arg1)) (m ((c.tc : Thread nD τ).loc main_arg4)),
    fun c => Cert.MixFIdeal.Value.M (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    ?_, ?_⟩
  · refine (θ_run Cert.MixFIdeal.defs _ _).mono (fun r h c => ?_) (Cert.MixFIdeal.Value.run_blocks (F := Ideal) m g)
    obtain ⟨h0, h1, h2, hrest⟩ := h c
    exact ⟨h0.trans (Cert.MixFIdeal.Value.final6 m c), h1.trans (Cert.MixFIdeal.Value.final7 m c), h2.trans (Cert.MixFIdeal.Value.final8 m c), hrest⟩
  · refine (θ_run Cert.MixFRefIdeal.defs _ _).mono (fun r h c => ?_) (Cert.MixFRefIdeal.Value.run (F := Ideal) m' g')
    obtain ⟨h0, h1, h2, hrest⟩ := h c
    rw [Cert.MixFRefIdeal.Read.val_main_v19_eq] at h0
    rw [Cert.MixFRefIdeal.Read.val_main_v20_eq] at h1
    rw [Cert.MixFRefIdeal.Read.val_main_v21_eq] at h2
    simp only [hagree c] at h0 h1 h2
    exact ⟨h0.trans (Cert.MixFRefIdeal.Read.ref_ya _ _), h1.trans (Cert.MixFRefIdeal.Read.ref_yb _ _), h2.trans (Cert.MixFRefIdeal.Read.ref_m _ _ _ _ _), hrest⟩

end Cert.Proof

end
-- ==== Proof.RmsClaim.lean ====
/- The value claim of the norm that opens a block, from the two runs. -/
module

public import proofs.«01_k».proof.Defs
public import proofs.«01_k».proof.Proof.Gen.RmsIdeal.Value
public import proofs.«01_k».proof.Proof.RmsValue
public import proofs.«01_k».proof.Proof.Gen.RmsRefIdeal.Run
public import Idealize.ShloMosaic.Lib.Claim

set_option maxRecDepth 16384

@[expose] public section

noncomputable section

namespace Cert.Proof

open Idealize.ShloMosaic Idealize.SL.Sem Cert.RmsIdeal

theorem frame_rmsRef : Cert.quiescent_RmsRefIdeal (hRmsRefIdeal := Cert.RmsRefIdeal.Gen.facts) := fun m g _ =>
  (θ_run Cert.RmsRefIdeal.defs _ _).mono (fun r h => ⟨fun c => (h c).2, sem_eq_zero_of_no_sems (by decide) r.2⟩)
    (Cert.RmsRefIdeal.Value.run (F := Ideal) m g)

theorem algebraic_rms : Cert.algebraic_RmsIdeal_RmsRefIdeal (hRmsIdeal := Cert.RmsIdeal.Gen.facts)
    (hRmsRefIdeal := Cert.RmsRefIdeal.Gen.facts) := by
  intro m g m' g' hpre hagree
  refine ⟨fun c => Cert.RmsIdeal.Value.XN (m ((c.tc : Thread nD τ).loc main_arg0)) (m ((c.tc : Thread nD τ).loc main_arg1)),
    ?_, ?_⟩
  · refine (θ_run Cert.RmsIdeal.defs _ _).mono (fun r h c => ?_) (Cert.RmsIdeal.Value.run_blocks (F := Ideal) m g)
    obtain ⟨h0, hrest⟩ := h c
    exact ⟨h0.trans (Cert.RmsIdeal.Value.final2 m c), hrest⟩
  · refine (θ_run Cert.RmsRefIdeal.defs _ _).mono (fun r h c => ?_) (Cert.RmsRefIdeal.Value.run (F := Ideal) m' g')
    obtain ⟨h0, hrest⟩ := h c
    rw [Cert.RmsRefIdeal.Read.val_main_v14_eq] at h0
    simp only [hagree c] at h0
    exact ⟨h0.trans (Cert.RmsRefIdeal.Read.ref_xn _ _), hrest⟩

end Cert.Proof

end
-- ==== Proof.PoolWindow.lean ====
/-
  Sums over a window of consecutive tokens. A pooled token is the sum of itself and the tokens before it, at
  most `W` of them. The kernel forms such a sum by doubling: two tokens, then four, eight, sixteen. The
  reference takes the difference of two running sums. Both are brought here to one sum over all tokens with the
  window as its condition.
-/
module

public import Idealize.ShloMosaic.Lib.WordCmp
public import Idealize.ShloMosaic.Lib.Pointwise
public import Idealize.ShloMosaic.Lib.WordArith
public import Idealize.ShloMosaic.Lib.Affine
public import proofs.«01_k».proof.Proof.Finite

@[expose] public section

set_option maxRecDepth 16384

noncomputable section

open Idealize.ShloMosaic
open Cert.Fin (Re)

namespace Cert.Pool

/-- How many tokens the window of width `W` holds at token `t`. -/
def cnt (W t : ℕ) : EReal := ((min (t + 1) W : ℕ) : ℝ)

/-- The sum of `e` over the tokens up to `t` that lie within the window. -/
def behind (W : ℕ) (e : Fin 4096 → EReal) (t : ℕ) : EReal := ∑ s : Fin 4096, if s.val ≤ t ∧ t < s.val + W then e s else 0

/-- A token's value at any natural number, zero past the last token. -/
def at0 (e : Fin 4096 → EReal) (n : ℕ) : EReal := if h : n < 4096 then e ⟨n, h⟩ else 0

theorem at0_val (e : Fin 4096 → EReal) (s : Fin 4096) : at0 e s.val = e s := by simp [at0]

theorem cnt_ne (W t : ℕ) (hW : 0 < W) : ((min (t + 1) W : ℕ) : ℝ) ≠ 0 := by
  have : 0 < min (t + 1) W := by omega
  exact_mod_cast this.ne'

theorem sum_at0 (e : Fin 4096 → EReal) (P : ℕ → Prop) [DecidablePred P] :
    (∑ s : Fin 4096, if P s.val then e s else 0) = ∑ n ∈ (Finset.range 4096).filter P, at0 e n := by
  rw [Finset.sum_filter, ← Fin.sum_univ_eq_sum_range (fun n => if P n then at0 e n else 0) 4096]
  exact Finset.sum_congr rfl fun s _ => by rw [at0_val]

/-- The window behind a token, counted back from the token. -/
theorem behind_eq (W : ℕ) (e : Fin 4096 → EReal) (t : ℕ) (ht : t < 4096) :
    behind W e t = ∑ k ∈ Finset.range W, if k ≤ t then at0 e (t - k) else 0 := by
  rw [behind, sum_at0 e fun n => n ≤ t ∧ t < n + W, ← Finset.sum_filter]
  refine Finset.sum_nbij' (fun n => t - n) (fun k => t - k) ?_ ?_ ?_ ?_ ?_ <;>
    simp only [Finset.mem_filter, Finset.mem_range] <;> intro a ha
  · omega
  · omega
  · omega
  · omega
  · exact congrArg _ (by omega)

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_ite (P : Prop) [Decidable P] (r : ℝ) : (if P then (r : EReal) else 0) = ((if P then r else 0 : ℝ) : EReal) := by
  split_ifs <;> rfl

/-- The running sum up to a token less the running sum up to where its window begins is the sum over the
window, where the values are finite. -/
theorem sub_running (W : ℕ) (e : Fin 4096 → EReal) (he : ∀ s, Re (e s)) (t : ℕ) :
    (∑ s : Fin 4096, if s.val < t + 1 then e s else 0) - (∑ s : Fin 4096, if s.val < t + 1 - W then e s else 0) = behind W e t := by
  choose r hr using he
  simp only [behind, hr, coe_ite, coe_sum, ← EReal.coe_sub, ← Finset.sum_sub_distrib]
  refine congrArg _ (Finset.sum_congr rfl fun s _ => ?_)
  split_ifs <;> first | omega | simp

/-- Where the window of width `W` begins, as the program computes it in whole numbers. -/
theorem begin_word (W t : ℕ) (hW : W ≤ 16) (ht : t < 4096) :
    IntOp.maxsi (IntOp.subi (IntOp.addi (BitVec.ofNat 32 t) 1#32) (BitVec.ofNat 32 W)) 0#32 = BitVec.ofNat 32 (t + 1 - W) := by
  by_cases h : W ≤ t + 1
  · have e : IntOp.subi (IntOp.addi (BitVec.ofNat 32 t) 1#32) (BitVec.ofNat 32 W) = BitVec.ofNat 32 (t + 1 - W) := by
      apply BitVec.eq_of_toNat_eq
      simp [IntOp.subi, IntOp.addi]
      omega
    rw [e]
    exact Scalar.maxsi_zero_of_nonneg (by simp; omega)
  · obtain ⟨d, hd⟩ : ∃ d, t + 1 + d = W := ⟨W - (t + 1), by omega⟩
    have hs : (IntOp.subi (IntOp.addi (BitVec.ofNat 32 t) 1#32) (BitVec.ofNat 32 W)).toInt < 0 := by
      rw [BitVec.toInt_neg_iff]
      simp [IntOp.subi, IntOp.addi]
      omega
    have : t + 1 - W = 0 := by omega
    rw [this]
    simp only [IntOp.maxsi, BitVec.slt]
    rw [if_neg (by simpa using hs.le)]

/-- How many tokens a window holds, as a program computes it in whole numbers. -/
theorem count_word (W t : ℕ) (hW : W ≤ 16) (ht : t < 5000) :
    FloatOps.sitofp (F := Ideal) .f32 (IntOp.minsi (IntOp.addi (BitVec.ofNat 32 t) 1#32) (BitVec.ofNat 32 W)) = cnt W t := by
  have e : IntOp.addi (BitVec.ofNat 32 t) 1#32 = BitVec.ofNat 32 (t + 1) := by
    apply BitVec.eq_of_toNat_eq
    simp [IntOp.addi]
  have e1 : (BitVec.ofNat 32 (t + 1)).toInt = ((t + 1 : ℕ) : Int) := WordCmp.toInt_ofNat_of_lt (by omega)
  have e2 : (BitVec.ofNat 32 W).toInt = (W : Int) := WordCmp.toInt_ofNat_of_lt (by omega)
  have h : IntOp.minsi (BitVec.ofNat 32 (t + 1)) (BitVec.ofNat 32 W) = BitVec.ofNat 32 (min (t + 1) W) := by
    simp only [IntOp.minsi, BitVec.slt, e1, e2]
    by_cases hc : t + 1 < W
    · rw [if_pos (by simpa using by omega), min_eq_left hc.le]
    · rw [if_neg (by simpa using by omega), min_eq_right (by omega)]
  rw [e, h]
  show (((BitVec.ofNat 32 (min (t + 1) W)).toInt : ℝ) : EReal) = _
  rw [WordCmp.toInt_ofNat_of_lt (by omega)]
  rfl

/-- The sum over a window that reaches back, doubled. -/
theorem back_double (n : ℕ) (X : ℕ → EReal) (r : ℕ) :
    ∑ k ∈ Finset.range n, X (r - k) + ∑ k ∈ Finset.range n, X (r - n - k) = ∑ k ∈ Finset.range (n + n), X (r - k) := by
  rw [Finset.sum_range_add]
  simp only [Nat.sub_sub]

end Cert.Pool
-- ==== Proof.PoolSpec.lean ====
/-
  The causal pooling mixer: each group of 256 columns is averaged over its own window of tokens,
  the token is taken off, and what is left goes through the group's weights and a scale per column.
-/
module

public import proofs.«01_k».proof.Proof.PoolWindow

@[expose] public section

noncomputable section

open Idealize.ShloMosaic

namespace Cert.Pool

abbrev Rows : Shape := ⟨2, ![4096, 1024]⟩
abbrev Wide : Shape := ⟨2, ![4096, 5120]⟩
abbrev Mats : Shape := ⟨3, ![4, 256, 256]⟩
abbrev Cols : Shape := ⟨2, ![1, 1024]⟩

/-- The pooled columns of the mixer's input. -/
def toks (z : FVec Ideal Wide .f32) : FVec Ideal Rows .f32 := fun i => z (ix2 (i 0) ⟨2048 + (i 1).val, by have : (i 1).val < 1024 := (i 1).isLt; omega⟩)

variable (c : FVec Ideal Rows .f32) (w : FVec Ideal Mats .f32) (s : FVec Ideal Cols .f32)

/-- How many tokens a group averages over. -/
def width (q : Fin 4) : ℕ := ![2, 4, 8, 16] q

theorem width_pos (q : Fin 4) : 0 < width q := by fin_cases q <;> decide

theorem width_le (q : Fin 4) : width q ≤ 16 := by fin_cases q <;> decide

/-- One token's part in an average. -/
def part (W t : ℕ) : EReal := Ideal.div 1 (cnt W t)

/-- A group's column among all columns. -/
def col (q : Fin 4) (l : Fin 256) : Fin 1024 := ⟨q.val * 256 + l.val, by omega⟩

/-- A column's group and its place there. -/
def grp (j : Fin 1024) : Fin 4 := ⟨j.val / 256, by omega⟩
def lane (j : Fin 1024) : Fin 256 := ⟨j.val % 256, by omega⟩

theorem grp_col (q : Fin 4) (l : Fin 256) : grp (col q l) = q := Fin.ext (by show (q.val * 256 + l.val) / 256 = _; omega)

theorem lane_col (q : Fin 4) (l : Fin 256) : lane (col q l) = l := Fin.ext (by show (q.val * 256 + l.val) % 256 = _; omega)

theorem col_grp (j : Fin 1024) : col (grp j) (lane j) = j := Fin.ext (by show j.val / 256 * 256 + j.val % 256 = _; omega)

/-- What a group's average leaves of a token. -/
def df (q : Fin 4) (t : Fin 4096) (l : Fin 256) : EReal :=
  behind (width q) (fun u => c (ix2 u (col q l))) t.val * part (width q) t.val - c (ix2 t (col q l))

/-- A token's product with the group's weights. -/
def prod (q : Fin 4) (t : Fin 4096) (l : Fin 256) : EReal := ∑ m : Fin 256, df c q t m * w (ix3 q m l)

/-- What the averages leave, and the mixer's result, as arrays. -/
def Left : FVec Ideal Rows .bf16 := fun i => df c (grp (i 1)) (i 0) (lane (i 1))

def Out : FVec Ideal Rows .bf16 := fun i => prod c w (grp (i 1)) (i 0) (lane (i 1)) * s (ix2 0 (i 1))

theorem left_col (t : Fin 4096) (q : Fin 4) (l : Fin 256) : Left c (ix2 t (col q l)) = df c q t l := by
  show df c (grp (col q l)) t (lane (col q l)) = _
  rw [grp_col, lane_col]

theorem out_col (t : Fin 4096) (q : Fin 4) (l : Fin 256) : Out c w s (ix2 t (col q l)) = prod c w q t l * s (ix2 0 (col q l)) := by
  show prod c w (grp (col q l)) t (lane (col q l)) * s (ix2 0 (col q l)) = _
  rw [grp_col, lane_col]

end Cert.Pool
-- ==== Proof.PoolFTile.lean ====
/-
  The pooling mixer's tile: 256 tokens with the sixteen before them. The windowed sums are formed by turning the
  rows and adding; the first rows, which a turn fills from the far end, are never read.
-/
module

public import proofs.«01_k».proof.Proof.Gen.PoolFIdeal.Frame
public import proofs.«01_k».proof.Proof.PoolSpec
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem
open Cert.Pool (width col part cnt)

namespace Cert.PoolFIdeal.Value

open Cert.PoolFIdeal Cert.PoolFIdeal.Gen

/-! ## The windowed sums, row by row -/

/-- The rows turned by `n`. -/
def turn (n : BitVec 32) (y : FVec Ideal S272x256 .f32) : FVec Ideal S272x256 .f32 := dynamicRotate 0 n none y rotates_S272x256_d0

/-- Row `r` holds the sum of `n` rows of `X` up to `r`, wherever there are that many. -/
def Back (n : ℕ) (X : ℕ → EReal) (y : FVec Ideal S272x256 .f32) (l : Fin 256) : Prop :=
  ∀ r : Fin 272, n ≤ r.val + 1 → y (ix2 r l) = ∑ k ∈ Finset.range n, X (r.val - k)

theorem turn_at (n : ℕ) (hn : n ≤ 16) (y : FVec Ideal S272x256 .f32) (r : Fin 272) (l : Fin 256) (h : n ≤ r.val) :
    turn (BitVec.ofNat 32 n) y (ix2 r l) = y (ix2 ⟨r.val - n, by omega⟩ l) := by
  have e : (BitVec.ofNat 32 n).toNat = n := by simp; omega
  unfold turn
  rw [Pointwise.dynamicRotate_apply]
  refine congrArg y ?_
  funext a; apply Fin.ext
  match a with
  | ⟨0, _⟩ =>
    show (r.val + 272 - ((BitVec.ofNat 32 n).toNat + 0) % 272) % 272 = r.val - n
    rw [e]
    omega
  | ⟨1, _⟩ => rfl

theorem back_step (n : ℕ) (hn : 0 < n) (hn' : n ≤ 16) (X : ℕ → EReal) (y : FVec Ideal S272x256 .f32) (l : Fin 256) (hy : Back n X y l) :
    Back (n + n) X (addf y (turn (BitVec.ofNat 32 n) y)) l := by
  intro r hr
  refine Eq.trans ?_ (Pool.back_double n X r.val)
  show y (ix2 r l) + turn (BitVec.ofNat 32 n) y (ix2 r l) = _
  rw [turn_at n hn' y r l (by omega), hy r (by omega), hy ⟨r.val - n, by omega⟩ (by show n ≤ r.val - n + 1; omega)]

def sum2 (y : FVec Ideal S272x256 .f32) : FVec Ideal S272x256 .f32 := addf y (turn 1#32 y)
def sum4 (y : FVec Ideal S272x256 .f32) : FVec Ideal S272x256 .f32 := addf (sum2 y) (turn 2#32 (sum2 y))
def sum8 (y : FVec Ideal S272x256 .f32) : FVec Ideal S272x256 .f32 := addf (sum4 y) (turn 4#32 (sum4 y))
def sum16 (y : FVec Ideal S272x256 .f32) : FVec Ideal S272x256 .f32 := addf (sum8 y) (turn 8#32 (sum8 y))

theorem back_sums (X : ℕ → EReal) (y : FVec Ideal S272x256 .f32) (l : Fin 256) (hy : Back 1 X y l) :
    Back 2 X (sum2 y) l ∧ Back 4 X (sum4 y) l ∧ Back 8 X (sum8 y) l ∧ Back 16 X (sum16 y) l := by
  have h2 : Back 2 X (sum2 y) l := back_step 1 (by decide) (by decide) X y l hy
  have h4 : Back 4 X (sum4 y) l := back_step 2 (by decide) (by decide) X _ l h2
  have h8 : Back 8 X (sum8 y) l := back_step 4 (by decide) (by decide) X _ l h4
  exact ⟨h2, h4, h8, back_step 8 (by decide) (by decide) X _ l h8⟩

/-! ## The tile's parts -/

variable (i : grid0.Coords) (v : FVec Ideal S256x1024 .bf16) (b : FVec Ideal S16x1024 .bf16)

/-- A group's column of the tile's rows, the sixteen before them first; before the first token there is nothing. -/
def rows (q : Fin 4) (l : Fin 256) (n : ℕ) : EReal :=
  if h : n < 16 then (if 0 < (i 0).val then b (ix2 ⟨n, h⟩ (col q l)) else 0)
  else if h : n - 16 < 256 then v (ix2 ⟨n - 16, h⟩ (col q l)) else 0

/-- The columns of a group. -/
def slab (q : Fin 4) : FVec Ideal S272x256 .f32 := fun j => k0_pay4 i v b (ix2 (j 0) (col q (j 1)))

theorem first_point : Scalar.cmpi .sgt (BitVec.ofNat 32 (i 0).val) 0#32 = if 0 < (i 0).val then 1#1 else 0#1 := by
  have : ∀ n : Fin 16, Scalar.cmpi .sgt (BitVec.ofNat 32 n.val) 0#32 = if 0 < n.val then 1#1 else 0#1 := by decide +kernel
  exact this (i 0)

theorem ext_at (r : Fin 272) (q : Fin 4) (l : Fin 256) : k0_pay4 (F := Ideal) i v b (ix2 r (col q l)) = rows i v b q l r.val := by
  have hf := first_point i
  by_cases h : r.val < 16
  · rw [rows, dif_pos h]
    pointwise [k0_pay4, Ideal.ofBits_zero]
    rw [dif_pos h, hf]
    by_cases h0 : 0 < (i 0).val
    · rw [if_pos h0, if_pos h0]
      pointwise []
    · rw [if_neg h0, if_neg h0]
      pointwise [Ideal.ofBits_zero]
  · rw [rows, dif_neg h, dif_pos (by omega)]
    pointwise [k0_pay4, k0_pay3]
    rw [dif_neg h]

theorem slab_back (q : Fin 4) (l : Fin 256) : Back 1 (rows i v b q l) (slab i v b q) l := by
  intro r _
  rw [Finset.sum_range_one, Nat.sub_zero, ← ext_at]
  rfl

/-- The windowed sum of a group. -/
def summed (q : Fin 4) : FVec Ideal S272x256 .f32 := ![sum2 (slab i v b 0), sum4 (slab i v b 1), sum8 (slab i v b 2), sum16 (slab i v b 3)] q

theorem summed_back (q : Fin 4) (l : Fin 256) : Back (width q) (rows i v b q l) (summed i v b q) l := by
  have h := fun q => back_sums _ _ l (slab_back i v b q l)
  fin_cases q
  · exact (h 0).1
  · exact (h 1).2.1
  · exact (h 2).2.2.1
  · exact (h 3).2.2.2

/-- What a group's average leaves of a row. -/
def left (q : Fin 4) (r : Fin 256) (l : Fin 256) : EReal :=
  (∑ k ∈ Finset.range (width q), rows i v b q l (16 + r.val - k)) * part (width q) ((i 0).val * 256 + r.val) - v (ix2 r (col q l))

theorem tok_word (W : ℕ) (hW : W ≤ 16) (r : Fin 256) (x : Fin 1) :
    FloatOps.sitofp (F := Ideal) .f32 (IntOp.minsi (IntOp.addi (k0_pay5 i (ix2 r x)) 1#32) (BitVec.ofNat 32 W))
      = cnt W ((i 0).val * 256 + r.val) := by
  have hi : (i 0).val < 16 := (i 0).isLt
  rw [← Pool.count_word W ((i 0).val * 256 + r.val) hW (by omega)]
  refine congrArg (fun n => FloatOps.sitofp (F := Ideal) .f32 (IntOp.minsi (IntOp.addi n 1#32) (BitVec.ofNat 32 W))) ?_
  pointwise [k0_pay5]
  apply BitVec.eq_of_toNat_eq
  simp [IntOp.addi, Scalar.muli, IntOp.muli]

theorem of_sum (q : Fin 4) (r : Fin 256) (l : Fin 256) :
    summed i v b q (ix2 ⟨16 + r.val, by omega⟩ l) * Ideal.div 1 (cnt (width q) ((i 0).val * 256 + r.val)) - v (ix2 r (col q l))
      = left i v b q r l := by
  have := Pool.width_le q
  rw [summed_back i v b q l ⟨16 + r.val, by omega⟩ (by show width q ≤ 16 + r.val + 1; omega)]
  rfl

theorem slice_slab : extractStridedSlice S272x256 ![0, 0] (k0_pay4 (F := Ideal) i v b) slices_S272x1024_o0_0_S272x256 = slab i v b 0
    ∧ extractStridedSlice S272x256 ![0, 256] (k0_pay4 (F := Ideal) i v b) slices_S272x1024_o0_256_S272x256 = slab i v b 1
    ∧ extractStridedSlice S272x256 ![0, 512] (k0_pay4 (F := Ideal) i v b) slices_S272x1024_o0_512_S272x256 = slab i v b 2
    ∧ extractStridedSlice S272x256 ![0, 768] (k0_pay4 (F := Ideal) i v b) slices_S272x1024_o0_768_S272x256 = slab i v b 3 := by
  refine ⟨?_, ?_, ?_, ?_⟩ <;>
  · funext j
    obtain ⟨r, l, rfl⟩ : ∃ (r : Fin 272) (l : Fin 256), j = ix2 r l := ⟨j 0, j 1, eq_ix2 j⟩
    refine congrArg (k0_pay4 (F := Ideal) i v b) ?_
    funext a; apply Fin.ext
    match a with
    | ⟨0, _⟩ => exact Nat.zero_add _
    | ⟨1, _⟩ => rfl

/-- The rows of a windowed sum over the number of tokens, less the rows themselves. -/
def over (y : FVec Ideal S272x256 .f32) (W : BitVec 32) : FVec Ideal S256x256 .f32 :=
  mulf (extractStridedSlice S256x256 ![16, 0] y slices_S272x256_o16_0_S256x256) (broadcastTo S256x256
    (divf (broadcast S256x1 (FloatOps.ofBits (F := Ideal) .f32 0x3F800000#32))
      (sitofp .f32 (minsi (addi (k0_pay5 i) (broadcast S256x1 1#32)) (broadcast S256x1 W)))) (by decide))

theorem over_at (y : FVec Ideal S272x256 .f32) (W : ℕ) (hW : W ≤ 16) (r : Fin 256) (l : Fin 256) :
    over i y (BitVec.ofNat 32 W) (ix2 r l) = y (ix2 ⟨16 + r.val, by omega⟩ l) * Ideal.div 1 (cnt W ((i 0).val * 256 + r.val)) := by
  rw [← tok_word i W hW r 0]
  pointwise [over, Ideal.ofBits_one_f32]

set_option maxHeartbeats 1600000 in
theorem left_at (r l : Fin 256) :
    k0_pay6 (F := Ideal) i v b (ix2 r l) = left i v b 0 r l
      ∧ k0_pay8 (F := Ideal) (k0_pay3 v) (k0_pay4 i v b) (k0_pay5 i) (ix2 r l) = left i v b 1 r l
      ∧ k0_pay12 (F := Ideal) (k0_pay3 v) (k0_pay10 (k0_pay4 i v b)) (k0_pay11 (k0_pay5 i)) (ix2 r l) = left i v b 2 r l
      ∧ k0_pay1 (F := Ideal) (k0_pay3 v) (k0_pay14 (k0_pay4 i v b) (k0_pay5 i)) (ix2 r l) = left i v b 3 r l := by
  obtain ⟨s0, s1, s2, s3⟩ := slice_slab i v b
  have h := fun q => of_sum i v b q r l
  refine ⟨(congrArg (· - v (ix2 r (col 0 l))) (over_at i _ 2 (by decide) r l)).trans (h 0) |> Eq.trans ?_,
    (congrArg (· - v (ix2 r (col 1 l))) (over_at i _ 4 (by decide) r l)).trans (h 1) |> Eq.trans ?_,
    (congrArg (· - v (ix2 r (col 2 l))) (over_at i _ 8 (by decide) r l)).trans (h 2) |> Eq.trans ?_,
    (congrArg (· - v (ix2 r (col 3 l))) (over_at i _ 16 (by decide) r l)).trans (h 3) |> Eq.trans ?_⟩
  · unfold k0_pay6
    rw [s0]
    pointwise [k0_pay3, over, sum2, turn, summed, col]
  · unfold k0_pay8
    rw [s1]
    pointwise [k0_pay3, over, sum4, sum2, turn, summed, col]
  · unfold k0_pay12 k0_pay10 k0_pay11
    rw [s2]
    pointwise [k0_pay3, over, sum8, sum4, sum2, turn, summed, col]
  · unfold k0_pay1 k0_pay14
    rw [s3]
    pointwise [k0_pay3, over, sum16, sum8, sum4, sum2, turn, summed, col]

/-- A group's product with its weights, scaled. -/
def scaled (wt : FVec Ideal S1x256x256 .bf16) (st : FVec Ideal S1x256 .f32) (q : Fin 4) (r l : Fin 256) : EReal :=
  (∑ k, left i v b q r k * wt (ix3 0 k l)) * st (ix2 0 l)

theorem scaled_at (wt : FVec Ideal S1x256x256 .bf16) (st : FVec Ideal S1x256 .f32) (r l : Fin 256) :
    k0_pay7 (F := Ideal) i v b wt st (ix2 r l) = scaled i v b wt st 0 r l
      ∧ k0_pay9 (F := Ideal) (k0_pay3 v) (k0_pay4 i v b) (k0_pay5 i) wt st (ix2 r l) = scaled i v b wt st 1 r l
      ∧ k0_pay13 (F := Ideal) (k0_pay3 v) (k0_pay10 (k0_pay4 i v b)) (k0_pay11 (k0_pay5 i)) wt st (ix2 r l) = scaled i v b wt st 2 r l
      ∧ k0_pay2 (F := Ideal) (k0_pay3 v) (k0_pay14 (k0_pay4 i v b) (k0_pay5 i)) wt st (ix2 r l) = scaled i v b wt st 3 r l := by
  have h := left_at i v b r
  refine ⟨?_, ?_, ?_, ?_⟩ <;>
    pointwise [k0_pay7, k0_pay9, k0_pay13, k0_pay2, h, scaled]

end Cert.PoolFIdeal.Value

end
-- ==== Proof.PoolFValue.lean ====
/-
  The pooling mixer: what the tiles leave in the two results.
-/
module

public import proofs.«01_k».proof.Proof.PoolFTile
public import proofs.«01_k».proof.Proof.Norm

@[expose] public section

set_option maxRecDepth 16384

noncomputable section

open Idealize.ShloMosaic Idealize.ShloMosaic.TcCoe Idealize.SL.Sem
open Idealize.ShloMosaic.Pipeline (Dat)
open Cert.Pool (width col df prod at0 toks Left Out)

namespace Cert.PoolFIdeal.Value

open Cert.PoolFIdeal Cert.PoolFIdeal.Gen

variable (m : (ℓ : Loc nD τ sig) → Buf (Elt Ideal) ℓ)

theorem idx : ∀ t : Fin cfg0.N, win0_0.index t = ![t.val, 2] ∧ win0_1.index t = ![t.val * 16 - 1, 2] ∧ win0_2.index t = ![0, 0, 0]
    ∧ win0_3.index t = ![0, 0] ∧ win0_4.index t = ![t.val, 0] ∧ win0_5.index t = ![t.val, 0] :=
  (by decide +kernel : ∀ t : Fin grid0.N, _)

theorem coord : ∀ t : Fin cfg0.N, (grid0.coords t 0).val = t.val := (by decide +kernel : ∀ t : Fin grid0.N, _)

variable (c : Dev nD) (t : Fin cfg0.N)

abbrev ca (c : Dev nD) : FVec Ideal S4096x1024 .f32 := toks (m ((c.tc : Thread nD τ).loc main_arg0))
abbrev wa (c : Dev nD) : FVec Ideal S4x256x256 .f32 := m ((c.tc : Thread nD τ).loc main_arg1)
abbrev sa (c : Dev nD) : FVec Ideal S1x1024 .f32 := m ((c.tc : Thread nD τ).loc main_arg2)

theorem blk0 (r : Fin 256) (j : Fin 1024) : (iblk m c 0 t : FVec Ideal S256x1024 .bf16) (ix2 r j) = ca m c (ix2 (Norm.row t r) j) := by
  unfold ca toks Norm.row
  blk_point [iblk, V, idx t]

theorem blk1 (ht : 0 < t.val) (n : Fin 16) (j : Fin 1024) : (iblk m c 1 t : FVec Ideal S16x1024 .bf16) (ix2 n j)
    = ca m c (ix2 ⟨t.val * 256 - 16 + n.val, by have : t.val < 16 := t.isLt; omega⟩ j) := by
  unfold ca toks
  blk_point [iblk, V, idx t]

theorem blk2 (q : Fin 4) (k l : Fin 256) : (iblk m c 2 t : FVec Ideal S4x256x256 .bf16) (ix3 q k l) = wa m c (ix3 q k l) := by
  unfold wa
  blk_point [iblk, V, idx t]

theorem blk3 (j : Fin 1024) : (iblk m c 3 t : FVec Ideal S1x1024 .f32) (ix2 0 j) = sa m c (ix2 0 j) := by
  unfold sa
  blk_point [iblk, V, idx t]

/-- A tile's row `16 + r - k` is the token `k` before the row's own, or nothing where there is none. -/
theorem row_back (q : Fin 4) (r l : Fin 256) (k : ℕ) (hk : k < 16) :
    rows (grid0.coords t) (iblk m c 0 t) (iblk m c 1 t) q l (16 + r.val - k)
      = if k ≤ t.val * 256 + r.val then at0 (fun u => ca m c (ix2 u (col q l))) (t.val * 256 + r.val - k) else 0 := by
  have ht : t.val < 16 := t.isLt
  unfold rows
  rw [coord t]
  by_cases h : 16 + r.val - k < 16
  · rw [dif_pos h]
    by_cases h0 : 0 < t.val
    · rw [if_pos h0, if_pos (by omega), at0, dif_pos (by omega), blk1 m c t h0]
      exact congrArg (fun u => ca m c (ix2 u (col q l))) (Fin.ext (by dsimp only; omega))
    · rw [if_neg h0, if_neg (by omega)]
  · rw [dif_neg h, dif_pos (by omega), if_pos (by omega), at0, dif_pos (by omega), blk0]
    exact congrArg (fun u => ca m c (ix2 u (col q l))) (Fin.ext (by
      show t.val * 256 + (16 + r.val - k - 16) = t.val * 256 + r.val - k; omega))

theorem left_eq (q : Fin 4) (r l : Fin 256) :
    left (grid0.coords t) (iblk m c 0 t) (iblk m c 1 t) q r l = df (ca m c) q (Norm.row t r) l := by
  have hw := Pool.width_le q
  rw [left, df, coord t, blk0, Pool.behind_eq _ _ _ (Norm.row t r).isLt]
  refine congrArg (fun s : EReal => s * _ - _) (Finset.sum_congr rfl fun k hk => ?_)
  exact row_back m c t q r l k (by have := Finset.mem_range.mp hk; omega)

theorem scaled_eq (wt : FVec Ideal S1x256x256 .bf16) (st : FVec Ideal S1x256 .f32) (q : Fin 4)
    (hw : ∀ k l, wt (ix3 0 k l) = iblk m c 2 t (ix3 q k l)) (hs : ∀ l, st (ix2 0 l) = iblk m c 3 t (ix2 0 (col q l))) (r l : Fin 256) :
    scaled (grid0.coords t) (iblk m c 0 t) (iblk m c 1 t) wt st q r l = prod (ca m c) (wa m c) q (Norm.row t r) l * sa m c (ix2 0 (col q l)) := by
  rw [scaled, hs, blk3, prod]
  refine congrArg (· * _) (Finset.sum_congr rfl fun k _ => ?_)
  rw [left_eq, hw, blk2]

/-! ## The two results -/

theorem emb4 (y : ((cfg0.win 4).xblock (cfg0.grid.coords t)).Idx) (q : Fin 4) (r l : Fin 256) (h0 : (y 0).val = r.val)
    (h1 : (y 1).val = q.val * 256 + l.val) : ((View.whole main_v2_0).slice (win0_4.rect t)).emb y = (ix2 (Norm.row t r) (col q l) : S4096x1024.Idx) := by
  unfold Norm.row col
  blk_ext [idx t]
  all_goals omega

theorem emb5 (y : ((cfg0.win 5).xblock (cfg0.grid.coords t)).Idx) (q : Fin 4) (r l : Fin 256) (h0 : (y 0).val = r.val)
    (h1 : (y 1).val = q.val * 256 + l.val) : ((View.whole main_v2_1).slice (win0_5.rect t)).emb y = (ix2 (Norm.row t r) (col q l) : S4096x1024.Idx) := by
  unfold Norm.row col
  blk_ext [idx t]
  all_goals omega

theorem ld_row : View.ld (Val := Elt Ideal) (iblk m c 0 t : FVec Ideal S256x1024 .bf16) r0_0 = iblk m c 0 t := by
  funext j
  obtain ⟨r, l, rfl⟩ : ∃ (r : Fin 256) (l : Fin 1024), j = ix2 r l := ⟨j 0, j 1, eq_ix2 j⟩
  pointwise [r0_0]

theorem ld_halo : View.ld (Val := Elt Ideal) (iblk m c 1 t : FVec Ideal S16x1024 .bf16) r0_1 = iblk m c 1 t := by
  funext j
  obtain ⟨r, l, rfl⟩ : ∃ (r : Fin 16) (l : Fin 1024), j = ix2 r l := ⟨j 0, j 1, eq_ix2 j⟩
  pointwise [r0_1]

theorem final4 (c : Dev nD) : (dats m 0 c).arrAt 4 (cfgs 0).N = Left (ca m c) := by
  refine (dats m 0 c).arrAt_eq_of_covers 4 _ (by decide +kernel) fun t _ y => ?_
  blk_simp
  rw [after0_4]
  unfold_out out0_4
  simp only [ld_row, ld_halo]
  canon_tiles x h
  all_goals obtain ⟨r, l, rfl⟩ : ∃ (r l : Fin 256), x = ix2 r l := ⟨x 0, x 1, eq_ix2 x⟩
  case piece0 =>
    rw [emb4 t y 3 r l h0 (h1.trans (by show 768 + l.val = 3 * 256 + l.val; omega)), Pool.left_col]
    exact (left_at (grid0.coords t) (iblk m c 0 t) (iblk m c 1 t) r l).2.2.2.trans (left_eq ..)
  case piece1 =>
    rw [emb4 t y 2 r l h0 (h1.trans (by show 512 + l.val = 2 * 256 + l.val; omega)), Pool.left_col]
    exact (left_at (grid0.coords t) (iblk m c 0 t) (iblk m c 1 t) r l).2.2.1.trans (left_eq ..)
  case piece2 =>
    rw [emb4 t y 1 r l h0 (h1.trans (by show 256 + l.val = 1 * 256 + l.val; omega)), Pool.left_col]
    exact (left_at (grid0.coords t) (iblk m c 0 t) (iblk m c 1 t) r l).2.1.trans (left_eq ..)
  case piece3 =>
    rw [emb4 t y 0 r l h0 (h1.trans (by show l.val = 0 * 256 + l.val; omega)), Pool.left_col]
    exact (left_at (grid0.coords t) (iblk m c 0 t) (iblk m c 1 t) r l).1.trans (left_eq ..)

theorem final5 (c : Dev nD) : (dats m 0 c).arrAt 5 (cfgs 0).N = Out (ca m c) (wa m c) (sa m c) := by
  refine (dats m 0 c).arrAt_eq_of_covers 5 _ (by decide +kernel) fun t _ y => ?_
  blk_simp
  rw [after0_5]
  unfold_out out0_5
  simp only [ld_row, ld_halo]
  canon_tiles x h
  all_goals obtain ⟨r, l, rfl⟩ : ∃ (r l : Fin 256), x = ix2 r l := ⟨x 0, x 1, eq_ix2 x⟩
  case piece0 =>
    rw [emb5 t y 3 r l h0 (h1.trans (by show 768 + l.val = 3 * 256 + l.val; omega)), Pool.out_col]
    exact (scaled_at (grid0.coords t) (iblk m c 0 t) (iblk m c 1 t) _ _ r l).2.2.2.trans (scaled_eq m c t _ _ 3 (fun _ _ => by pointwise [r0_12]) (fun _ => by pointwise [r0_13, col]) r l)
  case piece1 =>
    rw [emb5 t y 2 r l h0 (h1.trans (by show 512 + l.val = 2 * 256 + l.val; omega)), Pool.out_col]
    exact (scaled_at (grid0.coords t) (iblk m c 0 t) (iblk m c 1 t) _ _ r l).2.2.1.trans (scaled_eq m c t _ _ 2 (fun _ _ => by pointwise [r0_9]) (fun _ => by pointwise [r0_10, col]) r l)
  case piece2 =>
    rw [emb5 t y 1 r l h0 (h1.trans (by show 256 + l.val = 1 * 256 + l.val; omega)), Pool.out_col]
    exact (scaled_at (grid0.coords t) (iblk m c 0 t) (iblk m c 1 t) _ _ r l).2.1.trans (scaled_eq m c t _ _ 1 (fun _ _ => by pointwise [r0_6]) (fun _ => by pointwise [r0_7, col]) r l)
  case piece3 =>
    rw [emb5 t y 0 r l h0 (h1.trans (by show l.val = 0 * 256 + l.val; omega)), Pool.out_col]
    exact (scaled_at (grid0.coords t) (iblk m c 0 t) (iblk m c 1 t) _ _ r l).1.trans (scaled_eq m c t _ _ 0 (fun _ _ => by pointwise [r0_3]) (fun _ => by pointwise [r0_4, col]) r l)

end Cert.PoolFIdeal.Value

end
-- ==== Proof.PoolFRead.lean ====
/-
  The pooling mixer's forward formula, read at one index: running sums along the tokens, rows taken at the position
  where a token's window begins, and the difference of the two over the number of tokens in the window.
-/
module

public import proofs.«01_k».proof.Proof.Gen.PoolFRefIdeal.Read
public import Idealize.ShloMosaic.Lib.Routing.OpsPair
public import proofs.«01_k».proof.Proof.PoolSpec

@[expose] public section

set_option maxRecDepth 16384

noncomputable section

open Idealize.ShloMosaic Idealize.ShloMosaic.TcCoe Idealize.SL.Sem

namespace Cert.PoolFRefIdeal.Read

open Cert.PoolFRefIdeal Cert.PoolFRefIdeal.Gen Cert.Fin
open Cert.Pool (width col df prod cnt behind at0 toks Left Out)

theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

theorem foldl_idx (W : Shape) (f : W.Idx → EReal) :
    (List.finRange W.numel).foldl (fun r n => r + f (W.rowMajor.symm n)) 0 = ∑ k, f k := by
  rw [foldl_sum, zero_add, ← Fin.sum_univ_def]
  exact Equiv.sum_comp W.rowMajor.symm f

/-- A sum over a moving window, read at one index: the sum of what each position of the window falls on. -/
theorem window_apply {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
        if hin : ∀ a : Fin s.rank, lo a ≤ (j (a.cast h.1.symm)).val * strides a + (w a).val
          ∧ (j (a.cast h.1.symm)).val * strides a + (w a).val - lo a < s.size a then
          x fun a => ⟨(j (a.cast h.1.symm)).val * strides a + (w a).val - lo a, (hin a).2⟩
        else 0 := by
  rw [← foldl_idx]
  unfold Ideal.hostReduceWindowAdd Host.reduceWindow
  dsimp only
  refine congrArg (fun f => List.foldl f 0 _) ?_
  funext r n
  refine congrArg (r + ·) ?_
  split_ifs <;> rfl

abbrev Along : Shape := ⟨3, ![1, 4096, 1]⟩

/-- A sum over a window's positions, which run along the tokens only. -/
theorem sum_along (f : Along.Idx → EReal) : ∑ k, f k = ∑ n : Fin 4096, f (ix3 0 n 0) := by
  have e : (fun n : Fin 4096 => (ix3 0 n 0 : Along.Idx)).Bijective := by
    refine ⟨fun u v h => congrFun h 1, fun v => ⟨v 1, ?_⟩⟩
    refine Eq.trans ?_ (eq_ix3 v).symm
    exact congr (congr (congrArg ix3 (Subsingleton.elim (α := Fin 1) _ _)) rfl) (Subsingleton.elim (α := Fin 1) _ _)
  exact (Function.Bijective.sum_comp e f).symm

/-- A running sum along the tokens, the window reaching from `lo` tokens before: at token `t` the values whose
token is `t + n - lo` for some position `n`. -/
theorem running (lo hi : ℕ) (h : S1x4096x1024.ReduceWindows (![1, 4096, 1] : Fin 3 → Nat) ![1, 1, 1] ![0, lo, 0] ![0, hi, 0] S1x4096x1024)
    (x : S1x4096x1024.Idx → EReal) (p : Fin 1) (t : Fin 4096) (j : Fin 1024) :
    Ideal.hostReduceWindowAdd ![1, 4096, 1] ![1, 1, 1] ![0, lo, 0] ![0, hi, 0] h x 0 (ix3 p t j)
      = ∑ n : Fin 4096, if lo ≤ t.val + n.val then Pool.at0 (fun s => x (ix3 p s j)) (t.val + n.val - lo) else 0 := by
  rw [window_apply]
  refine (sum_along _).trans (Finset.sum_congr rfl fun n _ => ?_)
  by_cases hl : lo ≤ t.val + n.val
  · rw [if_pos hl, Pool.at0]
    by_cases hh : t.val + n.val - lo < 4096
    · rw [dif_pos hh]
      refine (dif_pos fun a => ?_).trans (congrArg x ?_)
      · match a with
        | ⟨0, _⟩ => exact ⟨Nat.zero_le _, by show p.val * 1 + 0 - 0 < 1; omega⟩
        | ⟨1, _⟩ => exact ⟨by show lo ≤ t.val * 1 + n.val; omega, by show t.val * 1 + n.val - lo < 4096; omega⟩
        | ⟨2, _⟩ => exact ⟨Nat.zero_le _, by show j.val * 1 + 0 - 0 < 1024; omega⟩
      · funext a; apply Fin.ext
        match a with
        | ⟨0, _⟩ => show p.val * 1 + 0 - 0 = p.val; omega
        | ⟨1, _⟩ => show t.val * 1 + n.val - lo = t.val + n.val - lo; omega
        | ⟨2, _⟩ => show j.val * 1 + 0 - 0 = j.val; omega
    · rw [dif_neg hh]
      refine dif_neg fun hall => hh ?_
      have : t.val * 1 + n.val - lo < 4096 := (hall 1).2
      omega
  · rw [if_neg hl]
    refine dif_neg fun hall => hl ?_
    have : lo ≤ t.val * 1 + n.val := (hall 1).1
    omega

theorem gather_row (x : S1x4097x256.Idx → EReal) (idx : IVec S4096x1 32) (p : Fin 1) (t : Fin 4096) (l : Fin 256) :
    Host.gather gather_S1x4097x256_S4096x1_S1x4096x256_02_1_n_n_1_1_11256 x idx (ix3 p t l)
      = x (ix3 p ⟨min (idx (ix2 t 0)).toInt.toNat 4096, by omega⟩ l) := by
  unfold Host.gather
  refine congrArg x ?_
  funext a; apply Fin.ext
  match a with
  | ⟨0, _⟩ => exact Nat.zero_add _
  | ⟨1, _⟩ =>
    refine congrArg (fun i => min (idx i).toInt.toNat 4096) ?_
    funext b; apply Fin.ext
    match b with
    | ⟨0, _⟩ => rfl
    | ⟨1, _⟩ => rfl
  | ⟨2, _⟩ => exact Nat.zero_add _

variable (z : FVec Ideal S4096x5120 .f32) (w : FVec Ideal S4x256x256 .f32) (s : FVec Ideal S1x1024 .f32)

/-! Where each token's window begins, and how many tokens it holds. -/

theorem begin_apply (W : ℕ) (hW : W ≤ 16) (t : Fin 4096) (v : BitVec 32)
    (hv : v = IntOp.maxsi (IntOp.subi (IntOp.addi (BitVec.ofNat 32 t.val) 1#32) (BitVec.ofNat 32 W)) 0#32) :
    (Scalar.select (IntOp.cmpi .slt v 0#32) (IntOp.addi v 4097#32) v).toInt = ((t.val + 1 - W : ℕ) : Int)
      ∧ FloatOps.sitofp (F := Ideal) .f32 (IntOp.subi (IntOp.addi (BitVec.ofNat 32 t.val) 1#32) v) = cnt W t.val := by
  rw [Pool.begin_word W t.val hW t.isLt] at hv
  subst hv
  have h0 : (BitVec.ofNat 32 (t.val + 1 - W)).toInt = ((t.val + 1 - W : ℕ) : Int) := WordCmp.toInt_ofNat_of_lt (by omega)
  have h1 : IntOp.cmpi .slt (BitVec.ofNat 32 (t.val + 1 - W)) 0#32 = 0#1 := by
    rw [WordCmp.cmpi_slt_eq, h0, decide_eq_false (by rw [BitVec.toInt_zero]; omega)]
    rfl
  constructor
  · rw [h1]
    exact h0
  · have : IntOp.subi (IntOp.addi (BitVec.ofNat 32 t.val) 1#32) (BitVec.ofNat 32 (t.val + 1 - W)) = BitVec.ofNat 32 (min (t.val + 1) W) := by
      apply BitVec.eq_of_toNat_eq
      simp [IntOp.subi, IntOp.addi]
      omega
    rw [this]
    show (((BitVec.ofNat 32 (min (t.val + 1) W)).toInt : ℝ) : EReal) = _
    rw [WordCmp.toInt_ofNat_of_lt (by omega)]
    rfl

theorem ref_begin (t : Fin 4096) (x : Fin 1) :
    (val_main_v24 (F := Ideal) (ix2 t x)).toInt = ((t.val + 1 - width 0 : ℕ) : Int)
      ∧ (val_main_v52 (F := Ideal) (ix2 t x)).toInt = ((t.val + 1 - width 1 : ℕ) : Int)
      ∧ (val_main_v80 (F := Ideal) (ix2 t x)).toInt = ((t.val + 1 - width 2 : ℕ) : Int)
      ∧ (val_main_v108 (F := Ideal) (ix2 t x)).toInt = ((t.val + 1 - width 3 : ℕ) : Int) :=
  ⟨(begin_apply 2 (by decide) t _ rfl).1, (begin_apply 4 (by decide) t _ rfl).1, (begin_apply 8 (by decide) t _ rfl).1,
    (begin_apply 16 (by decide) t _ rfl).1⟩

theorem ref_cnt (p : Fin 1) (t : Fin 4096) (x : Fin 1) :
    val_main_v17 (F := Ideal) (ix3 p t x) = cnt (width 0) t.val ∧ val_main_v45 (F := Ideal) (ix3 p t x) = cnt (width 1) t.val
      ∧ val_main_v73 (F := Ideal) (ix3 p t x) = cnt (width 2) t.val ∧ val_main_v101 (F := Ideal) (ix3 p t x) = cnt (width 3) t.val :=
  ⟨(begin_apply 2 (by decide) t _ rfl).2, (begin_apply 4 (by decide) t _ rfl).2, (begin_apply 8 (by decide) t _ rfl).2,
    (begin_apply 16 (by decide) t _ rfl).2⟩

/-! The running sums and the differences of them. -/

theorem ref_running (p : Fin 1) (t : Fin 4096) (j : Fin 1024) :
    val_main_v3 (F := Ideal) z (ix3 p t j) = ∑ u : Fin 4096, if u.val < t.val + 1 then toks z (ix2 u j) else 0 := by
  have e : (fun u => val_main_v1 (F := Ideal) z (ix3 p u j)) = fun u => toks z (ix2 u j) := by
    funext u
    pointwise [val_main_v1, val_main_v0, toks]
  have hi : val_main_call0_call0_v0 (F := Ideal) (Shape.Idx.first h_S_) = 0 := by
    pointwise [val_main_call0_call0_v0, val_main_call0_call0_cst, constant, Ideal.ofBits_zero]
  rw [val_main_v3, Host.reduceWindowAdd, hi, Ideal.hostReduceWindowAdd_def]
  rw [running, e, Fin.sum_univ_eq_sum_range (fun n => if 4095 ≤ t.val + n then at0 (fun u => toks z (ix2 u j)) (t.val + n - 4095) else 0) 4096,
    ← Finset.sum_range_reflect]
  have h := Pool.behind_eq 4096 (fun u => toks z (ix2 u j)) t.val t.isLt
  refine Eq.trans ?_ (h.symm.trans ?_)
  · refine Finset.sum_congr rfl fun k hk => ?_
    have := Finset.mem_range.mp hk
    by_cases hh : k ≤ t.val
    · rw [if_pos hh, if_pos (by omega)]
      exact congrArg _ (by omega)
    · rw [if_neg hh, if_neg (by omega)]
  · refine Finset.sum_congr rfl fun u _ => ?_
    have := u.isLt
    split_ifs <;> first | rfl | omega

theorem ref_upto (p : Fin 1) (u : Fin 4097) (j : Fin 1024) :
    val_main_v4 (F := Ideal) z (ix3 p u j) = ∑ r : Fin 4096, if r.val < u.val then toks z (ix2 r j) else 0 := by
  by_cases hu : u.val = 0
  · rw [Finset.sum_eq_zero fun r _ => if_neg (by omega)]
    obtain rfl : u = 0 := Fin.ext hu
    pointwise [val_main_v4, val_main_v2, val_main_cst, constant, Ideal.ofBits_zero]
  · obtain ⟨t, rfl⟩ : ∃ t : Fin 4096, u = ⟨t.val + 1, by omega⟩ := ⟨⟨u.val - 1, by omega⟩, Fin.ext (by dsimp only; omega)⟩
    pointwise [val_main_v4, ref_running]
    rw [dif_neg (by omega)]
    simp only [Nat.add_sub_cancel]

/-- A group's columns of the running sums, at the row after a token and at the row where its window begins. -/
theorem ref_ends (p : Fin 1) (t : Fin 4096) (l : Fin 256) :
    (val_main_v26 (F := Ideal) z (ix3 p t l) = (∑ r : Fin 4096, if r.val < t.val + 1 then toks z (ix2 r (col 0 l)) else 0)
        - ∑ r : Fin 4096, if r.val < t.val + 1 - width 0 then toks z (ix2 r (col 0 l)) else 0)
      ∧ (val_main_v54 (F := Ideal) z (ix3 p t l) = (∑ r : Fin 4096, if r.val < t.val + 1 then toks z (ix2 r (col 1 l)) else 0)
        - ∑ r : Fin 4096, if r.val < t.val + 1 - width 1 then toks z (ix2 r (col 1 l)) else 0)
      ∧ (val_main_v82 (F := Ideal) z (ix3 p t l) = (∑ r : Fin 4096, if r.val < t.val + 1 then toks z (ix2 r (col 2 l)) else 0)
        - ∑ r : Fin 4096, if r.val < t.val + 1 - width 2 then toks z (ix2 r (col 2 l)) else 0)
      ∧ (val_main_v110 (F := Ideal) z (ix3 p t l) = (∑ r : Fin 4096, if r.val < t.val + 1 then toks z (ix2 r (col 3 l)) else 0)
        - ∑ r : Fin 4096, if r.val < t.val + 1 - width 3 then toks z (ix2 r (col 3 l)) else 0) := by
  have hb := ref_begin t 0
  have hm : ∀ q, min ((t.val + 1 - width q : ℕ) : Int).toNat 4096 = t.val + 1 - width q := fun q => by
    have := Pool.width_pos q
    omega
  refine ⟨?_, ?_, ?_, ?_⟩ <;>
    pointwise [val_main_v26, val_main_v54, val_main_v82, val_main_v110, val_main_v18, val_main_v46, val_main_v74, val_main_v102,
      val_main_v25, val_main_v53, val_main_v81, val_main_v109, gather_row, hb, val_main_v12, val_main_v40, val_main_v68, val_main_v96, ref_upto, col] <;>
    simp only [hm, Nat.add_comm 1 t.val]

theorem div_cnt (x : EReal) (q : Fin 4) (t : ℕ) : Ideal.div x (cnt (width q) t) = x * Pool.part (width q) t :=
  (Ideal.mul_one_div fun h => Pool.cnt_ne (width q) t (Pool.width_pos q) (EReal.coe_eq_zero.mp h)).symm

theorem ref_df (hz : ∀ i, Re (toks z i)) (p : Fin 1) (t : Fin 4096) (l : Fin 256) :
    val_main_v30 (F := Ideal) z (ix3 p t l) = df (toks z) 0 t l ∧ val_main_v58 (F := Ideal) z (ix3 p t l) = df (toks z) 1 t l
      ∧ val_main_v86 (F := Ideal) z (ix3 p t l) = df (toks z) 2 t l ∧ val_main_v114 (F := Ideal) z (ix3 p t l) = df (toks z) 3 t l := by
  have he := ref_ends z p t l
  have hn := ref_cnt 0 t 0
  have hs : ∀ q, _ := fun q : Fin 4 => Pool.sub_running (width q) (fun u => toks z (ix2 u (col q l))) (fun _ => hz _) t.val
  simp only [hs] at he
  refine ⟨?_, ?_, ?_, ?_⟩ <;>
    pointwise [val_main_v30, val_main_v58, val_main_v86, val_main_v114, val_main_v28, val_main_v56, val_main_v84, val_main_v112, he,
      val_main_v27, val_main_v55, val_main_v83, val_main_v111, hn, val_main_v29, val_main_v57, val_main_v85, val_main_v113, val_main_v1, val_main_v0, toks,
      df, div_cnt, col]

/-! The two results. -/

theorem ref_w (a k : Fin 256) :
    val_main_v32 (F := Ideal) w (ix2 a k) = w (ix3 0 a k) ∧ val_main_v60 (F := Ideal) w (ix2 a k) = w (ix3 1 a k)
      ∧ val_main_v88 (F := Ideal) w (ix2 a k) = w (ix3 2 a k) ∧ val_main_v116 (F := Ideal) w (ix2 a k) = w (ix3 3 a k) := by
  refine ⟨?_, ?_, ?_, ?_⟩ <;>
    pointwise [val_main_v32, val_main_v60, val_main_v88, val_main_v116, val_main_v31, val_main_v59, val_main_v87, val_main_v115]

theorem ref_lefts (hz : ∀ i, Re (toks z i)) (p : Fin 1) (t : Fin 4096) (q : Fin 4) (l : Fin 256) :
    val_main_v118 (F := Ideal) z (ix3 p t (col q l)) = df (toks z) q t l := by
  have h2 : 512 + l.val - 256 - 256 = l.val := by omega
  have h3 : 768 + l.val - 256 - 256 - 256 = l.val := by omega
  fin_cases q <;>
    pointwise [val_main_v118, ref_df z hz, col] <;>
    simp (disch := omega) only [dif_neg, dif_pos, h2, h3, Fin.eta, ref_df z hz]

theorem ref_prods (hz : ∀ i, Re (toks z i)) (p : Fin 1) (t : Fin 4096) (q : Fin 4) (l : Fin 256) :
    val_main_v121 (F := Ideal) z w (ix3 p t (col q l)) = prod (toks z) w q t l := by
  have h2 : 512 + l.val - 256 - 256 = l.val := by omega
  have h3 : 768 + l.val - 256 - 256 - 256 = l.val := by omega
  fin_cases q <;>
    pointwise [val_main_v121, val_main_v33, val_main_v61, val_main_v89, val_main_v117, ref_df z hz, ref_w, prod, col] <;>
    simp (disch := omega) only [dif_neg, dif_pos, h2, h3, Fin.eta]

theorem ref_left (hz : ∀ i, Re (toks z i)) : val_main_v120 (F := Ideal) z = Left (toks z) := by
  funext i
  obtain ⟨t, j, rfl⟩ : ∃ (t : Fin 4096) (j : Fin 1024), i = ix2 t j := ⟨i 0, i 1, eq_ix2 i⟩
  rw [← Pool.col_grp j, Pool.left_col, ← ref_lefts z hz 0]
  pointwise [val_main_v120, val_main_v119]

theorem ref_out (hz : ∀ i, Re (toks z i)) : val_main_v127 (F := Ideal) z w s = Out (toks z) w s := by
  funext i
  obtain ⟨t, j, rfl⟩ : ∃ (t : Fin 4096) (j : Fin 1024), i = ix2 t j := ⟨i 0, i 1, eq_ix2 i⟩
  rw [← Pool.col_grp j, Pool.out_col, ← ref_prods z w hz 0]
  pointwise [val_main_v127, val_main_v126, val_main_v125, val_main_v124, val_main_v123, val_main_v122]

end Cert.PoolFRefIdeal.Read

end
-- ==== Proof.PoolFClaim.lean ====
/- The value claim of the pooling mixer, from the two runs. -/
module

public import proofs.«01_k».proof.Defs
public import proofs.«01_k».proof.Proof.Gen.PoolFIdeal.Value
public import proofs.«01_k».proof.Proof.PoolFValue
public import proofs.«01_k».proof.Proof.PoolFRead
public import proofs.«01_k».proof.Proof.Gen.PoolFRefIdeal.Run
public import Idealize.ShloMosaic.Lib.Claim

set_option maxRecDepth 16384

@[expose] public section

noncomputable section

namespace Cert.Proof

open Idealize.ShloMosaic Idealize.SL.Sem Cert.PoolFIdeal

theorem frame_poolFRef : Cert.quiescent_PoolFRefIdeal (hPoolFRefIdeal := Cert.PoolFRefIdeal.Gen.facts) := fun m g _ =>
  (θ_run Cert.PoolFRefIdeal.defs _ _).mono (fun r h => ⟨fun c => (h c).2.2, sem_eq_zero_of_no_sems (by decide) r.2⟩)
    (Cert.PoolFRefIdeal.Value.run (F := Ideal) m g)

theorem facts_pool_f_finite : Cert.Pre_pool_f_finite.Facts := ⟨by decide, by decide, by decide, by decide⟩

instance inst_pool_f_finite : Cert.Pre_pool_f_finite.Facts := facts_pool_f_finite

/-- What the precondition says: the pooled columns are finite. -/
theorem pool_f_re (z : FVec Ideal Cert.Pre_pool_f_finite.S4096x5120 .f32) (w : FVec Ideal Cert.Pre_pool_f_finite.S4x256x256 .f32)
    (s : FVec Ideal Cert.Pre_pool_f_finite.S1x1024 .f32) (h : Cert.Pre_pool_f_finite.fn (F := Ideal) z w s = fun _ => 1#1) :
    ∀ i, Cert.Fin.Re (Cert.Pool.toks z i) := by
  intro i
  have e := congrFun h ix0
  dsimp only [Cert.Pre_pool_f_finite.fn] at e
  have hs := Cert.Fin.re_of_all _ _ (fun _ => rfl) _ _ _ _ e (ix2 (i 0) (i 1))
  convert hs using 1
  pointwise [Cert.Pool.toks]

theorem algebraic_poolF : Cert.algebraic_PoolFIdeal_PoolFRefIdeal_pre_pool_f_finite (hPoolFIdeal := Cert.PoolFIdeal.Gen.facts)
    (hPoolFRefIdeal := Cert.PoolFRefIdeal.Gen.facts) (hPre_pool_f_finite := facts_pool_f_finite) := by
  intro m g m' g' hpre hagree
  refine ⟨fun c => Cert.Pool.Left (Cert.Pool.toks (m ((c.tc : Thread nD τ).loc main_arg0))),
    fun c => Cert.Pool.Out (Cert.Pool.toks (m ((c.tc : Thread nD τ).loc main_arg0))) (m ((c.tc : Thread nD τ).loc main_arg1)) (m ((c.tc : Thread nD τ).loc main_arg2)),
    ?_, ?_⟩
  · refine (θ_run Cert.PoolFIdeal.defs _ _).mono (fun r h c => ?_) (Cert.PoolFIdeal.Value.run_blocks (F := Ideal) m g)
    obtain ⟨h0, h1, hrest⟩ := h c
    exact ⟨h0.trans (Cert.PoolFIdeal.Value.final4 m c), h1.trans (Cert.PoolFIdeal.Value.final5 m c), hrest⟩
  · refine (θ_run Cert.PoolFRefIdeal.defs _ _).mono (fun r h c => ?_) (Cert.PoolFRefIdeal.Value.run (F := Ideal) m' g')
    obtain ⟨h0, h1, hrest⟩ := h c
    rw [Cert.PoolFRefIdeal.Read.val_main_v120_eq] at h0
    rw [Cert.PoolFRefIdeal.Read.val_main_v127_eq] at h1
    simp only [hagree c] at h0 h1
    have rz := pool_f_re _ _ _ (hpre c)
    exact ⟨h0.trans (Cert.PoolFRefIdeal.Read.ref_left _ rz), h1.trans (Cert.PoolFRefIdeal.Read.ref_out _ _ _ rz), hrest⟩

end Cert.Proof

end
-- ==== Proof.lean ====
/- The certificate: each call's frames and value claim, put together. -/
module

public import proofs.«01_k».proof.Defs
public import proofs.«01_k».proof.Proof.Gen.FfnX.Frame
public import proofs.«01_k».proof.Proof.Gen.FfnXIdeal.Frame
public import proofs.«01_k».proof.Proof.Gen.FfnXIdeal.Value
public import proofs.«01_k».proof.Proof.Gen.FfnXRefIdeal.Run
public import proofs.«01_k».proof.Proof.Gen.FfnXRefIdeal.Read
public import proofs.«01_k».proof.Proof.FfnXClaim
public import proofs.«01_k».proof.Proof.Gen.MixX.Frame
public import proofs.«01_k».proof.Proof.Gen.MixXIdeal.Frame
public import proofs.«01_k».proof.Proof.Gen.MixXIdeal.Value
public import proofs.«01_k».proof.Proof.Gen.MixXRefIdeal.Run
public import proofs.«01_k».proof.Proof.Gen.MixXRefIdeal.Read
public import proofs.«01_k».proof.Proof.MixXClaim
public import proofs.«01_k».proof.Proof.Gen.MixY.Frame
public import proofs.«01_k».proof.Proof.Gen.MixYIdeal.Frame
public import proofs.«01_k».proof.Proof.Gen.MixYIdeal.Value
public import proofs.«01_k».proof.Proof.Gen.MixYRefIdeal.Run
public import proofs.«01_k».proof.Proof.Gen.MixYRefIdeal.Read
public import proofs.«01_k».proof.Proof.MixYClaim
public import proofs.«01_k».proof.Proof.Gen.FfnA.Frame
public import proofs.«01_k».proof.Proof.Gen.FfnAIdeal.Frame
public import proofs.«01_k».proof.Proof.Gen.FfnAIdeal.Value
public import proofs.«01_k».proof.Proof.Gen.FfnARefIdeal.Run
public import proofs.«01_k».proof.Proof.Gen.FfnARefIdeal.Read
public import proofs.«01_k».proof.Proof.FfnAClaim
public import proofs.«01_k».proof.Proof.Gen.Sgu.Frame
public import proofs.«01_k».proof.Proof.Gen.SguIdeal.Frame
public import proofs.«01_k».proof.Proof.Gen.SguIdeal.Value
public import proofs.«01_k».proof.Proof.Gen.SguRefIdeal.Run
public import proofs.«01_k».proof.Proof.Gen.SguRefIdeal.Read
public import proofs.«01_k».proof.Proof.SguClaim
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.PoolFrame
public import proofs.«01_k».proof.Proof.Gen.Ple.Frame
public import proofs.«01_k».proof.Proof.Gen.PleIdeal.Frame
public import proofs.«01_k».proof.Proof.Gen.PleIdeal.Value
public import proofs.«01_k».proof.Proof.Gen.PleRefIdeal.Run
public import proofs.«01_k».proof.Proof.Gen.PleRefIdeal.Read
public import proofs.«01_k».proof.Proof.PleClaim
public import proofs.«01_k».proof.Proof.Gen.SguF.Frame
public import proofs.«01_k».proof.Proof.Gen.SguFIdeal.Frame
public import proofs.«01_k».proof.Proof.Gen.SguFIdeal.Value
public import proofs.«01_k».proof.Proof.Gen.SguFRefIdeal.Run
public import proofs.«01_k».proof.Proof.Gen.SguFRefIdeal.Read
public import proofs.«01_k».proof.Proof.SguFClaim
public import proofs.«01_k».proof.Proof.Gen.FfnGu.Frame
public import proofs.«01_k».proof.Proof.Gen.FfnGuIdeal.Frame
public import proofs.«01_k».proof.Proof.Gen.FfnGuIdeal.Value
public import proofs.«01_k».proof.Proof.Gen.FfnGuRefIdeal.Run
public import proofs.«01_k».proof.Proof.Gen.FfnGuRefIdeal.Read
public import proofs.«01_k».proof.Proof.FfnGuClaim
public import proofs.«01_k».proof.Proof.Gen.FfnN.Frame
public import proofs.«01_k».proof.Proof.Gen.FfnNIdeal.Frame
public import proofs.«01_k».proof.Proof.Gen.FfnNIdeal.Value
public import proofs.«01_k».proof.Proof.Gen.FfnNRefIdeal.Run
public import proofs.«01_k».proof.Proof.Gen.FfnNRefIdeal.Read
public import proofs.«01_k».proof.Proof.FfnNClaim
public import proofs.«01_k».proof.Proof.Gen.MixF.Frame
public import proofs.«01_k».proof.Proof.Gen.MixFIdeal.Frame
public import proofs.«01_k».proof.Proof.Gen.MixFIdeal.Value
public import proofs.«01_k».proof.Proof.Gen.MixFRefIdeal.Run
public import proofs.«01_k».proof.Proof.Gen.MixFRefIdeal.Read
public import proofs.«01_k».proof.Proof.MixFClaim
public import proofs.«01_k».proof.Proof.Gen.Rms.Frame
public import proofs.«01_k».proof.Proof.Gen.RmsIdeal.Frame
public import proofs.«01_k».proof.Proof.Gen.RmsIdeal.Value
public import proofs.«01_k».proof.Proof.Gen.RmsRefIdeal.Run
public import proofs.«01_k».proof.Proof.Gen.RmsRefIdeal.Read
public import proofs.«01_k».proof.Proof.RmsClaim
public import proofs.«01_k».proof.Proof.Gen.PoolF.Frame
public import proofs.«01_k».proof.Proof.Gen.PoolFIdeal.Frame
public import proofs.«01_k».proof.Proof.Gen.PoolFIdeal.Value
public import proofs.«01_k».proof.Proof.Gen.PoolFRefIdeal.Run
public import proofs.«01_k».proof.Proof.Gen.PoolFRefIdeal.Read
public import proofs.«01_k».proof.Proof.PoolFClaim
public import Idealize.ShloMosaic.Adequacy

@[expose] public section

set_option maxRecDepth 16384

noncomputable section

namespace Cert.Proof

open Idealize.ShloMosaic Idealize.SL.Sem

theorem claim : Cert.Claim := ⟨
  Cert.FfnX.Gen.facts,
  Cert.FfnXIdeal.Gen.facts,
  Cert.FfnXRefIdeal.Gen.facts,
  Cert.MixX.Gen.facts,
  Cert.MixXIdeal.Gen.facts,
  Cert.MixXRefIdeal.Gen.facts,
  Cert.MixY.Gen.facts,
  Cert.MixYIdeal.Gen.facts,
  Cert.MixYRefIdeal.Gen.facts,
  Cert.FfnA.Gen.facts,
  Cert.FfnAIdeal.Gen.facts,
  Cert.FfnARefIdeal.Gen.facts,
  Cert.Sgu.Gen.facts,
  Cert.SguIdeal.Gen.facts,
  Cert.SguRefIdeal.Gen.facts,
  Cert.Pool.Gen.facts,
  Cert.PoolIdeal.Gen.facts,
  Cert.PoolRefIdeal.Gen.facts,
  Cert.Ple.Gen.facts,
  Cert.PleIdeal.Gen.facts,
  Cert.PleRefIdeal.Gen.facts,
  Cert.SguF.Gen.facts,
  Cert.SguFIdeal.Gen.facts,
  Cert.SguFRefIdeal.Gen.facts,
  Cert.FfnGu.Gen.facts,
  Cert.FfnGuIdeal.Gen.facts,
  Cert.FfnGuRefIdeal.Gen.facts,
  Cert.FfnN.Gen.facts,
  Cert.FfnNIdeal.Gen.facts,
  Cert.FfnNRefIdeal.Gen.facts,
  Cert.MixF.Gen.facts,
  Cert.MixFIdeal.Gen.facts,
  Cert.MixFRefIdeal.Gen.facts,
  Cert.Rms.Gen.facts,
  Cert.RmsIdeal.Gen.facts,
  Cert.RmsRefIdeal.Gen.facts,
  Cert.PoolF.Gen.facts,
  Cert.PoolFIdeal.Gen.facts,
  Cert.PoolFRefIdeal.Gen.facts,
  facts_ffn_a_finite,
  facts_sgu_finite,
  facts_pool_f_finite,
  facts_gates_written,
  fun m ρ _ => Cert.FfnX.Gen.frame m ρ,
  fun m ρ _ => Cert.FfnXIdeal.Gen.frame m ρ,
  frame_ffnXRef,
  fun m ρ _ => Cert.MixX.Gen.frame m ρ,
  fun m ρ _ => Cert.MixXIdeal.Gen.frame m ρ,
  frame_mixXRef,
  fun m ρ _ => Cert.MixY.Gen.frame m ρ,
  fun m ρ _ => Cert.MixYIdeal.Gen.frame m ρ,
  frame_mixYRef,
  fun m ρ _ => Cert.FfnA.Gen.frame m ρ,
  fun m ρ _ => Cert.FfnAIdeal.Gen.frame m ρ,
  fun m ρ _ => Cert.FfnAIdeal.Gen.frame m ρ,
  frame_ffnARef,
  fun m g _ => frame_ffnARef m g trivial,
  fun m ρ _ => Cert.Sgu.Gen.frame m ρ,
  fun m ρ _ => Cert.SguIdeal.Gen.frame m ρ,
  fun m ρ _ => Cert.SguIdeal.Gen.frame m ρ,
  frame_sguRef,
  fun m g _ => frame_sguRef m g trivial,
  fun m ρ _ => Cert.Pool.Gen.frame m ρ,
  fun m ρ _ => Cert.PoolIdeal.Gen.frame m ρ,
  frame_poolRef,
  fun m ρ _ => Cert.Ple.Gen.frame m ρ,
  fun m ρ _ => Cert.PleIdeal.Gen.frame m ρ,
  frame_pleRef,
  fun m ρ _ => Cert.SguF.Gen.frame m ρ,
  fun m ρ _ => Cert.SguFIdeal.Gen.frame m ρ,
  frame_sguFRef,
  fun m ρ _ => Cert.FfnGu.Gen.frame m ρ,
  fun m ρ _ => Cert.FfnGuIdeal.Gen.frame m ρ,
  frame_ffnGuRef,
  fun m ρ _ => Cert.FfnN.Gen.frame m ρ,
  fun m ρ _ => Cert.FfnNIdeal.Gen.frame m ρ,
  frame_ffnNRef,
  fun m ρ _ => Cert.MixF.Gen.frame m ρ,
  fun m ρ _ => Cert.MixFIdeal.Gen.frame m ρ,
  frame_mixFRef,
  fun m ρ _ => Cert.Rms.Gen.frame m ρ,
  fun m ρ _ => Cert.RmsIdeal.Gen.frame m ρ,
  frame_rmsRef,
  fun m ρ _ => Cert.PoolF.Gen.frame m ρ,
  fun m ρ _ => Cert.PoolFIdeal.Gen.frame m ρ,
  fun m ρ _ => Cert.PoolFIdeal.Gen.frame m ρ,
  frame_poolFRef,
  fun m g _ => frame_poolFRef m g trivial,
  trivial,
  algebraic_ffnX,
  trivial,
  algebraic_mixX,
  trivial,
  algebraic_mixY,
  trivial,
  algebraic_ffnA,
  preserves_sgu,
  algebraic_sgu,
  trivial,
  trivial,
  algebraic_ple,
  trivial,
  algebraic_sguF,
  trivial,
  algebraic_ffnGu,
  trivial,
  algebraic_ffnN,
  trivial,
  algebraic_mixF,
  trivial,
  algebraic_rms,
  trivial,
  algebraic_poolF⟩

end Cert.Proof

end
